-- ==== Defs.lean ====
def Pre_Kernel [hPre_in_rows : Cert.Pre_in_rows.Facts] (m : (ℓ : Loc Cert.Kernel.nD Cert.Kernel.τ Cert.Kernel.sig) → Buf (Elt Bits) ℓ) : Prop :=
  ∀ c : Dev Cert.Kernel.nD,
    (Cert.Pre_in_rows.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Reference [hPre_in_rows : Cert.Pre_in_rows.Facts] (m : (ℓ : Loc Cert.Reference.nD Cert.Reference.τ Cert.Reference.sig) → Buf (Elt Bits) ℓ) : Prop :=
  ∀ c : Dev Cert.Reference.nD,
    (Cert.Pre_in_rows.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Moe [hPre_experts_named : Cert.Pre_experts_named.Facts] (m : (ℓ : Loc Cert.Moe.nD Cert.Moe.τ Cert.Moe.sig) → Buf (Elt Bits) ℓ) : Prop :=
  ∀ c : Dev Cert.Moe.nD,
    (Cert.Pre_experts_named.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5))) = (fun _ => 1#1)

def Pre_MoeIdeal [hPre_experts_named : Cert.Pre_experts_named.Facts] (m : (ℓ : Loc Cert.MoeIdeal.nD Cert.MoeIdeal.τ Cert.MoeIdeal.sig) → Buf (Elt Ideal) ℓ) : Prop :=
  ∀ c : Dev Cert.MoeIdeal.nD,
    (Cert.Pre_experts_named.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5))) = (fun _ => 1#1)

def Pre_MoeReferenceIdeal [hPre_experts_named : Cert.Pre_experts_named.Facts] (m : (ℓ : Loc Cert.MoeReferenceIdeal.nD Cert.MoeReferenceIdeal.τ Cert.MoeReferenceIdeal.sig) → Buf (Elt Ideal) ℓ) : Prop :=
  ∀ c : Dev Cert.MoeReferenceIdeal.nD,
    (Cert.Pre_experts_named.fn (F := Ideal) (m ((c.tc : Thread Cert.MoeReferenceIdeal.nD Cert.MoeReferenceIdeal.τ).loc Cert.MoeReferenceIdeal.main_arg0)) (m ((c.tc : Thread Cert.MoeReferenceIdeal.nD Cert.MoeReferenceIdeal.τ).loc Cert.MoeReferenceIdeal.main_arg1)) (m ((c.tc : Thread Cert.MoeReferenceIdeal.nD Cert.MoeReferenceIdeal.τ).loc Cert.MoeReferenceIdeal.main_arg2)) (m ((c.tc : Thread Cert.MoeReferenceIdeal.nD Cert.MoeReferenceIdeal.τ).loc Cert.MoeReferenceIdeal.main_arg3)) (m ((c.tc : Thread Cert.MoeReferenceIdeal.nD Cert.MoeReferenceIdeal.τ).loc Cert.MoeReferenceIdeal.main_arg4)) (m ((c.tc : Thread Cert.MoeReferenceIdeal.nD Cert.MoeReferenceIdeal.τ).loc Cert.MoeReferenceIdeal.main_arg5))) = (fun _ => 1#1)

def Pre_Tail [hPre_experts_named3 : Cert.Pre_experts_named3.Facts] (m : (ℓ : Loc Cert.Tail.nD Cert.Tail.τ Cert.Tail.sig) → Buf (Elt Bits) ℓ) : Prop :=
  ∀ c : Dev Cert.Tail.nD,
    (Cert.Pre_experts_named3.fn (F := Bits) (m ((c.tc : Thread Cert.Tail.nD Cert.Tail.τ).loc Cert.Tail.main_arg0)) (m ((c.tc : Thread Cert.Tail.nD Cert.Tail.τ).loc Cert.Tail.main_arg1)) (m ((c.tc : Thread Cert.Tail.nD Cert.Tail.τ).loc Cert.Tail.main_arg2)) (m ((c.tc : Thread Cert.Tail.nD Cert.Tail.τ).loc Cert.Tail.main_arg3)) (m ((c.tc : Thread Cert.Tail.nD Cert.Tail.τ).loc Cert.Tail.main_arg4)) (m ((c.tc : Thread Cert.Tail.nD Cert.Tail.τ).loc Cert.Tail.main_arg5)) (m ((c.tc : Thread Cert.Tail.nD Cert.Tail.τ).loc Cert.Tail.main_arg6))) = (fun _ => 1#1)

def Pre_TailIdeal [hPre_experts_named3 : Cert.Pre_experts_named3.Facts] (m : (ℓ : Loc Cert.TailIdeal.nD Cert.TailIdeal.τ Cert.TailIdeal.sig) → Buf (Elt Ideal) ℓ) : Prop :=
  ∀ c : Dev Cert.TailIdeal.nD,
    (Cert.Pre_experts_named3.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6))) = (fun _ => 1#1)

def Pre_TailReferenceIdeal [hPre_experts_named3 : Cert.Pre_experts_named3.Facts] (m : (ℓ : Loc Cert.TailReferenceIdeal.nD Cert.TailReferenceIdeal.τ Cert.TailReferenceIdeal.sig) → Buf (Elt Ideal) ℓ) : Prop :=
  ∀ c : Dev Cert.TailReferenceIdeal.nD,
    (Cert.Pre_experts_named3.fn (F := Ideal) (m ((c.tc : Thread Cert.TailReferenceIdeal.nD Cert.TailReferenceIdeal.τ).loc Cert.TailReferenceIdeal.main_arg0)) (m ((c.tc : Thread Cert.TailReferenceIdeal.nD Cert.TailReferenceIdeal.τ).loc Cert.TailReferenceIdeal.main_arg1)) (m ((c.tc : Thread Cert.TailReferenceIdeal.nD Cert.TailReferenceIdeal.τ).loc Cert.TailReferenceIdeal.main_arg2)) (m ((c.tc : Thread Cert.TailReferenceIdeal.nD Cert.TailReferenceIdeal.τ).loc Cert.TailReferenceIdeal.main_arg3)) (m ((c.tc : Thread Cert.TailReferenceIdeal.nD Cert.TailReferenceIdeal.τ).loc Cert.TailReferenceIdeal.main_arg4)) (m ((c.tc : Thread Cert.TailReferenceIdeal.nD Cert.TailReferenceIdeal.τ).loc Cert.TailReferenceIdeal.main_arg5)) (m ((c.tc : Thread Cert.TailReferenceIdeal.nD Cert.TailReferenceIdeal.τ).loc Cert.TailReferenceIdeal.main_arg6))) = (fun _ => 1#1)

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseReferenceIdeal (m : (ℓ : Loc Cert.DenseReferenceIdeal.nD Cert.DenseReferenceIdeal.τ Cert.DenseReferenceIdeal.sig) → Buf (Elt Ideal) ℓ) : Prop :=
  True

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineReferenceIdeal (m : (ℓ : Loc Cert.CombineReferenceIdeal.nD Cert.CombineReferenceIdeal.τ Cert.CombineReferenceIdeal.sig) → Buf (Elt Ideal) ℓ) : Prop :=
  True

def quiescent_Kernel [hKernel : Cert.Kernel.Facts] [hPre_in_rows : Cert.Pre_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Reference [hReference : Cert.Reference.Facts] [hPre_in_rows : Cert.Pre_in_rows.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Moe [hMoe : Cert.Moe.Facts] [hPre_experts_named : Cert.Pre_experts_named.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5))
      ∧ r.2.sem = fun _ => 0)

def quiescent_MoeIdeal [hMoeIdeal : Cert.MoeIdeal.Facts] [hPre_experts_named : Cert.Pre_experts_named.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ r.2.sem = fun _ => 0)

def quiescent_MoeReferenceIdeal [hMoeReferenceIdeal : Cert.MoeReferenceIdeal.Facts] [hPre_experts_named : Cert.Pre_experts_named.Facts] : Prop :=
  ∀ (m : (ℓ : Loc Cert.MoeReferenceIdeal.nD Cert.MoeReferenceIdeal.τ Cert.MoeReferenceIdeal.sig) → Buf (Elt Ideal) ℓ) (g : Dev Cert.MoeReferenceIdeal.nD → PrngReg), Pre_MoeReferenceIdeal m →
    θ_run (Cert.MoeReferenceIdeal.defs (F := Ideal)) (onTc (τ := Cert.MoeReferenceIdeal.τ) (Cert.MoeReferenceIdeal.main (F := Ideal))) ⟨m, fun _ => 0, g⟩ (fun r => (∀ c : Dev Cert.MoeReferenceIdeal.nD,
      r.2.mem ((c.tc : Thread Cert.MoeReferenceIdeal.nD Cert.MoeReferenceIdeal.τ).loc Cert.MoeReferenceIdeal.main_arg0) = m ((c.tc : Thread Cert.MoeReferenceIdeal.nD Cert.MoeReferenceIdeal.τ).loc Cert.MoeReferenceIdeal.main_arg0)
      ∧ r.2.mem ((c.tc : Thread Cert.MoeReferenceIdeal.nD Cert.MoeReferenceIdeal.τ).loc Cert.MoeReferenceIdeal.main_arg1) = m ((c.tc : Thread Cert.MoeReferenceIdeal.nD Cert.MoeReferenceIdeal.τ).loc Cert.MoeReferenceIdeal.main_arg1)
      ∧ r.2.mem ((c.tc : Thread Cert.MoeReferenceIdeal.nD Cert.MoeReferenceIdeal.τ).loc Cert.MoeReferenceIdeal.main_arg2) = m ((c.tc : Thread Cert.MoeReferenceIdeal.nD Cert.MoeReferenceIdeal.τ).loc Cert.MoeReferenceIdeal.main_arg2)
      ∧ r.2.mem ((c.tc : Thread Cert.MoeReferenceIdeal.nD Cert.MoeReferenceIdeal.τ).loc Cert.MoeReferenceIdeal.main_arg3) = m ((c.tc : Thread Cert.MoeReferenceIdeal.nD Cert.MoeReferenceIdeal.τ).loc Cert.MoeReferenceIdeal.main_arg3)
      ∧ r.2.mem ((c.tc : Thread Cert.MoeReferenceIdeal.nD Cert.MoeReferenceIdeal.τ).loc Cert.MoeReferenceIdeal.main_arg4) = m ((c.tc : Thread Cert.MoeReferenceIdeal.nD Cert.MoeReferenceIdeal.τ).loc Cert.MoeReferenceIdeal.main_arg4)
      ∧ r.2.mem ((c.tc : Thread Cert.MoeReferenceIdeal.nD Cert.MoeReferenceIdeal.τ).loc Cert.MoeReferenceIdeal.main_arg5) = m ((c.tc : Thread Cert.MoeReferenceIdeal.nD Cert.MoeReferenceIdeal.τ).loc Cert.MoeReferenceIdeal.main_arg5))
      ∧ r.2.sem = fun _ => 0)

def quiescent_Tail [hTail : Cert.Tail.Facts] [hPre_experts_named3 : Cert.Pre_experts_named3.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6))
      ∧ r.2.sem = fun _ => 0)

def quiescent_TailIdeal [hTailIdeal : Cert.TailIdeal.Facts] [hPre_experts_named3 : Cert.Pre_experts_named3.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6))
      ∧ r.2.sem = fun _ => 0)

def quiescent_TailReferenceIdeal [hTailReferenceIdeal : Cert.TailReferenceIdeal.Facts] [hPre_experts_named3 : Cert.Pre_experts_named3.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3)
      ∧ r.2.mem ((c.tc : Thread Cert.TailReferenceIdeal.nD Cert.TailReferenceIdeal.τ).loc Cert.TailReferenceIdeal.main_arg4) = m ((c.tc : Thread Cert.TailReferenceIdeal.nD Cert.TailReferenceIdeal.τ).loc Cert.TailReferenceIdeal.main_arg4)
      ∧ r.2.mem ((c.tc : Thread Cert.TailReferenceIdeal.nD Cert.TailReferenceIdeal.τ).loc Cert.TailReferenceIdeal.main_arg5) = m ((c.tc : Thread Cert.TailReferenceIdeal.nD Cert.TailReferenceIdeal.τ).loc Cert.TailReferenceIdeal.main_arg5)
      ∧ r.2.mem ((c.tc : Thread Cert.TailReferenceIdeal.nD Cert.TailReferenceIdeal.τ).loc Cert.TailReferenceIdeal.main_arg6) = m ((c.tc : Thread Cert.TailReferenceIdeal.nD Cert.TailReferenceIdeal.τ).loc Cert.TailReferenceIdeal.main_arg6))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3)
      ∧ r.2.mem ((c.tc : Thread Cert.Dense.nD Cert.Dense.τ).loc Cert.Dense.main_arg4) = m ((c.tc : Thread Cert.Dense.nD Cert.Dense.τ).loc Cert.Dense.main_arg4)
      ∧ r.2.mem ((c.tc : Thread Cert.Dense.nD Cert.Dense.τ).loc Cert.Dense.main_arg5) = m ((c.tc : Thread Cert.Dense.nD Cert.Dense.τ).loc Cert.Dense.main_arg5)
      ∧ r.2.mem ((c.tc : Thread Cert.Dense.nD Cert.Dense.τ).loc Cert.Dense.main_arg6) = m ((c.tc : Thread Cert.Dense.nD Cert.Dense.τ).loc Cert.Dense.main_arg6)
      ∧ r.2.mem ((c.tc : Thread Cert.Dense.nD Cert.Dense.τ).loc Cert.Dense.main_arg7) = m ((c.tc : Thread Cert.Dense.nD Cert.Dense.τ).loc Cert.Dense.main_arg7)
      ∧ r.2.mem ((c.tc : Thread Cert.Dense.nD Cert.Dense.τ).loc Cert.Dense.main_arg8) = m ((c.tc : Thread Cert.Dense.nD Cert.Dense.τ).loc Cert.Dense.main_arg8)
      ∧ r.2.mem ((c.tc : Thread Cert.Dense.nD Cert.Dense.τ).loc Cert.Dense.main_arg9) = m ((c.tc : Thread Cert.Dense.nD Cert.Dense.τ).loc Cert.Dense.main_arg9)
      ∧ r.2.mem ((c.tc : Thread Cert.Dense.nD Cert.Dense.τ).loc Cert.Dense.main_arg10) = m ((c.tc : Thread Cert.Dense.nD Cert.Dense.τ).loc Cert.Dense.main_arg10)
      ∧ r.2.mem ((c.tc : Thread Cert.Dense.nD Cert.Dense.τ).loc Cert.Dense.main_arg11) = m ((c.tc : Thread Cert.Dense.nD Cert.Dense.τ).loc Cert.Dense.main_arg11)
      ∧ r.2.mem ((c.tc : Thread Cert.Dense.nD Cert.Dense.τ).loc Cert.Dense.main_arg12) = m ((c.tc : Thread Cert.Dense.nD Cert.Dense.τ).loc Cert.Dense.main_arg12))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
      ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
      ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6)
      ∧ r.2.mem ((c.tc : Thread Cert.DenseIdeal.nD Cert.DenseIdeal.τ).loc Cert.DenseIdeal.main_arg7) = m ((c.tc : Thread Cert.DenseIdeal.nD Cert.DenseIdeal.τ).loc Cert.DenseIdeal.main_arg7)
      ∧ r.2.mem ((c.tc : Thread Cert.DenseIdeal.nD Cert.DenseIdeal.τ).loc Cert.DenseIdeal.main_arg8) = m ((c.tc : Thread Cert.DenseIdeal.nD Cert.DenseIdeal.τ).loc Cert.DenseIdeal.main_arg8)
      ∧ r.2.mem ((c.tc : Thread Cert.DenseIdeal.nD Cert.DenseIdeal.τ).loc Cert.DenseIdeal.main_arg9) = m ((c.tc : Thread Cert.DenseIdeal.nD Cert.DenseIdeal.τ).loc Cert.DenseIdeal.main_arg9)
      ∧ r.2.mem ((c.tc : Thread Cert.DenseIdeal.nD Cert.DenseIdeal.τ).loc Cert.DenseIdeal.main_arg10) = m ((c.tc : Thread Cert.DenseIdeal.nD Cert.DenseIdeal.τ).loc Cert.DenseIdeal.main_arg10)
      ∧ r.2.mem ((c.tc : Thread Cert.DenseIdeal.nD Cert.DenseIdeal.τ).loc Cert.DenseIdeal.main_arg11) = m ((c.tc : Thread Cert.DenseIdeal.nD Cert.DenseIdeal.τ).loc Cert.DenseIdeal.main_arg11)
      ∧ r.2.mem ((c.tc : Thread Cert.DenseIdeal.nD Cert.DenseIdeal.τ).loc Cert.DenseIdeal.main_arg12) = m ((c.tc : Thread Cert.DenseIdeal.nD Cert.DenseIdeal.τ).loc Cert.DenseIdeal.main_arg12))
      ∧ r.2.sem = fun _ => 0)

def quiescent_DenseReferenceIdeal [hDenseReferenceIdeal : Cert.DenseReferenceIdeal.Facts] : Prop :=
  ∀ (m : (ℓ : Loc Cert.DenseReferenceIdeal.nD Cert.DenseReferenceIdeal.τ Cert.DenseReferenceIdeal.sig) → Buf (Elt Ideal) ℓ) (g : Dev Cert.DenseReferenceIdeal.nD → PrngReg), Pre_DenseReferenceIdeal m →
    θ_run (Cert.DenseReferenceIdeal.defs (F := Ideal)) (onTc (τ := Cert.DenseReferenceIdeal.τ) (Cert.DenseReferenceIdeal.main (F := Ideal))) ⟨m, fun _ => 0, g⟩ (fun r => (∀ c : Dev Cert.DenseReferenceIdeal.nD,
      r.2.mem ((c.tc : Thread Cert.DenseReferenceIdeal.nD Cert.DenseReferenceIdeal.τ).loc Cert.DenseReferenceIdeal.main_arg0) = m ((c.tc : Thread Cert.DenseReferenceIdeal.nD Cert.DenseReferenceIdeal.τ).loc Cert.DenseReferenceIdeal.main_arg0)
      ∧ r.2.mem ((c.tc : Thread Cert.DenseReferenceIdeal.nD Cert.DenseReferenceIdeal.τ).loc Cert.DenseReferenceIdeal.main_arg1) = m ((c.tc : Thread Cert.DenseReferenceIdeal.nD Cert.DenseReferenceIdeal.τ).loc Cert.DenseReferenceIdeal.main_arg1)
      ∧ r.2.mem ((c.tc : Thread Cert.DenseReferenceIdeal.nD Cert.DenseReferenceIdeal.τ).loc Cert.DenseReferenceIdeal.main_arg2) = m ((c.tc : Thread Cert.DenseReferenceIdeal.nD Cert.DenseReferenceIdeal.τ).loc Cert.DenseReferenceIdeal.main_arg2)
      ∧ r.2.mem ((c.tc : Thread Cert.DenseReferenceIdeal.nD Cert.DenseReferenceIdeal.τ).loc Cert.DenseReferenceIdeal.main_arg3) = m ((c.tc : Thread Cert.DenseReferenceIdeal.nD Cert.DenseReferenceIdeal.τ).loc Cert.DenseReferenceIdeal.main_arg3)
      ∧ r.2.mem ((c.tc : Thread Cert.DenseReferenceIdeal.nD Cert.DenseReferenceIdeal.τ).loc Cert.DenseReferenceIdeal.main_arg4) = m ((c.tc : Thread Cert.DenseReferenceIdeal.nD Cert.DenseReferenceIdeal.τ).loc Cert.DenseReferenceIdeal.main_arg4)
      ∧ r.2.mem ((c.tc : Thread Cert.DenseReferenceIdeal.nD Cert.DenseReferenceIdeal.τ).loc Cert.DenseReferenceIdeal.main_arg5) = m ((c.tc : Thread Cert.DenseReferenceIdeal.nD Cert.DenseReferenceIdeal.τ).loc Cert.DenseReferenceIdeal.main_arg5)
      ∧ r.2.mem ((c.tc : Thread Cert.DenseReferenceIdeal.nD Cert.DenseReferenceIdeal.τ).loc Cert.DenseReferenceIdeal.main_arg6) = m ((c.tc : Thread Cert.DenseReferenceIdeal.nD Cert.DenseReferenceIdeal.τ).loc Cert.DenseReferenceIdeal.main_arg6)
      ∧ r.2.mem ((c.tc : Thread Cert.DenseReferenceIdeal.nD Cert.DenseReferenceIdeal.τ).loc Cert.DenseReferenceIdeal.main_arg7) = m ((c.tc : Thread Cert.DenseReferenceIdeal.nD Cert.DenseReferenceIdeal.τ).loc Cert.DenseReferenceIdeal.main_arg7)
      ∧ r.2.mem ((c.tc : Thread Cert.DenseReferenceIdeal.nD Cert.DenseReferenceIdeal.τ).loc Cert.DenseReferenceIdeal.main_arg8) = m ((c.tc : Thread Cert.DenseReferenceIdeal.nD Cert.DenseReferenceIdeal.τ).loc Cert.DenseReferenceIdeal.main_arg8)
      ∧ r.2.mem ((c.tc : Thread Cert.DenseReferenceIdeal.nD Cert.DenseReferenceIdeal.τ).loc Cert.DenseReferenceIdeal.main_arg9) = m ((c.tc : Thread Cert.DenseReferenceIdeal.nD Cert.DenseReferenceIdeal.τ).loc Cert.DenseReferenceIdeal.main_arg9)
      ∧ r.2.mem ((c.tc : Thread Cert.DenseReferenceIdeal.nD Cert.DenseReferenceIdeal.τ).loc Cert.DenseReferenceIdeal.main_arg10) = m ((c.tc : Thread Cert.DenseReferenceIdeal.nD Cert.DenseReferenceIdeal.τ).loc Cert.DenseReferenceIdeal.main_arg10)
      ∧ r.2.mem ((c.tc : Thread Cert.DenseReferenceIdeal.nD Cert.DenseReferenceIdeal.τ).loc Cert.DenseReferenceIdeal.main_arg11) = m ((c.tc : Thread Cert.DenseReferenceIdeal.nD Cert.DenseReferenceIdeal.τ).loc Cert.DenseReferenceIdeal.main_arg11)
      ∧ r.2.mem ((c.tc : Thread Cert.DenseReferenceIdeal.nD Cert.DenseReferenceIdeal.τ).loc Cert.DenseReferenceIdeal.main_arg12) = m ((c.tc : Thread Cert.DenseReferenceIdeal.nD Cert.DenseReferenceIdeal.τ).loc Cert.DenseReferenceIdeal.main_arg12))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3))
      ∧ r.2.sem = fun _ => 0)

def quiescent_CombineReferenceIdeal [hCombineReferenceIdeal : Cert.CombineReferenceIdeal.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3))
      ∧ r.2.sem = fun _ => 0)

def bitexact_Kernel_Reference [hKernel : Cert.Kernel.Facts] [hReference : Cert.Reference.Facts] [hPre_in_rows : Cert.Pre_in_rows.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v2)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v6) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Moe_MoeIdeal : Prop :=
  IdealRules.bf16_pair.Statement Cert.MoeIdeal.S1024x512 Cert.MoeIdeal.S512x512
  ∧ IdealRules.bf16_pack.Statement Cert.MoeIdeal.S512x512

def algebraic_MoeIdeal_MoeReferenceIdeal_on_tiles_computed [hMoeIdeal : Cert.MoeIdeal.Facts] [hMoeReferenceIdeal : Cert.MoeReferenceIdeal.Facts] [hPre_experts_named : Cert.Pre_experts_named.Facts] [hOn_tiles_computed : Cert.On_tiles_computed.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeReferenceIdeal.nD Cert.MoeReferenceIdeal.τ Cert.MoeReferenceIdeal.sig) → Buf (Elt Ideal) ℓ) (g' : Dev Cert.MoeReferenceIdeal.nD → PrngReg), Pre_MoeIdeal m →
    (∀ c : Dev Cert.MoeIdeal.nD,
      m' ((c.tc : Thread Cert.MoeReferenceIdeal.nD Cert.MoeReferenceIdeal.τ).loc Cert.MoeReferenceIdeal.main_arg0) = m ((c.tc : Thread Cert.MoeIdeal.nD Cert.MoeIdeal.τ).loc Cert.MoeIdeal.main_arg0)
      ∧ m' ((c.tc : Thread Cert.MoeReferenceIdeal.nD Cert.MoeReferenceIdeal.τ).loc Cert.MoeReferenceIdeal.main_arg1) = m ((c.tc : Thread Cert.MoeIdeal.nD Cert.MoeIdeal.τ).loc Cert.MoeIdeal.main_arg1)
      ∧ m' ((c.tc : Thread Cert.MoeReferenceIdeal.nD Cert.MoeReferenceIdeal.τ).loc Cert.MoeReferenceIdeal.main_arg2) = m ((c.tc : Thread Cert.MoeIdeal.nD Cert.MoeIdeal.τ).loc Cert.MoeIdeal.main_arg2)
      ∧ m' ((c.tc : Thread Cert.MoeReferenceIdeal.nD Cert.MoeReferenceIdeal.τ).loc Cert.MoeReferenceIdeal.main_arg3) = m ((c.tc : Thread Cert.MoeIdeal.nD Cert.MoeIdeal.τ).loc Cert.MoeIdeal.main_arg3)
      ∧ m' ((c.tc : Thread Cert.MoeReferenceIdeal.nD Cert.MoeReferenceIdeal.τ).loc Cert.MoeReferenceIdeal.main_arg4) = m ((c.tc : Thread Cert.MoeIdeal.nD Cert.MoeIdeal.τ).loc Cert.MoeIdeal.main_arg4)
      ∧ m' ((c.tc : Thread Cert.MoeReferenceIdeal.nD Cert.MoeReferenceIdeal.τ).loc Cert.MoeReferenceIdeal.main_arg5) = m ((c.tc : Thread Cert.MoeIdeal.nD Cert.MoeIdeal.τ).loc Cert.MoeIdeal.main_arg5)) →
    ∃ (v0 : (c : Dev Cert.MoeIdeal.nD) → Buf (Elt Ideal) ((c.tc : Thread Cert.MoeIdeal.nD Cert.MoeIdeal.τ).loc Cert.MoeIdeal.main_v3)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          (∀ i : (⟨2, ![73728, 512]⟩ : Shape).Idx, (Cert.On_tiles_computed.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5))) i = 1#1 → r.2.mem ((c.tc : Thread Cert.MoeIdeal.nD Cert.MoeIdeal.τ).loc Cert.MoeIdeal.main_v3) i = v0 c i)
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ θ_run (Cert.MoeReferenceIdeal.defs (F := Ideal)) (onTc (τ := Cert.MoeReferenceIdeal.τ) (Cert.MoeReferenceIdeal.main (F := Ideal))) ⟨m', fun _ => 0, g'⟩ (fun r => ∀ c : Dev Cert.MoeReferenceIdeal.nD,
          (∀ i : (⟨2, ![73728, 512]⟩ : Shape).Idx, (Cert.On_tiles_computed.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5))) i = 1#1 → r.2.mem ((c.tc : Thread Cert.MoeReferenceIdeal.nD Cert.MoeReferenceIdeal.τ).loc Cert.MoeReferenceIdeal.main_v129) i = v0 c i)
          ∧ r.2.mem ((c.tc : Thread Cert.MoeReferenceIdeal.nD Cert.MoeReferenceIdeal.τ).loc Cert.MoeReferenceIdeal.main_arg0) = m' ((c.tc : Thread Cert.MoeReferenceIdeal.nD Cert.MoeReferenceIdeal.τ).loc Cert.MoeReferenceIdeal.main_arg0)
          ∧ r.2.mem ((c.tc : Thread Cert.MoeReferenceIdeal.nD Cert.MoeReferenceIdeal.τ).loc Cert.MoeReferenceIdeal.main_arg1) = m' ((c.tc : Thread Cert.MoeReferenceIdeal.nD Cert.MoeReferenceIdeal.τ).loc Cert.MoeReferenceIdeal.main_arg1)
          ∧ r.2.mem ((c.tc : Thread Cert.MoeReferenceIdeal.nD Cert.MoeReferenceIdeal.τ).loc Cert.MoeReferenceIdeal.main_arg2) = m' ((c.tc : Thread Cert.MoeReferenceIdeal.nD Cert.MoeReferenceIdeal.τ).loc Cert.MoeReferenceIdeal.main_arg2)
          ∧ r.2.mem ((c.tc : Thread Cert.MoeReferenceIdeal.nD Cert.MoeReferenceIdeal.τ).loc Cert.MoeReferenceIdeal.main_arg3) = m' ((c.tc : Thread Cert.MoeReferenceIdeal.nD Cert.MoeReferenceIdeal.τ).loc Cert.MoeReferenceIdeal.main_arg3)
          ∧ r.2.mem ((c.tc : Thread Cert.MoeReferenceIdeal.nD Cert.MoeReferenceIdeal.τ).loc Cert.MoeReferenceIdeal.main_arg4) = m' ((c.tc : Thread Cert.MoeReferenceIdeal.nD Cert.MoeReferenceIdeal.τ).loc Cert.MoeReferenceIdeal.main_arg4)
          ∧ r.2.mem ((c.tc : Thread Cert.MoeReferenceIdeal.nD Cert.MoeReferenceIdeal.τ).loc Cert.MoeReferenceIdeal.main_arg5) = m' ((c.tc : Thread Cert.MoeReferenceIdeal.nD Cert.MoeReferenceIdeal.τ).loc Cert.MoeReferenceIdeal.main_arg5))

def preserves_Tail_TailIdeal : Prop :=
  IdealRules.bf16_pair.Statement Cert.TailIdeal.S1024x512 Cert.TailIdeal.S512x512
  ∧ IdealRules.bf16_pack.Statement Cert.TailIdeal.S512x512

def algebraic_TailIdeal_TailReferenceIdeal [hTailIdeal : Cert.TailIdeal.Facts] [hTailReferenceIdeal : Cert.TailReferenceIdeal.Facts] [hPre_experts_named3 : Cert.Pre_experts_named3.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailReferenceIdeal.nD Cert.TailReferenceIdeal.τ Cert.TailReferenceIdeal.sig) → Buf (Elt Ideal) ℓ) (g' : Dev Cert.TailReferenceIdeal.nD → PrngReg), Pre_TailIdeal m →
    (∀ c : Dev Cert.TailIdeal.nD,
      m' ((c.tc : Thread Cert.TailReferenceIdeal.nD Cert.TailReferenceIdeal.τ).loc Cert.TailReferenceIdeal.main_arg0) = m ((c.tc : Thread Cert.TailIdeal.nD Cert.TailIdeal.τ).loc Cert.TailIdeal.main_arg0)
      ∧ m' ((c.tc : Thread Cert.TailReferenceIdeal.nD Cert.TailReferenceIdeal.τ).loc Cert.TailReferenceIdeal.main_arg1) = m ((c.tc : Thread Cert.TailIdeal.nD Cert.TailIdeal.τ).loc Cert.TailIdeal.main_arg1)
      ∧ m' ((c.tc : Thread Cert.TailReferenceIdeal.nD Cert.TailReferenceIdeal.τ).loc Cert.TailReferenceIdeal.main_arg2) = m ((c.tc : Thread Cert.TailIdeal.nD Cert.TailIdeal.τ).loc Cert.TailIdeal.main_arg2)
      ∧ m' ((c.tc : Thread Cert.TailReferenceIdeal.nD Cert.TailReferenceIdeal.τ).loc Cert.TailReferenceIdeal.main_arg3) = m ((c.tc : Thread Cert.TailIdeal.nD Cert.TailIdeal.τ).loc Cert.TailIdeal.main_arg3)
      ∧ m' ((c.tc : Thread Cert.TailReferenceIdeal.nD Cert.TailReferenceIdeal.τ).loc Cert.TailReferenceIdeal.main_arg4) = m ((c.tc : Thread Cert.TailIdeal.nD Cert.TailIdeal.τ).loc Cert.TailIdeal.main_arg4)
      ∧ m' ((c.tc : Thread Cert.TailReferenceIdeal.nD Cert.TailReferenceIdeal.τ).loc Cert.TailReferenceIdeal.main_arg5) = m ((c.tc : Thread Cert.TailIdeal.nD Cert.TailIdeal.τ).loc Cert.TailIdeal.main_arg5)
      ∧ m' ((c.tc : Thread Cert.TailReferenceIdeal.nD Cert.TailReferenceIdeal.τ).loc Cert.TailReferenceIdeal.main_arg6) = m ((c.tc : Thread Cert.TailIdeal.nD Cert.TailIdeal.τ).loc Cert.TailIdeal.main_arg6)) →
    ∃ (v0 : (c : Dev Cert.TailIdeal.nD) → Buf (Elt Ideal) ((c.tc : Thread Cert.TailIdeal.nD Cert.TailIdeal.τ).loc Cert.TailIdeal.main_v3)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v3) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6))
      ∧ θ_run (Cert.TailReferenceIdeal.defs (F := Ideal)) (onTc (τ := Cert.TailReferenceIdeal.τ) (Cert.TailReferenceIdeal.main (F := Ideal))) ⟨m', fun _ => 0, g'⟩ (fun r => ∀ c : Dev Cert.TailReferenceIdeal.nD,
          r.2.mem ((c.tc : Thread Cert.TailReferenceIdeal.nD Cert.TailReferenceIdeal.τ).loc Cert.TailReferenceIdeal.main_v131) = v0 c
          ∧ r.2.mem ((c.tc : Thread Cert.TailReferenceIdeal.nD Cert.TailReferenceIdeal.τ).loc Cert.TailReferenceIdeal.main_arg0) = m' ((c.tc : Thread Cert.TailReferenceIdeal.nD Cert.TailReferenceIdeal.τ).loc Cert.TailReferenceIdeal.main_arg0)
          ∧ r.2.mem ((c.tc : Thread Cert.TailReferenceIdeal.nD Cert.TailReferenceIdeal.τ).loc Cert.TailReferenceIdeal.main_arg1) = m' ((c.tc : Thread Cert.TailReferenceIdeal.nD Cert.TailReferenceIdeal.τ).loc Cert.TailReferenceIdeal.main_arg1)
          ∧ r.2.mem ((c.tc : Thread Cert.TailReferenceIdeal.nD Cert.TailReferenceIdeal.τ).loc Cert.TailReferenceIdeal.main_arg2) = m' ((c.tc : Thread Cert.TailReferenceIdeal.nD Cert.TailReferenceIdeal.τ).loc Cert.TailReferenceIdeal.main_arg2)
          ∧ r.2.mem ((c.tc : Thread Cert.TailReferenceIdeal.nD Cert.TailReferenceIdeal.τ).loc Cert.TailReferenceIdeal.main_arg3) = m' ((c.tc : Thread Cert.TailReferenceIdeal.nD Cert.TailReferenceIdeal.τ).loc Cert.TailReferenceIdeal.main_arg3)
          ∧ r.2.mem ((c.tc : Thread Cert.TailReferenceIdeal.nD Cert.TailReferenceIdeal.τ).loc Cert.TailReferenceIdeal.main_arg4) = m' ((c.tc : Thread Cert.TailReferenceIdeal.nD Cert.TailReferenceIdeal.τ).loc Cert.TailReferenceIdeal.main_arg4)
          ∧ r.2.mem ((c.tc : Thread Cert.TailReferenceIdeal.nD Cert.TailReferenceIdeal.τ).loc Cert.TailReferenceIdeal.main_arg5) = m' ((c.tc : Thread Cert.TailReferenceIdeal.nD Cert.TailReferenceIdeal.τ).loc Cert.TailReferenceIdeal.main_arg5)
          ∧ r.2.mem ((c.tc : Thread Cert.TailReferenceIdeal.nD Cert.TailReferenceIdeal.τ).loc Cert.TailReferenceIdeal.main_arg6) = m' ((c.tc : Thread Cert.TailReferenceIdeal.nD Cert.TailReferenceIdeal.τ).loc Cert.TailReferenceIdeal.main_arg6))

def preserves_Dense_DenseIdeal : Prop :=
  True

def algebraic_DenseIdeal_DenseReferenceIdeal [hDenseIdeal : Cert.DenseIdeal.Facts] [hDenseReferenceIdeal : Cert.DenseReferenceIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseReferenceIdeal.nD Cert.DenseReferenceIdeal.τ Cert.DenseReferenceIdeal.sig) → Buf (Elt Ideal) ℓ) (g' : Dev Cert.DenseReferenceIdeal.nD → PrngReg), Pre_DenseIdeal m →
    (∀ c : Dev Cert.DenseIdeal.nD,
      m' ((c.tc : Thread Cert.DenseReferenceIdeal.nD Cert.DenseReferenceIdeal.τ).loc Cert.DenseReferenceIdeal.main_arg0) = m ((c.tc : Thread Cert.DenseIdeal.nD Cert.DenseIdeal.τ).loc Cert.DenseIdeal.main_arg0)
      ∧ m' ((c.tc : Thread Cert.DenseReferenceIdeal.nD Cert.DenseReferenceIdeal.τ).loc Cert.DenseReferenceIdeal.main_arg1) = m ((c.tc : Thread Cert.DenseIdeal.nD Cert.DenseIdeal.τ).loc Cert.DenseIdeal.main_arg1)
      ∧ m' ((c.tc : Thread Cert.DenseReferenceIdeal.nD Cert.DenseReferenceIdeal.τ).loc Cert.DenseReferenceIdeal.main_arg2) = m ((c.tc : Thread Cert.DenseIdeal.nD Cert.DenseIdeal.τ).loc Cert.DenseIdeal.main_arg2)
      ∧ m' ((c.tc : Thread Cert.DenseReferenceIdeal.nD Cert.DenseReferenceIdeal.τ).loc Cert.DenseReferenceIdeal.main_arg3) = m ((c.tc : Thread Cert.DenseIdeal.nD Cert.DenseIdeal.τ).loc Cert.DenseIdeal.main_arg3)
      ∧ m' ((c.tc : Thread Cert.DenseReferenceIdeal.nD Cert.DenseReferenceIdeal.τ).loc Cert.DenseReferenceIdeal.main_arg4) = m ((c.tc : Thread Cert.DenseIdeal.nD Cert.DenseIdeal.τ).loc Cert.DenseIdeal.main_arg4)
      ∧ m' ((c.tc : Thread Cert.DenseReferenceIdeal.nD Cert.DenseReferenceIdeal.τ).loc Cert.DenseReferenceIdeal.main_arg5) = m ((c.tc : Thread Cert.DenseIdeal.nD Cert.DenseIdeal.τ).loc Cert.DenseIdeal.main_arg5)
      ∧ m' ((c.tc : Thread Cert.DenseReferenceIdeal.nD Cert.DenseReferenceIdeal.τ).loc Cert.DenseReferenceIdeal.main_arg6) = m ((c.tc : Thread Cert.DenseIdeal.nD Cert.DenseIdeal.τ).loc Cert.DenseIdeal.main_arg6)
      ∧ m' ((c.tc : Thread Cert.DenseReferenceIdeal.nD Cert.DenseReferenceIdeal.τ).loc Cert.DenseReferenceIdeal.main_arg7) = m ((c.tc : Thread Cert.DenseIdeal.nD Cert.DenseIdeal.τ).loc Cert.DenseIdeal.main_arg7)
      ∧ m' ((c.tc : Thread Cert.DenseReferenceIdeal.nD Cert.DenseReferenceIdeal.τ).loc Cert.DenseReferenceIdeal.main_arg8) = m ((c.tc : Thread Cert.DenseIdeal.nD Cert.DenseIdeal.τ).loc Cert.DenseIdeal.main_arg8)
      ∧ m' ((c.tc : Thread Cert.DenseReferenceIdeal.nD Cert.DenseReferenceIdeal.τ).loc Cert.DenseReferenceIdeal.main_arg9) = m ((c.tc : Thread Cert.DenseIdeal.nD Cert.DenseIdeal.τ).loc Cert.DenseIdeal.main_arg9)
      ∧ m' ((c.tc : Thread Cert.DenseReferenceIdeal.nD Cert.DenseReferenceIdeal.τ).loc Cert.DenseReferenceIdeal.main_arg10) = m ((c.tc : Thread Cert.DenseIdeal.nD Cert.DenseIdeal.τ).loc Cert.DenseIdeal.main_arg10)
      ∧ m' ((c.tc : Thread Cert.DenseReferenceIdeal.nD Cert.DenseReferenceIdeal.τ).loc Cert.DenseReferenceIdeal.main_arg11) = m ((c.tc : Thread Cert.DenseIdeal.nD Cert.DenseIdeal.τ).loc Cert.DenseIdeal.main_arg11)
      ∧ m' ((c.tc : Thread Cert.DenseReferenceIdeal.nD Cert.DenseReferenceIdeal.τ).loc Cert.DenseReferenceIdeal.main_arg12) = m ((c.tc : Thread Cert.DenseIdeal.nD Cert.DenseIdeal.τ).loc Cert.DenseIdeal.main_arg12)) →
    ∃ (v0 : (c : Dev Cert.DenseIdeal.nD) → Buf (Elt Ideal) ((c.tc : Thread Cert.DenseIdeal.nD Cert.DenseIdeal.τ).loc Cert.DenseIdeal.main_v5)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v5) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
          ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
          ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6)
          ∧ r.2.mem ((c.tc : Thread Cert.DenseIdeal.nD Cert.DenseIdeal.τ).loc Cert.DenseIdeal.main_arg7) = m ((c.tc : Thread Cert.DenseIdeal.nD Cert.DenseIdeal.τ).loc Cert.DenseIdeal.main_arg7)
          ∧ r.2.mem ((c.tc : Thread Cert.DenseIdeal.nD Cert.DenseIdeal.τ).loc Cert.DenseIdeal.main_arg8) = m ((c.tc : Thread Cert.DenseIdeal.nD Cert.DenseIdeal.τ).loc Cert.DenseIdeal.main_arg8)
          ∧ r.2.mem ((c.tc : Thread Cert.DenseIdeal.nD Cert.DenseIdeal.τ).loc Cert.DenseIdeal.main_arg9) = m ((c.tc : Thread Cert.DenseIdeal.nD Cert.DenseIdeal.τ).loc Cert.DenseIdeal.main_arg9)
          ∧ r.2.mem ((c.tc : Thread Cert.DenseIdeal.nD Cert.DenseIdeal.τ).loc Cert.DenseIdeal.main_arg10) = m ((c.tc : Thread Cert.DenseIdeal.nD Cert.DenseIdeal.τ).loc Cert.DenseIdeal.main_arg10)
          ∧ r.2.mem ((c.tc : Thread Cert.DenseIdeal.nD Cert.DenseIdeal.τ).loc Cert.DenseIdeal.main_arg11) = m ((c.tc : Thread Cert.DenseIdeal.nD Cert.DenseIdeal.τ).loc Cert.DenseIdeal.main_arg11)
          ∧ r.2.mem ((c.tc : Thread Cert.DenseIdeal.nD Cert.DenseIdeal.τ).loc Cert.DenseIdeal.main_arg12) = m ((c.tc : Thread Cert.DenseIdeal.nD Cert.DenseIdeal.τ).loc Cert.DenseIdeal.main_arg12))
      ∧ θ_run (Cert.DenseReferenceIdeal.defs (F := Ideal)) (onTc (τ := Cert.DenseReferenceIdeal.τ) (Cert.DenseReferenceIdeal.main (F := Ideal))) ⟨m', fun _ => 0, g'⟩ (fun r => ∀ c : Dev Cert.DenseReferenceIdeal.nD,
          r.2.mem ((c.tc : Thread Cert.DenseReferenceIdeal.nD Cert.DenseReferenceIdeal.τ).loc Cert.DenseReferenceIdeal.main_v32) = v0 c
          ∧ r.2.mem ((c.tc : Thread Cert.DenseReferenceIdeal.nD Cert.DenseReferenceIdeal.τ).loc Cert.DenseReferenceIdeal.main_arg0) = m' ((c.tc : Thread Cert.DenseReferenceIdeal.nD Cert.DenseReferenceIdeal.τ).loc Cert.DenseReferenceIdeal.main_arg0)
          ∧ r.2.mem ((c.tc : Thread Cert.DenseReferenceIdeal.nD Cert.DenseReferenceIdeal.τ).loc Cert.DenseReferenceIdeal.main_arg1) = m' ((c.tc : Thread Cert.DenseReferenceIdeal.nD Cert.DenseReferenceIdeal.τ).loc Cert.DenseReferenceIdeal.main_arg1)
          ∧ r.2.mem ((c.tc : Thread Cert.DenseReferenceIdeal.nD Cert.DenseReferenceIdeal.τ).loc Cert.DenseReferenceIdeal.main_arg2) = m' ((c.tc : Thread Cert.DenseReferenceIdeal.nD Cert.DenseReferenceIdeal.τ).loc Cert.DenseReferenceIdeal.main_arg2)
          ∧ r.2.mem ((c.tc : Thread Cert.DenseReferenceIdeal.nD Cert.DenseReferenceIdeal.τ).loc Cert.DenseReferenceIdeal.main_arg3) = m' ((c.tc : Thread Cert.DenseReferenceIdeal.nD Cert.DenseReferenceIdeal.τ).loc Cert.DenseReferenceIdeal.main_arg3)
          ∧ r.2.mem ((c.tc : Thread Cert.DenseReferenceIdeal.nD Cert.DenseReferenceIdeal.τ).loc Cert.DenseReferenceIdeal.main_arg4) = m' ((c.tc : Thread Cert.DenseReferenceIdeal.nD Cert.DenseReferenceIdeal.τ).loc Cert.DenseReferenceIdeal.main_arg4)
          ∧ r.2.mem ((c.tc : Thread Cert.DenseReferenceIdeal.nD Cert.DenseReferenceIdeal.τ).loc Cert.DenseReferenceIdeal.main_arg5) = m' ((c.tc : Thread Cert.DenseReferenceIdeal.nD Cert.DenseReferenceIdeal.τ).loc Cert.DenseReferenceIdeal.main_arg5)
          ∧ r.2.mem ((c.tc : Thread Cert.DenseReferenceIdeal.nD Cert.DenseReferenceIdeal.τ).loc Cert.DenseReferenceIdeal.main_arg6) = m' ((c.tc : Thread Cert.DenseReferenceIdeal.nD Cert.DenseReferenceIdeal.τ).loc Cert.DenseReferenceIdeal.main_arg6)
          ∧ r.2.mem ((c.tc : Thread Cert.DenseReferenceIdeal.nD Cert.DenseReferenceIdeal.τ).loc Cert.DenseReferenceIdeal.main_arg7) = m' ((c.tc : Thread Cert.DenseReferenceIdeal.nD Cert.DenseReferenceIdeal.τ).loc Cert.DenseReferenceIdeal.main_arg7)
          ∧ r.2.mem ((c.tc : Thread Cert.DenseReferenceIdeal.nD Cert.DenseReferenceIdeal.τ).loc Cert.DenseReferenceIdeal.main_arg8) = m' ((c.tc : Thread Cert.DenseReferenceIdeal.nD Cert.DenseReferenceIdeal.τ).loc Cert.DenseReferenceIdeal.main_arg8)
          ∧ r.2.mem ((c.tc : Thread Cert.DenseReferenceIdeal.nD Cert.DenseReferenceIdeal.τ).loc Cert.DenseReferenceIdeal.main_arg9) = m' ((c.tc : Thread Cert.DenseReferenceIdeal.nD Cert.DenseReferenceIdeal.τ).loc Cert.DenseReferenceIdeal.main_arg9)
          ∧ r.2.mem ((c.tc : Thread Cert.DenseReferenceIdeal.nD Cert.DenseReferenceIdeal.τ).loc Cert.DenseReferenceIdeal.main_arg10) = m' ((c.tc : Thread Cert.DenseReferenceIdeal.nD Cert.DenseReferenceIdeal.τ).loc Cert.DenseReferenceIdeal.main_arg10)
          ∧ r.2.mem ((c.tc : Thread Cert.DenseReferenceIdeal.nD Cert.DenseReferenceIdeal.τ).loc Cert.DenseReferenceIdeal.main_arg11) = m' ((c.tc : Thread Cert.DenseReferenceIdeal.nD Cert.DenseReferenceIdeal.τ).loc Cert.DenseReferenceIdeal.main_arg11)
          ∧ r.2.mem ((c.tc : Thread Cert.DenseReferenceIdeal.nD Cert.DenseReferenceIdeal.τ).loc Cert.DenseReferenceIdeal.main_arg12) = m' ((c.tc : Thread Cert.DenseReferenceIdeal.nD Cert.DenseReferenceIdeal.τ).loc Cert.DenseReferenceIdeal.main_arg12))

def preserves_Combine_CombineIdeal : Prop :=
  True

def algebraic_CombineIdeal_CombineReferenceIdeal [hCombineIdeal : Cert.CombineIdeal.Facts] [hCombineReferenceIdeal : Cert.CombineReferenceIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineReferenceIdeal.nD Cert.CombineReferenceIdeal.τ Cert.CombineReferenceIdeal.sig) → Buf (Elt Ideal) ℓ) (g' : Dev Cert.CombineReferenceIdeal.nD → PrngReg), Pre_CombineIdeal m →
    (∀ c : Dev Cert.CombineIdeal.nD,
      m' ((c.tc : Thread Cert.CombineReferenceIdeal.nD Cert.CombineReferenceIdeal.τ).loc Cert.CombineReferenceIdeal.main_arg0) = m ((c.tc : Thread Cert.CombineIdeal.nD Cert.CombineIdeal.τ).loc Cert.CombineIdeal.main_arg0)
      ∧ m' ((c.tc : Thread Cert.CombineReferenceIdeal.nD Cert.CombineReferenceIdeal.τ).loc Cert.CombineReferenceIdeal.main_arg1) = m ((c.tc : Thread Cert.CombineIdeal.nD Cert.CombineIdeal.τ).loc Cert.CombineIdeal.main_arg1)
      ∧ m' ((c.tc : Thread Cert.CombineReferenceIdeal.nD Cert.CombineReferenceIdeal.τ).loc Cert.CombineReferenceIdeal.main_arg2) = m ((c.tc : Thread Cert.CombineIdeal.nD Cert.CombineIdeal.τ).loc Cert.CombineIdeal.main_arg2)
      ∧ m' ((c.tc : Thread Cert.CombineReferenceIdeal.nD Cert.CombineReferenceIdeal.τ).loc Cert.CombineReferenceIdeal.main_arg3) = m ((c.tc : Thread Cert.CombineIdeal.nD Cert.CombineIdeal.τ).loc Cert.CombineIdeal.main_arg3)) →
    ∃ (v0 : (c : Dev Cert.CombineIdeal.nD) → Buf (Elt Ideal) ((c.tc : Thread Cert.CombineIdeal.nD Cert.CombineIdeal.τ).loc Cert.CombineIdeal.main_v0)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v0) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3))
      ∧ θ_run (Cert.CombineReferenceIdeal.defs (F := Ideal)) (onTc (τ := Cert.CombineReferenceIdeal.τ) (Cert.CombineReferenceIdeal.main (F := Ideal))) ⟨m', fun _ => 0, g'⟩ (fun r => ∀ c : Dev Cert.CombineReferenceIdeal.nD,
          r.2.mem ((c.tc : Thread Cert.CombineReferenceIdeal.nD Cert.CombineReferenceIdeal.τ).loc Cert.CombineReferenceIdeal.main_v18) = v0 c
          ∧ r.2.mem ((c.tc : Thread Cert.CombineReferenceIdeal.nD Cert.CombineReferenceIdeal.τ).loc Cert.CombineReferenceIdeal.main_arg0) = m' ((c.tc : Thread Cert.CombineReferenceIdeal.nD Cert.CombineReferenceIdeal.τ).loc Cert.CombineReferenceIdeal.main_arg0)
          ∧ r.2.mem ((c.tc : Thread Cert.CombineReferenceIdeal.nD Cert.CombineReferenceIdeal.τ).loc Cert.CombineReferenceIdeal.main_arg1) = m' ((c.tc : Thread Cert.CombineReferenceIdeal.nD Cert.CombineReferenceIdeal.τ).loc Cert.CombineReferenceIdeal.main_arg1)
          ∧ r.2.mem ((c.tc : Thread Cert.CombineReferenceIdeal.nD Cert.CombineReferenceIdeal.τ).loc Cert.CombineReferenceIdeal.main_arg2) = m' ((c.tc : Thread Cert.CombineReferenceIdeal.nD Cert.CombineReferenceIdeal.τ).loc Cert.CombineReferenceIdeal.main_arg2)
          ∧ r.2.mem ((c.tc : Thread Cert.CombineReferenceIdeal.nD Cert.CombineReferenceIdeal.τ).loc Cert.CombineReferenceIdeal.main_arg3) = m' ((c.tc : Thread Cert.CombineReferenceIdeal.nD Cert.CombineReferenceIdeal.τ).loc Cert.CombineReferenceIdeal.main_arg3))

def Claim : Prop :=
  ∃ (hKernel : Cert.Kernel.Facts) (hReference : Cert.Reference.Facts) (hMoe : Cert.Moe.Facts) (hMoeIdeal : Cert.MoeIdeal.Facts) (hMoeReferenceIdeal : Cert.MoeReferenceIdeal.Facts) (hTail : Cert.Tail.Facts) (hTailIdeal : Cert.TailIdeal.Facts) (hTailReferenceIdeal : Cert.TailReferenceIdeal.Facts) (hDense : Cert.Dense.Facts) (hDenseIdeal : Cert.DenseIdeal.Facts) (hDenseReferenceIdeal : Cert.DenseReferenceIdeal.Facts) (hCombine : Cert.Combine.Facts) (hCombineIdeal : Cert.CombineIdeal.Facts) (hCombineReferenceIdeal : Cert.CombineReferenceIdeal.Facts) (hPre_in_rows : Cert.Pre_in_rows.Facts) (hPre_experts_named : Cert.Pre_experts_named.Facts) (hPre_experts_named3 : Cert.Pre_experts_named3.Facts) (hOn_tiles_computed : Cert.On_tiles_computed.Facts),
    quiescent_Kernel (hKernel := hKernel) (hPre_in_rows := hPre_in_rows)
    ∧ quiescent_Reference (hReference := hReference) (hPre_in_rows := hPre_in_rows)
    ∧ quiescent_Moe (hMoe := hMoe) (hPre_experts_named := hPre_experts_named)
    ∧ quiescent_MoeIdeal (hMoeIdeal := hMoeIdeal) (hPre_experts_named := hPre_experts_named)
    ∧ quiescent_MoeReferenceIdeal (hMoeReferenceIdeal := hMoeReferenceIdeal) (hPre_experts_named := hPre_experts_named)
    ∧ quiescent_Tail (hTail := hTail) (hPre_experts_named3 := hPre_experts_named3)
    ∧ quiescent_TailIdeal (hTailIdeal := hTailIdeal) (hPre_experts_named3 := hPre_experts_named3)
    ∧ quiescent_TailReferenceIdeal (hTailReferenceIdeal := hTailReferenceIdeal) (hPre_experts_named3 := hPre_experts_named3)
    ∧ quiescent_Dense (hDense := hDense)
    ∧ quiescent_DenseIdeal (hDenseIdeal := hDenseIdeal)
    ∧ quiescent_DenseReferenceIdeal (hDenseReferenceIdeal := hDenseReferenceIdeal)
    ∧ quiescent_Combine (hCombine := hCombine)
    ∧ quiescent_CombineIdeal (hCombineIdeal := hCombineIdeal)
    ∧ quiescent_CombineReferenceIdeal (hCombineReferenceIdeal := hCombineReferenceIdeal)
    ∧ bitexact_Kernel_Reference (hKernel := hKernel) (hReference := hReference) (hPre_in_rows := hPre_in_rows)
    ∧ preserves_Moe_MoeIdeal
    ∧ algebraic_MoeIdeal_MoeReferenceIdeal_on_tiles_computed (hMoeIdeal := hMoeIdeal) (hMoeReferenceIdeal := hMoeReferenceIdeal) (hPre_experts_named := hPre_experts_named) (hOn_tiles_computed := hOn_tiles_computed)
    ∧ preserves_Tail_TailIdeal
    ∧ algebraic_TailIdeal_TailReferenceIdeal (hTailIdeal := hTailIdeal) (hTailReferenceIdeal := hTailReferenceIdeal) (hPre_experts_named3 := hPre_experts_named3)
    ∧ preserves_Dense_DenseIdeal
    ∧ algebraic_DenseIdeal_DenseReferenceIdeal (hDenseIdeal := hDenseIdeal) (hDenseReferenceIdeal := hDenseReferenceIdeal)
    ∧ preserves_Combine_CombineIdeal
    ∧ algebraic_CombineIdeal_CombineReferenceIdeal (hCombineIdeal := hCombineIdeal) (hCombineReferenceIdeal := hCombineReferenceIdeal)
-- ==== On_tiles_computed.lean ====
abbrev S72 : Shape := ⟨1, ![72]⟩
abbrev S1 : Shape := ⟨1, ![1]⟩
abbrev S36864x512 : Shape := ⟨2, ![36864, 512]⟩
abbrev S8x1024x3584 : Shape := ⟨3, ![8, 1024, 3584]⟩
abbrev S8x3584x1024 : Shape := ⟨3, ![8, 3584, 1024]⟩
abbrev S73728x512 : Shape := ⟨2, ![73728, 512]⟩
abbrev S_ : Shape := ⟨0, ![]⟩

class Facts : Prop where
  bcast_S_S73728x512 : S_.BroadcastsInDim S73728x512 (![] : Fin 0 → Fin S73728x512.rank)

variable [Facts]

def fn {F : FTy → Type} [FloatOps F] (main_arg0 : IVec S72 32) (main_arg1 : IVec S1 32) (main_arg2 : FVec F S36864x512 .bf16) (main_arg3 : FVec F S8x1024x3584 .f32) (main_arg4 : FVec F S8x1024x3584 .f32) (main_arg5 : FVec F S8x3584x1024 .f32) : IVec S73728x512 1 :=
  let main_v0 : IVec S73728x512 32 := iotaInDim S73728x512 32 0
  let main_c : IVec S_ 32 := constantI S_ 32 36864#32
  let main_v1 : IVec S73728x512 32 := broadcastInDim S73728x512 ![] bcast_S_S73728x512 main_c
  let main_v2 : IVec S73728x512 1 := cmpi .slt main_v0 main_v1
  main_v2
-- ==== Pre_experts_named.lean ====
abbrev S72 : Shape := ⟨1, ![72]⟩
abbrev S1 : Shape := ⟨1, ![1]⟩
abbrev S36864x512 : Shape := ⟨2, ![36864, 512]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S72 : S_.BroadcastsInDim S72 (![] : Fin 0 → Fin S72.rank)

variable [Facts]

def fn {F : FTy → Type} [FloatOps F] (main_arg0 : IVec S72 32) (main_arg1 : IVec S1 32) (main_arg2 : FVec F S36864x512 .bf16) (main_arg3 : FVec F S8x1024x3584 .f32) (main_arg4 : FVec F S8x1024x3584 .f32) (main_arg5 : FVec F S8x3584x1024 .f32) : IVec S72 1 :=
  let main_c : IVec S_ 32 := constantI S_ 32 0#32
  let main_v0 : IVec S72 32 := broadcastInDim S72 ![] bcast_S_S72 main_c
  let main_v1 : IVec S72 1 := cmpi .sge main_arg0 main_v0
  let main_c_0 : IVec S_ 32 := constantI S_ 32 8#32
  let main_v2 : IVec S72 32 := broadcastInDim S72 ![] bcast_S_S72 main_c_0
  let main_v3 : IVec S72 1 := cmpi .slt main_arg0 main_v2
  let main_v4 : IVec S72 1 := andi main_v1 main_v3
  main_v4
-- ==== Pre_experts_named3.lean ====
abbrev S72 : Shape := ⟨1, ![72]⟩
abbrev S1 : Shape := ⟨1, ![1]⟩
abbrev S36864x512 : Shape := ⟨2, ![36864, 512]⟩
abbrev S8x1024x3584 : Shape := ⟨3, ![8, 1024, 3584]⟩
abbrev S8x3584x1024 : Shape := ⟨3, ![8, 3584, 1024]⟩
abbrev S73728x512 : Shape := ⟨2, ![73728, 512]⟩
abbrev S_ : Shape := ⟨0, ![]⟩

class Facts : Prop where
  bcast_S_S72 : S_.BroadcastsInDim S72 (![] : Fin 0 → Fin S72.rank)

variable [Facts]

def fn {F : FTy → Type} [FloatOps F] (main_arg0 : IVec S72 32) (main_arg1 : IVec S1 32) (main_arg2 : FVec F S36864x512 .bf16) (main_arg3 : FVec F S8x1024x3584 .f32) (main_arg4 : FVec F S8x1024x3584 .f32) (main_arg5 : FVec F S8x3584x1024 .f32) (main_arg6 : FVec F S73728x512 .bf16) : IVec S72 1 :=
  let main_c : IVec S_ 32 := constantI S_ 32 0#32
  let main_v0 : IVec S72 32 := broadcastInDim S72 ![] bcast_S_S72 main_c
  let main_v1 : IVec S72 1 := cmpi .sge main_arg0 main_v0
  let main_c_0 : IVec S_ 32 := constantI S_ 32 8#32
  let main_v2 : IVec S72 32 := broadcastInDim S72 ![] bcast_S_S72 main_c_0
  let main_v3 : IVec S72 1 := cmpi .slt main_arg0 main_v2
  let main_v4 : IVec S72 1 := andi main_v1 main_v3
  main_v4
-- ==== Pre_in_rows.lean ====
abbrev S16384x512 : Shape := ⟨2, ![16384, 512]⟩
abbrev S18432 : Shape := ⟨1, ![18432]⟩
abbrev S_ : Shape := ⟨0, ![]⟩

class Facts : Prop where
  bcast_S_S18432 : S_.BroadcastsInDim S18432 (![] : Fin 0 → Fin S18432.rank)
  reducesTo_S18432_S_d0 : S18432.ReducesTo [0] S_
  h_S_ : 0 < S_.numel

variable [Facts]

def fn {F : FTy → Type} [FloatOps F] (main_arg0 : IVec S16384x512 32) (main_arg1 : IVec S18432 32) : IVec S_ 1 :=
  let main_c : IVec S_ 32 := constantI S_ 32 0#32
  let main_v0 : IVec S18432 32 := broadcastInDim S18432 ![] bcast_S_S18432 main_c
  let main_v1 : IVec S18432 1 := cmpi .sge main_arg1 main_v0
  let main_c_0 : IVec S_ 32 := constantI S_ 32 16384#32
  let main_v2 : IVec S18432 32 := broadcastInDim S18432 ![] bcast_S_S18432 main_c_0
  let main_v3 : IVec S18432 1 := cmpi .slt main_arg1 main_v2
  let main_v4 : IVec S18432 1 := andi main_v1 main_v3
  let main_c_1 : IVec S_ 1 := constantI S_ 1 1#1
  let main_v5 : IVec S_ 1 := (fun x v => Host.reduce IntOp.andi x v reducesTo_S18432_S_d0 h_S_) main_v4 main_c_1
  main_v5
-- ==== Kernel.lean ====
abbrev S16384x512 : Shape := ⟨2, ![16384, 512]⟩
abbrev S18432 : Shape := ⟨1, ![18432]⟩
abbrev S288x64 : Shape := ⟨2, ![288, 64]⟩
abbrev S_ : Shape := ⟨0, ![]⟩
abbrev S288x128 : Shape := ⟨2, ![288, 128]⟩
abbrev S18432x512 : Shape := ⟨2, ![18432, 512]⟩
abbrev S2x1x128 : Shape := ⟨3, ![2, 1, 128]⟩
abbrev S2 : Shape := ⟨1, ![2]⟩
abbrev S2x64x512 : Shape := ⟨3, ![2, 64, 512]⟩
abbrev S1x1x128 : Shape := ⟨3, ![1, 1, 128]⟩
abbrev S1x128 : Shape := ⟨2, ![1, 128]⟩
abbrev S1 : Shape := ⟨1, ![1]⟩
abbrev S1x64x512 : Shape := ⟨3, ![1, 64, 512]⟩
abbrev S64x512 : Shape := ⟨2, ![64, 512]⟩
abbrev S64x128 : Shape := ⟨2, ![64, 128]⟩
abbrev S1x64 : Shape := ⟨2, ![1, 64]⟩
abbrev S64 : Shape := ⟨1, ![64]⟩
abbrev S16384x128 : Shape := ⟨2, ![16384, 128]⟩

abbrev nBuf : Table → Nat
  | .hbm => 7
  | .local .scVector .vmem => 2
  | _ => 0

abbrev bufTy : (tb : Table) → Fin (nBuf tb) → BufTy
  | .hbm, ⟨0, _⟩ => ⟨S16384x512, .i32⟩
  | .hbm, ⟨1, _⟩ => ⟨S18432, .i32⟩
  | .hbm, ⟨2, _⟩ => ⟨S288x64, .i32⟩
  | .hbm, ⟨3, _⟩ => ⟨S_, .i32⟩
  | .hbm, ⟨4, _⟩ => ⟨S_, .i32⟩
  | .hbm, ⟨5, _⟩ => ⟨S288x128, .i32⟩
  | .hbm, ⟨6, _⟩ => ⟨S18432x512, .i32⟩
  | .local .scVector .vmem, ⟨0, _⟩ => ⟨S2x1x128, .i32⟩
  | .local .scVector .vmem, ⟨1, _⟩ => ⟨S2x64x512, .i32⟩
  | _, _ => ⟨S16384x512, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_arg0_scv : Ref sig .scVector := ⟨.hbm, 0, rfl⟩
abbrev main_v1_scv : Ref sig .scVector := ⟨.hbm, 5, rfl⟩
abbrev main_v2_scv : Ref sig .scVector := ⟨.hbm, 6, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_15_r0 : BitVec 32 := 0#32
  let c0_i32_16_r0 : BitVec 32 := 0#32
  ![v21_r0.toNat, 0, 0]
def k0_off2 (i : grid0.Coords) : Fin 2 → Nat :=
  let c1_i32_14_r0 : BitVec 32 := 1#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c9_i32 : BitVec 32 := 9#32
  let v4 : BitVec 32 := Scalar.muli v3 c9_i32
  let v7_r0 : BitVec 32 := Scalar.addi c0_i32_1_r0 v4
  let v22_r0 : BitVec 32 := Scalar.muli c1_i32_14_r0 v7_r0
  let c0_i32_17_r0 : BitVec 32 := 0#32
  ![v22_r0.toNat, 0]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_27_r0 : BitVec 32 := 0#32
  let c9_i32_28_r0 : BitVec 32 := 9#32
  let v32_r0 : BitVec 32 := Scalar.addi c0_i32_27_r0 c9_i32_28_r0
  let c1_i32_29_r0 : BitVec 32 := 1#32
  ⟨c0_i32_27_r0, v32_r0, c1_i32_29_r0⟩
def k0_off4 (arg6_r0 : BitVec 32) : Fin 3 → Nat :=
  let c2_i32_102_r0 : BitVec 32 := 2#32
  let v144_r0 : BitVec 32 := Scalar.remui arg6_r0 c2_i32_102_r0
  let c0_i32_104_r0 : BitVec 32 := 0#32
  let c0_i32_105_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c9_i32 : BitVec 32 := 9#32
  let v4 : BitVec 32 := Scalar.muli v3 c9_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c9_i32_62_r0 : BitVec 32 := 9#32
  let v74_r0 : BitVec 1 := Scalar.cmpi .eq v73_r0 c9_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_27_r0 : BitVec 32 := 0#32
  let c1_i32_29_r0 : BitVec 32 := 1#32
  let arg5_r0 : BitVec 32 := Scf.iv c0_i32_27_r0 c1_i32_29_r0 k0_t1
  let c8_i32_68_r0 : BitVec 32 := 8#32
  let v83_r0 : BitVec 1 := Scalar.cmpi .sge arg5_r0 c8_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg10_r0 : BitVec 32) : Fin 2 → Nat :=
  let c1_i32_103_r0 : BitVec 32 := 1#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c9_i32_62_r0 : BitVec 32 := 9#32
  let v74_r0 : BitVec 1 := Scalar.cmpi .eq v73_r0 c9_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c9_i32 : BitVec 32 := 9#32
  let v4 : BitVec 32 := Scalar.muli v3 c9_i32
  let v76_r0 : BitVec 32 := Scalar.addi v75_r0 v4
  let v145_r0 : BitVec 32 := Scalar.muli c1_i32_103_r0 v76_r0
  let c0_i32_106_r0 : BitVec 32 := 0#32
  ![v145_r0.toNat, 0]
def k0_off6 (arg6_r0 : BitVec 32) : Fin 1 → Nat :=
  let c2_i32_102_r0 : BitVec 32 := 2#32
  let v144_r0 : BitVec 32 := Scalar.remui arg6_r0 c2_i32_102_r0
  ![v144_r0.toNat]
def k0_off7 (arg7_r0 : BitVec 32) : Fin 3 → Nat :=
  let c2_i32_103_r0 : BitVec 32 := 2#32
  let v145_r0 : BitVec 32 := Scalar.remui arg7_r0 c2_i32_103_r0
  let c0_i32_104_r0 : BitVec 32 := 0#32
  let c0_i32_105_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c9_i32 : BitVec 32 := 9#32
  let v4 : BitVec 32 := Scalar.muli v3 c9_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c8_i32_59_r0 : BitVec 32 := 8#32
  let v70_r0 : BitVec 32 := Scalar.select v69_r0 c8_i32_59_r0 v68_r0
  let v71_r0 : BitVec 32 := Scalar.addi v70_r0 v4
  let v96_r0 : BitVec 1 := Scalar.cmpi .ne v66_r0 v71_r0
  let c0_i32_27_r0 : BitVec 32 := 0#32
  let c1_i32_29_r0 : BitVec 32 := 1#32
  let arg5_r0 : BitVec 32 := Scf.iv c0_i32_27_r0 c1_i32_29_r0 k0_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c1_i32_102_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c9_i32 : BitVec 32 := 9#32
  let v4 : BitVec 32 := Scalar.muli v3 c9_i32
  let v66_r0 : BitVec 32 := Scalar.addi arg10_r0 v4
  let v144_r0 : BitVec 32 := Scalar.muli c1_i32_102_r0 v66_r0
  let c0_i32_106_r0 : BitVec 32 := 0#32
  ![v144_r0.toNat, 0]
def k0_off9 (arg7_r0 : BitVec 32) : Fin 1 → Nat :=
  let c2_i32_103_r0 : BitVec 32 := 2#32
  let v145_r0 : BitVec 32 := Scalar.remui arg7_r0 c2_i32_103_r0
  ![v145_r0.toNat]
def k0_off10 (arg8_r0 : BitVec 32) : Fin 3 → Nat :=
  let c2_i32_81_r0 : BitVec 32 := 2#32
  let v109_r0 : BitVec 32 := Scalar.remui arg8_r0 c2_i32_81_r0
  let c0_i32_102_r1 : BitVec 32 := 0#32
  let c0_i32_103_r1 : BitVec 32 := 0#32
  ![v109_r0.toNat, 0, 0]

def k0_chk2 (arg8_r0 : BitVec 32) : Prop :=
  (∀ a, (k0_off10 arg8_r0) a + S1x64x512.size a ≤ S2x64x512.size a)
theorem k0_off10_inb : ∀ (arg8_r0 : BitVec 32) (k0_hw2 : k0_chk2 arg8_r0), ∀ a, (k0_off10 arg8_r0) a + S1x64x512.size a ≤ S2x64x512.size a := fun arg8_r0 k0_hw2 => k0_hw2

def k0_off11 (arg7_r0 : BitVec 32) : Fin 3 → Nat :=
  let c2_i32_80_r0 : BitVec 32 := 2#32
  let v108_r0 : BitVec 32 := Scalar.remui arg7_r0 c2_i32_80_r0
  let c0_i32_106_r1 : BitVec 32 := 0#32
  let c0_i32_107_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_102_r0 : BitVec 32 := 2#32
  let v144_r0 : BitVec 32 := Scalar.remui arg8_r0 c2_i32_102_r0
  let c0_i32_104_r0 : BitVec 32 := 0#32
  let c0_i32_105_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c9_i32 : BitVec 32 := 9#32
  let v4 : BitVec 32 := Scalar.muli v3 c9_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c9_i32_62_r0 : BitVec 32 := 9#32
  let v74_r0 : BitVec 1 := Scalar.cmpi .eq v73_r0 c9_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_27_r0 : BitVec 32 := 0#32
  let c1_i32_29_r0 : BitVec 32 := 1#32
  let arg5_r0 : BitVec 32 := Scf.iv c0_i32_27_r0 c1_i32_29_r0 k0_t1
  let c8_i32_55_r0 : BitVec 32 := 8#32
  let v65_r0 : BitVec 1 := Scalar.cmpi .eq arg5_r0 c8_i32_55_r0
  let v116_r0 : BitVec 1 := Scalar.ori v115_r0 v65_r0
  let v117_r0 : BitVec 32 := Scalar.extui v116_r0
  let c0_i32_87_r0 : BitVec 32 := 0#32
  let v118_r0 : BitVec 1 := Scalar.cmpi .ne v117_r0 c0_i32_87_r0
  v118_r0

def k0_off13 (i : grid0.Coords) (arg10_r0 : BitVec 32) : Fin 2 → Nat :=
  let c64_i32_103_r0 : BitVec 32 := 64#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c9_i32 : BitVec 32 := 9#32
  let v4 : BitVec 32 := Scalar.muli v3 c9_i32
  let v66_r0 : BitVec 32 := Scalar.addi arg10_r0 v4
  let v145_r0 : BitVec 32 := Scalar.muli c64_i32_103_r0 v66_r0
  let c0_i32_106_r0 : BitVec 32 := 0#32
  ![v145_r0.toNat, 0]
def k0_off14 (arg8_r0 : BitVec 32) : Fin 1 → Nat :=
  let c2_i32_102_r0 : BitVec 32 := 2#32
  let v144_r0 : BitVec 32 := Scalar.remui arg8_r0 c2_i32_102_r0
  ![v144_r0.toNat]
def k0_off15 (arg9_r0 : BitVec 32) : Fin 3 → Nat :=
  let c2_i32_102_r0 : BitVec 32 := 2#32
  let v144_r0 : BitVec 32 := Scalar.remui arg9_r0 c2_i32_102_r0
  let c0_i32_104_r0 : BitVec 32 := 0#32
  let c0_i32_105_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c9_i32 : BitVec 32 := 9#32
  let v4 : BitVec 32 := Scalar.muli v3 c9_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c8_i32_59_r0 : BitVec 32 := 8#32
  let v70_r0 : BitVec 32 := Scalar.select v69_r0 c8_i32_59_r0 v68_r0
  let v71_r0 : BitVec 32 := Scalar.addi v70_r0 v4
  let v128_r0 : BitVec 1 := Scalar.cmpi .ne v66_r0 v71_r0
  let c0_i32_27_r0 : BitVec 32 := 0#32
  let c1_i32_29_r0 : BitVec 32 := 1#32
  let arg5_r0 : BitVec 32 := Scf.iv c0_i32_27_r0 c1_i32_29_r0 k0_t1
  let c0_i32_54_r0 : BitVec 32 := 0#32
  let v64_r0 : BitVec 1 := Scalar.cmpi .eq arg5_r0 c0_i32_54_r0
  let true_93_r0 : BitVec 1 := 1#1
  let v129_r0 : BitVec 1 := Scalar.xori v64_r0 true_93_r0
  let v130_r0 : BitVec 1 := Scalar.andi v128_r0 v129_r0
  let v131_r0 : BitVec 32 := Scalar.extui v130_r0
  let c0_i32_94_r0 : BitVec 32 := 0#32
  let v132_r0 : BitVec 1 := Scalar.cmpi .ne v131_r0 c0_i32_94_r0
  v132_r0

def k0_off16 (i : grid0.Coords) (arg10_r0 : BitVec 32) : Fin 2 → Nat :=
  let c64_i32_103_r0 : BitVec 32 := 64#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c8_i32_59_r0 : BitVec 32 := 8#32
  let v70_r0 : BitVec 32 := Scalar.select v69_r0 c8_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c9_i32 : BitVec 32 := 9#32
  let v4 : BitVec 32 := Scalar.muli v3 c9_i32
  let v71_r0 : BitVec 32 := Scalar.addi v70_r0 v4
  let v145_r0 : BitVec 32 := Scalar.muli c64_i32_103_r0 v71_r0
  let c0_i32_106_r0 : BitVec 32 := 0#32
  ![v145_r0.toNat, 0]
def k0_off17 (arg9_r0 : BitVec 32) : Fin 1 → Nat :=
  let c2_i32_102_r0 : BitVec 32 := 2#32
  let v144_r0 : BitVec 32 := Scalar.remui arg9_r0 c2_i32_102_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S288x128.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S288x128.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x64x512.size a ≤ S2x64x512.size a) ∧
  (∀ (k0_h5 : k0_cond5 i k0_t1 arg10_r0 = 1#1), ∀ a, (k0_off13 i arg10_r0) a + S64x512.size a ≤ S18432x512.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x64x512.size a ≤ S2x64x512.size a) ∧
  (∀ (k0_h7 : k0_cond7 i k0_t1 arg10_r0 = 1#1), ∀ a, (k0_off16 i arg10_r0) a + S64x512.size a ≤ S18432x512.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S288x128.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S288x128.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x64x512.size a ≤ S2x64x512.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S64x512.size a ≤ S18432x512.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x64x512.size a ≤ S2x64x512.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S64x512.size a ≤ S18432x512.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_47_r0 : BitVec 32 := 2#32
  let v54_r0 : BitVec 32 := Scalar.remui v33_3_r0 c2_i32_47_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c64_i32_r0 : BitVec 32 := 64#32
  let true_32_r0 : BitVec 1 := 1#1
  let c1_i32_31_r0 : BitVec 32 := 1#32
  let v34_r0 : BitVec 32 := Scalar.subi v33_4_r0 c1_i32_31_r0
  let v35_r0 : BitVec 32 := Scalar.select true_32_r0 v34_r0 v33_4_r0
  let c_m1_i32_33_r0 : BitVec 32 := 4294967295#32
  let v36_r0 : BitVec 1 := Scalar.cmpi .eq v35_r0 c_m1_i32_33_r0
  let c8_i32_34_r0 : BitVec 32 := 8#32
  let v37_r0 : BitVec 32 := Scalar.select v36_r0 c8_i32_34_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c9_i32 : BitVec 32 := 9#32
  let v4 : BitVec 32 := Scalar.muli v3 c9_i32
  let v38_r0 : BitVec 32 := Scalar.addi v37_r0 v4
  let v55_r0 : BitVec 32 := Scalar.muli c64_i32_r0 v38_r0
  let c0_i32_50_r0 : BitVec 32 := 0#32
  ![v55_r0.toNat, 0]

def k0_chk5 (i : grid0.Coords) (v33_4_r0 : BitVec 32) : Prop :=
  (∀ a, (k0_off19 i v33_4_r0) a + S64x512.size a ≤ S18432x512.size a)
theorem k0_off19_inb : ∀ (i : grid0.Coords) (v33_4_r0 : BitVec 32) (k0_hw5 : k0_chk5 i v33_4_r0), ∀ a, (k0_off19 i v33_4_r0) a + S64x512.size a ≤ S18432x512.size a := fun i v33_4_r0 k0_hw5 => k0_hw5

def k0_off20 (v33_3_r0 : BitVec 32) : Fin 1 → Nat :=
  let c2_i32_47_r0 : BitVec 32 := 2#32
  let v54_r0 : BitVec 32 := Scalar.remui v33_3_r0 c2_i32_47_r0
  ![v54_r0.toNat]
def k0_off21 (v33_3_r0 : BitVec 32) : Fin 3 → Nat :=
  let c2_i32_47_r0 : BitVec 32 := 2#32
  let v54_r0 : BitVec 32 := Scalar.remui v33_3_r0 c2_i32_47_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x64x512.size a ≤ S2x64x512.size a) ∧
  (∀ a, (k0_off20 v33_3_r0) a + S1.size a ≤ S2.size a) ∧
  (∀ a, (k0_off21 v33_3_r0) a + S1x64x512.size a ≤ S2x64x512.size a)
theorem k0_off18_inb : ∀ (v33_3_r0 : BitVec 32) (k0_hw4 : k0_chk4 v33_3_r0), ∀ a, (k0_off18 v33_3_r0) a + S1x64x512.size a ≤ S2x64x512.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x64x512.size a ≤ S2x64x512.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S16384x512 : Shape := ⟨2, ![16384, 512]⟩
abbrev S18432 : Shape := ⟨1, ![18432]⟩
abbrev S_ : Shape := ⟨0, ![]⟩
abbrev S18432x1 : Shape := ⟨2, ![18432, 1]⟩
abbrev S18432x512 : Shape := ⟨2, ![18432, 512]⟩

abbrev nBuf : Space → Nat
  | .hbm => 11
  | .vmem => 0
  | .smem => 0
  | _ => 0

abbrev bufTy : (tb : Table) → Fin (tcTables nBuf tb) → BufTy
  | .hbm, ⟨0, _⟩ => ⟨S16384x512, .i32⟩
  | .hbm, ⟨1, _⟩ => ⟨S18432, .i32⟩
  | .hbm, ⟨2, _⟩ => ⟨S_, .i32⟩
  | .hbm, ⟨3, _⟩ => ⟨S18432, .i32⟩
  | .hbm, ⟨4, _⟩ => ⟨S18432, .i1⟩
  | .hbm, ⟨5, _⟩ => ⟨S_, .i32⟩
  | .hbm, ⟨6, _⟩ => ⟨S18432, .i32⟩
  | .hbm, ⟨7, _⟩ => ⟨S18432, .i32⟩
  | .hbm, ⟨8, _⟩ => ⟨S18432, .i32⟩
  | .hbm, ⟨9, _⟩ => ⟨S18432x1, .i32⟩
  | .hbm, ⟨10, _⟩ => ⟨S18432x512, .i32⟩
  | _, _ => ⟨S16384x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Moe.lean ====
abbrev S72 : Shape := ⟨1, ![72]⟩
abbrev S1 : Shape := ⟨1, ![1]⟩
abbrev S36864x512 : Shape := ⟨2, ![36864, 512]⟩
abbrev S8x1024x3584 : Shape := ⟨3, ![8, 1024, 3584]⟩
abbrev S8x3584x1024 : Shape := ⟨3, ![8, 3584, 1024]⟩
abbrev S73728x512 : Shape := ⟨2, ![73728, 512]⟩
abbrev S1024x512 : Shape := ⟨2, ![1024, 512]⟩
abbrev S1x1024x1792 : Shape := ⟨3, ![1, 1024, 1792]⟩
abbrev S1x1792x1024 : Shape := ⟨3, ![1, 1792, 1024]⟩
abbrev S512x1024 : Shape := ⟨2, ![512, 1024]⟩
abbrev S512x512 : Shape := ⟨2, ![512, 512]⟩
abbrev S1x1024x512 : Shape := ⟨3, ![1, 1024, 512]⟩
abbrev S1x512x1024 : Shape := ⟨3, ![1, 512, 1024]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 8
  | .vmem => 12
  | .smem => 2
  | _ => 0

abbrev bufTy : (tb : Table) → Fin (tcTables nBuf tb) → BufTy
  | .hbm, ⟨0, _⟩ => ⟨S36864x512, .bf16⟩
  | .hbm, ⟨1, _⟩ => ⟨S8x1024x3584, .f32⟩
  | .hbm, ⟨2, _⟩ => ⟨S8x1024x3584, .f32⟩
  | .hbm, ⟨3, _⟩ => ⟨S8x3584x1024, .f32⟩
  | .hbm, ⟨4, _⟩ => ⟨S8x1024x3584, .bf16⟩
  | .hbm, ⟨5, _⟩ => ⟨S8x1024x3584, .bf16⟩
  | .hbm, ⟨6, _⟩ => ⟨S8x3584x1024, .bf16⟩
  | .hbm, ⟨7, _⟩ => ⟨S73728x512, .bf16⟩
  | .local _ .vmem, ⟨0, _⟩ => ⟨S1024x512, .bf16⟩
  | .local _ .vmem, ⟨1, _⟩ => ⟨S1024x512, .bf16⟩
  | .local _ .vmem, ⟨2, _⟩ => ⟨S1x1024x1792, .bf16⟩
  | .local _ .vmem, ⟨3, _⟩ => ⟨S1x1024x1792, .bf16⟩
  | .local _ .vmem, ⟨4, _⟩ => ⟨S1x1024x1792, .bf16⟩
  | .local _ .vmem, ⟨5, _⟩ => ⟨S1x1024x1792, .bf16⟩
  | .local _ .vmem, ⟨6, _⟩ => ⟨S1x1792x1024, .bf16⟩
  | .local _ .vmem, ⟨7, _⟩ => ⟨S1x1792x1024, .bf16⟩
  | .local _ .vmem, ⟨8, _⟩ => ⟨S1024x512, .bf16⟩
  | .local _ .vmem, ⟨9, _⟩ => ⟨S1024x512, .bf16⟩
  | .local _ .vmem, ⟨10, _⟩ => ⟨S512x1024, .bf16⟩
  | .local _ .vmem, ⟨11, _⟩ => ⟨S512x1024, .f32⟩
  | .local _ .smem, ⟨0, _⟩ => ⟨S72, .i32⟩
  | .local _ .smem, ⟨1, _⟩ => ⟨S1, .i32⟩
  | _, _ => ⟨S36864x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [BitOps F]

abbrev grid0 : Pipeline.Grid := ⟨2, ![36, 2], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let c0_i32 : BitVec 32 := 0#32
  let v0 : BitVec 32 := Scalar.addi arg0 c0_i32
  let v1 : Index := Scalar.indexCast v0
  ![v1.toNat]
def k0_cond2 (i : grid0.Coords) (v1 : BitVec 32) : BitVec 1 :=
  let arg0 : BitVec 32 := BitVec.ofNat 32 (i 0).val
  let c0_i32 : BitVec 32 := 0#32
  let v0 : BitVec 32 := Scalar.addi arg0 c0_i32
  let v2 : BitVec 1 := Scalar.cmpi .slt v0 v1
  let arg1 : BitVec 32 := BitVec.ofNat 32 (i 1).val
  let c1_i32 : BitVec 32 := 1#32
  let v7 : BitVec 1 := Scalar.cmpi .eq arg1 c1_i32
  let v8 : BitVec 1 := Scalar.andi v2 v7
  let v9 : BitVec 32 := Scalar.extui v8
  let c0_i32_2 : BitVec 32 := 0#32
  let v10 : BitVec 1 := Scalar.cmpi .ne v9 c0_i32_2
  v10

def k0_cond3 (i : grid0.Coords) (v1 : BitVec 32) : BitVec 1 :=
  let arg0 : BitVec 32 := BitVec.ofNat 32 (i 0).val
  let c0_i32 : BitVec 32 := 0#32
  let v0 : BitVec 32 := Scalar.addi arg0 c0_i32
  let v2 : BitVec 1 := Scalar.cmpi .slt v0 v1
  let v_true : BitVec 1 := 1#1
  let v11 : BitVec 1 := Scalar.xori v2 v_true
  let arg1 : BitVec 32 := BitVec.ofNat 32 (i 1).val
  let c1_i32_3 : BitVec 32 := 1#32
  let v12 : BitVec 1 := Scalar.cmpi .eq arg1 c1_i32_3
  let v13 : BitVec 1 := Scalar.andi v11 v12
  let v14 : BitVec 32 := Scalar.extui v13
  let c0_i32_4 : BitVec 32 := 0#32
  let v15 : BitVec 1 := Scalar.cmpi .ne v14 c0_i32_4
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let v1 : Index := Scalar.indexCast v0
  let v2 : BitVec 32 := pf.at 0 (Rect.unit (s := S72) ![v1.toNat] S1.size (k0_off1_inb i)) numel1_S1
  let c0_i32_0 : BitVec 32 := 0#32
  let v3 : BitVec 32 := Scalar.addi arg0 c0_i32_0
  let c0 : Index := 0#32
  let v4 : BitVec 32 := pf.at 1 (Rect.unit (s := S1) ![0] S1.size inb_S1_S1_0) numel1_S1
  let v5 : BitVec 1 := Scalar.cmpi .slt v3 v4
  let c1_i32 : BitVec 32 := 1#32
  let v6 : BitVec 32 := Scalar.select v5 arg1 c1_i32
  let c0_i32_1 : BitVec 32 := 0#32
  let c0_i32_2 : BitVec 32 := 0#32
  ![v2.toNat, c0_i32_1.toNat, v6.toNat]

def cc0_transform_2 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let v1 : Index := Scalar.indexCast v0
  let v2 : BitVec 32 := pf.at 0 (Rect.unit (s := S72) ![v1.toNat] S1.size (k0_off1_inb i)) numel1_S1
  let c0_i32_0 : BitVec 32 := 0#32
  let v3 : BitVec 32 := Scalar.addi arg0 c0_i32_0
  let c0 : Index := 0#32
  let v4 : BitVec 32 := pf.at 1 (Rect.unit (s := S1) ![0] S1.size inb_S1_S1_0) numel1_S1
  let v5 : BitVec 1 := Scalar.cmpi .slt v3 v4
  let c1_i32 : BitVec 32 := 1#32
  let v6 : BitVec 32 := Scalar.select v5 arg1 c1_i32
  let c0_i32_1 : BitVec 32 := 0#32
  let c0_i32_2 : BitVec 32 := 0#32
  ![v2.toNat, c0_i32_1.toNat, v6.toNat]

def cc0_transform_3 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let v1 : Index := Scalar.indexCast v0
  let v2 : BitVec 32 := pf.at 0 (Rect.unit (s := S72) ![v1.toNat] S1.size (k0_off1_inb i)) numel1_S1
  let c0_i32_0 : BitVec 32 := 0#32
  let v3 : BitVec 32 := Scalar.addi arg0 c0_i32_0
  let c0 : Index := 0#32
  let v4 : BitVec 32 := pf.at 1 (Rect.unit (s := S1) ![0] S1.size inb_S1_S1_0) numel1_S1
  let v5 : BitVec 1 := Scalar.cmpi .slt v3 v4
  let c1_i32 : BitVec 32 := 1#32
  let v6 : BitVec 32 := Scalar.select v5 arg1 c1_i32
  let c0_i32_1 : BitVec 32 := 0#32
  let c0_i32_2 : BitVec 32 := 0#32
  ![v2.toNat, v6.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1792x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MoeIdeal.lean ====
variable {F : FTy → Type} [FloatOps F]
-- ==== MoeReferenceIdeal.lean ====
abbrev S72 : Shape := ⟨1, ![72]⟩
abbrev S1 : Shape := ⟨1, ![1]⟩
abbrev S36864x512 : Shape := ⟨2, ![36864, 512]⟩
abbrev S8x1024x3584 : Shape := ⟨3, ![8, 1024, 3584]⟩
abbrev S8x3584x1024 : Shape := ⟨3, ![8, 3584, 1024]⟩
abbrev S18432x1024 : Shape := ⟨2, ![18432, 1024]⟩
abbrev S36x512 : Shape := ⟨2, ![36, 512]⟩
abbrev S18432x1 : Shape := ⟨2, ![18432, 1]⟩
abbrev S36 : Shape := ⟨1, ![36]⟩
abbrev S36x1 : Shape := ⟨2, ![36, 1]⟩
abbrev S_ : Shape := ⟨0, ![]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S18432x3584 : Shape := ⟨2, ![18432, 3584]⟩
abbrev S73728x512 : Shape := ⟨2, ![73728, 512]⟩

abbrev nBuf : Space → Nat
  | .hbm => 220
  | .vmem => 0
  | .smem => 0
  | _ => 0

abbrev hbmTy0_0 (i : Nat) : BufTy := match i % 128 with
  | 0 => ⟨S72, .i32⟩
  | 1 => ⟨S1, .i32⟩
  | 2 => ⟨S36864x512, .bf16⟩
  | 3 => ⟨S8x1024x3584, .f32⟩
  | 4 => ⟨S8x1024x3584, .f32⟩
  | 5 => ⟨S8x3584x1024, .f32⟩
  | 6 => ⟨S18432x1024, .bf16⟩
  | 7 => ⟨S18432x1024, .f32⟩
  | 8 => ⟨S36x512, .i32⟩
  | 9 => ⟨S18432x1, .i32⟩
  | 10 => ⟨S36, .i32⟩
  | 11 => ⟨S36x1, .i32⟩
  | 12 => ⟨S36x512, .i32⟩
  | 13 => ⟨S18432x1, .i32⟩
  | 14 => ⟨S_, .f32⟩
  | 15 => ⟨S18432x1024, .f32⟩
  | 16 => ⟨S_, .i32⟩
  | 17 => ⟨S18432x1, .i32⟩
  | 18 => ⟨S18432x1, .i1⟩
  | 19 => ⟨S1x1024x3584, .f32⟩
  | 20 => ⟨S1024x3584, .f32⟩
  | 21 => ⟨S1x1024x3584, .f32⟩
  | 22 => ⟨S1024x3584, .f32⟩
  | 23 => ⟨S1x3584x1024, .f32⟩
  | 24 => ⟨S3584x1024, .f32⟩
  | 25 => ⟨S18432x3584, .f32⟩
  | 26 => ⟨S18432x3584, .f32⟩
  | 27 => ⟨S18432x3584, .f32⟩
  | 28 => ⟨S_, .f32⟩
  | 29 => ⟨S18432x3584, .f32⟩
  | 30 => ⟨S18432x3584, .f32⟩
  | 31 => ⟨S_, .f32⟩
  | 32 => ⟨S18432x3584, .f32⟩
  | 33 => ⟨S18432x3584, .f32⟩
  | 34 => ⟨S18432x3584, .f32⟩
  | 35 => ⟨S18432x3584, .f32⟩
  | 36 => ⟨S18432x3584, .f32⟩
  | 37 => ⟨S18432x1024, .f32⟩
  | 38 => ⟨S18432x1024, .i1⟩
  | 39 => ⟨S18432x1024, .f32⟩
  | 40 => ⟨S_, .i32⟩
  | 41 => ⟨S18432x1, .i32⟩
  | 42 => ⟨S18432x1, .i1⟩
  | 43 => ⟨S1x1024x3584, .f32⟩
  | 44 => ⟨S1024x3584, .f32⟩
  | 45 => ⟨S1x1024x3584, .f32⟩
  | 46 => ⟨S1024x3584, .f32⟩
  | 47 => ⟨S1x3584x1024, .f32⟩
  | 48 => ⟨S3584x1024, .f32⟩
  | 49 => ⟨S18432x3584, .f32⟩
  | 50 => ⟨S18432x3584, .f32⟩
  | 51 => ⟨S18432x3584, .f32⟩
  | 52 => ⟨S_, .f32⟩
  | 53 => ⟨S18432x3584, .f32⟩
  | 54 => ⟨S18432x3584, .f32⟩
  | 55 => ⟨S_, .f32⟩
  | 56 => ⟨S18432x3584, .f32⟩
  | 57 => ⟨S18432x3584, .f32⟩
  | 58 => ⟨S18432x3584, .f32⟩
  | 59 => ⟨S18432x3584, .f32⟩
  | 60 => ⟨S18432x3584, .f32⟩
  | 61 => ⟨S18432x1024, .f32⟩
  | 62 => ⟨S18432x1024, .i1⟩
  | 63 => ⟨S18432x1024, .f32⟩
  | 64 => ⟨S_, .i32⟩
  | 65 => ⟨S18432x1, .i32⟩
  | 66 => ⟨S18432x1, .i1⟩
  | 67 => ⟨S1x1024x3584, .f32⟩
  | 68 => ⟨S1024x3584, .f32⟩
  | 69 => ⟨S1x1024x3584, .f32⟩
  | 70 => ⟨S1024x3584, .f32⟩
  | 71 => ⟨S1x3584x1024, .f32⟩
  | 72 => ⟨S3584x1024, .f32⟩
  | 73 => ⟨S18432x3584, .f32⟩
  | 74 => ⟨S18432x3584, .f32⟩
  | 75 => ⟨S18432x3584, .f32⟩
  | 76 => ⟨S_, .f32⟩
  | 77 => ⟨S18432x3584, .f32⟩
  | 78 => ⟨S18432x3584, .f32⟩
  | 79 => ⟨S_, .f32⟩
  | 80 => ⟨S18432x3584, .f32⟩
  | 81 => ⟨S18432x3584, .f32⟩
  | 82 => ⟨S18432x3584, .f32⟩
  | 83 => ⟨S18432x3584, .f32⟩
  | 84 => ⟨S18432x3584, .f32⟩
  | 85 => ⟨S18432x1024, .f32⟩
  | 86 => ⟨S18432x1024, .i1⟩
  | 87 => ⟨S18432x1024, .f32⟩
  | 88 => ⟨S_, .i32⟩
  | 89 => ⟨S18432x1, .i32⟩
  | 90 => ⟨S18432x1, .i1⟩
  | 91 => ⟨S1x1024x3584, .f32⟩
  | 92 => ⟨S1024x3584, .f32⟩
  | 93 => ⟨S1x1024x3584, .f32⟩
  | 94 => ⟨S1024x3584, .f32⟩
  | 95 => ⟨S1x3584x1024, .f32⟩
  | 96 => ⟨S3584x1024, .f32⟩
  | 97 => ⟨S18432x3584, .f32⟩
  | 98 => ⟨S18432x3584, .f32⟩
  | 99 => ⟨S18432x3584, .f32⟩
  | 100 => ⟨S_, .f32⟩
  | 101 => ⟨S18432x3584, .f32⟩
  | 102 => ⟨S18432x3584, .f32⟩
  | 103 => ⟨S_, .f32⟩
  | 104 => ⟨S18432x3584, .f32⟩
  | 105 => ⟨S18432x3584, .f32⟩
  | 106 => ⟨S18432x3584, .f32⟩
  | 107 => ⟨S18432x3584, .f32⟩
  | 108 => ⟨S18432x3584, .f32⟩
  | 109 => ⟨S18432x1024, .f32⟩
  | 110 => ⟨S18432x1024, .i1⟩
  | 111 => ⟨S18432x1024, .f32⟩
  | 112 => ⟨S_, .i32⟩
  | 113 => ⟨S18432x1, .i32⟩
  | 114 => ⟨S18432x1, .i1⟩
  | 115 => ⟨S1x1024x3584, .f32⟩
  | 116 => ⟨S1024x3584, .f32⟩
  | 117 => ⟨S1x1024x3584, .f32⟩
  | 118 => ⟨S1024x3584, .f32⟩
  | 119 => ⟨S1x3584x1024, .f32⟩
  | 120 => ⟨S3584x1024, .f32⟩
  | 121 => ⟨S18432x3584, .f32⟩
  | 122 => ⟨S18432x3584, .f32⟩
  | 123 => ⟨S18432x3584, .f32⟩
  | 124 => ⟨S_, .f32⟩
  | 125 => ⟨S18432x3584, .f32⟩
  | 126 => ⟨S18432x3584, .f32⟩
  | 127 => ⟨S_, .f32⟩
  | _ => ⟨S72, .i32⟩

abbrev hbmTy0_1 (i : Nat) : BufTy := match i % 128 with
  | 0 => ⟨S18432x3584, .f32⟩
  | 1 => ⟨S18432x3584, .f32⟩
  | 2 => ⟨S18432x3584, .f32⟩
  | 3 => ⟨S18432x3584, .f32⟩
  | 4 => ⟨S18432x3584, .f32⟩
  | 5 => ⟨S18432x1024, .f32⟩
  | 6 => ⟨S18432x1024, .i1⟩
  | 7 => ⟨S18432x1024, .f32⟩
  | 8 => ⟨S_, .i32⟩
  | 9 => ⟨S18432x1, .i32⟩
  | 10 => ⟨S18432x1, .i1⟩
  | 11 => ⟨S1x1024x3584, .f32⟩
  | 12 => ⟨S1024x3584, .f32⟩
  | 13 => ⟨S1x1024x3584, .f32⟩
  | 14 => ⟨S1024x3584, .f32⟩
  | 15 => ⟨S1x3584x1024, .f32⟩
  | 16 => ⟨S3584x1024, .f32⟩
  | 17 => ⟨S18432x3584, .f32⟩
  | 18 => ⟨S18432x3584, .f32⟩
  | 19 => ⟨S18432x3584, .f32⟩
  | 20 => ⟨S_, .f32⟩
  | 21 => ⟨S18432x3584, .f32⟩
  | 22 => ⟨S18432x3584, .f32⟩
  | 23 => ⟨S_, .f32⟩
  | 24 => ⟨S18432x3584, .f32⟩
  | 25 => ⟨S18432x3584, .f32⟩
  | 26 => ⟨S18432x3584, .f32⟩
  | 27 => ⟨S18432x3584, .f32⟩
  | 28 => ⟨S18432x3584, .f32⟩
  | 29 => ⟨S18432x1024, .f32⟩
  | 30 => ⟨S18432x1024, .i1⟩
  | 31 => ⟨S18432x1024, .f32⟩
  | 32 => ⟨S_, .i32⟩
  | 33 => ⟨S18432x1, .i32⟩
  | 34 => ⟨S18432x1, .i1⟩
  | 35 => ⟨S1x1024x3584, .f32⟩
  | 36 => ⟨S1024x3584, .f32⟩
  | 37 => ⟨S1x1024x3584, .f32⟩
  | 38 => ⟨S1024x3584, .f32⟩
  | 39 => ⟨S1x3584x1024, .f32⟩
  | 40 => ⟨S3584x1024, .f32⟩
  | 41 => ⟨S18432x3584, .f32⟩
  | 42 => ⟨S18432x3584, .f32⟩
  | 43 => ⟨S18432x3584, .f32⟩
  | 44 => ⟨S_, .f32⟩
  | 45 => ⟨S18432x3584, .f32⟩
  | 46 => ⟨S18432x3584, .f32⟩
  | 47 => ⟨S_, .f32⟩
  | 48 => ⟨S18432x3584, .f32⟩
  | 49 => ⟨S18432x3584, .f32⟩
  | 50 => ⟨S18432x3584, .f32⟩
  | 51 => ⟨S18432x3584, .f32⟩
  | 52 => ⟨S18432x3584, .f32⟩
  | 53 => ⟨S18432x1024, .f32⟩
  | 54 => ⟨S18432x1024, .i1⟩
  | 55 => ⟨S18432x1024, .f32⟩
  | 56 => ⟨S_, .i32⟩
  | 57 => ⟨S18432x1, .i32⟩
  | 58 => ⟨S18432x1, .i1⟩
  | 59 => ⟨S1x1024x3584, .f32⟩
  | 60 => ⟨S1024x3584, .f32⟩
  | 61 => ⟨S1x1024x3584, .f32⟩
  | 62 => ⟨S1024x3584, .f32⟩
  | 63 => ⟨S1x3584x1024, .f32⟩
  | 64 => ⟨S3584x1024, .f32⟩
  | 65 => ⟨S18432x3584, .f32⟩
  | 66 => ⟨S18432x3584, .f32⟩
  | 67 => ⟨S18432x3584, .f32⟩
  | 68 => ⟨S_, .f32⟩
  | 69 => ⟨S18432x3584, .f32⟩
  | 70 => ⟨S18432x3584, .f32⟩
  | 71 => ⟨S_, .f32⟩
  | 72 => ⟨S18432x3584, .f32⟩
  | 73 => ⟨S18432x3584, .f32⟩
  | 74 => ⟨S18432x3584, .f32⟩
  | 75 => ⟨S18432x3584, .f32⟩
  | 76 => ⟨S18432x3584, .f32⟩
  | 77 => ⟨S18432x1024, .f32⟩
  | 78 => ⟨S18432x1024, .i1⟩
  | 79 => ⟨S18432x1024, .f32⟩
  | 80 => ⟨S_, .i32⟩
  | 81 => ⟨S18432x1, .i32⟩
  | 82 => ⟨S18432x1, .i1⟩
  | 83 => ⟨S_, .f32⟩
  | 84 => ⟨S18432x1024, .f32⟩
  | 85 => ⟨S18432x1024, .i1⟩
  | 86 => ⟨S18432x1024, .f32⟩
  | 87 => ⟨S18432x1024, .bf16⟩
  | 88 => ⟨S36864x512, .bf16⟩
  | 89 => ⟨S_, .bf16⟩
  | 90 => ⟨S36864x512, .bf16⟩
  | 91 => ⟨S73728x512, .bf16⟩
  | _ => ⟨S72, .i32⟩

abbrev hbmTy (i : Nat) : BufTy := match i / 128 with
  | 0 => hbmTy0_0 i
  | 1 => hbmTy0_1 i
  | _ => ⟨S72, .i32⟩

abbrev bufTy : (tb : Table) → Fin (tcTables nBuf tb) → BufTy
  | .hbm, ⟨i, _⟩ => hbmTy i
  | _, _ => ⟨S72, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_call1_v0 : Ref sig .tc := ⟨.hbm, 38, rfl⟩
abbrev main_v22 : Ref sig .tc := ⟨.hbm, 39, rfl⟩
abbrev main_c_0 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_call2_v0 : Ref sig .tc := ⟨.hbm, 50, rfl⟩
abbrev main_call2_v1 : Ref sig .tc := ⟨.hbm, 51, rfl⟩
abbrev main_call2_cst : Ref sig .tc := ⟨.hbm, 52, rfl⟩
abbrev main_call2_v2 : Ref sig .tc := ⟨.hbm, 53, rfl⟩
abbrev main_call2_v3 : Ref sig .tc := ⟨.hbm, 54, rfl⟩
abbrev main_call2_cst_0 : Ref sig .tc := ⟨.hbm, 55, rfl⟩
abbrev main_call2_v4 : Ref sig .tc := ⟨.hbm, 56, rfl⟩
abbrev main_call2_v5 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_call3_v0 : Ref sig .tc := ⟨.hbm, 62, rfl⟩
abbrev main_v36 : Ref sig .tc := ⟨.hbm, 63, rfl⟩
abbrev main_c_1 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_call4_v0 : Ref sig .tc := ⟨.hbm, 74, rfl⟩
abbrev main_call4_v1 : Ref sig .tc := ⟨.hbm, 75, rfl⟩
abbrev main_call4_cst : Ref sig .tc := ⟨.hbm, 76, rfl⟩
abbrev main_call4_v2 : Ref sig .tc := ⟨.hbm, 77, rfl⟩
abbrev main_call4_v3 : Ref sig .tc := ⟨.hbm, 78, rfl⟩
abbrev main_call4_cst_0 : Ref sig .tc := ⟨.hbm, 79, rfl⟩
abbrev main_call4_v4 : Ref sig .tc := ⟨.hbm, 80, rfl⟩
abbrev main_call4_v5 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_call5_v0 : Ref sig .tc := ⟨.hbm, 86, rfl⟩
abbrev main_v50 : Ref sig .tc := ⟨.hbm, 87, rfl⟩
abbrev main_c_2 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_call6_v0 : Ref sig .tc := ⟨.hbm, 98, rfl⟩
abbrev main_call6_v1 : Ref sig .tc := ⟨.hbm, 99, rfl⟩
abbrev main_call6_cst : Ref sig .tc := ⟨.hbm, 100, rfl⟩
abbrev main_call6_v2 : Ref sig .tc := ⟨.hbm, 101, rfl⟩
abbrev main_call6_v3 : Ref sig .tc := ⟨.hbm, 102, rfl⟩
abbrev main_call6_cst_0 : Ref sig .tc := ⟨.hbm, 103, rfl⟩
abbrev main_call6_v4 : Ref sig .tc := ⟨.hbm, 104, rfl⟩
abbrev main_call6_v5 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_call7_v0 : Ref sig .tc := ⟨.hbm, 110, rfl⟩
abbrev main_v64 : Ref sig .tc := ⟨.hbm, 111, rfl⟩
abbrev main_c_3 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_call8_v0 : Ref sig .tc := ⟨.hbm, 122, rfl⟩
abbrev main_call8_v1 : Ref sig .tc := ⟨.hbm, 123, rfl⟩
abbrev main_call8_cst : Ref sig .tc := ⟨.hbm, 124, rfl⟩
abbrev main_call8_v2 : Ref sig .tc := ⟨.hbm, 125, rfl⟩
abbrev main_call8_v3 : Ref sig .tc := ⟨.hbm, 126, rfl⟩
abbrev main_call8_cst_0 : Ref sig .tc := ⟨.hbm, 127, rfl⟩
abbrev main_call8_v4 : Ref sig .tc := ⟨.hbm, 128, rfl⟩
abbrev main_call8_v5 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_call9_v0 : Ref sig .tc := ⟨.hbm, 134, rfl⟩
abbrev main_v78 : Ref sig .tc := ⟨.hbm, 135, rfl⟩
abbrev main_c_4 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_call10_v0 : Ref sig .tc := ⟨.hbm, 146, rfl⟩
abbrev main_call10_v1 : Ref sig .tc := ⟨.hbm, 147, rfl⟩
abbrev main_call10_cst : Ref sig .tc := ⟨.hbm, 148, rfl⟩
abbrev main_call10_v2 : Ref sig .tc := ⟨.hbm, 149, rfl⟩
abbrev main_call10_v3 : Ref sig .tc := ⟨.hbm, 150, rfl⟩
abbrev main_call10_cst_0 : Ref sig .tc := ⟨.hbm, 151, rfl⟩
abbrev main_call10_v4 : Ref sig .tc := ⟨.hbm, 152, rfl⟩
abbrev main_call10_v5 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_call11_v0 : Ref sig .tc := ⟨.hbm, 158, rfl⟩
abbrev main_v92 : Ref sig .tc := ⟨.hbm, 159, rfl⟩
abbrev main_c_5 : Ref sig .tc := ⟨.hbm, 160, rfl⟩
abbrev main_v93 : Ref sig .tc := ⟨.hbm, 161, rfl⟩
abbrev main_v94 : Ref sig .tc := ⟨.hbm, 162, rfl⟩
abbrev main_v95 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩
abbrev main_v99 : Ref sig .tc := ⟨.hbm, 167, rfl⟩
abbrev main_v100 : Ref sig .tc := ⟨.hbm, 168, rfl⟩
abbrev main_v101 : Ref sig .tc := ⟨.hbm, 169, rfl⟩
abbrev main_call12_v0 : Ref sig .tc := ⟨.hbm, 170, rfl⟩
abbrev main_call12_v1 : Ref sig .tc := ⟨.hbm, 171, rfl⟩
abbrev main_call12_cst : Ref sig .tc := ⟨.hbm, 172, rfl⟩
abbrev main_call12_v2 : Ref sig .tc := ⟨.hbm, 173, rfl⟩
abbrev main_call12_v3 : Ref sig .tc := ⟨.hbm, 174, rfl⟩
abbrev main_call12_cst_0 : Ref sig .tc := ⟨.hbm, 175, rfl⟩
abbrev main_call12_v4 : Ref sig .tc := ⟨.hbm, 176, rfl⟩
abbrev main_call12_v5 : Ref sig .tc := ⟨.hbm, 177, rfl⟩
abbrev main_v102 : Ref sig .tc := ⟨.hbm, 178, rfl⟩
abbrev main_v103 : Ref sig .tc := ⟨.hbm, 179, rfl⟩
abbrev main_v104 : Ref sig .tc := ⟨.hbm, 180, rfl⟩
abbrev main_v105 : Ref sig .tc := ⟨.hbm, 181, rfl⟩
abbrev main_call13_v0 : Ref sig .tc := ⟨.hbm, 182, rfl⟩
abbrev main_v106 : Ref sig .tc := ⟨.hbm, 183, rfl⟩
abbrev main_c_6 : Ref sig .tc := ⟨.hbm, 184, rfl⟩
abbrev main_v107 : Ref sig .tc := ⟨.hbm, 185, rfl⟩
abbrev main_v108 : Ref sig .tc := ⟨.hbm, 186, rfl⟩
abbrev main_v109 : Ref sig .tc := ⟨.hbm, 187, rfl⟩
abbrev main_v110 : Ref sig .tc := ⟨.hbm, 188, rfl⟩
abbrev main_v111 : Ref sig .tc := ⟨.hbm, 189, rfl⟩
abbrev main_v112 : Ref sig .tc := ⟨.hbm, 190, rfl⟩
abbrev main_v113 : Ref sig .tc := ⟨.hbm, 191, rfl⟩
abbrev main_v114 : Ref sig .tc := ⟨.hbm, 192, rfl⟩
abbrev main_v115 : Ref sig .tc := ⟨.hbm, 193, rfl⟩
abbrev main_call14_v0 : Ref sig .tc := ⟨.hbm, 194, rfl⟩
abbrev main_call14_v1 : Ref sig .tc := ⟨.hbm, 195, rfl⟩
abbrev main_call14_cst : Ref sig .tc := ⟨.hbm, 196, rfl⟩
abbrev main_call14_v2 : Ref sig .tc := ⟨.hbm, 197, rfl⟩
abbrev main_call14_v3 : Ref sig .tc := ⟨.hbm, 198, rfl⟩
abbrev main_call14_cst_0 : Ref sig .tc := ⟨.hbm, 199, rfl⟩
abbrev main_call14_v4 : Ref sig .tc := ⟨.hbm, 200, rfl⟩
abbrev main_call14_v5 : Ref sig .tc := ⟨.hbm, 201, rfl⟩
abbrev main_v116 : Ref sig .tc := ⟨.hbm, 202, rfl⟩
abbrev main_v117 : Ref sig .tc := ⟨.hbm, 203, rfl⟩
abbrev main_v118 : Ref sig .tc := ⟨.hbm, 204, rfl⟩
abbrev main_v119 : Ref sig .tc := ⟨.hbm, 205, rfl⟩
abbrev main_call15_v0 : Ref sig .tc := ⟨.hbm, 206, rfl⟩
abbrev main_v120 : Ref sig .tc := ⟨.hbm, 207, rfl⟩
abbrev main_v121 : Ref sig .tc := ⟨.hbm, 208, rfl⟩
abbrev main_v122 : Ref sig .tc := ⟨.hbm, 209, rfl⟩
abbrev main_v123 : Ref sig .tc := ⟨.hbm, 210, rfl⟩
abbrev main_cst_7 : Ref sig .tc := ⟨.hbm, 211, rfl⟩
abbrev main_v124 : Ref sig .tc := ⟨.hbm, 212, rfl⟩
abbrev main_call16_v0 : Ref sig .tc := ⟨.hbm, 213, rfl⟩
abbrev main_v125 : Ref sig .tc := ⟨.hbm, 214, rfl⟩
abbrev main_v126 : Ref sig .tc := ⟨.hbm, 215, rfl⟩
abbrev main_v127 : Ref sig .tc := ⟨.hbm, 216, rfl⟩
abbrev main_cst_8 : Ref sig .tc := ⟨.hbm, 217, rfl⟩
abbrev main_v128 : Ref sig .tc := ⟨.hbm, 218, rfl⟩
abbrev main_v129 : Ref sig .tc := ⟨.hbm, 219, rfl⟩

abbrev nD : Nat := 1
abbrev τ : Topo := Topo.v7x

variable {F : FTy → Type} [FloatOps F]
-- ==== Tail.lean ====
abbrev S72 : Shape := ⟨1, ![72]⟩
abbrev S1 : Shape := ⟨1, ![1]⟩
abbrev S36864x512 : Shape := ⟨2, ![36864, 512]⟩
abbrev S8x1024x3584 : Shape := ⟨3, ![8, 1024, 3584]⟩
abbrev S8x3584x1024 : Shape := ⟨3, ![8, 3584, 1024]⟩
abbrev S73728x512 : Shape := ⟨2, ![73728, 512]⟩
abbrev S1024x512 : Shape := ⟨2, ![1024, 512]⟩
abbrev S1x1024x1792 : Shape := ⟨3, ![1, 1024, 1792]⟩
abbrev S1x1792x1024 : Shape := ⟨3, ![1, 1792, 1024]⟩
abbrev S512x1024 : Shape := ⟨2, ![512, 1024]⟩
abbrev S512x512 : Shape := ⟨2, ![512, 512]⟩
abbrev S1x1024x512 : Shape := ⟨3, ![1, 1024, 512]⟩
abbrev S1x512x1024 : Shape := ⟨3, ![1, 512, 1024]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 9
  | .vmem => 12
  | .smem => 2
  | _ => 0

abbrev bufTy : (tb : Table) → Fin (tcTables nBuf tb) → BufTy
  | .hbm, ⟨0, _⟩ => ⟨S36864x512, .bf16⟩
  | .hbm, ⟨1, _⟩ => ⟨S8x1024x3584, .f32⟩
  | .hbm, ⟨2, _⟩ => ⟨S8x1024x3584, .f32⟩
  | .hbm, ⟨3, _⟩ => ⟨S8x3584x1024, .f32⟩
  | .hbm, ⟨4, _⟩ => ⟨S73728x512, .bf16⟩
  | .hbm, ⟨5, _⟩ => ⟨S8x1024x3584, .bf16⟩
  | .hbm, ⟨6, _⟩ => ⟨S8x1024x3584, .bf16⟩
  | .hbm, ⟨7, _⟩ => ⟨S8x3584x1024, .bf16⟩
  | .hbm, ⟨8, _⟩ => ⟨S73728x512, .bf16⟩
  | .local _ .vmem, ⟨0, _⟩ => ⟨S1024x512, .bf16⟩
  | .local _ .vmem, ⟨1, _⟩ => ⟨S1024x512, .bf16⟩
  | .local _ .vmem, ⟨2, _⟩ => ⟨S1x1024x1792, .bf16⟩
  | .local _ .vmem, ⟨3, _⟩ => ⟨S1x1024x1792, .bf16⟩
  | .local _ .vmem, ⟨4, _⟩ => ⟨S1x1024x1792, .bf16⟩
  | .local _ .vmem, ⟨5, _⟩ => ⟨S1x1024x1792, .bf16⟩
  | .local _ .vmem, ⟨6, _⟩ => ⟨S1x1792x1024, .bf16⟩
  | .local _ .vmem, ⟨7, _⟩ => ⟨S1x1792x1024, .bf16⟩
  | .local _ .vmem, ⟨8, _⟩ => ⟨S1024x512, .bf16⟩
  | .local _ .vmem, ⟨9, _⟩ => ⟨S1024x512, .bf16⟩
  | .local _ .vmem, ⟨10, _⟩ => ⟨S512x1024, .bf16⟩
  | .local _ .vmem, ⟨11, _⟩ => ⟨S512x1024, .f32⟩
  | .local _ .smem, ⟨0, _⟩ => ⟨S72, .i32⟩
  | .local _ .smem, ⟨1, _⟩ => ⟨S1, .i32⟩
  | _, _ => ⟨S36864x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [BitOps F]

abbrev grid0 : Pipeline.Grid := ⟨2, ![36, 2], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let c36_i32 : BitVec 32 := 36#32
  let v0 : BitVec 32 := Scalar.addi arg0 c36_i32
  let v1 : Index := Scalar.indexCast v0
  ![v1.toNat]
def k0_cond2 (i : grid0.Coords) (v1 : BitVec 32) : BitVec 1 :=
  let arg0 : BitVec 32 := BitVec.ofNat 32 (i 0).val
  let c36_i32 : BitVec 32 := 36#32
  let v0 : BitVec 32 := Scalar.addi arg0 c36_i32
  let v2 : BitVec 1 := Scalar.cmpi .slt v0 v1
  let arg1 : BitVec 32 := BitVec.ofNat 32 (i 1).val
  let c1_i32 : BitVec 32 := 1#32
  let v7 : BitVec 1 := Scalar.cmpi .eq arg1 c1_i32
  let v8 : BitVec 1 := Scalar.andi v2 v7
  let v9 : BitVec 32 := Scalar.extui v8
  let c0_i32_1 : BitVec 32 := 0#32
  let v10 : BitVec 1 := Scalar.cmpi .ne v9 c0_i32_1
  v10

def k0_cond3 (i : grid0.Coords) (v1 : BitVec 32) : BitVec 1 :=
  let arg0 : BitVec 32 := BitVec.ofNat 32 (i 0).val
  let c36_i32 : BitVec 32 := 36#32
  let v0 : BitVec 32 := Scalar.addi arg0 c36_i32
  let v2 : BitVec 1 := Scalar.cmpi .slt v0 v1
  let v_true : BitVec 1 := 1#1
  let v11 : BitVec 1 := Scalar.xori v2 v_true
  let arg1 : BitVec 32 := BitVec.ofNat 32 (i 1).val
  let c1_i32_2 : BitVec 32 := 1#32
  let v12 : BitVec 1 := Scalar.cmpi .eq arg1 c1_i32_2
  let v13 : BitVec 1 := Scalar.andi v11 v12
  let v14 : BitVec 32 := Scalar.extui v13
  let c0_i32_3 : BitVec 32 := 0#32
  let v15 : BitVec 1 := Scalar.cmpi .ne v14 c0_i32_3
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let c36_i32 : BitVec 32 := 36#32
  let v0 : BitVec 32 := Scalar.addi arg0 c36_i32
  let v1 : Index := Scalar.indexCast v0
  let v2 : BitVec 32 := pf.at 0 (Rect.unit (s := S72) ![v1.toNat] S1.size (k0_off1_inb i)) numel1_S1
  let c36_i32_0 : BitVec 32 := 36#32
  let v3 : BitVec 32 := Scalar.addi arg0 c36_i32_0
  let c0 : Index := 0#32
  let v4 : BitVec 32 := pf.at 1 (Rect.unit (s := S1) ![0] S1.size inb_S1_S1_0) numel1_S1
  let v5 : BitVec 1 := Scalar.cmpi .slt v3 v4
  let c1_i32 : BitVec 32 := 1#32
  let v6 : BitVec 32 := Scalar.select v5 arg1 c1_i32
  let c0_i32 : BitVec 32 := 0#32
  let c0_i32_1 : BitVec 32 := 0#32
  ![v2.toNat, c0_i32.toNat, v6.toNat]

def cc0_transform_2 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let c36_i32 : BitVec 32 := 36#32
  let v0 : BitVec 32 := Scalar.addi arg0 c36_i32
  let v1 : Index := Scalar.indexCast v0
  let v2 : BitVec 32 := pf.at 0 (Rect.unit (s := S72) ![v1.toNat] S1.size (k0_off1_inb i)) numel1_S1
  let c36_i32_0 : BitVec 32 := 36#32
  let v3 : BitVec 32 := Scalar.addi arg0 c36_i32_0
  let c0 : Index := 0#32
  let v4 : BitVec 32 := pf.at 1 (Rect.unit (s := S1) ![0] S1.size inb_S1_S1_0) numel1_S1
  let v5 : BitVec 1 := Scalar.cmpi .slt v3 v4
  let c1_i32 : BitVec 32 := 1#32
  let v6 : BitVec 32 := Scalar.select v5 arg1 c1_i32
  let c0_i32 : BitVec 32 := 0#32
  let c0_i32_1 : BitVec 32 := 0#32
  ![v2.toNat, c0_i32.toNat, v6.toNat]

def cc0_transform_3 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let c36_i32 : BitVec 32 := 36#32
  let v0 : BitVec 32 := Scalar.addi arg0 c36_i32
  let v1 : Index := Scalar.indexCast v0
  let v2 : BitVec 32 := pf.at 0 (Rect.unit (s := S72) ![v1.toNat] S1.size (k0_off1_inb i)) numel1_S1
  let c36_i32_0 : BitVec 32 := 36#32
  let v3 : BitVec 32 := Scalar.addi arg0 c36_i32_0
  let c0 : Index := 0#32
  let v4 : BitVec 32 := pf.at 1 (Rect.unit (s := S1) ![0] S1.size inb_S1_S1_0) numel1_S1
  let v5 : BitVec 1 := Scalar.cmpi .slt v3 v4
  let c1_i32 : BitVec 32 := 1#32
  let v6 : BitVec 32 := Scalar.select v5 arg1 c1_i32
  let c0_i32 : BitVec 32 := 0#32
  let c0_i32_1 : BitVec 32 := 0#32
  ![v2.toNat, v6.toNat, c0_i32.toNat]

def cc0_transform_5 (i : grid0.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.addi arg0 c36_i32
  let c0_i32 : BitVec 32 := 0#32
  let c0_i32_0 : BitVec 32 := 0#32
  ![v0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1792x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== TailIdeal.lean ====
variable {F : FTy → Type} [FloatOps F]
-- ==== TailReferenceIdeal.lean ====
abbrev S72 : Shape := ⟨1, ![72]⟩
abbrev S1 : Shape := ⟨1, ![1]⟩
abbrev S36864x512 : Shape := ⟨2, ![36864, 512]⟩
abbrev S8x1024x3584 : Shape := ⟨3, ![8, 1024, 3584]⟩
abbrev S8x3584x1024 : Shape := ⟨3, ![8, 3584, 1024]⟩
abbrev S73728x512 : Shape := ⟨2, ![73728, 512]⟩
abbrev S18432x1024 : Shape := ⟨2, ![18432, 1024]⟩
abbrev S36x512 : Shape := ⟨2, ![36, 512]⟩
abbrev S18432x1 : Shape := ⟨2, ![18432, 1]⟩
abbrev S_ : Shape := ⟨0, ![]⟩
abbrev S36 : Shape := ⟨1, ![36]⟩
abbrev S36x1 : Shape := ⟨2, ![36, 1]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S18432x3584 : Shape := ⟨2, ![18432, 3584]⟩

abbrev nBuf : Space → Nat
  | .hbm => 223
  | .vmem => 0
  | .smem => 0
  | _ => 0

abbrev hbmTy0_0 (i : Nat) : BufTy := match i % 128 with
  | 0 => ⟨S72, .i32⟩
  | 1 => ⟨S1, .i32⟩
  | 2 => ⟨S36864x512, .bf16⟩
  | 3 => ⟨S8x1024x3584, .f32⟩
  | 4 => ⟨S8x1024x3584, .f32⟩
  | 5 => ⟨S8x3584x1024, .f32⟩
  | 6 => ⟨S73728x512, .bf16⟩
  | 7 => ⟨S18432x1024, .bf16⟩
  | 8 => ⟨S18432x1024, .f32⟩
  | 9 => ⟨S36x512, .i32⟩
  | 10 => ⟨S18432x1, .i32⟩
  | 11 => ⟨S_, .i32⟩
  | 12 => ⟨S18432x1, .i32⟩
  | 13 => ⟨S18432x1, .i32⟩
  | 14 => ⟨S36, .i32⟩
  | 15 => ⟨S36x1, .i32⟩
  | 16 => ⟨S36x512, .i32⟩
  | 17 => ⟨S18432x1, .i32⟩
  | 18 => ⟨S_, .f32⟩
  | 19 => ⟨S18432x1024, .f32⟩
  | 20 => ⟨S_, .i32⟩
  | 21 => ⟨S18432x1, .i32⟩
  | 22 => ⟨S18432x1, .i1⟩
  | 23 => ⟨S1x1024x3584, .f32⟩
  | 24 => ⟨S1024x3584, .f32⟩
  | 25 => ⟨S1x1024x3584, .f32⟩
  | 26 => ⟨S1024x3584, .f32⟩
  | 27 => ⟨S1x3584x1024, .f32⟩
  | 28 => ⟨S3584x1024, .f32⟩
  | 29 => ⟨S18432x3584, .f32⟩
  | 30 => ⟨S18432x3584, .f32⟩
  | 31 => ⟨S18432x3584, .f32⟩
  | 32 => ⟨S_, .f32⟩
  | 33 => ⟨S18432x3584, .f32⟩
  | 34 => ⟨S18432x3584, .f32⟩
  | 35 => ⟨S_, .f32⟩
  | 36 => ⟨S18432x3584, .f32⟩
  | 37 => ⟨S18432x3584, .f32⟩
  | 38 => ⟨S18432x3584, .f32⟩
  | 39 => ⟨S18432x3584, .f32⟩
  | 40 => ⟨S18432x3584, .f32⟩
  | 41 => ⟨S18432x1024, .f32⟩
  | 42 => ⟨S18432x1024, .i1⟩
  | 43 => ⟨S18432x1024, .f32⟩
  | 44 => ⟨S_, .i32⟩
  | 45 => ⟨S18432x1, .i32⟩
  | 46 => ⟨S18432x1, .i1⟩
  | 47 => ⟨S1x1024x3584, .f32⟩
  | 48 => ⟨S1024x3584, .f32⟩
  | 49 => ⟨S1x1024x3584, .f32⟩
  | 50 => ⟨S1024x3584, .f32⟩
  | 51 => ⟨S1x3584x1024, .f32⟩
  | 52 => ⟨S3584x1024, .f32⟩
  | 53 => ⟨S18432x3584, .f32⟩
  | 54 => ⟨S18432x3584, .f32⟩
  | 55 => ⟨S18432x3584, .f32⟩
  | 56 => ⟨S_, .f32⟩
  | 57 => ⟨S18432x3584, .f32⟩
  | 58 => ⟨S18432x3584, .f32⟩
  | 59 => ⟨S_, .f32⟩
  | 60 => ⟨S18432x3584, .f32⟩
  | 61 => ⟨S18432x3584, .f32⟩
  | 62 => ⟨S18432x3584, .f32⟩
  | 63 => ⟨S18432x3584, .f32⟩
  | 64 => ⟨S18432x3584, .f32⟩
  | 65 => ⟨S18432x1024, .f32⟩
  | 66 => ⟨S18432x1024, .i1⟩
  | 67 => ⟨S18432x1024, .f32⟩
  | 68 => ⟨S_, .i32⟩
  | 69 => ⟨S18432x1, .i32⟩
  | 70 => ⟨S18432x1, .i1⟩
  | 71 => ⟨S1x1024x3584, .f32⟩
  | 72 => ⟨S1024x3584, .f32⟩
  | 73 => ⟨S1x1024x3584, .f32⟩
  | 74 => ⟨S1024x3584, .f32⟩
  | 75 => ⟨S1x3584x1024, .f32⟩
  | 76 => ⟨S3584x1024, .f32⟩
  | 77 => ⟨S18432x3584, .f32⟩
  | 78 => ⟨S18432x3584, .f32⟩
  | 79 => ⟨S18432x3584, .f32⟩
  | 80 => ⟨S_, .f32⟩
  | 81 => ⟨S18432x3584, .f32⟩
  | 82 => ⟨S18432x3584, .f32⟩
  | 83 => ⟨S_, .f32⟩
  | 84 => ⟨S18432x3584, .f32⟩
  | 85 => ⟨S18432x3584, .f32⟩
  | 86 => ⟨S18432x3584, .f32⟩
  | 87 => ⟨S18432x3584, .f32⟩
  | 88 => ⟨S18432x3584, .f32⟩
  | 89 => ⟨S18432x1024, .f32⟩
  | 90 => ⟨S18432x1024, .i1⟩
  | 91 => ⟨S18432x1024, .f32⟩
  | 92 => ⟨S_, .i32⟩
  | 93 => ⟨S18432x1, .i32⟩
  | 94 => ⟨S18432x1, .i1⟩
  | 95 => ⟨S1x1024x3584, .f32⟩
  | 96 => ⟨S1024x3584, .f32⟩
  | 97 => ⟨S1x1024x3584, .f32⟩
  | 98 => ⟨S1024x3584, .f32⟩
  | 99 => ⟨S1x3584x1024, .f32⟩
  | 100 => ⟨S3584x1024, .f32⟩
  | 101 => ⟨S18432x3584, .f32⟩
  | 102 => ⟨S18432x3584, .f32⟩
  | 103 => ⟨S18432x3584, .f32⟩
  | 104 => ⟨S_, .f32⟩
  | 105 => ⟨S18432x3584, .f32⟩
  | 106 => ⟨S18432x3584, .f32⟩
  | 107 => ⟨S_, .f32⟩
  | 108 => ⟨S18432x3584, .f32⟩
  | 109 => ⟨S18432x3584, .f32⟩
  | 110 => ⟨S18432x3584, .f32⟩
  | 111 => ⟨S18432x3584, .f32⟩
  | 112 => ⟨S18432x3584, .f32⟩
  | 113 => ⟨S18432x1024, .f32⟩
  | 114 => ⟨S18432x1024, .i1⟩
  | 115 => ⟨S18432x1024, .f32⟩
  | 116 => ⟨S_, .i32⟩
  | 117 => ⟨S18432x1, .i32⟩
  | 118 => ⟨S18432x1, .i1⟩
  | 119 => ⟨S1x1024x3584, .f32⟩
  | 120 => ⟨S1024x3584, .f32⟩
  | 121 => ⟨S1x1024x3584, .f32⟩
  | 122 => ⟨S1024x3584, .f32⟩
  | 123 => ⟨S1x3584x1024, .f32⟩
  | 124 => ⟨S3584x1024, .f32⟩
  | 125 => ⟨S18432x3584, .f32⟩
  | 126 => ⟨S18432x3584, .f32⟩
  | 127 => ⟨S18432x3584, .f32⟩
  | _ => ⟨S72, .i32⟩

abbrev hbmTy0_1 (i : Nat) : BufTy := match i % 128 with
  | 0 => ⟨S_, .f32⟩
  | 1 => ⟨S18432x3584, .f32⟩
  | 2 => ⟨S18432x3584, .f32⟩
  | 3 => ⟨S_, .f32⟩
  | 4 => ⟨S18432x3584, .f32⟩
  | 5 => ⟨S18432x3584, .f32⟩
  | 6 => ⟨S18432x3584, .f32⟩
  | 7 => ⟨S18432x3584, .f32⟩
  | 8 => ⟨S18432x3584, .f32⟩
  | 9 => ⟨S18432x1024, .f32⟩
  | 10 => ⟨S18432x1024, .i1⟩
  | 11 => ⟨S18432x1024, .f32⟩
  | 12 => ⟨S_, .i32⟩
  | 13 => ⟨S18432x1, .i32⟩
  | 14 => ⟨S18432x1, .i1⟩
  | 15 => ⟨S1x1024x3584, .f32⟩
  | 16 => ⟨S1024x3584, .f32⟩
  | 17 => ⟨S1x1024x3584, .f32⟩
  | 18 => ⟨S1024x3584, .f32⟩
  | 19 => ⟨S1x3584x1024, .f32⟩
  | 20 => ⟨S3584x1024, .f32⟩
  | 21 => ⟨S18432x3584, .f32⟩
  | 22 => ⟨S18432x3584, .f32⟩
  | 23 => ⟨S18432x3584, .f32⟩
  | 24 => ⟨S_, .f32⟩
  | 25 => ⟨S18432x3584, .f32⟩
  | 26 => ⟨S18432x3584, .f32⟩
  | 27 => ⟨S_, .f32⟩
  | 28 => ⟨S18432x3584, .f32⟩
  | 29 => ⟨S18432x3584, .f32⟩
  | 30 => ⟨S18432x3584, .f32⟩
  | 31 => ⟨S18432x3584, .f32⟩
  | 32 => ⟨S18432x3584, .f32⟩
  | 33 => ⟨S18432x1024, .f32⟩
  | 34 => ⟨S18432x1024, .i1⟩
  | 35 => ⟨S18432x1024, .f32⟩
  | 36 => ⟨S_, .i32⟩
  | 37 => ⟨S18432x1, .i32⟩
  | 38 => ⟨S18432x1, .i1⟩
  | 39 => ⟨S1x1024x3584, .f32⟩
  | 40 => ⟨S1024x3584, .f32⟩
  | 41 => ⟨S1x1024x3584, .f32⟩
  | 42 => ⟨S1024x3584, .f32⟩
  | 43 => ⟨S1x3584x1024, .f32⟩
  | 44 => ⟨S3584x1024, .f32⟩
  | 45 => ⟨S18432x3584, .f32⟩
  | 46 => ⟨S18432x3584, .f32⟩
  | 47 => ⟨S18432x3584, .f32⟩
  | 48 => ⟨S_, .f32⟩
  | 49 => ⟨S18432x3584, .f32⟩
  | 50 => ⟨S18432x3584, .f32⟩
  | 51 => ⟨S_, .f32⟩
  | 52 => ⟨S18432x3584, .f32⟩
  | 53 => ⟨S18432x3584, .f32⟩
  | 54 => ⟨S18432x3584, .f32⟩
  | 55 => ⟨S18432x3584, .f32⟩
  | 56 => ⟨S18432x3584, .f32⟩
  | 57 => ⟨S18432x1024, .f32⟩
  | 58 => ⟨S18432x1024, .i1⟩
  | 59 => ⟨S18432x1024, .f32⟩
  | 60 => ⟨S_, .i32⟩
  | 61 => ⟨S18432x1, .i32⟩
  | 62 => ⟨S18432x1, .i1⟩
  | 63 => ⟨S1x1024x3584, .f32⟩
  | 64 => ⟨S1024x3584, .f32⟩
  | 65 => ⟨S1x1024x3584, .f32⟩
  | 66 => ⟨S1024x3584, .f32⟩
  | 67 => ⟨S1x3584x1024, .f32⟩
  | 68 => ⟨S3584x1024, .f32⟩
  | 69 => ⟨S18432x3584, .f32⟩
  | 70 => ⟨S18432x3584, .f32⟩
  | 71 => ⟨S18432x3584, .f32⟩
  | 72 => ⟨S_, .f32⟩
  | 73 => ⟨S18432x3584, .f32⟩
  | 74 => ⟨S18432x3584, .f32⟩
  | 75 => ⟨S_, .f32⟩
  | 76 => ⟨S18432x3584, .f32⟩
  | 77 => ⟨S18432x3584, .f32⟩
  | 78 => ⟨S18432x3584, .f32⟩
  | 79 => ⟨S18432x3584, .f32⟩
  | 80 => ⟨S18432x3584, .f32⟩
  | 81 => ⟨S18432x1024, .f32⟩
  | 82 => ⟨S18432x1024, .i1⟩
  | 83 => ⟨S18432x1024, .f32⟩
  | 84 => ⟨S_, .i32⟩
  | 85 => ⟨S18432x1, .i32⟩
  | 86 => ⟨S18432x1, .i1⟩
  | 87 => ⟨S_, .f32⟩
  | 88 => ⟨S18432x1024, .f32⟩
  | 89 => ⟨S18432x1024, .i1⟩
  | 90 => ⟨S18432x1024, .f32⟩
  | 91 => ⟨S18432x1024, .bf16⟩
  | 92 => ⟨S36864x512, .bf16⟩
  | 93 => ⟨S36864x512, .bf16⟩
  | 94 => ⟨S73728x512, .bf16⟩
  | _ => ⟨S72, .i32⟩

abbrev hbmTy (i : Nat) : BufTy := match i / 128 with
  | 0 => hbmTy0_0 i
  | 1 => hbmTy0_1 i
  | _ => ⟨S72, .i32⟩

abbrev bufTy : (tb : Table) → Fin (tcTables nBuf tb) → BufTy
  | .hbm, ⟨i, _⟩ => hbmTy i
  | _, _ => ⟨S72, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_c_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_call1_v0 : Ref sig .tc := ⟨.hbm, 42, rfl⟩
abbrev main_v24 : Ref sig .tc := ⟨.hbm, 43, rfl⟩
abbrev main_c_1 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_call2_v0 : Ref sig .tc := ⟨.hbm, 54, rfl⟩
abbrev main_call2_v1 : Ref sig .tc := ⟨.hbm, 55, rfl⟩
abbrev main_call2_cst : Ref sig .tc := ⟨.hbm, 56, rfl⟩
abbrev main_call2_v2 : Ref sig .tc := ⟨.hbm, 57, rfl⟩
abbrev main_call2_v3 : Ref sig .tc := ⟨.hbm, 58, rfl⟩
abbrev main_call2_cst_0 : Ref sig .tc := ⟨.hbm, 59, rfl⟩
abbrev main_call2_v4 : Ref sig .tc := ⟨.hbm, 60, rfl⟩
abbrev main_call2_v5 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_call3_v0 : Ref sig .tc := ⟨.hbm, 66, rfl⟩
abbrev main_v38 : Ref sig .tc := ⟨.hbm, 67, rfl⟩
abbrev main_c_2 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_call4_v0 : Ref sig .tc := ⟨.hbm, 78, rfl⟩
abbrev main_call4_v1 : Ref sig .tc := ⟨.hbm, 79, rfl⟩
abbrev main_call4_cst : Ref sig .tc := ⟨.hbm, 80, rfl⟩
abbrev main_call4_v2 : Ref sig .tc := ⟨.hbm, 81, rfl⟩
abbrev main_call4_v3 : Ref sig .tc := ⟨.hbm, 82, rfl⟩
abbrev main_call4_cst_0 : Ref sig .tc := ⟨.hbm, 83, rfl⟩
abbrev main_call4_v4 : Ref sig .tc := ⟨.hbm, 84, rfl⟩
abbrev main_call4_v5 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_call5_v0 : Ref sig .tc := ⟨.hbm, 90, rfl⟩
abbrev main_v52 : Ref sig .tc := ⟨.hbm, 91, rfl⟩
abbrev main_c_3 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_call6_v0 : Ref sig .tc := ⟨.hbm, 102, rfl⟩
abbrev main_call6_v1 : Ref sig .tc := ⟨.hbm, 103, rfl⟩
abbrev main_call6_cst : Ref sig .tc := ⟨.hbm, 104, rfl⟩
abbrev main_call6_v2 : Ref sig .tc := ⟨.hbm, 105, rfl⟩
abbrev main_call6_v3 : Ref sig .tc := ⟨.hbm, 106, rfl⟩
abbrev main_call6_cst_0 : Ref sig .tc := ⟨.hbm, 107, rfl⟩
abbrev main_call6_v4 : Ref sig .tc := ⟨.hbm, 108, rfl⟩
abbrev main_call6_v5 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_call7_v0 : Ref sig .tc := ⟨.hbm, 114, rfl⟩
abbrev main_v66 : Ref sig .tc := ⟨.hbm, 115, rfl⟩
abbrev main_c_4 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_call8_v0 : Ref sig .tc := ⟨.hbm, 126, rfl⟩
abbrev main_call8_v1 : Ref sig .tc := ⟨.hbm, 127, rfl⟩
abbrev main_call8_cst : Ref sig .tc := ⟨.hbm, 128, rfl⟩
abbrev main_call8_v2 : Ref sig .tc := ⟨.hbm, 129, rfl⟩
abbrev main_call8_v3 : Ref sig .tc := ⟨.hbm, 130, rfl⟩
abbrev main_call8_cst_0 : Ref sig .tc := ⟨.hbm, 131, rfl⟩
abbrev main_call8_v4 : Ref sig .tc := ⟨.hbm, 132, rfl⟩
abbrev main_call8_v5 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_call9_v0 : Ref sig .tc := ⟨.hbm, 138, rfl⟩
abbrev main_v80 : Ref sig .tc := ⟨.hbm, 139, rfl⟩
abbrev main_c_5 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_call10_v0 : Ref sig .tc := ⟨.hbm, 150, rfl⟩
abbrev main_call10_v1 : Ref sig .tc := ⟨.hbm, 151, rfl⟩
abbrev main_call10_cst : Ref sig .tc := ⟨.hbm, 152, rfl⟩
abbrev main_call10_v2 : Ref sig .tc := ⟨.hbm, 153, rfl⟩
abbrev main_call10_v3 : Ref sig .tc := ⟨.hbm, 154, rfl⟩
abbrev main_call10_cst_0 : Ref sig .tc := ⟨.hbm, 155, rfl⟩
abbrev main_call10_v4 : Ref sig .tc := ⟨.hbm, 156, rfl⟩
abbrev main_call10_v5 : Ref sig .tc := ⟨.hbm, 157, rfl⟩
abbrev main_v90 : Ref sig .tc := ⟨.hbm, 158, rfl⟩
abbrev main_v91 : Ref sig .tc := ⟨.hbm, 159, rfl⟩
abbrev main_v92 : Ref sig .tc := ⟨.hbm, 160, rfl⟩
abbrev main_v93 : Ref sig .tc := ⟨.hbm, 161, rfl⟩
abbrev main_call11_v0 : Ref sig .tc := ⟨.hbm, 162, rfl⟩
abbrev main_v94 : Ref sig .tc := ⟨.hbm, 163, rfl⟩
abbrev main_c_6 : Ref sig .tc := ⟨.hbm, 164, rfl⟩
abbrev main_v95 : Ref sig .tc := ⟨.hbm, 165, rfl⟩
abbrev main_v96 : Ref sig .tc := ⟨.hbm, 166, rfl⟩
abbrev main_v97 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_v103 : Ref sig .tc := ⟨.hbm, 173, rfl⟩
abbrev main_call12_v0 : Ref sig .tc := ⟨.hbm, 174, rfl⟩
abbrev main_call12_v1 : Ref sig .tc := ⟨.hbm, 175, rfl⟩
abbrev main_call12_cst : Ref sig .tc := ⟨.hbm, 176, rfl⟩
abbrev main_call12_v2 : Ref sig .tc := ⟨.hbm, 177, rfl⟩
abbrev main_call12_v3 : Ref sig .tc := ⟨.hbm, 178, rfl⟩
abbrev main_call12_cst_0 : Ref sig .tc := ⟨.hbm, 179, rfl⟩
abbrev main_call12_v4 : Ref sig .tc := ⟨.hbm, 180, rfl⟩
abbrev main_call12_v5 : Ref sig .tc := ⟨.hbm, 181, rfl⟩
abbrev main_v104 : Ref sig .tc := ⟨.hbm, 182, rfl⟩
abbrev main_v105 : Ref sig .tc := ⟨.hbm, 183, rfl⟩
abbrev main_v106 : Ref sig .tc := ⟨.hbm, 184, rfl⟩
abbrev main_v107 : Ref sig .tc := ⟨.hbm, 185, rfl⟩
abbrev main_call13_v0 : Ref sig .tc := ⟨.hbm, 186, rfl⟩
abbrev main_v108 : Ref sig .tc := ⟨.hbm, 187, rfl⟩
abbrev main_c_7 : Ref sig .tc := ⟨.hbm, 188, rfl⟩
abbrev main_v109 : Ref sig .tc := ⟨.hbm, 189, rfl⟩
abbrev main_v110 : Ref sig .tc := ⟨.hbm, 190, rfl⟩
abbrev main_v111 : Ref sig .tc := ⟨.hbm, 191, rfl⟩
abbrev main_v112 : Ref sig .tc := ⟨.hbm, 192, rfl⟩
abbrev main_v113 : Ref sig .tc := ⟨.hbm, 193, rfl⟩
abbrev main_v114 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_call14_v0 : Ref sig .tc := ⟨.hbm, 198, rfl⟩
abbrev main_call14_v1 : Ref sig .tc := ⟨.hbm, 199, rfl⟩
abbrev main_call14_cst : Ref sig .tc := ⟨.hbm, 200, rfl⟩
abbrev main_call14_v2 : Ref sig .tc := ⟨.hbm, 201, rfl⟩
abbrev main_call14_v3 : Ref sig .tc := ⟨.hbm, 202, rfl⟩
abbrev main_call14_cst_0 : Ref sig .tc := ⟨.hbm, 203, rfl⟩
abbrev main_call14_v4 : Ref sig .tc := ⟨.hbm, 204, rfl⟩
abbrev main_call14_v5 : Ref sig .tc := ⟨.hbm, 205, rfl⟩
abbrev main_v118 : Ref sig .tc := ⟨.hbm, 206, rfl⟩
abbrev main_v119 : Ref sig .tc := ⟨.hbm, 207, rfl⟩
abbrev main_v120 : Ref sig .tc := ⟨.hbm, 208, rfl⟩
abbrev main_v121 : Ref sig .tc := ⟨.hbm, 209, rfl⟩
abbrev main_call15_v0 : Ref sig .tc := ⟨.hbm, 210, rfl⟩
abbrev main_v122 : Ref sig .tc := ⟨.hbm, 211, rfl⟩
abbrev main_v123 : Ref sig .tc := ⟨.hbm, 212, rfl⟩
abbrev main_v124 : Ref sig .tc := ⟨.hbm, 213, rfl⟩
abbrev main_v125 : Ref sig .tc := ⟨.hbm, 214, rfl⟩
abbrev main_cst_8 : Ref sig .tc := ⟨.hbm, 215, rfl⟩
abbrev main_v126 : Ref sig .tc := ⟨.hbm, 216, rfl⟩
abbrev main_call16_v0 : Ref sig .tc := ⟨.hbm, 217, rfl⟩
abbrev main_v127 : Ref sig .tc := ⟨.hbm, 218, rfl⟩
abbrev main_v128 : Ref sig .tc := ⟨.hbm, 219, rfl⟩
abbrev main_v129 : Ref sig .tc := ⟨.hbm, 220, rfl⟩
abbrev main_v130 : Ref sig .tc := ⟨.hbm, 221, rfl⟩
abbrev main_v131 : Ref sig .tc := ⟨.hbm, 222, rfl⟩

abbrev nD : Nat := 1
abbrev τ : Topo := Topo.v7x

variable {F : FTy → Type} [FloatOps F]
-- ==== Dense.lean ====
abbrev S2x8192x512 : Shape := ⟨3, ![2, 8192, 512]⟩
abbrev S2x8192x256 : Shape := ⟨3, ![2, 8192, 256]⟩
abbrev S1024x1024 : Shape := ⟨2, ![1024, 1024]⟩
abbrev S2x8192x1024 : Shape := ⟨3, ![2, 8192, 1024]⟩
abbrev S2x1x1024 : Shape := ⟨3, ![2, 1, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S1x512x512 : Shape := ⟨3, ![1, 512, 512]⟩
abbrev S1x512x256 : Shape := ⟨3, ![1, 512, 256]⟩
abbrev S1x512x1024 : Shape := ⟨3, ![1, 512, 1024]⟩
abbrev S1x1x1024 : Shape := ⟨3, ![1, 1, 1024]⟩
abbrev S512x512 : Shape := ⟨2, ![512, 512]⟩
abbrev S512x1024 : Shape := ⟨2, ![512, 1024]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩
abbrev S1024x512 : Shape := ⟨2, ![1024, 512]⟩
abbrev S1024x256 : Shape := ⟨2, ![1024, 256]⟩

abbrev nBuf : Space → Nat
  | .hbm => 19
  | .vmem => 23
  | .smem => 0
  | _ => 0

abbrev bufTy : (tb : Table) → Fin (tcTables nBuf tb) → BufTy
  | .hbm, ⟨0, _⟩ => ⟨S2x8192x512, .bf16⟩
  | .hbm, ⟨1, _⟩ => ⟨S2x8192x256, .bf16⟩
  | .hbm, ⟨2, _⟩ => ⟨S2x8192x256, .bf16⟩
  | .hbm, ⟨3, _⟩ => ⟨S1024x1024, .f32⟩
  | .hbm, ⟨4, _⟩ => ⟨S2x8192x1024, .f32⟩
  | .hbm, ⟨5, _⟩ => ⟨S2x1x1024, .f32⟩
  | .hbm, ⟨6, _⟩ => ⟨S1024, .f32⟩
  | .hbm, ⟨7, _⟩ => ⟨S2x1x1024, .f32⟩
  | .hbm, ⟨8, _⟩ => ⟨S2x1x1024, .f32⟩
  | .hbm, ⟨9, _⟩ => ⟨S1024x2816, .f32⟩
  | .hbm, ⟨10, _⟩ => ⟨S1024x2816, .f32⟩
  | .hbm, ⟨11, _⟩ => ⟨S2816x1024, .f32⟩
  | .hbm, ⟨12, _⟩ => ⟨S2x1x1024, .f32⟩
  | .hbm, ⟨13, _⟩ => ⟨S1024x1024, .bf16⟩
  | .hbm, ⟨14, _⟩ => ⟨S1x1024, .f32⟩
  | .hbm, ⟨15, _⟩ => ⟨S1024x2816, .bf16⟩
  | .hbm, ⟨16, _⟩ => ⟨S1024x2816, .bf16⟩
  | .hbm, ⟨17, _⟩ => ⟨S2816x1024, .bf16⟩
  | .hbm, ⟨18, _⟩ => ⟨S2x8192x1024, .f32⟩
  | .local _ .vmem, ⟨0, _⟩ => ⟨S1x512x512, .bf16⟩
  | .local _ .vmem, ⟨1, _⟩ => ⟨S1x512x512, .bf16⟩
  | .local _ .vmem, ⟨2, _⟩ => ⟨S1x512x256, .bf16⟩
  | .local _ .vmem, ⟨3, _⟩ => ⟨S1x512x256, .bf16⟩
  | .local _ .vmem, ⟨4, _⟩ => ⟨S1x512x256, .bf16⟩
  | .local _ .vmem, ⟨5, _⟩ => ⟨S1x512x256, .bf16⟩
  | .local _ .vmem, ⟨6, _⟩ => ⟨S1024x1024, .bf16⟩
  | .local _ .vmem, ⟨7, _⟩ => ⟨S1x512x1024, .f32⟩
  | .local _ .vmem, ⟨8, _⟩ => ⟨S1x512x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1024x2816, .bf16⟩
  | .local _ .vmem, ⟨17, _⟩ => ⟨S1024x2816, .bf16⟩
  | .local _ .vmem, ⟨18, _⟩ => ⟨S2816x1024, .bf16⟩
  | .local _ .vmem, ⟨19, _⟩ => ⟨S1x1x1024, .f32⟩
  | .local _ .vmem, ⟨20, _⟩ => ⟨S1x1x1024, .f32⟩
  | .local _ .vmem, ⟨21, _⟩ => ⟨S1x512x1024, .f32⟩
  | .local _ .vmem, ⟨22, _⟩ => ⟨S1x512x1024, .f32⟩
  | _, _ => ⟨S2x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== DenseReferenceIdeal.lean ====
abbrev S2x8192x512 : Shape := ⟨3, ![2, 8192, 512]⟩
abbrev S2x8192x256 : Shape := ⟨3, ![2, 8192, 256]⟩
abbrev S1024x1024 : Shape := ⟨2, ![1024, 1024]⟩
abbrev S2x8192x1024 : Shape := ⟨3, ![2, 8192, 1024]⟩
abbrev S2x1x1024 : Shape := ⟨3, ![2, 1, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2816 : Shape := ⟨3, ![2, 8192, 2816]⟩

abbrev nBuf : Space → Nat
  | .hbm => 58
  | .vmem => 0
  | .smem => 0
  | _ => 0

abbrev bufTy : (tb : Table) → Fin (tcTables nBuf tb) → BufTy
  | .hbm, ⟨0, _⟩ => ⟨S2x8192x512, .bf16⟩
  | .hbm, ⟨1, _⟩ => ⟨S2x8192x256, .bf16⟩
  | .hbm, ⟨2, _⟩ => ⟨S2x8192x256, .bf16⟩
  | .hbm, ⟨3, _⟩ => ⟨S1024x1024, .f32⟩
  | .hbm, ⟨4, _⟩ => ⟨S2x8192x1024, .f32⟩
  | .hbm, ⟨5, _⟩ => ⟨S2x1x1024, .f32⟩
  | .hbm, ⟨6, _⟩ => ⟨S1024, .f32⟩
  | .hbm, ⟨7, _⟩ => ⟨S2x1x1024, .f32⟩
  | .hbm, ⟨8, _⟩ => ⟨S2x1x1024, .f32⟩
  | .hbm, ⟨9, _⟩ => ⟨S1024x2816, .f32⟩
  | .hbm, ⟨10, _⟩ => ⟨S1024x2816, .f32⟩
  | .hbm, ⟨11, _⟩ => ⟨S2816x1024, .f32⟩
  | .hbm, ⟨12, _⟩ => ⟨S2x1x1024, .f32⟩
  | .hbm, ⟨13, _⟩ => ⟨S2x8192x1024, .bf16⟩
  | .hbm, ⟨14, _⟩ => ⟨S2x8192x1024, .f32⟩
  | .hbm, ⟨15, _⟩ => ⟨S2x8192x1024, .f32⟩
  | .hbm, ⟨16, _⟩ => ⟨S2x8192x1024, .f32⟩
  | .hbm, ⟨17, _⟩ => ⟨S2x8192x1024, .f32⟩
  | .hbm, ⟨18, _⟩ => ⟨S2x8192x1024, .f32⟩
  | .hbm, ⟨19, _⟩ => ⟨S2x8192x1024, .f32⟩
  | .hbm, ⟨20, _⟩ => ⟨S_, .f32⟩
  | .hbm, ⟨21, _⟩ => ⟨S2x8192, .f32⟩
  | .hbm, ⟨22, _⟩ => ⟨S2x8192x1, .f32⟩
  | .hbm, ⟨23, _⟩ => ⟨S_, .f32⟩
  | .hbm, ⟨24, _⟩ => ⟨S2x8192x1, .f32⟩
  | .hbm, ⟨25, _⟩ => ⟨S2x8192x1, .f32⟩
  | .hbm, ⟨26, _⟩ => ⟨S_, .f32⟩
  | .hbm, ⟨27, _⟩ => ⟨S2x8192x1, .f32⟩
  | .hbm, ⟨28, _⟩ => ⟨S2x8192x1, .f32⟩
  | .hbm, ⟨29, _⟩ => ⟨S2x8192x1, .f32⟩
  | .hbm, ⟨30, _⟩ => ⟨S2x8192x1024, .f32⟩
  | .hbm, ⟨31, _⟩ => ⟨S2x8192x1024, .f32⟩
  | .hbm, ⟨32, _⟩ => ⟨S1x1x1024, .f32⟩
  | .hbm, ⟨33, _⟩ => ⟨S2x8192x1024, .f32⟩
  | .hbm, ⟨34, _⟩ => ⟨S2x8192x1024, .f32⟩
  | .hbm, ⟨35, _⟩ => ⟨S_, .f32⟩
  | .hbm, ⟨36, _⟩ => ⟨S2x1x1024, .f32⟩
  | .hbm, ⟨37, _⟩ => ⟨S2x1x1024, .f32⟩
  | .hbm, ⟨38, _⟩ => ⟨S2x8192x1024, .f32⟩
  | .hbm, ⟨39, _⟩ => ⟨S2x8192x1024, .f32⟩
  | .hbm, ⟨40, _⟩ => ⟨S2x8192x1024, .f32⟩
  | .hbm, ⟨41, _⟩ => ⟨S2x8192x1024, .f32⟩
  | .hbm, ⟨42, _⟩ => ⟨S2x8192x2816, .f32⟩
  | .hbm, ⟨43, _⟩ => ⟨S2x8192x2816, .f32⟩
  | .hbm, ⟨44, _⟩ => ⟨S2x8192x2816, .f32⟩
  | .hbm, ⟨45, _⟩ => ⟨S_, .f32⟩
  | .hbm, ⟨46, _⟩ => ⟨S2x8192x2816, .f32⟩
  | .hbm, ⟨47, _⟩ => ⟨S2x8192x2816, .f32⟩
  | .hbm, ⟨48, _⟩ => ⟨S_, .f32⟩
  | .hbm, ⟨49, _⟩ => ⟨S2x8192x2816, .f32⟩
  | .hbm, ⟨50, _⟩ => ⟨S2x8192x2816, .f32⟩
  | .hbm, ⟨51, _⟩ => ⟨S2x8192x2816, .f32⟩
  | .hbm, ⟨52, _⟩ => ⟨S2x8192x2816, .f32⟩
  | .hbm, ⟨53, _⟩ => ⟨S2x8192x2816, .f32⟩
  | .hbm, ⟨54, _⟩ => ⟨S2x8192x1024, .f32⟩
  | .hbm, ⟨55, _⟩ => ⟨S2x8192x1024, .f32⟩
  | .hbm, ⟨56, _⟩ => ⟨S2x8192x1024, .f32⟩
  | .hbm, ⟨57, _⟩ => ⟨S2x8192x1024, .f32⟩
  | _, _ => ⟨S2x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩

abbrev nD : Nat := 1
abbrev τ : Topo := Topo.v7x

variable {F : FTy → Type} [FloatOps F]
-- ==== Combine.lean ====
abbrev S4x8192x512 : Shape := ⟨3, ![4, 8192, 512]⟩
abbrev S2x8192x1024 : Shape := ⟨3, ![2, 8192, 1024]⟩
abbrev S2x1x1024 : Shape := ⟨3, ![2, 1, 1024]⟩
abbrev S2x8192x128 : Shape := ⟨3, ![2, 8192, 128]⟩
abbrev S1x1024x512 : Shape := ⟨3, ![1, 1024, 512]⟩
abbrev S1x1024x1024 : Shape := ⟨3, ![1, 1024, 1024]⟩
abbrev S1x1x1024 : Shape := ⟨3, ![1, 1, 1024]⟩
abbrev S1x1024x128 : Shape := ⟨3, ![1, 1024, 128]⟩
abbrev S1024x128 : Shape := ⟨2, ![1024, 128]⟩
abbrev S1024x1 : Shape := ⟨2, ![1024, 1]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 5
  | .vmem => 12
  | .smem => 0
  | _ => 0

abbrev bufTy : (tb : Table) → Fin (tcTables nBuf tb) → BufTy
  | .hbm, ⟨0, _⟩ => ⟨S4x8192x512, .i32⟩
  | .hbm, ⟨1, _⟩ => ⟨S2x8192x1024, .f32⟩
  | .hbm, ⟨2, _⟩ => ⟨S2x1x1024, .f32⟩
  | .hbm, ⟨3, _⟩ => ⟨S2x8192x128, .f32⟩
  | .hbm, ⟨4, _⟩ => ⟨S2x8192x1024, .f32⟩
  | .local _ .vmem, ⟨0, _⟩ => ⟨S1x1024x512, .i32⟩
  | .local _ .vmem, ⟨1, _⟩ => ⟨S1x1024x512, .i32⟩
  | .local _ .vmem, ⟨2, _⟩ => ⟨S1x1024x512, .i32⟩
  | .local _ .vmem, ⟨3, _⟩ => ⟨S1x1024x512, .i32⟩
  | .local _ .vmem, ⟨4, _⟩ => ⟨S1x1024x1024, .f32⟩
  | .local _ .vmem, ⟨5, _⟩ => ⟨S1x1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024x128, .f32⟩
  | .local _ .vmem, ⟨9, _⟩ => ⟨S1x1024x128, .f32⟩
  | .local _ .vmem, ⟨10, _⟩ => ⟨S1x1024x1024, .f32⟩
  | .local _ .vmem, ⟨11, _⟩ => ⟨S1x1024x1024, .f32⟩
  | _, _ => ⟨S4x8192x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![v0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== CombineReferenceIdeal.lean ====
abbrev S4x8192x512 : Shape := ⟨3, ![4, 8192, 512]⟩
abbrev S2x8192x1024 : Shape := ⟨3, ![2, 8192, 1024]⟩
abbrev S2x1x1024 : Shape := ⟨3, ![2, 1, 1024]⟩
abbrev S2x8192x128 : Shape := ⟨3, ![2, 8192, 128]⟩
abbrev S4x8192x512x2 : Shape := ⟨4, ![4, 8192, 512, 2]⟩
abbrev S4x8192x512x1 : Shape := ⟨4, ![4, 8192, 512, 1]⟩
abbrev S4x8192x1024 : Shape := ⟨3, ![4, 8192, 1024]⟩
abbrev S2x8192x1 : Shape := ⟨3, ![2, 8192, 1]⟩

abbrev nBuf : Space → Nat
  | .hbm => 23
  | .vmem => 0
  | .smem => 0
  | _ => 0

abbrev bufTy : (tb : Table) → Fin (tcTables nBuf tb) → BufTy
  | .hbm, ⟨0, _⟩ => ⟨S4x8192x512, .i32⟩
  | .hbm, ⟨1, _⟩ => ⟨S2x8192x1024, .f32⟩
  | .hbm, ⟨2, _⟩ => ⟨S2x1x1024, .f32⟩
  | .hbm, ⟨3, _⟩ => ⟨S2x8192x128, .f32⟩
  | .hbm, ⟨4, _⟩ => ⟨S4x8192x512x2, .bf16⟩
  | .hbm, ⟨5, _⟩ => ⟨S4x8192x512x1, .bf16⟩
  | .hbm, ⟨6, _⟩ => ⟨S4x8192x512, .bf16⟩
  | .hbm, ⟨7, _⟩ => ⟨S4x8192x512x1, .bf16⟩
  | .hbm, ⟨8, _⟩ => ⟨S4x8192x512, .bf16⟩
  | .hbm, ⟨9, _⟩ => ⟨S4x8192x1024, .bf16⟩
  | .hbm, ⟨10, _⟩ => ⟨S4x8192x1024, .f32⟩
  | .hbm, ⟨11, _⟩ => ⟨S2x8192x1, .f32⟩
  | .hbm, ⟨12, _⟩ => ⟨S2x8192x1024, .f32⟩
  | .hbm, ⟨13, _⟩ => ⟨S2x8192x1024, .f32⟩
  | .hbm, ⟨14, _⟩ => ⟨S2x8192x1024, .f32⟩
  | .hbm, ⟨15, _⟩ => ⟨S2x8192x1, .f32⟩
  | .hbm, ⟨16, _⟩ => ⟨S2x8192x1024, .f32⟩
  | .hbm, ⟨17, _⟩ => ⟨S2x8192x1024, .f32⟩
  | .hbm, ⟨18, _⟩ => ⟨S2x8192x1024, .f32⟩
  | .hbm, ⟨19, _⟩ => ⟨S2x8192x1024, .f32⟩
  | .hbm, ⟨20, _⟩ => ⟨S2x8192x1024, .f32⟩
  | .hbm, ⟨21, _⟩ => ⟨S2x8192x1024, .f32⟩
  | .hbm, ⟨22, _⟩ => ⟨S2x8192x1024, .f32⟩
  | _, _ => ⟨S4x8192x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩

abbrev nD : Nat := 1
abbrev τ : Topo := Topo.v7x

variable {F : FTy → Type} [FloatOps F]
-- ==== Proof.GatherWords.lean ====
/-
  The words the gather's pipeline carries. A tile makes nine trips; before trip `t` it carries five counters: the index
  blocks fetched, the index blocks waited for, the row blocks written out, the row blocks whose write-out has been waited
  for, and the trip. This file names the counters' values before each trip (`w6` … `w10`) and gives, at those values, every
  offset, every branch condition and every side condition of a trip in closed form.
-/
module

public import proofs.«01_k».proof.Defs
public import proofs.«01_k».proof.Proof.Gen.Kernel
public import proofs.«01_k».proof.Proof.Gen.Kernel.Skeleton

@[expose] public section

set_option Elab.async false

noncomputable section

namespace Cert.Proof.Gather

open Cert.Kernel Cert.Kernel.Gen
open Idealize.ShloMosaic

theorem trips_eq : k0_t1_loop.trips = 9 := by decide +kernel

/-- Index blocks fetched before trip `t`. -/
def w6 (t : ℕ) : BitVec 32 := BitVec.ofNat 32 (min (t + 1) 9)
/-- Blocks done before trip `t`. -/
def w7 (t : ℕ) : BitVec 32 := BitVec.ofNat 32 t
/-- Blocks whose write-out has landed before trip `t`. -/
def w9 (t : ℕ) : BitVec 32 := BitVec.ofNat 32 (t - 1)
/-- The trip counter, wrapping at nine. -/
def w10 (t : ℕ) : BitVec 32 := BitVec.ofNat 32 (t % 9)

/-- The block of trip `t` on the tile at coordinates `i`. -/
def blkN (i : grid0.Coords) (t : ℕ) : ℕ := 9 * (i 1).val + 144 * (i 0).val + t

/-- The tile's first block, as the kernel computes it. -/
def w4 (i : grid0.Coords) : BitVec 32 :=
  Scalar.muli (Scalar.addi (Scalar.addi 0#32 (Scalar.muli (BitVec.ofNat 32 (i 1).val) 1#32)) (Scalar.muli (BitVec.ofNat 32 (i 0).val) 16#32)) 9#32

abbrev Trip : Type := Fin k0_t1_loop.trips

theorem chk3_ok : ∀ t : Trip, k0_chk3 (w7 t.val) := by decide +kernel
theorem chk2_ok : ∀ t : Trip, k0_chk2 (w7 t.val) := by decide +kernel
theorem chk1_ok : ∀ (i : grid0.Coords) (t : Trip), k0_chk1 i t (w6 t.val) (w7 t.val) (w7 t.val) (w9 t.val) (w10 t.val) := by decide +kernel
theorem chk5_ok : ∀ i : grid0.Coords, k0_chk5 i (w10 9) := by decide +kernel
theorem chk4_ok : k0_chk4 (w9 9) := by decide +kernel

theorem cond1_iff : ∀ (i : grid0.Coords) (t : Trip), k0_cond1 i t (w10 t.val) = 1#1 ↔ t.val < 8 := by decide +kernel
theorem cond2_ok : ∀ (i : grid0.Coords) (t : Trip), k0_cond2 i t (w10 t.val) = 1#1 := by decide +kernel
theorem cond5_ok : ∀ (i : grid0.Coords) (t : Trip), k0_cond5 i t (w10 t.val) = 1#1 := by decide +kernel
theorem cond7_iff : ∀ (i : grid0.Coords) (t : Trip), k0_cond7 i t (w10 t.val) = 1#1 ↔ t.val ≠ 0 := by decide +kernel

theorem off4_eq : ∀ t : Trip, t.val < 8 → k0_off4 (w6 t.val) = ![(t.val + 1) % 2, 0, 0] := by decide +kernel
theorem off5_eq : ∀ (i : grid0.Coords) (t : Trip), t.val < 8 → k0_off5 i (w10 t.val) = ![blkN i (t.val + 1), 0] := by decide +kernel
theorem off6_eq : ∀ t : Trip, t.val < 8 → k0_off6 (w6 t.val) = ![(t.val + 1) % 2] := by decide +kernel
theorem off7_eq : ∀ t : Trip, k0_off7 (w7 t.val) = ![t.val % 2, 0, 0] := by decide +kernel
theorem off8_eq : ∀ (i : grid0.Coords) (t : Trip), k0_off8 i (w10 t.val) = ![blkN i t.val, 0] := by decide +kernel
theorem off9_eq : ∀ t : Trip, k0_off9 (w7 t.val) = ![t.val % 2] := by decide +kernel
theorem off10_eq : ∀ t : Trip, k0_off10 (w7 t.val) = ![t.val % 2, 0, 0] := by decide +kernel
theorem off11_eq : ∀ t : Trip, k0_off11 (w7 t.val) = ![t.val % 2, 0, 0] := by decide +kernel
theorem off12_eq : ∀ t : Trip, k0_off12 (w7 t.val) = ![t.val % 2, 0, 0] := by decide +kernel
theorem off13_eq : ∀ (i : grid0.Coords) (t : Trip), k0_off13 i (w10 t.val) = ![64 * blkN i t.val, 0] := by decide +kernel
theorem off14_eq : ∀ t : Trip, k0_off14 (w7 t.val) = ![t.val % 2] := by decide +kernel
theorem off15_eq : ∀ t : Trip, t.val ≠ 0 → k0_off15 (w9 t.val) = ![(t.val - 1) % 2, 0, 0] := by decide +kernel
theorem off16_eq : ∀ (i : grid0.Coords) (t : Trip), t.val ≠ 0 → k0_off16 i (w10 t.val) = ![64 * blkN i (t.val - 1), 0] := by decide +kernel
theorem off17_eq : ∀ t : Trip, t.val ≠ 0 → k0_off17 (w9 t.val) = ![(t.val - 1) % 2] := by decide +kernel
theorem off19_eq : ∀ i : grid0.Coords, k0_off19 i (w10 9) = ![64 * blkN i 8, 0] := by decide +kernel
theorem off20_eq : k0_off20 (w9 9) = ![0] := by decide +kernel
theorem off21_eq : k0_off21 (w9 9) = ![0, 0, 0] := by decide +kernel

theorem next6 : ∀ (i : grid0.Coords) (t : Trip),
    Scalar.select (Scalar.andi (Scalar.andi (Scalar.cmpi .ne (Scalar.addi (w10 t.val) (w4 i))
        (Scalar.addi (Scalar.select (Scalar.cmpi .eq (Scalar.select 1#1 (Scalar.addi (w10 t.val) 1#32) (w10 t.val)) 9#32) 0#32
          (Scalar.select 1#1 (Scalar.addi (w10 t.val) 1#32) (w10 t.val))) (w4 i)))
        (Scalar.xori (Scalar.cmpi .sge (Scf.iv 0#32 1#32 t) 8#32) 1#1)) 1#1) (Scalar.addi (w6 t.val) 1#32) (w6 t.val) = w6 (t.val + 1) := by
  decide +kernel
theorem next7 : ∀ (i : grid0.Coords) (t : Trip),
    Scalar.select (Scalar.ori (Scalar.cmpi .ne (Scalar.addi (w10 t.val) (w4 i))
        (Scalar.addi (Scalar.select (Scalar.cmpi .eq (Scalar.select 1#1 (Scalar.addi (w10 t.val) 1#32) (w10 t.val)) 9#32) 0#32
          (Scalar.select 1#1 (Scalar.addi (w10 t.val) 1#32) (w10 t.val))) (w4 i)))
        (Scalar.cmpi .eq (Scf.iv 0#32 1#32 t) 8#32)) (Scalar.addi (w7 t.val) 1#32) (w7 t.val) = w7 (t.val + 1) := by
  decide +kernel
theorem next8 : ∀ (i : grid0.Coords) (t : Trip),
    Scalar.select (Scalar.andi (Scalar.ori (Scalar.cmpi .ne (Scalar.addi (w10 t.val) (w4 i))
        (Scalar.addi (Scalar.select (Scalar.cmpi .eq (Scalar.select 1#1 (Scalar.addi (w10 t.val) 1#32) (w10 t.val)) 9#32) 0#32
          (Scalar.select 1#1 (Scalar.addi (w10 t.val) 1#32) (w10 t.val))) (w4 i)))
        (Scalar.cmpi .eq (Scf.iv 0#32 1#32 t) 8#32)) 1#1) (Scalar.addi (w7 t.val) 1#32) (w7 t.val) = w7 (t.val + 1) := by
  decide +kernel
theorem next9 : ∀ (i : grid0.Coords) (t : Trip),
    Scalar.select (Scalar.andi (Scalar.andi (Scalar.cmpi .ne (Scalar.addi (w10 t.val) (w4 i))
        (Scalar.addi (Scalar.select (Scalar.cmpi .eq (Scalar.select 1#1 (Scalar.subi (w10 t.val) 1#32) (w10 t.val)) 4294967295#32) 8#32
          (Scalar.select 1#1 (Scalar.subi (w10 t.val) 1#32) (w10 t.val))) (w4 i)))
        (Scalar.xori (Scalar.cmpi .eq (Scf.iv 0#32 1#32 t) 0#32) 1#1)) 1#1) (Scalar.addi (w9 t.val) 1#32) (w9 t.val) = w9 (t.val + 1) := by
  decide +kernel
theorem next10 : ∀ t : Trip,
    Scalar.select (Scalar.cmpi .eq (Scalar.select 1#1 (Scalar.addi (w10 t.val) 1#32) (w10 t.val)) 9#32) 0#32
      (Scalar.select 1#1 (Scalar.addi (w10 t.val) 1#32) (w10 t.val)) = w10 (t.val + 1) := by decide +kernel

end Cert.Proof.Gather

end
-- ==== Proof.GatherSetup.lean ====
/-
  The gather's set-up: the program as the launch theorem sees it, the buffers' locations, the views a tile addresses (its
  two index slots, its two row slots, the rows of the index array, the blocks of the output, the column windows), and the
  rows the gather is to leave (`goal`).
-/
module

public import proofs.«01_k».proof.Proof.GatherWords
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.Gather

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev 𝒱₀ : Variants := Variants.none
abbrev 𝒱 : Variants := 𝒱₀.lift

abbrev UH : Type := URounds (GSem nD τ sig) ℕ
abbrev UU : Type := UH × Counters

/-! ## Locations -/

abbrev sLoc (d : Dev nD) : Loc nD τ sig := (SparseCore.T d).loc main_arg0
abbrev aLoc (d : Dev nD) : Loc nD τ sig := (SparseCore.T d).loc main_arg1
abbrev xLoc (d : Dev nD) : Loc nD τ sig := (SparseCore.T d).loc main_v1
abbrev oLoc (d : Dev nD) : Loc nD τ sig := (SparseCore.T d).loc main_v2

abbrev cV (L : grid0.Coords) : Fin τ.nSC := (L 0).castLE hcore0
abbrev jV (L : grid0.Coords) : Fin τ.nSub := (L 1).castLE hsub0
/-- The tile at coordinates `L` of device `d`. -/
abbrev tile (d : Dev nD) (L : grid0.Coords) : Thread nD τ := V d (cV L) (jV L)

/-! ## The views -/

abbrev sV : Memref sig .scVector .hbm S16384x512 .i32 := Memref.whole main_arg0_scv
abbrev xV : Memref sig .scVector .hbm S288x128 .i32 := Memref.whole main_v1_scv
abbrev oV : Memref sig .scVector .hbm S18432x512 .i32 := Memref.whole main_v2_scv
abbrev iV : Memref sig .scVector .vmem S2x1x128 .i32 := Memref.whole cc0_scoped0
abbrev rV : Memref sig .scVector .vmem S2x64x512 .i32 := Memref.whole cc0_scoped2

theorem inbI (p : Fin 2) : ∀ a, (![p.val, 0, 0] : Fin 3 → ℕ) a + S1x1x128.size a ≤ S2x1x128.size a := by revert p; decide
theorem inbR (p : Fin 2) : ∀ a, (![p.val, 0, 0] : Fin 3 → ℕ) a + S1x64x512.size a ≤ S2x64x512.size a := by revert p; decide
theorem inbS (p : Fin 2) : ∀ a, (![p.val] : Fin 1 → ℕ) a + S1.size a ≤ S2.size a := by revert p; decide
theorem inbX (b : Fin 288) : ∀ a, (![b.val, 0] : Fin 2 → ℕ) a + S1x128.size a ≤ S288x128.size a := by revert b; decide
theorem inbO (b : Fin 288) : ∀ a, (![64 * b.val, 0] : Fin 2 → ℕ) a + S64x512.size a ≤ S18432x512.size a := by revert b; decide
theorem inbSC (c : Fin 4) : ∀ a, (![0, 128 * c.val] : Fin 2 → ℕ) a + S16384x128.size a ≤ S16384x512.size a := by revert c; decide
theorem inbRC (c : Fin 4) : ∀ a, (![0, 128 * c.val] : Fin 2 → ℕ) a + S64x128.size a ≤ S64x512.size a := by revert c; decide

/-- Index slot `p`. -/
abbrev iSlot (p : Fin 2) : Memref sig .scVector .vmem S1x128 .i32 :=
  (iV.slice (Rect.unit (s := S2x1x128) ![p.val, 0, 0] S1x1x128.size (inbI p)) (fun _ => rfl)).squeeze S1x128 squeezes_S1x1x128_S1x128
/-- Row slot `p`. -/
abbrev rSlot (p : Fin 2) : Memref sig .scVector .vmem S64x512 .i32 :=
  (rV.slice (Rect.unit (s := S2x64x512) ![p.val, 0, 0] S1x64x512.size (inbR p)) (fun _ => rfl)).squeeze S64x512 squeezes_S1x64x512_S64x512
/-- The semaphore of index slot `p`. -/
abbrev iSem (p : Fin 2) : DmaSem sig := ((cc0_scoped1.slice (Rect.unit (s := S2) ![p.val] S1.size (inbS p))).squeeze S_ squeezes_S1_S_).sem
/-- The semaphore of row slot `p`. -/
abbrev rSem (p : Fin 2) : DmaSem sig := ((cc0_scoped3.slice (Rect.unit (s := S2) ![p.val] S1.size (inbS p))).squeeze S_ squeezes_S1_S_).sem
/-- Row `b` of the index array. -/
abbrev xRow (b : Fin 288) : Memref sig .scVector .hbm S1x128 .i32 := xV.slice (Rect.unit (s := S288x128) ![b.val, 0] S1x128.size (inbX b)) (fun _ => rfl)
/-- Block `b` of the output: rows `64 b` to `64 b + 63`. -/
abbrev oBlk (b : Fin 288) : Memref sig .scVector .hbm S64x512 .i32 := oV.slice (Rect.unit (s := S18432x512) ![64 * b.val, 0] S64x512.size (inbO b)) (fun _ => rfl)
/-- Column window `c` as a rectangle of a row slot. -/
abbrev colR (c : Fin 4) : Rect S64x512 := Rect.unit (s := S64x512) ![0, 128 * c.val] S64x128.size (inbRC c)
/-- Column window `c` of the source. -/
abbrev sCol (c : Fin 4) : Memref sig .scVector .hbm S16384x128 .i32 := sV.slice (Rect.unit (s := S16384x512) ![0, 128 * c.val] S16384x128.size (inbSC c)) (fun _ => rfl)
/-- Column window `c` of row slot `p`. -/
abbrev rCol (p : Fin 2) (c : Fin 4) : Memref sig .scVector .vmem S64x128 .i32 := (rSlot p).slice (colR c) (fun _ => rfl)
/-- The list of row numbers in index slot `p`: its first sixty-four words. -/
abbrev iList (p : Fin 2) : Memref sig .scVector .vmem S64 .i32 :=
  ((iSlot p).slice (Rect.unit (s := S1x128) ![0, 0] S1x64.size inb_S1x128_S1x64_0_0) (fun _ => rfl)).squeeze S64 squeezes_S1x64_S64
/-- The semaphore of the gather of column window `c`. -/
abbrev gSem (c : Fin 4) : DmaSem sig := match c with | 0 => cc0_scoped4.sem | 1 => cc0_scoped5.sem | 2 => cc0_scoped6.sem | 3 => cc0_scoped7.sem

/-- Trip `t`'s block on the tile at `L`. -/
def blk (L : grid0.Coords) (t : ℕ) : Fin 288 := ⟨blkN L t % 288, Nat.mod_lt _ (by decide)⟩
theorem blk_val (L : grid0.Coords) {t : ℕ} (ht : t < 9) : (blk L t).val = blkN L t :=
  Nat.mod_eq_of_lt (by
    have h0 : (L 0).val < 2 := (L 0).isLt
    have h1 : (L 1).val < 16 := (L 1).isLt
    unfold blkN; omega)
/-- The parity of a count: the slot it falls in. -/
def par (t : ℕ) : Fin 2 := ⟨t % 2, Nat.mod_lt _ (by decide)⟩
theorem par_add_two (t : ℕ) : par (t + 2) = par t := Fin.ext (by unfold par; simp)

/-! ## The rows to be left -/

/-- Row `r`, column `j` of the source. -/
def sIx (r : Fin 16384) (j : Fin 512) : S16384x512.Idx := fun | 0 => r | 1 => j | ⟨_ + 2, h⟩ => absurd h (by simp)
/-- Row `b`, column `j` of the index array. -/
def xIx (b : Fin 288) (j : Fin 128) : S288x128.Idx := fun | 0 => b | 1 => j | ⟨_ + 2, h⟩ => absurd h (by simp)

/-- A word as a row number, clamped to the last row. -/
def rowOf (v : BitVec 32) : Fin 16384 := ⟨min v.toNat 16383, by omega⟩

/-- The gathered rows: row `z` is the source's row named by word `z % 64` of the index array's row `z / 64`. -/
def goal {α : Type} (src : S16384x512.Idx → α) (X : S288x128.Idx → BitVec 32) : S18432x512.Idx → α := fun z =>
  src (sIx (rowOf (X (xIx ⟨(z 0).val / 64, by have h : (z 0).val < 18432 := (z 0).isLt; omega⟩ ⟨(z 0).val % 64, by omega⟩))) (z 1))

end Cert.Proof.Gather

end
-- ==== Proof.GatherOps.lean ====
/-
  The gather's transfers, one lemma each: the fetch of an index row into a slot and its wait, the write-out of a block and
  its wait. Each is stated at the views of `GatherSetup`, the program's own offsets entering by equations.
-/
module

public import proofs.«01_k».proof.Proof.GatherSetup

@[expose] public section

noncomputable section

namespace Cert.Proof.Gather

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (d : Dev nD) (L : grid0.Coords)
variable (src : Buf (Elt F) (sLoc d)) (X : Buf (Elt F) (xLoc d)) (q : Fin 2 → PosShare TreeShare)

/-! ## Resources of the two kinds of slot -/

/-- Index slot `p` idle: its words at anything, its share of the index array, its semaphore at zero. -/
def iIdle (p : Fin 2) : sProp 𝕄 :=
  iprop((∃ f, (iSlot p).view.loc (tile d L) ↦[(iSlot p).view.set]{fullShare} f) ∗ (xLoc d ↦{q p} X) ∗ semVal (tile d L, SemLoc.dma (iSem p)) 0)
/-- Index slot `p` holding row `b` of the index array. -/
def iHas (p : Fin 2) (b : Fin 288) : sProp 𝕄 :=
  iprop((∃ f, ⌜(iSlot p).view.read (Elt F) f = (xRow b).view.read (Elt F) X⌝ ∗ (iSlot p).view.loc (tile d L) ↦[(iSlot p).view.set]{fullShare} f))
/-- The fetch of row `b` into index slot `p`, in flight. -/
def IFl (p : Fin 2) (b : Fin 288) : sProp 𝕄 :=
  iprop(Transfers.Flight countersEmb (tile d L) (SemLoc.dma (iSem p)) (default : HIx 1) (iSlot p).view.dmaCredit
      iprop(iHas d L X p b ∗ ((xRow b).view.loc (tile d L) ↦[(xRow b).view.set]{q p} X))
    ∗ (xLoc d ↦[Finset.univ \ (xRow b).view.set]{q p} X))

/-- Row slot `p` idle. -/
def rIdle (p : Fin 2) : sProp 𝕄 :=
  iprop((∃ f, (rSlot p).view.loc (tile d L) ↦[(rSlot p).view.set]{fullShare} f) ∗ semVal (tile d L, SemLoc.dma (rSem p)) 0)
/-- Block `b` of the output at contents `f`. -/
def oPtsB (b : Fin 288) (f : Buf (Elt F) (oLoc d)) : sProp 𝕄 := iprop(oLoc d ↦[(oBlk b).view.set]{fullShare} f)
/-- The write-out of block `b` from row slot `p`, in flight. -/
def RFl (p : Fin 2) (b : Fin 288) : sProp 𝕄 :=
  Transfers.Flight countersEmb (tile d L) (SemLoc.dma (rSem p)) (default : HIx 1) (oBlk b).view.dmaCredit
      iprop(oPtsB d b (goal src X) ∗ (∃ f, (rSlot p).view.loc (tile d L) ↦[(rSlot p).view.set]{fullShare} f))

/-! ## The index rows -/

theorem wp_idxStart {α : Type} (p : Fin 2) (b : Fin 288) {o4 : Fin 3 → ℕ} {o5 : Fin 2 → ℕ} {o6 : Fin 1 → ℕ}
    (e4 : o4 = ![p.val, 0, 0]) (e5 : o5 = ![b.val, 0]) (e6 : o6 = ![p.val])
    (h4 : ∀ a, o4 a + S1x1x128.size a ≤ S2x1x128.size a) (h5 : ∀ a, o5 a + S1x128.size a ≤ S288x128.size a) (h6 : ∀ a, o6 a + S1.size a ≤ S2.size a)
    {hsrc hdst hsem} {k : PUnit → Prog (TpuEff nD τ sig (Elt F) Λ₀ (tile d L).2) α} {Q : α → sProp 𝕄} :
    iIdle d L X q p
      ⊢ iprop((IFl d L X q p b -∗ wp frame (wpE (defs₀ (F := F)) 𝒱₀ (tile d L) none) Set.univ (k ⟨⟩) Q)
        -∗ wp frame (wpE (defs₀ (F := F)) 𝒱₀ (tile d L) none) Set.univ
          (.op (.enqueueDma (xV.slice (Rect.unit (s := S288x128) o5 S1x128.size h5) (fun _ => rfl))
            (.here ((iV.slice (Rect.unit (s := S2x1x128) o4 S1x1x128.size h4) (fun _ => rfl)).squeeze S1x128 squeezes_S1x1x128_S1x128))
            (.dma ((cc0_scoped1.slice (Rect.unit (s := S2) o6 S1.size h6)).squeeze S_ squeezes_S1_S_).sem) hsrc hdst hsem) k) Q) := by
  subst e4 e5 e6
  unfold iIdle IFl
  iintro ⟨⟨%f, Hf⟩, Hx, Hs⟩ Hk
  ihave Hx' := (pointsTo_split_subset (q := q p) (f := X) (S := Finset.univ) (Finset.subset_univ (xRow b).view.set)).1 $$ Hx
  icases Hx' with ⟨Hx, Hxr⟩
  iapply (Transfers.wp_dmaLocal countersEmb 𝒱₀ (tile d L) none (src := xRow b) (dst := iSlot p) (default : HIx 1) (iSlot p).view.dmaCredit rfl
    (View.dmaCredit_pos _ (by decide)) (Finset.Subset.refl _)) $$ [Hx Hf Hs]
  · isplitl [Hx]; · iexact Hx
    isplitl [Hf]; · iexact Hf
    iexact Hs
  iintro HF
  iapply Hk
  isplitl [HF]
  · iapply (Transfers.Flight_mono countersEmb (tile d L) (by
      iintro ⟨Hd, Hx⟩
      isplitl [Hd]
      · unfold iHas
        iexists _; isplitr
        swap; · iexact Hd
        ipureintro; exact View.read_write_univ _ _
      · iexact Hx)) $$ HF
  · iexact Hxr

theorem wp_idxWait {α : Type} (p : Fin 2) (b : Fin 288) {o7 : Fin 3 → ℕ} {o8 : Fin 2 → ℕ} {o9 : Fin 1 → ℕ}
    (e7 : o7 = ![p.val, 0, 0]) (e9 : o9 = ![p.val])
    (h7 : ∀ a, o7 a + S1x1x128.size a ≤ S2x1x128.size a) (h8 : ∀ a, o8 a + S1x128.size a ≤ S288x128.size a) (h9 : ∀ a, o9 a + S1.size a ≤ S2.size a)
    {hsrc hdst} {k : PUnit → Prog (TpuEff nD τ sig (Elt F) Λ₀ (tile d L).2) α} {Q : α → sProp 𝕄} {O : CellTallies nD τ sig (HIx 1)} {W : Waits sig (HIx 1)} :
    iprop(IFl d L X q p b ∗ owes (tile d L) O W ∗ Transfers.MayWaits (tile d L) (default : HIx 1) O)
      ⊢ iprop((iprop(iHas d L X p b ∗ (xLoc d ↦{q p} X) ∗ semVal (tile d L, SemLoc.dma (iSem p)) 0 ∗ owes (tile d L) O (insert (SemLoc.dma (iSem p), default) W))
            -∗ wp frame (wpE (defs₀ (F := F)) 𝒱₀ (tile d L) none) Set.univ (k ⟨⟩) Q)
        -∗ wp frame (wpE (defs₀ (F := F)) 𝒱₀ (tile d L) none) Set.univ
          (.op (.waitDma2 ((cc0_scoped1.slice (Rect.unit (s := S2) o9 S1.size h9)).squeeze S_ squeezes_S1_S_).sem
            (xV.slice (Rect.unit (s := S288x128) o8 S1x128.size h8) (fun _ => rfl))
            ((iV.slice (Rect.unit (s := S2x1x128) o7 S1x1x128.size h7) (fun _ => rfl)).squeeze S1x128 squeezes_S1x1x128_S1x128) hsrc hdst) k) Q) := by
  subst e7 e9
  unfold IFl
  iintro ⟨⟨HF, Hxr⟩, HO, Hmw⟩ Hk
  iapply (Transfers.wp_waitLocalO countersEmb 𝒱₀ (tile d L) none (dstw := iSlot p) (default : HIx 1) rfl) $$ [HF HO Hmw]
  · isplitl [HF]; · iexact HF
    isplitl [HO]; · iexact HO
    iapply (Transfers.MayWaits.elim (SemLoc.dma (iSem p))) $$ Hmw
  iintro ⟨⟨Hd, Hx⟩, Hs, HO⟩
  iapply Hk
  isplitl [Hd]; · iexact Hd
  isplitl [Hx Hxr]
  · iapply (pointsTo_split_subset (q := q p) (f := X) (S := Finset.univ) (Finset.subset_univ (xRow b).view.set)).2
    isplitl [Hx]; · iexact Hx
    iexact Hxr
  isplitl [Hs]; · iexact Hs
  iexact HO

/-! ## The blocks -/

/-- Row slot `p` holding block `b`'s gathered rows. -/
def rHas (p : Fin 2) (b : Fin 288) : sProp 𝕄 :=
  iprop(∃ f, ⌜(rSlot p).view.read (Elt F) f = (oBlk b).view.read (Elt F) (goal src X)⌝ ∗ (rSlot p).view.loc (tile d L) ↦[(rSlot p).view.set]{fullShare} f)

theorem wp_outStart {α : Type} (p : Fin 2) (b : Fin 288) {o12 : Fin 3 → ℕ} {o13 : Fin 2 → ℕ} {o14 : Fin 1 → ℕ}
    (e12 : o12 = ![p.val, 0, 0]) (e13 : o13 = ![64 * b.val, 0]) (e14 : o14 = ![p.val])
    (h12 : ∀ a, o12 a + S1x64x512.size a ≤ S2x64x512.size a) (h13 : ∀ a, o13 a + S64x512.size a ≤ S18432x512.size a) (h14 : ∀ a, o14 a + S1.size a ≤ S2.size a)
    {hsrc hdst hsem} {k : PUnit → Prog (TpuEff nD τ sig (Elt F) Λ₀ (tile d L).2) α} {Q : α → sProp 𝕄} (o0 : Buf (Elt F) (oLoc d)) :
    iprop(rHas d L src X p b ∗ oPtsB d b o0 ∗ semVal (tile d L, SemLoc.dma (rSem p)) 0)
      ⊢ iprop((RFl d L src X p b -∗ wp frame (wpE (defs₀ (F := F)) 𝒱₀ (tile d L) none) Set.univ (k ⟨⟩) Q)
        -∗ wp frame (wpE (defs₀ (F := F)) 𝒱₀ (tile d L) none) Set.univ
          (.op (.enqueueDma ((rV.slice (Rect.unit (s := S2x64x512) o12 S1x64x512.size h12) (fun _ => rfl)).squeeze S64x512 squeezes_S1x64x512_S64x512)
            (.here (oV.slice (Rect.unit (s := S18432x512) o13 S64x512.size h13) (fun _ => rfl)))
            (.dma ((cc0_scoped3.slice (Rect.unit (s := S2) o14 S1.size h14)).squeeze S_ squeezes_S1_S_).sem) hsrc hdst hsem) k) Q) := by
  subst e12 e13 e14
  unfold rHas RFl oPtsB
  iintro ⟨⟨%f, %hf, Hf⟩, Ho, Hs⟩ Hk
  iapply (Transfers.wp_dmaLocal countersEmb 𝒱₀ (tile d L) none (src := rSlot p) (dst := oBlk b) (default : HIx 1) (oBlk b).view.dmaCredit rfl
    (View.dmaCredit_pos _ (by decide)) (Finset.Subset.refl _)) $$ [Hf Ho Hs]
  · isplitl [Hf]; · iexact Hf
    isplitl [Ho]; · iexact Ho
    iexact Hs
  iintro HF
  iapply Hk
  iapply (Transfers.Flight_mono countersEmb (tile d L) (by
      iintro ⟨Hd, Hx⟩
      isplitl [Hd]
      · iapply (Entails.of_eq (pointsTo_congr (f := (oBlk b).view.write (Elt F) o0 (ReadAs.same.apply ((rSlot p).view.read (Elt F) f)) Finset.univ) (g := goal src X) (by
          intro i hi
          obtain ⟨y, -, rfl⟩ := Finset.mem_map.mp hi
          refine (View.write_emb_of_mem _ _ (Finset.mem_univ y)).trans ?_
          show _root_.cast _ ((rSlot p).view.read (Elt F) f y) = _
          rw [hf]; rfl)))
        iexact Hd
      · iexists f; iexact Hx)) $$ HF

theorem wp_outWait {α : Type} (p : Fin 2) (b : Fin 288) {o15 : Fin 3 → ℕ} {o16 : Fin 2 → ℕ} {o17 : Fin 1 → ℕ}
    (e16 : o16 = ![64 * b.val, 0]) (e17 : o17 = ![p.val])
    (h15 : ∀ a, o15 a + S1x64x512.size a ≤ S2x64x512.size a) (h16 : ∀ a, o16 a + S64x512.size a ≤ S18432x512.size a) (h17 : ∀ a, o17 a + S1.size a ≤ S2.size a)
    {hsrc hdst} {k : PUnit → Prog (TpuEff nD τ sig (Elt F) Λ₀ (tile d L).2) α} {Q : α → sProp 𝕄} {O : CellTallies nD τ sig (HIx 1)} {W : Waits sig (HIx 1)} :
    iprop(RFl d L src X p b ∗ owes (tile d L) O W ∗ Transfers.MayWaits (tile d L) (default : HIx 1) O)
      ⊢ iprop((iprop(oPtsB d b (goal src X) ∗ rIdle d L p ∗ owes (tile d L) O (insert (SemLoc.dma (rSem p), default) W))
            -∗ wp frame (wpE (defs₀ (F := F)) 𝒱₀ (tile d L) none) Set.univ (k ⟨⟩) Q)
        -∗ wp frame (wpE (defs₀ (F := F)) 𝒱₀ (tile d L) none) Set.univ
          (.op (.waitDma2 ((cc0_scoped3.slice (Rect.unit (s := S2) o17 S1.size h17)).squeeze S_ squeezes_S1_S_).sem
            ((rV.slice (Rect.unit (s := S2x64x512) o15 S1x64x512.size h15) (fun _ => rfl)).squeeze S64x512 squeezes_S1x64x512_S64x512)
            (oV.slice (Rect.unit (s := S18432x512) o16 S64x512.size h16) (fun _ => rfl)) hsrc hdst) k) Q) := by
  subst e16 e17
  unfold RFl rIdle
  iintro ⟨HF, HO, Hmw⟩ Hk
  iapply (Transfers.wp_waitLocalO countersEmb 𝒱₀ (tile d L) none (dstw := oBlk b) (default : HIx 1) rfl) $$ [HF HO Hmw]
  · isplitl [HF]; · iexact HF
    isplitl [HO]; · iexact HO
    iapply (Transfers.MayWaits.elim (SemLoc.dma (rSem p))) $$ Hmw
  iintro ⟨⟨Hd, Hx⟩, Hs, HO⟩
  iapply Hk
  isplitl [Hd]; · iexact Hd
  isplitl [Hx Hs]
  · isplitl [Hx]; · iexact Hx
    iexact Hs
  iexact HO

end Cert.Proof.Gather

end
-- ==== Proof.GatherCols.lean ====
/-
  One column window of a block: the indirect gather's start and wait. Before window `c` a row slot holds the block's first
  `c` windows; the gather writes window `c` and leaves the others.
-/
module

public import proofs.«01_k».proof.Proof.GatherOps

@[expose] public section

noncomputable section

namespace Cert.Proof.Gather

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## What a window's gather writes -/

/-- The list in index slot `p`, word for word the block's row of the index array. -/
theorem iList_read (p : Fin 2) (b : Fin 288) (fo : S2x1x128.Idx → BitVec 32) (X : S288x128.Idx → BitVec 32)
    (h : (iSlot p).view.read (Elt F) fo = (xRow b).view.read (Elt F) X) (y : S64.Idx) :
    (iList p).view.read (Elt F) fo y = X (xIx b ⟨(y 0).val, by have h : (y 0).val < 64 := (y 0).isLt; omega⟩) := by
  have e : (iList p).view.read (Elt F) fo y = (iSlot p).view.read (Elt F) fo
      ((Rect.unit (s := S1x128) ![0, 0] S1x64.size inb_S1x128_S1x64_0_0).emb (Shape.reshapeEquiv squeezes_S1x64_S64.numel_eq y)) := rfl
  rw [e, h]
  have e2 : Shape.reshapeEquiv squeezes_S1x64_S64.numel_eq y = (Fin.cons ⟨0, Nat.one_pos⟩ y : S1x64.Idx) :=
    Shape.reshapeEquiv_cons_one (n := 1) (d := ![64]) _ y
  rw [e2]
  show X ((Rect.unit (s := S288x128) ![b.val, 0] S1x128.size (inbX b)).emb _) = _
  congr 1
  funext a
  fin_cases a <;> refine Fin.ext ?_ <;> rw [Rect.emb_apply]
  · show b.val + 1 * (0 + 1 * 0) = b.val
    omega
  · show 0 + 1 * (0 + 1 * (y 0).val) = (y 0).val
    omega

/-- Entry `r` of a list. -/
def eIx (r : Fin 64) : S64.Idx := fun | 0 => r | ⟨_ + 1, h⟩ => absurd h (by simp)

theorem payload_eq (p : Fin 2) (b : Fin 288) (c : Fin 4) (src : S16384x512.Idx → BitVec 32) (fo : S2x1x128.Idx → BitVec 32) (X : S288x128.Idx → BitVec 32)
    (h : (iSlot p).view.read (Elt F) fo = (xRow b).view.read (Elt F) X)
    (hn : S64.numel = S64x128.size gathers_S16384x128_S64x128.axis')
    (hin : ∀ x, ((iList p).view.read (Elt F) fo x).toNat < S16384x128.size gathers_S16384x128_S64x128.axis) (x : S64x128.Idx) :
    SparseCore.gatherPayload (F := F) (e := .i32) gathers_S16384x128_S64x128 ((sCol c).view.read (Elt F) src) (SparseCore.rows (F := F) ((iList p).view.read (Elt F) fo) hn hin) x
      = (oBlk b).view.read (Elt F) (goal src X) ((colR c).emb x) := by
  have hr : ((gathers_S16384x128_S64x128.idx (SparseCore.rows (F := F) ((iList p).view.read (Elt F) fo) hn hin) x) 0).val
      = (X (xIx b ⟨(x 0).val, by have h : (x 0).val < 64 := (x 0).isLt; omega⟩)).toNat := by
    have h1 := Shape.Gathers.idx_axis gathers_S16384x128_S64x128 (SparseCore.rows (F := F) ((iList p).view.read (Elt F) fo) hn hin) x
    have h2 : (gathers_S16384x128_S64x128.idx (SparseCore.rows (F := F) ((iList p).view.read (Elt F) fo) hn hin) x 0).val
        = ((SparseCore.rows (F := F) ((iList p).view.read (Elt F) fo) hn hin) (x 0)).val := congrArg Fin.val h1
    rw [h2]
    unfold SparseCore.rows
    show BitVec.toNat _ = _
    rw [iList_read p b fo X h]
    congr 3
    refine Fin.ext ?_
    show ((S64.rowMajor.symm ((x 0).cast _)) 0).val = (x 0).val
    have h3 := Shape.rowMajor_val_one (d := ![64]) (S64.rowMajor.symm ((x 0).cast hn.symm))
    rw [← h3]
    show (S64.rowMajor (S64.rowMajor.symm _)).val = _
    rw [Equiv.apply_symm_apply]; rfl
  have hc : ((gathers_S16384x128_S64x128.idx (SparseCore.rows (F := F) ((iList p).view.read (Elt F) fo) hn hin) x) 1).val = (x 1).val := by
    have h1 := Shape.Gathers.idx_of_ne gathers_S16384x128_S64x128 (SparseCore.rows (F := F) ((iList p).view.read (Elt F) fo) hn hin) x 1 (by decide)
    exact h1
  have hx := hin (eIx ⟨(x 0).val, (x 0).isLt⟩)
  rw [iList_read p b fo X h] at hx
  have hx' : (X (xIx b ⟨(x 0).val, by have h : (x 0).val < 64 := (x 0).isLt; omega⟩)).toNat < 16384 := hx
  unfold SparseCore.gatherPayload
  show src ((Rect.unit (s := S16384x512) ![0, 128 * c.val] S16384x128.size (inbSC c)).emb _)
    = goal src X ((Rect.unit (s := S18432x512) ![64 * b.val, 0] S64x512.size (inbO b)).emb ((colR c).emb x))
  unfold goal
  have h0 : (x 0).val < 64 := (x 0).isLt
  have hz0 : ((Rect.unit (s := S18432x512) ![64 * b.val, 0] S64x512.size (inbO b)).emb ((colR c).emb x) 0).val = 64 * b.val + (x 0).val := by
    rw [Rect.emb_apply, Rect.emb_apply]
    show 64 * b.val + 1 * (0 + 1 * (x 0).val) = _
    omega
  have hz1 : ((Rect.unit (s := S18432x512) ![64 * b.val, 0] S64x512.size (inbO b)).emb ((colR c).emb x) 1).val = 128 * c.val + (x 1).val := by
    rw [Rect.emb_apply, Rect.emb_apply]
    show 0 + 1 * (128 * c.val + 1 * (x 1).val) = _
    omega
  congr 1
  funext a
  fin_cases a
  · refine Fin.ext ?_
    rw [Rect.emb_apply]
    show 0 + 1 * (gathers_S16384x128_S64x128.idx _ x 0).val = min (X _).toNat 16383
    rw [hr]
    have e : xIx ⟨((Rect.unit (s := S18432x512) ![64 * b.val, 0] S64x512.size (inbO b)).emb ((colR c).emb x) 0).val / 64, by rw [hz0]; omega⟩
        ⟨((Rect.unit (s := S18432x512) ![64 * b.val, 0] S64x512.size (inbO b)).emb ((colR c).emb x) 0).val % 64, by omega⟩
        = xIx b ⟨(x 0).val, by omega⟩ := by
      congr 1 <;> refine Fin.ext ?_ <;> simp only [hz0] <;> omega
    rw [e]; omega
  · refine Fin.ext ?_
    rw [Rect.emb_apply]
    show 128 * c.val + 1 * (gathers_S16384x128_S64x128.idx _ x 1).val = _
    rw [hc]
    refine Eq.trans ?_ hz1.symm
    omega

variable [FloatOps F]
variable (d : Dev nD) (L : grid0.Coords)
variable (src : Buf (Elt F) (sLoc d)) (X : Buf (Elt F) (xLoc d)) (qs : PosShare TreeShare)

/-- Row slot `p` holding the first `c` column windows of block `b`. -/
def rPart (p : Fin 2) (b : Fin 288) (c : ℕ) : sProp 𝕄 :=
  iprop(∃ f, ⌜∀ c' : Fin 4, c'.val < c → ∀ x : S64x128.Idx, (rSlot p).view.read (Elt F) f ((colR c').emb x) = (oBlk b).view.read (Elt F) (goal src X) ((colR c').emb x)⌝
    ∗ (rSlot p).view.loc (tile d L) ↦[(rSlot p).view.set]{fullShare} f)

abbrev hgN : ℕ := (rCol 0 0).view.dmaCredit

/-- The gather of window `c` of block `b` into row slot `p`, in flight. -/
def GFl (gs : DmaSem sig) (p : Fin 2) (b : Fin 288) (c : Fin 4) : sProp 𝕄 :=
  iprop(∃ f fo, ⌜∀ c' : Fin 4, c'.val < c.val + 1 → ∀ x : S64x128.Idx, (rSlot p).view.read (Elt F) f ((colR c').emb x) = (oBlk b).view.read (Elt F) (goal src X) ((colR c').emb x)⌝
    ∗ ⌜(iSlot p).view.read (Elt F) fo = (xRow b).view.read (Elt F) X⌝
    ∗ Transfers.Flight countersEmb (tile d L) (SemLoc.dma gs) (default : HIx 1) (rCol p c).view.dmaCredit
        iprop(((rCol p c).view.loc (tile d L) ↦[(rCol p c).view.set]{fullShare} f) ∗ ((sCol c).view.loc (tile d L) ↦[(sCol c).view.set]{qs} src)
          ∗ ((iList p).view.loc (tile d L) ↦[(iList p).view.set]{fullShare} fo))
    ∗ ((rSlot p).view.loc (tile d L) ↦[(rSlot p).view.set \ (rCol p c).view.set]{fullShare} f)
    ∗ (sLoc d ↦[Finset.univ \ (sCol c).view.set]{qs} src)
    ∗ ((iSlot p).view.loc (tile d L) ↦[(iSlot p).view.set \ (iList p).view.set]{fullShare} fo))

theorem rCol_sub (p : Fin 2) (c : Fin 4) : (rCol p c).view.set ⊆ (rSlot p).view.set := by
  intro i hi
  obtain ⟨y, -, rfl⟩ := Finset.mem_map.mp hi
  exact Finset.mem_map_of_mem _ (Finset.mem_univ _)
theorem iList_sub (p : Fin 2) : (iList p).view.set ⊆ (iSlot p).view.set := by
  intro i hi
  obtain ⟨y, -, rfl⟩ := Finset.mem_map.mp hi
  exact Finset.mem_map_of_mem _ (Finset.mem_univ _)

theorem colR_ne {c c' : Fin 4} (h : c' ≠ c) (x : S64x128.Idx) : (colR c').emb x ∉ Finset.univ.map (colR c).emb := by
  intro hm
  obtain ⟨y, -, hy⟩ := Finset.mem_map.mp hm
  have h1 := congrArg Fin.val (congrFun hy 1)
  rw [Rect.emb_apply, Rect.emb_apply] at h1
  have h2 : 128 * c.val + 1 * (y 1).val = 128 * c'.val + 1 * (x 1).val := h1
  have hy1 : (y 1).val < 128 := (y 1).isLt
  have hx1 : (x 1).val < 128 := (x 1).isLt
  exact h (Fin.ext (by omega))

theorem hN_col (p : Fin 2) (c : Fin 4) : ∀ hg : S16384x128.Gathers 0 S64x128,
    ∑ j, ((rCol p c).slice (S64x128.rowRect hg.axis' j) (S64x128.stride_rowRect hg.axis' j)).view.dmaCredit = (rCol p c).view.dmaCredit := by
  revert p c; decide

theorem wp_colStart {α : Type} (hX : ∀ y, (X y).toNat < 16384) (gs : DmaSem sig) (p : Fin 2) (b : Fin 288) (c : Fin 4)
    {o10 o11 : Fin 3 → ℕ} {oc oc' : Fin 2 → ℕ} (e10 : o10 = ![p.val, 0, 0]) (e11 : o11 = ![p.val, 0, 0]) (ec : oc = ![0, 128 * c.val]) (ec' : oc' = ![0, 128 * c.val])
    (h10 : ∀ a, o10 a + S1x64x512.size a ≤ S2x64x512.size a) (h11 : ∀ a, o11 a + S1x1x128.size a ≤ S2x1x128.size a)
    (hc : ∀ a, oc a + S16384x128.size a ≤ S16384x512.size a) (hc' : ∀ a, oc' a + S64x128.size a ≤ S64x512.size a)
    {hp hn hsrc he hsp hr} {k : PUnit → Prog (TpuEff nD τ sig (Elt F) Λ₀ (tile d L).2) α} {Q : α → sProp 𝕄} :
    iprop(rPart d L src X p b c.val ∗ iHas d L X p b ∗ (sLoc d ↦{qs} src) ∗ semVal (tile d L, SemLoc.dma gs) 0)
      ⊢ iprop((GFl d L src X qs gs p b c -∗ wp frame (wpE (defs₀ (F := F)) 𝒱₀ (tile d L) none) Set.univ (k ⟨⟩) Q)
        -∗ wp frame (wpE (defs₀ (F := F)) 𝒱₀ (tile d L) none) Set.univ
          (SparseCore.enqueueIndirectGather hp (sV.slice (Rect.unit (s := S16384x512) oc S16384x128.size hc) (fun _ => rfl))
            (((rV.slice (Rect.unit (s := S2x64x512) o10 S1x64x512.size h10) (fun _ => rfl)).squeeze S64x512 squeezes_S1x64x512_S64x512).slice
              (Rect.unit (s := S64x512) oc' S64x128.size hc') (fun _ => rfl))
            gathers_S16384x128_S64x128
            ((((iV.slice (Rect.unit (s := S2x1x128) o11 S1x1x128.size h11) (fun _ => rfl)).squeeze S1x128 squeezes_S1x1x128_S1x128).slice
              (Rect.unit (s := S1x128) ![0, 0] S1x64.size inb_S1x128_S1x64_0_0) (fun _ => rfl)).squeeze S64 squeezes_S1x64_S64) hn gs hsrc he hsp hr >>= k) Q) := by
  subst e10 e11 ec ec'
  unfold rPart iHas GFl
  iintro ⟨⟨%f, %hf, Hf⟩, ⟨%fo, %hfo, Hi⟩, Hs, Hv⟩ Hk
  ihave Hs' := (pointsTo_split_subset (q := qs) (f := src) (S := Finset.univ) (Finset.subset_univ (sCol c).view.set)).1 $$ Hs
  icases Hs' with ⟨Hs, Hsr⟩
  ihave Hf' := (pointsTo_split_subset (rCol_sub p c)).1 $$ Hf
  icases Hf' with ⟨Hf, Hfr⟩
  ihave Hi' := (pointsTo_split_subset (iList_sub p)).1 $$ Hi
  icases Hi' with ⟨Hi, Hir⟩
  have hin : ∀ x, ((iList p).view.read (Elt F) fo x).toNat < S16384x128.size gathers_S16384x128_S64x128.axis := fun x => by
    rw [iList_read p b fo X hfo]; exact hX _
  iapply (SparseCore.wp_indirectGatherLocal countersEmb 𝒱₀ (tile d L) none (src := sCol c) (dst := rCol p c) (hg := gathers_S16384x128_S64x128) (offs := iList p)
    (default : HIx 1) (rCol p c).view.dmaCredit (hN_col p c _) (by decide) hin) $$ [Hs Hf Hi Hv]
  · isplitl [Hs]; · iexact Hs
    isplitl [Hf]; · iexact Hf
    isplitl [Hi]; · iexact Hi
    iexact Hv
  iintro HF
  iapply Hk
  iexists _, fo
  isplitr
  swap
  · isplitr
    · ipureintro; exact hfo
    isplitl [HF]; · iexact HF
    isplitl [Hfr]
    · iapply (Entails.of_eq (SparseCore.pointsTo_rest_write (tile d L) (v := (rCol p c).view) f _)) $$ Hfr
    isplitl [Hsr]; · iexact Hsr
    iexact Hir
  · ipureintro
    intro c' hc'' x
    by_cases hcc : c' = c
    · subst hcc
      exact (View.read_slice_write_emb (v := (rSlot p).view) (colR c') f _ (Finset.mem_univ x)).trans (payload_eq p b c' src fo X hfo _ hin x)
    · refine (View.read_slice_write_of_not_mem (v := (rSlot p).view) (colR c) f _ Finset.univ (colR_ne hcc x)).trans (hf c' ?_ x)
      have : c'.val ≠ c.val := fun h => hcc (Fin.ext h)
      omega

theorem wp_colWait {α : Type} (gs : DmaSem sig) (p : Fin 2) (b : Fin 288) (c : Fin 4)
    {o10 : Fin 3 → ℕ} {oc oc' : Fin 2 → ℕ} (e10 : o10 = ![p.val, 0, 0]) (ec' : oc' = ![0, 128 * c.val])
    (h10 : ∀ a, o10 a + S1x64x512.size a ≤ S2x64x512.size a)
    (hc : ∀ a, oc a + S16384x128.size a ≤ S16384x512.size a) (hc' : ∀ a, oc' a + S64x128.size a ≤ S64x512.size a)
    {hsrc hdst} {k : PUnit → Prog (TpuEff nD τ sig (Elt F) Λ₀ (tile d L).2) α} {Q : α → sProp 𝕄} {O : CellTallies nD τ sig (HIx 1)} {W : Waits sig (HIx 1)} :
    iprop(GFl d L src X qs gs p b c ∗ owes (tile d L) O W ∗ Transfers.MayWaits (tile d L) (default : HIx 1) O)
      ⊢ iprop((iprop(rPart d L src X p b (c.val + 1) ∗ iHas d L X p b ∗ (sLoc d ↦{qs} src) ∗ semVal (tile d L, SemLoc.dma gs) 0 ∗ owes (tile d L) O (insert (SemLoc.dma gs, default) W))
            -∗ wp frame (wpE (defs₀ (F := F)) 𝒱₀ (tile d L) none) Set.univ (k ⟨⟩) Q)
        -∗ wp frame (wpE (defs₀ (F := F)) 𝒱₀ (tile d L) none) Set.univ
          (.op (.waitDma2 gs (sV.slice (Rect.unit (s := S16384x512) oc S16384x128.size hc) (fun _ => rfl))
            (((rV.slice (Rect.unit (s := S2x64x512) o10 S1x64x512.size h10) (fun _ => rfl)).squeeze S64x512 squeezes_S1x64x512_S64x512).slice
              (Rect.unit (s := S64x512) oc' S64x128.size hc') (fun _ => rfl)) hsrc hdst) k) Q) := by
  subst e10 ec'
  unfold GFl rPart iHas
  iintro ⟨⟨%f, %fo, %hf, %hfo, HF, Hfr, Hsr, Hir⟩, HO, Hmw⟩ Hk
  iapply (Transfers.wp_waitLocalO countersEmb 𝒱₀ (tile d L) none (dstw := rCol p c) (default : HIx 1) rfl) $$ [HF HO Hmw]
  · isplitl [HF]; · iexact HF
    isplitl [HO]; · iexact HO
    iapply (Transfers.MayWaits.elim (SemLoc.dma gs)) $$ Hmw
  iintro ⟨⟨Hf, Hs, Hi⟩, Hv, HO⟩
  iapply Hk
  isplitl [Hf Hfr]
  · iexists f; isplitr
    · ipureintro; exact hf
    iapply (pointsTo_split_subset (rCol_sub p c)).2
    isplitl [Hf]; · iexact Hf
    iexact Hfr
  isplitl [Hi Hir]
  · iexists fo; isplitr
    · ipureintro; exact hfo
    iapply (pointsTo_split_subset (iList_sub p)).2
    isplitl [Hi]; · iexact Hi
    iexact Hir
  isplitl [Hs Hsr]
  · iapply (pointsTo_split_subset (q := qs) (f := src) (S := Finset.univ) (Finset.subset_univ (sCol c).view.set)).2
    isplitl [Hs]; · iexact Hs
    iexact Hsr
  isplitl [Hv]; · iexact Hv
  iexact HO

/-- Row `r`, column `j` of a window. -/
def kIx (r : Fin 64) (j : Fin 128) : S64x128.Idx := fun | 0 => r | 1 => j | ⟨_ + 2, h⟩ => absurd h (by simp)

/-- All four windows gathered: the slot holds the block. -/
theorem rPart_full (p : Fin 2) (b : Fin 288) : rPart d L src X p b 4 ⊢ rHas d L src X p b := by
  unfold rPart rHas
  iintro ⟨%f, %hf, Hf⟩
  iexists f
  isplitr
  · ipureintro
    funext y
    have hy1 : (y 1).val < 512 := (y 1).isLt
    have e : y = (colR ⟨(y 1).val / 128, by omega⟩).emb (kIx (y 0) ⟨(y 1).val % 128, Nat.mod_lt _ (by decide)⟩) := by
      funext a
      fin_cases a <;> refine Fin.ext ?_ <;> rw [Rect.emb_apply]
      · show (y 0).val = 0 + 1 * (y 0).val
        omega
      · show (y 1).val = 128 * ((y 1).val / 128) + 1 * ((y 1).val % 128)
        omega
    rw [e]; exact hf _ (by simp only []; omega) _
  · iexact Hf

/-- An idle row slot holds no window. -/
theorem rPart_zero (p : Fin 2) (b : Fin 288) (f : Buf (Elt F) ((rSlot p).view.loc (tile d L))) :
    ((rSlot p).view.loc (tile d L) ↦[(rSlot p).view.set]{fullShare} f) ⊢ rPart d L src X p b 0 := by
  unfold rPart
  iintro Hf
  iexists f
  isplitr
  · ipureintro; intro c' h; exact absurd h (Nat.not_lt_zero _)
  iexact Hf

end Cert.Proof.Gather

end
-- ==== Proof.GatherParts.lean ====
/-
  One trip of the gather's pipeline, part by part: the next index row's fetch started, this trip's awaited, the four column
  windows gathered.
-/
module

public import proofs.«01_k».proof.Proof.GatherCols

@[expose] public section

noncomputable section

namespace Cert.Proof.Gather

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (d : Dev nD) (L : grid0.Coords)
variable (src : Buf (Elt F) (sLoc d)) (X : Buf (Elt F) (xLoc d)) (q : Fin 2 → PosShare TreeShare) (qs : PosShare TreeShare)
variable (O : CellTallies nD τ sig (HIx 1)) (W : Waits sig (HIx 1))

/-- What the tile still owes, its waits so far all of its own transfers. -/
def OW : sProp 𝕄 := iprop(∃ W', ⌜∀ p ∈ W', p ∈ W ∨ p.2 = none⌝ ∗ owes (tile d L) O W')

theorem OW_ins {W' : Waits sig (HIx 1)} (h : ∀ p ∈ W', p ∈ W ∨ p.2 = none) (s : SemLoc sig) :
    (owes (tile d L) O (insert (s, (default : HIx 1)) W') : sProp 𝕄) ⊢ OW d L O W := by
  unfold OW
  iintro HO
  iexists _; isplitr
  swap; · iexact HO
  ipureintro; intro p hp
  rcases Finset.mem_insert.mp hp with hp | hp
  · exact .inr (hp ▸ rfl)
  · exact h p hp

abbrev MW : sProp 𝕄 := Transfers.MayWaits (tile d L) (default : HIx 1) O

/-- The other index slot after trip `t`'s first part: the next row's fetch in flight, on the last trip still idle. -/
def nextI (t : ℕ) : sProp 𝕄 := if t < 8 then IFl d L X q (par (t + 1)) (blk L (t + 1)) else iIdle d L X q (par (t + 1))

abbrev v66 (t : Trip) : BitVec 32 := Scalar.addi (w10 t.val) (w4 L)
abbrev v71 (t : Trip) : BitVec 32 :=
  Scalar.addi (Scalar.select (Scalar.cmpi .eq (Scalar.select 1#1 (Scalar.subi (w10 t.val) 1#32) (w10 t.val)) 4294967295#32) 8#32
    (Scalar.select 1#1 (Scalar.subi (w10 t.val) 1#32) (w10 t.val))) (w4 L)
abbrev v76 (t : Trip) : BitVec 32 :=
  Scalar.addi (Scalar.select (Scalar.cmpi .eq (Scalar.select 1#1 (Scalar.addi (w10 t.val) 1#32) (w10 t.val)) 9#32) 0#32
    (Scalar.select 1#1 (Scalar.addi (w10 t.val) 1#32) (w10 t.val))) (w4 L)

theorem blk_eq (t : Trip) : (blk L t.val).val = blkN L t.val := blk_val L (by have := t.isLt; have := trips_eq; omega)

set_option maxHeartbeats 1000000 in
theorem wp_part1 (t : Trip) {Q : _ → sProp 𝕄} :
    iIdle d L X q (par (t.val + 1))
      ⊢ iprop((nextI d L X q t.val -∗ Q ⟨chk3_ok t, chk2_ok t, chk1_ok L t, Scf.iv 0#32 1#32 t, Scalar.cmpi .eq (Scf.iv 0#32 1#32 t) 0#32,
            Scalar.cmpi .eq (Scf.iv 0#32 1#32 t) 8#32, v66 L t, v71 L t, v76 L t,
            Scalar.select (Scalar.andi (Scalar.andi (Scalar.cmpi .ne (v66 L t) (v76 L t)) (Scalar.xori (Scalar.cmpi .sge (Scf.iv 0#32 1#32 t) 8#32) 1#1)) 1#1)
              (Scalar.addi (w6 t.val) 1#32) (w6 t.val), Scalar.cmpi .ne (v66 L t) (v71 L t)⟩)
        -∗ wp frame (wpE (defs₀ (F := F)) 𝒱₀ (tile d L) none) Set.univ
          (k0_part1 (F := F) L sV (Memref.isWhole_whole _) xV (Memref.isWhole_whole _) oV (Memref.isWhole_whole _) iV (Memref.isWhole_whole _) cc0_scoped1
            rV (Memref.isWhole_whole _) cc0_scoped3 cc0_scoped4 cc0_scoped5 cc0_scoped6 cc0_scoped7 (w4 L) 0#32 1#32 t (w6 t.val) (w7 t.val) (w7 t.val) (w9 t.val) (w10 t.val)) Q) := by
  simp only [k0_part1_eq_skeleton]; unfold k0_part1_skel
  simp only [Prog.lift, Prog.bind_op, Prog.bind_ret, Prog.pure_eq_ret, Prog.bind_assoc]
  iintro H HQ
  rw [wp_assume_of _ _ _ _ (chk3_ok t), wp_assume_of _ _ _ _ (chk2_ok t), wp_assume_of _ _ _ _ (chk1_ok L t)]
  by_cases ht : t.val < 8
  · simp only [dif_pos ((cond1_iff L t).mpr ht), Prog.bind_op, Prog.bind_ret]
    iapply (wp_idxStart d L X q (par (t.val + 1)) (blk L (t.val + 1)) (off4_eq t ht)
      ((off5_eq L t ht).trans (by rw [blk_val L (by omega)])) (off6_eq t ht)) $$ H
    iintro H
    unfold nextI; rw [if_pos ht, wp_ret]
    imodintro
    iapply HQ; iexact H
  · simp only [dif_neg (fun h => ht ((cond1_iff L t).mp h)), Prog.bind_ret]
    unfold nextI; rw [if_neg ht, wp_ret]
    imodintro
    iapply HQ; iexact H

set_option maxHeartbeats 1000000 in
theorem wp_part2 (hX : ∀ y, (X y).toNat < 16384) (t : Trip) {h3 h2 h1} {a5 v64 a66 a71 v96} {Q : _ → sProp 𝕄} :
    iprop(IFl d L X q (par t.val) (blk L t.val) ∗ rPart d L src X (par t.val) (blk L t.val) 0 ∗ (sLoc d ↦{qs} src) ∗ semVal (tile d L, SemLoc.dma (gSem 0)) 0
        ∗ OW d L O W ∗ MW d L O)
      ⊢ iprop((iprop(iHas d L X (par t.val) (blk L t.val) ∗ (xLoc d ↦{q (par t.val)} X) ∗ semVal (tile d L, SemLoc.dma (iSem (par t.val))) 0
            ∗ rPart d L src X (par t.val) (blk L t.val) 1 ∗ (sLoc d ↦{qs} src) ∗ semVal (tile d L, SemLoc.dma (gSem 0)) 0 ∗ OW d L O W) -∗ Q ⟨⟩)
        -∗ wp frame (wpE (defs₀ (F := F)) 𝒱₀ (tile d L) none) Set.univ
          (k0_part2 (F := F) L sV (Memref.isWhole_whole _) xV (Memref.isWhole_whole _) oV (Memref.isWhole_whole _) iV (Memref.isWhole_whole _) cc0_scoped1
            rV (Memref.isWhole_whole _) cc0_scoped3 cc0_scoped4 cc0_scoped5 cc0_scoped6 cc0_scoped7 t (w6 t.val) (w7 t.val) (w7 t.val) (w9 t.val) (w10 t.val)
            h3 h2 h1 a5 v64 a66 a71 v96) Q) := by
  simp only [k0_part2_eq_skeleton]; unfold k0_part2_skel
  simp only [Prog.lift, Prog.bind_op, Prog.bind_ret, Prog.pure_eq_ret, Prog.bind_assoc, dif_pos (cond2_ok L t), ite_self, SparseCore.waitIndirectGather]
  unfold OW
  iintro ⟨HI, HR, HS, HG, ⟨%W', %hW', HO⟩, #Hmw⟩ HQ
  iapply (wp_idxWait d L X q (par t.val) (blk L t.val) (off7_eq t) (off9_eq t)) $$ [HI HO]
  · isplitl [HI]; · iexact HI
    isplitl [HO]; · iexact HO
    iexact Hmw
  iintro ⟨HI, HX, HV, HO⟩
  iapply (wp_colStart d L src X qs hX (gSem 0) (par t.val) (blk L t.val) 0 (off10_eq t) (off11_eq t) rfl rfl) $$ [HI HR HS HG]
  · isplitl [HR]; · iexact HR
    isplitl [HI]; · iexact HI
    isplitl [HS]; · iexact HS
    iexact HG
  iintro HF
  ihave HO := (OW_ins d L O W hW' _) $$ HO
  unfold OW
  icases HO with ⟨%W'', %hW'', HO⟩
  iapply (wp_colWait d L src X qs (gSem 0) (par t.val) (blk L t.val) 0 (off10_eq t) rfl) $$ [HF HO]
  · isplitl [HF]; · iexact HF
    isplitl [HO]; · iexact HO
    iexact Hmw
  iintro ⟨HR, HI, HS, HG, HO⟩
  ihave HO := (OW_ins d L O W hW'' _) $$ HO
  unfold OW
  rw [wp_ret]; imodintro
  iapply HQ
  isplitl [HI]; · iexact HI
  isplitl [HX]; · iexact HX
  isplitl [HV]; · iexact HV
  isplitl [HR]; · iexact HR
  isplitl [HS]; · iexact HS
  isplitl [HG]; · iexact HG
  iexact HO

set_option maxHeartbeats 1000000 in
theorem wp_part3 (hX : ∀ y, (X y).toNat < 16384) (t : Trip) {h3 h2} {Q : _ → sProp 𝕄} :
    iprop(iHas d L X (par t.val) (blk L t.val) ∗ rPart d L src X (par t.val) (blk L t.val) 1 ∗ (sLoc d ↦{qs} src) ∗ semVal (tile d L, SemLoc.dma (gSem 1)) 0
        ∗ semVal (tile d L, SemLoc.dma (gSem 2)) 0 ∗ OW d L O W ∗ MW d L O)
      ⊢ iprop((iprop(GFl d L src X qs (gSem 2) (par t.val) (blk L t.val) 2 ∗ semVal (tile d L, SemLoc.dma (gSem 1)) 0 ∗ OW d L O W) -∗ Q ⟨⟩)
        -∗ wp frame (wpE (defs₀ (F := F)) 𝒱₀ (tile d L) none) Set.univ
          (k0_part3 (F := F) L sV (Memref.isWhole_whole _) xV (Memref.isWhole_whole _) oV (Memref.isWhole_whole _) iV (Memref.isWhole_whole _) cc0_scoped1
            rV (Memref.isWhole_whole _) cc0_scoped3 cc0_scoped4 cc0_scoped5 cc0_scoped6 cc0_scoped7 (w7 t.val) (w7 t.val) h3 h2) Q) := by
  simp only [k0_part3_eq_skeleton]; unfold k0_part3_skel
  simp only [Prog.lift, Prog.bind_op, Prog.bind_ret, Prog.pure_eq_ret, Prog.bind_assoc, SparseCore.waitIndirectGather]
  unfold OW
  iintro ⟨HI, HR, HS, HG, HG2, ⟨%W', %hW', HO⟩, #Hmw⟩ HQ
  iapply (wp_colStart d L src X qs hX (gSem 1) (par t.val) (blk L t.val) 1 (off10_eq t) (off11_eq t) rfl rfl) $$ [HI HR HS HG]
  · isplitl [HR]; · iexact HR
    isplitl [HI]; · iexact HI
    isplitl [HS]; · iexact HS
    iexact HG
  iintro HF
  iapply (wp_colWait d L src X qs (gSem 1) (par t.val) (blk L t.val) 1 (off10_eq t) rfl) $$ [HF HO]
  · isplitl [HF]; · iexact HF
    isplitl [HO]; · iexact HO
    iexact Hmw
  iintro ⟨HR, HI, HS, HG, HO⟩
  ihave HO := (OW_ins d L O W hW' _) $$ HO
  unfold OW
  iapply (wp_colStart d L src X qs hX (gSem 2) (par t.val) (blk L t.val) 2 (off10_eq t) (off11_eq t) rfl rfl) $$ [HI HR HS HG2]
  · isplitl [HR]; · iexact HR
    isplitl [HI]; · iexact HI
    isplitl [HS]; · iexact HS
    iexact HG2
  iintro HF
  rw [wp_ret]; imodintro
  iapply HQ
  isplitl [HF]; · iexact HF
  isplitl [HG]; · iexact HG
  iexact HO

set_option maxHeartbeats 1000000 in
theorem wp_part4 (hX : ∀ y, (X y).toNat < 16384) (t : Trip) {h3 h2} {v65 a66 a76} {Q : _ → sProp 𝕄} :
    iprop(GFl d L src X qs (gSem 2) (par t.val) (blk L t.val) 2 ∗ semVal (tile d L, SemLoc.dma (gSem 3)) 0 ∗ OW d L O W ∗ MW d L O)
      ⊢ iprop((iprop(iHas d L X (par t.val) (blk L t.val) ∗ rHas d L src X (par t.val) (blk L t.val) ∗ (sLoc d ↦{qs} src)
            ∗ semVal (tile d L, SemLoc.dma (gSem 2)) 0 ∗ semVal (tile d L, SemLoc.dma (gSem 3)) 0 ∗ OW d L O W)
            -∗ Q ⟨Scalar.ori (Scalar.cmpi .ne a66 a76) v65, Scalar.extui (Scalar.ori (Scalar.cmpi .ne a66 a76) v65)⟩)
        -∗ wp frame (wpE (defs₀ (F := F)) 𝒱₀ (tile d L) none) Set.univ
          (k0_part4 (F := F) L sV (Memref.isWhole_whole _) xV (Memref.isWhole_whole _) oV (Memref.isWhole_whole _) iV (Memref.isWhole_whole _) cc0_scoped1
            rV (Memref.isWhole_whole _) cc0_scoped3 cc0_scoped4 cc0_scoped5 cc0_scoped6 cc0_scoped7 (w7 t.val) (w7 t.val) h3 h2 v65 a66 a76) Q) := by
  simp only [k0_part4_eq_skeleton]; unfold k0_part4_skel
  simp only [Prog.lift, Prog.bind_op, Prog.bind_ret, Prog.pure_eq_ret, Prog.bind_assoc, SparseCore.waitIndirectGather, ite_self]
  unfold OW
  iintro ⟨HF, HG3, ⟨%W', %hW', HO⟩, #Hmw⟩ HQ
  iapply (wp_colWait d L src X qs (gSem 2) (par t.val) (blk L t.val) 2 (off10_eq t) rfl) $$ [HF HO]
  · isplitl [HF]; · iexact HF
    isplitl [HO]; · iexact HO
    iexact Hmw
  iintro ⟨HR, HI, HS, HG, HO⟩
  ihave HO := (OW_ins d L O W hW' _) $$ HO
  unfold OW
  icases HO with ⟨%W'', %hW'', HO⟩
  iapply (wp_colStart d L src X qs hX (gSem 3) (par t.val) (blk L t.val) 3 (off10_eq t) (off11_eq t) rfl rfl) $$ [HI HR HS HG3]
  · isplitl [HR]; · iexact HR
    isplitl [HI]; · iexact HI
    isplitl [HS]; · iexact HS
    iexact HG3
  iintro HF
  iapply (wp_colWait d L src X qs (gSem 3) (par t.val) (blk L t.val) 3 (off10_eq t) rfl) $$ [HF HO]
  · isplitl [HF]; · iexact HF
    isplitl [HO]; · iexact HO
    iexact Hmw
  iintro ⟨HR, HI, HS, HG3, HO⟩
  ihave HO := (OW_ins d L O W hW'' _) $$ HO
  ihave HR := (show rPart d L src X (par t.val) (blk L t.val) ((3 : Fin 4).val + 1) ⊢ rHas d L src X (par t.val) (blk L t.val) from
    rPart_full d L src X (par t.val) (blk L t.val)) $$ HR
  unfold OW
  rw [wp_ret]; imodintro
  iapply HQ
  isplitl [HI]; · iexact HI
  isplitl [HR]; · iexact HR
  isplitl [HS]; · iexact HS
  isplitl [HG]; · iexact HG
  isplitl [HG3]; · iexact HG3
  iexact HO

end Cert.Proof.Gather

end
-- ==== Proof.GatherTrip.lean ====
/-
  One trip of the gather's pipeline, whole, and the loop's invariant.
-/
module

public import proofs.«01_k».proof.Proof.GatherParts

@[expose] public section

noncomputable section

namespace Cert.Proof.Gather

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (d : Dev nD) (L : grid0.Coords)
variable (src : Buf (Elt F) (sLoc d)) (X : Buf (Elt F) (xLoc d)) (o0 : Buf (Elt F) (oLoc d)) (q : Fin 2 → PosShare TreeShare) (qs : PosShare TreeShare)
variable (O : CellTallies nD τ sig (HIx 1)) (W : Waits sig (HIx 1))

/-- The index slot whose turn trip `t` is: its row's fetch in flight, after the last trip idle. -/
def curI (t : ℕ) : sProp 𝕄 := if t < 9 then IFl d L X q (par t) (blk L t) else iIdle d L X q (par t)
/-- The row slot of the trip before: its write-out in flight, before the first trip idle. -/
def prevR (t : ℕ) : sProp 𝕄 := if t = 0 then rIdle d L (par (t + 1)) else RFl d L src X (par (t + 1)) (blk L (t - 1))
/-- The blocks still to be written. -/
def todo (t : ℕ) : sProp 𝕄 := bigSep (Finset.univ.filter fun n : Fin 9 => t ≤ n.val) fun n => oPtsB d (blk L n.val) o0
/-- The blocks written. -/
def done (t : ℕ) : sProp 𝕄 := bigSep (Finset.univ.filter fun n : Fin 9 => n.val + 1 < t) fun n => oPtsB d (blk L n.val) (goal src X)
/-- The four gather semaphores at zero. -/
def gSems : sProp 𝕄 :=
  iprop(semVal (tile d L, SemLoc.dma (gSem 0)) 0 ∗ semVal (tile d L, SemLoc.dma (gSem 1)) 0 ∗ semVal (tile d L, SemLoc.dma (gSem 2)) 0 ∗ semVal (tile d L, SemLoc.dma (gSem 3)) 0)

theorem todo_take {t : ℕ} (ht : t < 9) : (todo d L o0 t : sProp 𝕄) = iprop(oPtsB d (blk L t) o0 ∗ todo d L o0 (t + 1)) := by
  unfold todo
  rw [show (Finset.univ.filter fun n : Fin 9 => t ≤ n.val) = insert ⟨t, ht⟩ (Finset.univ.filter fun n : Fin 9 => t + 1 ≤ n.val) from by
      ext n; simp only [Finset.mem_filter, Finset.mem_univ, true_and, Finset.mem_insert, Fin.ext_iff]; omega,
    SparseCore.bigSep_insert' (by simp)]
theorem done_put {t : ℕ} (ht : t ≠ 0) (ht' : t < 10) : (done d L src X (t + 1) : sProp 𝕄) = iprop(oPtsB d (blk L (t - 1)) (goal src X) ∗ done d L src X t) := by
  unfold done
  rw [show (Finset.univ.filter fun n : Fin 9 => n.val + 1 < t + 1) = insert ⟨t - 1, by omega⟩ (Finset.univ.filter fun n : Fin 9 => n.val + 1 < t) from by
      ext n; simp only [Finset.mem_filter, Finset.mem_univ, true_and, Finset.mem_insert, Fin.ext_iff]; omega,
    SparseCore.bigSep_insert' (by simp; omega)]
theorem done_zero : (done d L src X 0 : sProp 𝕄) = iprop(emp) := by
  unfold done
  rw [show (Finset.univ.filter fun n : Fin 9 => n.val + 1 < 0) = ∅ from by ext n; simp]; exact bigSep_empty
theorem done_one : (done d L src X 1 : sProp 𝕄) = iprop(emp) := by
  unfold done
  rw [show (Finset.univ.filter fun n : Fin 9 => n.val + 1 < 1) = ∅ from by ext n; simp]; exact bigSep_empty

/-- The counters before trip `t`. -/
abbrev words (t : ℕ) : BitVec 32 × BitVec 32 × BitVec 32 × BitVec 32 × BitVec 32 := (w6 t, w7 t, w7 t, w9 t, w10 t)

/-- What the tile holds before trip `t`. -/
def INV (t : ℕ) (acc : BitVec 32 × BitVec 32 × BitVec 32 × BitVec 32 × BitVec 32) : sProp 𝕄 :=
  iprop(⌜acc = words t⌝ ∗ MW d L O ∗ OW d L O W ∗ curI d L X q t ∗ iIdle d L X q (par (t + 1)) ∗ prevR d L src X t ∗ rIdle d L (par t)
    ∗ (sLoc d ↦{qs} src) ∗ gSems d L ∗ todo d L o0 t ∗ done d L src X t)

set_option maxHeartbeats 4000000 in
theorem wp_trip (hX : ∀ y, (X y).toNat < 16384) (t : Trip) (acc : BitVec 32 × BitVec 32 × BitVec 32 × BitVec 32 × BitVec 32) :
    INV d L src X o0 q qs O W t.val acc
      ⊢ wp frame (wpE (defs₀ (F := F)) 𝒱₀ (tile d L) none) Set.univ
          (k0_t1_body (F := F) L sV (Memref.isWhole_whole _) xV (Memref.isWhole_whole _) oV (Memref.isWhole_whole _) iV (Memref.isWhole_whole _) cc0_scoped1
            rV (Memref.isWhole_whole _) cc0_scoped3 cc0_scoped4 cc0_scoped5 cc0_scoped6 cc0_scoped7 (w4 L) t acc)
          (INV d L src X o0 q qs O W (t.val + 1)) := by
  have ht : t.val < 9 := by have := t.isLt; have := trips_eq; omega
  unfold INV
  iintro ⟨%hacc, #Hmw, HO, HC, HN, HP, HR, HS, HG, HT, HD⟩
  subst hacc
  ihave HC := (Entails.of_eq (show (curI d L X q t.val : sProp 𝕄) = IFl d L X q (par t.val) (blk L t.val) by unfold curI; rw [if_pos ht])) $$ HC
  ihave HR := (Entails.of_eq (show (rIdle d L (par t.val) : sProp 𝕄) = _ by unfold rIdle; rfl)) $$ HR
  icases HR with ⟨⟨%fr, HR⟩, HRs⟩
  ihave HR := (rPart_zero d L src X (par t.val) (blk L t.val) fr) $$ HR
  unfold k0_t1_body words gSems
  icases HG with ⟨HG0, HG1, HG2, HG3⟩
  dsimp only
  rw [wp_bind]
  iapply (wp_part1 d L X q t) $$ HN
  iintro HN
  dsimp only
  rw [wp_bind]
  iapply (wp_part2 d L src X q qs O W hX t) $$ [HC HR HS HG0 HO]
  · isplitl [HC]; · iexact HC
    isplitl [HR]; · iexact HR
    isplitl [HS]; · iexact HS
    isplitl [HG0]; · iexact HG0
    isplitl [HO]; · iexact HO
    iexact Hmw
  iintro ⟨HI, HX, HV, HR, HS, HG0, HO⟩
  rw [wp_bind]
  iapply (wp_part3 d L src X qs O W hX t) $$ [HI HR HS HG1 HG2 HO]
  · isplitl [HI]; · iexact HI
    isplitl [HR]; · iexact HR
    isplitl [HS]; · iexact HS
    isplitl [HG1]; · iexact HG1
    isplitl [HG2]; · iexact HG2
    isplitl [HO]; · iexact HO
    iexact Hmw
  iintro ⟨HF, HG1, HO⟩
  rw [wp_bind]
  iapply (wp_part4 d L src X qs O W hX t) $$ [HF HG3 HO]
  · isplitl [HF]; · iexact HF
    isplitl [HG3]; · iexact HG3
    isplitl [HO]; · iexact HO
    iexact Hmw
  iintro ⟨HI, HR, HS, HG2, HG3, HO⟩
  dsimp only
  simp only [Prog.lift, Prog.bind_op, Prog.bind_ret, Prog.pure_eq_ret, Prog.bind_assoc, dif_pos (cond5_ok L t), ite_self]
  ihave HT := (Entails.of_eq (todo_take (F := F) d L o0 ht)) $$ HT
  icases HT with ⟨HB, HT⟩
  iapply (wp_outStart d L src X (par t.val) (blk L t.val) (off12_eq t) ((off13_eq L t).trans (by rw [blk_val L ht])) (off14_eq t) _ _ _ o0) $$ [HR HB HRs]
  · isplitl [HR]; · iexact HR
    isplitl [HB]; · iexact HB
    iexact HRs
  iintro HR
  ihave HRR : prevR d L src X (t.val + 1) $$ [HR]
  · unfold prevR
    rw [if_neg (Nat.succ_ne_zero t.val), show par (t.val + 1 + 1) = par t.val from par_add_two t.val]
    iexact HR
  ihave HII : iIdle d L X q (par (t.val + 1 + 1)) $$ [HI HX HV]
  · rw [show par (t.val + 1 + 1) = par t.val from par_add_two t.val]
    unfold iIdle iHas
    icases HI with ⟨%fi, -, HI⟩
    isplitl [HI]; · iexists fi; iexact HI
    isplitl [HX]; · iexact HX
    iexact HV
  ihave HNN := (Entails.of_eq (show (nextI d L X q t.val : sProp 𝕄) = curI d L X q (t.val + 1) by
    unfold curI nextI
    by_cases h8 : t.val < 8
    · rw [if_pos h8, if_pos (by omega)]
    · rw [if_neg h8, if_neg (by omega)])) $$ HN
  by_cases h0 : t.val = 0
  · simp only [dif_neg (fun h => (cond7_iff L t).mp h h0), Prog.bind_ret]
    ihave HP := (Entails.of_eq (show (prevR d L src X t.val : sProp 𝕄) = rIdle d L (par (t.val + 1)) by unfold prevR; rw [if_pos h0])) $$ HP
    rw [wp_ret]; imodintro
    isplitr
    · ipureintro
      exact Prod.ext (next6 L t) (Prod.ext (next7 L t) (Prod.ext (next8 L t) (Prod.ext (next9 L t) (next10 t))))
    isplitr; · iexact Hmw
    isplitl [HO]; · iexact HO
    isplitl [HNN]; · iexact HNN
    isplitl [HII]; · iexact HII
    isplitl [HRR]; · iexact HRR
    isplitl [HP]; · iexact HP
    isplitl [HS]; · iexact HS
    isplitl [HG0 HG1 HG2 HG3]
    · isplitl [HG0]; · iexact HG0
      isplitl [HG1]; · iexact HG1
      isplitl [HG2]; · iexact HG2
      iexact HG3
    isplitl [HT]; · iexact HT
    iapply (Entails.of_eq (show (done d L src X t.val : sProp 𝕄) = done d L src X (t.val + 1) by rw [h0, done_zero, done_one])) $$ HD
  · simp only [dif_pos ((cond7_iff L t).mpr h0), Prog.bind_op, Prog.bind_ret]
    ihave HP := (Entails.of_eq (show (prevR d L src X t.val : sProp 𝕄) = RFl d L src X (par (t.val + 1)) (blk L (t.val - 1)) by unfold prevR; rw [if_neg h0])) $$ HP
    unfold OW
    icases HO with ⟨%W', %hW', HO⟩
    have hp : par (t.val + 1) = par (t.val - 1) := by
      rw [show t.val + 1 = (t.val - 1) + 2 by omega, par_add_two]
    iapply (wp_outWait d L src X (par (t.val + 1)) (blk L (t.val - 1)) ((off16_eq L t h0).trans (by rw [blk_val L (by omega)]))
      ((off17_eq t h0).trans (by rw [hp]; rfl))) $$ [HP HO]
    · isplitl [HP]; · iexact HP
      isplitl [HO]; · iexact HO
      iexact Hmw
    iintro ⟨HB, HP, HO⟩
    ihave HO := (OW_ins d L O W hW' _) $$ HO
    unfold OW
    rw [wp_ret]; imodintro
    isplitr
    · ipureintro
      exact Prod.ext (next6 L t) (Prod.ext (next7 L t) (Prod.ext (next8 L t) (Prod.ext (next9 L t) (next10 t))))
    isplitr; · iexact Hmw
    isplitl [HO]; · iexact HO
    isplitl [HNN]; · iexact HNN
    isplitl [HII]; · iexact HII
    isplitl [HRR]; · iexact HRR
    isplitl [HP]; · iexact HP
    isplitl [HS]; · iexact HS
    isplitl [HG0 HG1 HG2 HG3]
    · isplitl [HG0]; · iexact HG0
      isplitl [HG1]; · iexact HG1
      isplitl [HG2]; · iexact HG2
      iexact HG3
    isplitl [HT]; · iexact HT
    iapply (Entails.of_eq (done_put (F := F) d L src X h0 (by omega)).symm)
    isplitl [HB]; · iexact HB
    iexact HD

end Cert.Proof.Gather

end
-- ==== Proof.GatherTile.lean ====
/-
  The gather's whole task on one tile: the first fetch, the nine trips, the last write-out's wait; and the tile's own
  buffers and semaphores as the slots the pipeline uses.
-/
module

public import proofs.«01_k».proof.Proof.GatherTrip

@[expose] public section

noncomputable section

namespace Cert.Proof.Gather

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (d : Dev nD) (L : grid0.Coords)
variable (src : Buf (Elt F) (sLoc d)) (X : Buf (Elt F) (xLoc d)) (o0 : Buf (Elt F) (oLoc d)) (q : Fin 2 → PosShare TreeShare) (qs : PosShare TreeShare)
variable (O : CellTallies nD τ sig (HIx 1)) (W : Waits sig (HIx 1))

theorem off1_eq : k0_off1 = ![(0 : Fin 2).val, 0, 0] := by decide +kernel
theorem off2_eq : ∀ i : grid0.Coords, k0_off2 i = ![blkN i 0, 0] := by decide +kernel
theorem off3_eq : k0_off3 = ![(0 : Fin 2).val] := by decide +kernel

theorem wp_part5 {Q : _ → sProp 𝕄} :
    iIdle d L X q 0
      ⊢ iprop((IFl d L X q 0 (blk L 0) -∗ Q (w4 L))
        -∗ wp frame (wpE (defs₀ (F := F)) 𝒱₀ (tile d L) none) Set.univ
          (k0_part5 (F := F) L sV (Memref.isWhole_whole _) xV (Memref.isWhole_whole _) oV (Memref.isWhole_whole _) iV (Memref.isWhole_whole _) cc0_scoped1
            rV (Memref.isWhole_whole _) cc0_scoped3 cc0_scoped4 cc0_scoped5 cc0_scoped6 cc0_scoped7) Q) := by
  simp only [k0_part5_eq_skeleton]; unfold k0_part5_skel
  simp only [Prog.lift, Prog.bind_op, Prog.bind_ret, Prog.pure_eq_ret, Prog.bind_assoc]
  iintro H HQ
  iapply (wp_idxStart d L X q 0 (blk L 0) off1_eq ((off2_eq L).trans (by rw [blk_val L (by omega)])) off3_eq) $$ H
  iintro H
  rw [wp_ret]; imodintro
  unfold w4
  iapply HQ; iexact H

theorem wp_part6 (hX : ∀ y, (X y).toNat < 16384) {Q : _ → sProp 𝕄} :
    INV d L src X o0 q qs O W 0 (words 0)
      ⊢ iprop((INV d L src X o0 q qs O W 9 (words 9) -∗ Q ⟨w9 9, w10 9, chk5_ok L, chk4_ok⟩)
        -∗ wp frame (wpE (defs₀ (F := F)) 𝒱₀ (tile d L) none) Set.univ
          (k0_part6 (F := F) L sV (Memref.isWhole_whole _) xV (Memref.isWhole_whole _) oV (Memref.isWhole_whole _) iV (Memref.isWhole_whole _) cc0_scoped1
            rV (Memref.isWhole_whole _) cc0_scoped3 cc0_scoped4 cc0_scoped5 cc0_scoped6 cc0_scoped7 (w4 L)) Q) := by
  simp only [k0_part6_eq_skeleton]; unfold k0_part6_skel
  simp only [Prog.lift, Prog.bind_op, Prog.bind_ret, Prog.pure_eq_ret, Prog.bind_assoc]
  iintro H HQ
  sl_for (INV d L src X o0 q qs O W) $$ [H]
  · intro k acc
    exact wp_trip d L src X o0 q qs O W hX k acc
  · iexact H
  iintro %acc H
  ihave H := (show INV d L src X o0 q qs O W k0_t1_loop.trips acc ⊢ INV d L src X o0 q qs O W 9 acc by rw [trips_eq]) $$ H
  ihave H := (show INV d L src X o0 q qs O W 9 acc ⊢ iprop(⌜acc = words 9⌝ ∗ INV d L src X o0 q qs O W 9 acc) by
    unfold INV
    iintro ⟨%h, H⟩
    isplitr; · ipureintro; exact h
    isplitr; · ipureintro; exact h
    iexact H) $$ H
  icases H with ⟨%h, H⟩
  subst h
  unfold wp_part6.sl.prog.cont_1
  dsimp only [words]
  rw [wp_assume_of _ _ _ _ (chk5_ok L), wp_assume_of _ _ _ _ chk4_ok, wp_ret]; imodintro
  iapply HQ; iexact H

/-- The tile's resources between tasks: both index slots and both row slots idle, the source's share, the gathers'
    semaphores. -/
def REST : sProp 𝕄 :=
  iprop(iIdle d L X q 0 ∗ iIdle d L X q 1 ∗ rIdle d L 0 ∗ rIdle d L 1 ∗ (sLoc d ↦{qs} src) ∗ gSems d L)

/-- The tile's nine blocks, at `f`. -/
def blocks (f : Buf (Elt F) (oLoc d)) : sProp 𝕄 := bigSep Finset.univ fun n : Fin 9 => oPtsB d (blk L n.val) f

theorem todo_zero : (todo d L o0 0 : sProp 𝕄) = blocks d L o0 := by
  unfold todo blocks
  rw [show (Finset.univ.filter fun n : Fin 9 => 0 ≤ n.val) = Finset.univ from by ext n; simp]
theorem done_ten : (done d L src X 10 : sProp 𝕄) = blocks d L (goal src X) := by
  unfold done blocks
  rw [show (Finset.univ.filter fun n : Fin 9 => n.val + 1 < 10) = Finset.univ from by ext n; simp; omega]

set_option maxHeartbeats 1000000 in
theorem wp_core (hX : ∀ y, (X y).toNat < 16384) :
    iprop(REST d L src X q qs ∗ blocks d L o0 ∗ OW d L O W ∗ MW d L O)
      ⊢ wp frame (wpE (defs₀ (F := F)) 𝒱₀ (tile d L) none) Set.univ
          (cc0_moe_gather (F := F) L sV (Memref.isWhole_whole _) xV (Memref.isWhole_whole _) oV (Memref.isWhole_whole _) iV (Memref.isWhole_whole _) cc0_scoped1
            rV (Memref.isWhole_whole _) cc0_scoped3 cc0_scoped4 cc0_scoped5 cc0_scoped6 cc0_scoped7)
          fun _ => iprop(REST d L src X q qs ∗ blocks d L (goal src X) ∗ OW d L O W) := by
  simp only [cc0_moe_gather_eq_skeleton]; unfold cc0_moe_gather_skel
  unfold REST
  iintro ⟨⟨HI0, HI1, HR0, HR1, HS, HG⟩, HB, HO, #Hmw⟩
  rw [wp_bind]
  iapply (wp_part5 d L X q) $$ HI0
  iintro HI0
  rw [wp_bind]
  iapply (wp_part6 d L src X o0 q qs O W hX) $$ [HI0 HI1 HR0 HR1 HS HG HB HO]
  · unfold INV
    isplitr; · ipureintro; rfl
    isplitr; · iexact Hmw
    isplitl [HO]; · iexact HO
    isplitl [HI0]; · iapply (Entails.of_eq (show (IFl d L X q 0 (blk L 0) : sProp 𝕄) = curI d L X q 0 by unfold curI; rw [if_pos (by omega)]; rfl)) $$ HI0
    isplitl [HI1]; · iexact HI1
    isplitl [HR1]; · iapply (Entails.of_eq (show (rIdle d L 1 : sProp 𝕄) = prevR d L src X 0 by unfold prevR; rw [if_pos rfl]; rfl)) $$ HR1
    isplitl [HR0]; · iexact HR0
    isplitl [HS]; · iexact HS
    isplitl [HG]; · iexact HG
    isplitl [HB]; · iapply (Entails.of_eq (todo_zero (F := F) d L o0).symm) $$ HB
    iapply (Entails.of_eq (done_zero (F := F) d L src X).symm); iempintro
  iintro H
  unfold INV
  icases H with ⟨-, -, HO, HC, HN, HP, HR, HS, HG, -, HD⟩
  ihave HC := (Entails.of_eq (show (curI d L X q 9 : sProp 𝕄) = iIdle d L X q 1 by unfold curI; rw [if_neg (by omega)]; rfl)) $$ HC
  ihave HP := (Entails.of_eq (show (prevR d L src X 9 : sProp 𝕄) = RFl d L src X 0 (blk L 8) by unfold prevR; rw [if_neg (by omega)]; rfl)) $$ HP
  unfold OW
  icases HO with ⟨%W', %hW', HO⟩
  dsimp only
  simp only [Prog.lift, Prog.bind_op, Prog.bind_ret, Prog.pure_eq_ret]
  iapply (wp_outWait d L src X 0 (blk L 8) ((off19_eq L).trans (by rw [blk_val L (by omega)])) off20_eq) $$ [HP HO]
  · isplitl [HP]; · iexact HP
    isplitl [HO]; · iexact HO
    iexact Hmw
  iintro ⟨HB, HP, HO⟩
  ihave HO := (OW_ins d L O W hW' _) $$ HO
  unfold OW
  rw [wp_ret]; imodintro
  isplitl [HC HN HR HP HS HG]
  · isplitl [HN]; · iexact HN
    isplitl [HC]; · iexact HC
    isplitl [HP]; · iexact HP
    isplitl [HR]; · iexact HR
    isplitl [HS]; · iexact HS
    iexact HG
  isplitl [HB HD]
  · iapply (Entails.of_eq (show (iprop(oPtsB d (blk L 8) (goal src X) ∗ done d L src X 9) : sProp 𝕄) = blocks d L (goal src X) by
      rw [← done_ten, done_put d L src X (t := 9) (by omega) (by omega)]))
    isplitl [HB]; · iexact HB
    iexact HD
  iexact HO

/-! ## The tile's own buffers as slots -/

theorem i_div : 2 ∣ S2x1x128.size 0 := ⟨1, rfl⟩
theorem r_div : 2 ∣ S2x64x512.size 0 := ⟨1, rfl⟩
theorem o_div : 288 ∣ S18432x512.size 0 := ⟨64, rfl⟩

theorem unit_congr {s : Shape} {o₁ o₂ z₁ z₂ : Fin s.rank → ℕ} {h₁ : ∀ a, o₁ a + z₁ a ≤ s.size a} {h₂ : ∀ a, o₂ a + z₂ a ≤ s.size a}
    (ho : o₁ = o₂) (hz : z₁ = z₂) : Rect.unit (s := s) o₁ z₁ h₁ = Rect.unit o₂ z₂ h₂ := by
  subst ho; subst hz; rfl

omit [FloatOps F] in
theorem iSlot_set (p : Fin 2) : (iSlot p).view.set = (Rect.part (s := S2x1x128) (a₀ := 0) i_div p).set := by
  show (((iV).view.slice (Rect.unit (s := S2x1x128) ![p.val, 0, 0] S1x1x128.size (inbI p))).reshape S1x128 squeezes_S1x1x128_S1x128.numel_eq).set = _
  rw [View.set_reshape, View.set_slice]
  refine Finset.map_refl.trans (congrArg (fun r : Rect S2x1x128 => r.set) ?_)
  unfold Rect.part Rect.block
  refine unit_congr ?_ ?_ <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]
omit [FloatOps F] in
theorem rSlot_set (p : Fin 2) : (rSlot p).view.set = (Rect.part (s := S2x64x512) (a₀ := 0) r_div p).set := by
  show (((rV).view.slice (Rect.unit (s := S2x64x512) ![p.val, 0, 0] S1x64x512.size (inbR p))).reshape S64x512 squeezes_S1x64x512_S64x512.numel_eq).set = _
  rw [View.set_reshape, View.set_slice]
  refine Finset.map_refl.trans (congrArg (fun r : Rect S2x64x512 => r.set) ?_)
  unfold Rect.part Rect.block
  refine unit_congr ?_ ?_ <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]
omit [FloatOps F] in
theorem oBlk_set (b : Fin 288) : (oBlk b).view.set = (Rect.part (s := S18432x512) (a₀ := 0) o_div b).set := by
  show ((oV).view.slice (Rect.unit (s := S18432x512) ![64 * b.val, 0] S64x512.size (inbO b))).set = _
  rw [View.set_slice]
  refine Finset.map_refl.trans (congrArg (fun r : Rect S18432x512 => r.set) ?_)
  unfold Rect.part Rect.block
  refine unit_congr ?_ ?_ <;> funext a
  · match a with
    | 0 => simp [Shape.partIx, Shape.partSize]; omega
    | 1 => simp [Shape.partIx, Shape.partSize]
  · match a with
    | 0 => simp [Shape.partSize]
    | 1 => simp [Shape.partSize]

omit [FloatOps F] in
theorem bigSep_two (Φ : Fin 2 → sProp 𝕄) : bigSep Finset.univ Φ = iprop(Φ 0 ∗ Φ 1) := by
  rw [show (Finset.univ : Finset (Fin 2)) = {0, 1} by decide, SparseCore.bigSep_insert' (by decide), bigSep_singleton]

omit [FloatOps F] in
theorem iSplit (f : Buf (Elt F) ((tile d L).loc cc0_scoped0)) :
    ((tile d L).loc cc0_scoped0 ↦{fullShare} f : sProp 𝕄)
      = iprop(((iSlot 0).view.loc (tile d L) ↦[(iSlot 0).view.set]{fullShare} f) ∗ ((iSlot 1).view.loc (tile d L) ↦[(iSlot 1).view.set]{fullShare} f)) := by
  rw [← bigSep_two (F := F) (fun p => (tile d L).loc cc0_scoped0 ↦[(iSlot p).view.set]{fullShare} f),
    ← pointsTo_biUnion Finset.univ (ℓ := (tile d L).loc cc0_scoped0) (fun p => (iSlot p).view.set)
      (fun i _ j _ h => by rw [iSlot_set, iSlot_set]; exact Rect.part_disjoint i_div h),
    show (Finset.univ : Finset (Fin 2)).biUnion (fun p => (iSlot p).view.set) = Finset.univ from
      (Finset.biUnion_congr rfl fun i _ => iSlot_set i).trans (Rect.biUnion_part i_div)]
omit [FloatOps F] in
theorem rSplit (f : Buf (Elt F) ((tile d L).loc cc0_scoped2)) :
    ((tile d L).loc cc0_scoped2 ↦{fullShare} f : sProp 𝕄)
      = iprop(((rSlot 0).view.loc (tile d L) ↦[(rSlot 0).view.set]{fullShare} f) ∗ ((rSlot 1).view.loc (tile d L) ↦[(rSlot 1).view.set]{fullShare} f)) := by
  rw [← bigSep_two (F := F) (fun p => (tile d L).loc cc0_scoped2 ↦[(rSlot p).view.set]{fullShare} f),
    ← pointsTo_biUnion Finset.univ (ℓ := (tile d L).loc cc0_scoped2) (fun p => (rSlot p).view.set)
      (fun i _ j _ h => by rw [rSlot_set, rSlot_set]; exact Rect.part_disjoint r_div h),
    show (Finset.univ : Finset (Fin 2)).biUnion (fun p => (rSlot p).view.set) = Finset.univ from
      (Finset.biUnion_congr rfl fun i _ => rSlot_set i).trans (Rect.biUnion_part r_div)]

omit [FloatOps F] in
theorem iJoin (f g : Buf (Elt F) ((tile d L).loc cc0_scoped0)) :
    iprop(((iSlot 0).view.loc (tile d L) ↦[(iSlot 0).view.set]{fullShare} f) ∗ ((iSlot 1).view.loc (tile d L) ↦[(iSlot 1).view.set]{fullShare} g))
      ⊢ (iprop(∃ h, (tile d L).loc cc0_scoped0 ↦{fullShare} h) : sProp 𝕄) := by
  have e := bigSep_two (F := F) (fun p => (tile d L).loc cc0_scoped0 ↦[(iSlot p).view.set]{fullShare} (if p = 0 then f else g))
  rw [if_pos rfl, if_neg (by decide)] at e
  refine (Entails.of_eq e.symm).trans ?_
  have : Nonempty (Buf (Elt F) ((tile d L).loc cc0_scoped0)) := ⟨f⟩
  refine (pointsTo_biUnion_join (ℓ := (tile d L).loc cc0_scoped0) (q := fullShare) (Val := Elt F) Finset.univ (fun p : Fin 2 => (iSlot p).view.set)
    (fun p => if p = 0 then f else g) f (fun i _ j _ h => by rw [iSlot_set, iSlot_set]; exact Rect.part_disjoint i_div h)).trans ?_
  rw [show (Finset.univ : Finset (Fin 2)).biUnion (fun p => (iSlot p).view.set) = Finset.univ from
      (Finset.biUnion_congr rfl fun i _ => iSlot_set i).trans (Rect.biUnion_part i_div)]
  iintro ⟨%h, -, H⟩
  iexists h; iexact H
omit [FloatOps F] in
theorem rJoin (f g : Buf (Elt F) ((tile d L).loc cc0_scoped2)) :
    iprop(((rSlot 0).view.loc (tile d L) ↦[(rSlot 0).view.set]{fullShare} f) ∗ ((rSlot 1).view.loc (tile d L) ↦[(rSlot 1).view.set]{fullShare} g))
      ⊢ (iprop(∃ h, (tile d L).loc cc0_scoped2 ↦{fullShare} h) : sProp 𝕄) := by
  have e := bigSep_two (F := F) (fun p => (tile d L).loc cc0_scoped2 ↦[(rSlot p).view.set]{fullShare} (if p = 0 then f else g))
  rw [if_pos rfl, if_neg (by decide)] at e
  refine (Entails.of_eq e.symm).trans ?_
  have : Nonempty (Buf (Elt F) ((tile d L).loc cc0_scoped2)) := ⟨f⟩
  refine (pointsTo_biUnion_join (ℓ := (tile d L).loc cc0_scoped2) (q := fullShare) (Val := Elt F) Finset.univ (fun p : Fin 2 => (rSlot p).view.set)
    (fun p => if p = 0 then f else g) f (fun i _ j _ h => by rw [rSlot_set, rSlot_set]; exact Rect.part_disjoint r_div h)).trans ?_
  rw [show (Finset.univ : Finset (Fin 2)).biUnion (fun p => (rSlot p).view.set) = Finset.univ from
      (Finset.biUnion_congr rfl fun i _ => rSlot_set i).trans (Rect.biUnion_part r_div)]
  iintro ⟨%h, -, H⟩
  iexists h; iexact H

/-! ## The tile's own semaphores -/

/-- The eight transfer semaphores of a tile. -/
def semOf : Fin 8 → DmaSem sig
  | 0 => iSem 0 | 1 => iSem 1 | 2 => rSem 0 | 3 => rSem 1 | 4 => gSem 0 | 5 => gSem 1 | 6 => gSem 2 | 7 => gSem 3

omit [FloatOps F] in
theorem semOf_inj : Function.Injective semOf := by decide
omit [FloatOps F] in
theorem semOf_scoped : ∀ k : Fin 8, (SemLoc.dma (semOf k) : SemLoc sig).isScoped .scVector = true := by decide

abbrev cellOf (k : Fin 8) : GSem nD τ sig := (tile d L, SemLoc.dma (semOf k))

omit [FloatOps F] in
theorem cellOf_inj : Function.Injective (cellOf d L) := fun a b h => semOf_inj (SemLoc.dma.inj (Prod.ext_iff.mp h).2)

/-- The tile's other semaphores at zero. -/
def semRest : sProp 𝕄 := bigSep (ownCells (tile d L) \ Finset.univ.image (cellOf d L)) fun g => semVal g 0

omit [FloatOps F] in
theorem ownSems0_eq : (ownSems0 (tile d L) : sProp 𝕄) = iprop((bigSep Finset.univ fun k : Fin 8 => semVal (cellOf d L k) 0) ∗ semRest d L) := by
  unfold SparseCore.Cfg.ownSems0 semRest
  have hsub : Finset.univ.image (cellOf d L) ⊆ ownCells (tile d L) := by
    intro g hg
    obtain ⟨k, -, rfl⟩ := Finset.mem_image.mp hg
    exact (mem_ownCells (g := cellOf d L k)).mpr ⟨rfl, semOf_scoped k⟩
  rw [SparseCore.bigSep_sdiff_split' hsub, SparseCore.bigSep_image_of_injOn (cellOf_inj d L).injOn]

end Cert.Proof.Gather

end
-- ==== Proof.GatherLaunch.lean ====
/-
  The launch: what the handshakes carry to a SparseCore and to a tile and back, the task on a tile from those, the
  split of the arrays over the tiles, `@main` on the TensorCore, and the program's run.
-/
module

public import proofs.«01_k».proof.Proof.GatherTile

@[expose] public section

noncomputable section

namespace Cert.Proof.Gather

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

variable [FloatOps F]
variable (m : (ℓ : Loc nD τ sig) → Buf (Elt F) ℓ) (ρ : Dev nD → PrngReg)

/-! ## The arrays on the way to the call -/

abbrev s' : DevRef τ sig := Proc.devRef .tc (main_arg0 : Ref sig .tc)
abbrev a' : DevRef τ sig := Proc.devRef .tc (main_arg1 : Ref sig .tc)
abbrev h' : DevRef τ sig := Proc.devRef .tc (main_v0 : Ref sig .tc)
abbrev c' : DevRef τ sig := Proc.devRef .tc (main_c : Ref sig .tc)
abbrev p' : DevRef τ sig := Proc.devRef .tc (main_call0_v0 : Ref sig .tc)
abbrev x' : DevRef τ sig := Proc.devRef .tc (main_v1 : Ref sig .tc)
abbrev o' : DevRef τ sig := Proc.devRef .tc (main_v2 : Ref sig .tc)

abbrev op1 : HloOp τ sig (Elt F) := StableHlo.reshape main_arg1 main_v0 (rfl : (.i32 : EltTy) = .i32) shapeCasts_S18432_S288x64
abbrev op2 : HloOp τ sig (Elt F) := StableHlo.nullary main_c (constantI S_ 32 0#32)
abbrev op3 : HloOp τ sig (Elt F) := StableHlo.TRef.unary (.of main_c : StableHlo.TRef sig ⟨S_, .i32⟩) main_call0.v0 id
abbrev op4 : HloOp τ sig (Elt F) :=
  StableHlo.TRef.binary (.of main_v0 : StableHlo.TRef sig ⟨S288x64, .i32⟩) main_call0.v0 main_call0.v1 (fun x v => pad S288x128 ![0, 0] ![0, 64] ![0, 0] x v pads_S288x64_S288x128_000_0640 h_S_)

def V0 (d : Dev nD) : Valuation τ sig (Elt F) := fun b => m (d, b)
/-- The arrays before the call. -/
def V4 (d : Dev nD) : Valuation τ sig (Elt F) := (op4 (F := F)).result ((op3 (F := F)).result ((op2 (F := F)).result ((op1 (F := F)).result (V0 m d))))

/-- The index array as the call takes it: the row numbers in rows of sixty-four, each padded with zeros. -/
def XP (d : Dev nD) : Buf (Elt F) (xLoc d) :=
  pad S288x128 ![0, 0] ![0, 64] ![0, 0] (shapeCast S288x64 (m (aLoc d)) shapeCasts_S18432_S288x64) (constantI S_ 32 0#32) pads_S288x64_S288x128_000_0640 h_S_

/-- What the proof asks of the launch memory: every word of the index array names a row. -/
def PreOK : Prop := ∀ (d : Dev nD) (y : S288x128.Idx), (XP m d y).toNat < 16384

theorem V4_s (d : Dev nD) : V4 m d s' = m (sLoc d) := by
  unfold V4
  rw [(op4 (F := F)).result_of_not_mem _ (show s' ∉ ({x'} : Finset (DevRef τ sig)) by decide),
    (op3 (F := F)).result_of_not_mem _ (show s' ∉ ({p'} : Finset (DevRef τ sig)) by decide),
    (op2 (F := F)).result_of_not_mem _ (show s' ∉ ({c'} : Finset (DevRef τ sig)) by decide),
    (op1 (F := F)).result_of_not_mem _ (show s' ∉ ({h'} : Finset (DevRef τ sig)) by decide)]
  rfl
theorem V4_a (d : Dev nD) : V4 m d a' = m (aLoc d) := by
  unfold V4
  rw [(op4 (F := F)).result_of_not_mem _ (show a' ∉ ({x'} : Finset (DevRef τ sig)) by decide),
    (op3 (F := F)).result_of_not_mem _ (show a' ∉ ({p'} : Finset (DevRef τ sig)) by decide),
    (op2 (F := F)).result_of_not_mem _ (show a' ∉ ({c'} : Finset (DevRef τ sig)) by decide),
    (op1 (F := F)).result_of_not_mem _ (show a' ∉ ({h'} : Finset (DevRef τ sig)) by decide)]
  rfl
theorem V4_o (d : Dev nD) : V4 m d o' = m (oLoc d) := by
  unfold V4
  rw [(op4 (F := F)).result_of_not_mem _ (show o' ∉ ({x'} : Finset (DevRef τ sig)) by decide),
    (op3 (F := F)).result_of_not_mem _ (show o' ∉ ({p'} : Finset (DevRef τ sig)) by decide),
    (op2 (F := F)).result_of_not_mem _ (show o' ∉ ({c'} : Finset (DevRef τ sig)) by decide),
    (op1 (F := F)).result_of_not_mem _ (show o' ∉ ({h'} : Finset (DevRef τ sig)) by decide)]
  rfl
theorem V4_x (d : Dev nD) : V4 m d x' = XP m d := by
  unfold V4 XP
  refine (StableHlo.binary_result _ _ _ _ _ _ _ _).trans ?_
  have e3 : ((op3 (F := F)).result ((op2 (F := F)).result ((op1 (F := F)).result (V0 m d)))) p' = constantI S_ 32 0#32 :=
    (StableHlo.unary_result _ _ _ _ _ _).trans (show ((op2 (F := F)).result ((op1 (F := F)).result (V0 m d))) c' = constantI S_ 32 0#32 from StableHlo.nullary_result _ _ _ _)
  have e1 : ((op3 (F := F)).result ((op2 (F := F)).result ((op1 (F := F)).result (V0 m d)))) h' = shapeCast S288x64 (m (aLoc d)) shapeCasts_S18432_S288x64 := by
    rw [(op3 (F := F)).result_of_not_mem _ (show h' ∉ ({p'} : Finset (DevRef τ sig)) by decide),
      (op2 (F := F)).result_of_not_mem _ (show h' ∉ ({c'} : Finset (DevRef τ sig)) by decide)]
    exact (StableHlo.reshape_result _ _ _ _ _ _ _).trans rfl
  exact congrArg₂ (fun x v => pad S288x128 ![0, 0] ![0, 64] ![0, 0] x v pads_S288x64_S288x128_000_0640 h_S_) e1 e3

/-! ## What the handshakes carry -/

theorem two_pos' : 0 < 2 := by decide
theorem six_pos' : 0 < 16 := by decide
/-- A SparseCore's share of the arrays the tiles read. -/
def qc (c : Fin 2) : PosShare TreeShare := pieceOf fullShare 2 two_pos' c
/-- A tile's share. -/
def qt (c : Fin 2) (s : Fin 16) : PosShare TreeShare := pieceOf (qc c) 16 six_pos' s
/-- The shares of the index array a tile holds, one per slot. -/
def qx (c : Fin 2) (s : Fin 16) (p : Fin 2) : PosShare TreeShare := pieceOf (qt c s) 2 two_pos' p

def coordsV (c : Fin 2) (s : Fin 16) : grid0.Coords :=
  fun | 0 => c | 1 => s | ⟨_ + 2, h⟩ => absurd h (Nat.not_lt.2 (Nat.le_add_left _ _))

abbrev oGoal (d : Dev nD) : Buf (Elt F) (oLoc d) := goal (m (sLoc d)) (XP m d)

abbrev coreP (d : Dev nD) (c : Fin 2) (f : Buf (Elt F) (oLoc d)) : sProp 𝕄 :=
  iprop((sLoc d ↦{qc c} m (sLoc d)) ∗ (xLoc d ↦{qc c} XP m d) ∗ bigSep Finset.univ fun s : Fin 16 => blocks d (coordsV c s) f)
abbrev tileP (d : Dev nD) (c : Fin 2) (s : Fin 16) (f : Buf (Elt F) (oLoc d)) : sProp 𝕄 :=
  iprop((sLoc d ↦{qt c s} m (sLoc d)) ∗ (xLoc d ↦{qt c s} XP m d) ∗ blocks d (coordsV c s) f)

instance blocks_storable (d : Dev nD) (L : grid0.Coords) (f : Buf (Elt F) (oLoc d)) : BI.Storable (upEmb : UEmb _ 𝕄) (blocks d L f) := by
  unfold blocks oPtsB; infer_instance

def P : (K (F := F)).Pay (nD := nD) (Val := Elt F) (Name := ℕ) (U := UU) where
  st := fun q d c => match q with | 0 => coreP m d (Fin.cast nCore_zero c) (m (oLoc d))
  dn := fun q d c => match q with | 0 => coreP m d (Fin.cast nCore_zero c) (oGoal m d)
  go := fun q d c i => match q with | 0 => tileP m d (Fin.cast nCore_zero c) (Fin.cast nSub_zero i) (m (oLoc d))
  td := fun q d c i => match q with | 0 => tileP m d (Fin.cast nCore_zero c) (Fin.cast nSub_zero i) (oGoal m d)
  x := fun _ _ => iprop(emp)

instance P_storable : (P (F := F) m).IsStorable where
  st q d c := match q with
    | 0 => (inferInstance : BI.Storable (upEmb : UEmb _ 𝕄) (coreP m d (Fin.cast nCore_zero c) (m (oLoc d))))
  dn q d c := match q with
    | 0 => (inferInstance : BI.Storable (upEmb : UEmb _ 𝕄) (coreP m d (Fin.cast nCore_zero c) (oGoal m d)))
  go q d c i := match q with
    | 0 => (inferInstance : BI.Storable (upEmb : UEmb _ 𝕄) (tileP m d (Fin.cast nCore_zero c) (Fin.cast nSub_zero i) (m (oLoc d))))
  td q d c i := match q with
    | 0 => (inferInstance : BI.Storable (upEmb : UEmb _ 𝕄) (tileP m d (Fin.cast nCore_zero c) (Fin.cast nSub_zero i) (oGoal m d)))

/-! ## The tile's buffers and semaphores among its own -/

section Tile

variable (d : Dev nD) (L : grid0.Coords)

/-- The tile's other buffers. -/
def bufRest : sProp 𝕄 :=
  bigSep (((ownRefs (τ := τ) (.scVector (cV L) (jV L))).erase ((Proc.scVector (cV L) (jV L)).devRef cc0_scoped0)).erase
              ((Proc.scVector (cV L) (jV L)).devRef cc0_scoped2))
              fun b => iprop(∃ f, ((d, b) : Loc nD τ sig) ↦{fullShare} f)

omit [FloatOps F] in
theorem ownBufs_tile :
    (ownBufs (tile d L) : sProp 𝕄)
      = iprop((∃ f, (tile d L).loc cc0_scoped0 ↦{fullShare} f) ∗ (∃ f, (tile d L).loc cc0_scoped2 ↦{fullShare} f) ∗ bufRest d L) := by
  unfold SparseCore.Cfg.ownBufs bufRest
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

omit [FloatOps F] in
theorem sems_eight : (bigSep Finset.univ fun k : Fin 8 => (semVal (cellOf d L k) 0 : sProp 𝕄))
    = iprop(semVal (cellOf d L 0) 0 ∗ semVal (cellOf d L 1) 0 ∗ semVal (cellOf d L 2) 0 ∗ semVal (cellOf d L 3) 0
        ∗ semVal (cellOf d L 4) 0 ∗ semVal (cellOf d L 5) 0 ∗ semVal (cellOf d L 6) 0 ∗ semVal (cellOf d L 7) 0) := by
  rw [show (Finset.univ : Finset (Fin 8)) = {0, 1, 2, 3, 4, 5, 6, 7} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

end Tile

/-! ## The arrays split over the tiles -/

/-- Block `n` of tile `s` of SparseCore `c`, counted through. -/
def blkEquiv : (Fin 2 × Fin 16) × Fin 9 ≃ Fin 288 :=
  (Equiv.prodCongr (finProdFinEquiv (m := 2) (n := 16)) (Equiv.refl (Fin 9))).trans (finProdFinEquiv (m := 32) (n := 9))

theorem blkEquiv_eq (c : Fin 2) (s : Fin 16) (n : Fin 9) : blkEquiv ((c, s), n) = blk (coordsV c s) n.val := by
  apply Fin.ext
  rw [blk_val _ n.isLt]
  show n.val + 9 * (s.val + 16 * c.val) = blkN (coordsV c s) n.val
  unfold blkN
  show _ = 9 * s.val + 144 * c.val + n.val
  omega

omit [FloatOps F] in
theorem oPts_blocks (d : Dev nD) (f : Buf (Elt F) (oLoc d)) :
    (oLoc d ↦{fullShare} f : sProp 𝕄) = bigSep Finset.univ fun c : Fin 2 => bigSep Finset.univ fun s : Fin 16 => blocks d (coordsV c s) f := by
  have e : (oLoc d ↦{fullShare} f : sProp 𝕄) = bigSep Finset.univ fun b : Fin 288 => oPtsB d b f := by
    unfold oPtsB
    rw [← pointsTo_biUnion Finset.univ (ℓ := oLoc d) (fun b : Fin 288 => (oBlk b).view.set)
      (fun i _ j _ h => by rw [oBlk_set, oBlk_set]; exact Rect.part_disjoint o_div h),
      show (Finset.univ : Finset (Fin 288)).biUnion (fun b => (oBlk b).view.set) = Finset.univ from
        (Finset.biUnion_congr rfl fun i _ => oBlk_set i).trans (Rect.biUnion_part o_div)]
  rw [e, bigSep_univ_equiv blkEquiv, bigSep_univ_prod, bigSep_univ_prod]
  refine bigSep_congr fun c _ => bigSep_congr fun s _ => ?_
  unfold blocks
  exact bigSep_congr fun n _ => by rw [blkEquiv_eq]

theorem arrays_cores (d : Dev nD) (f : Buf (Elt F) (oLoc d)) :
    (iprop((sLoc d ↦{fullShare} m (sLoc d)) ∗ (xLoc d ↦{fullShare} XP m d) ∗ oLoc d ↦{fullShare} f) : sProp 𝕄)
      = bigSep Finset.univ fun c : Fin 2 => coreP m d c f := by
  unfold coreP qc
  rw [bigSep_sep', bigSep_sep', ← pointsTo_piecesOf Finset.univ (m (sLoc d)) two_pos' fullShare, ← pointsTo_piecesOf Finset.univ (XP m d) two_pos' fullShare,
    ← oPts_blocks]

theorem core_tiles (d : Dev nD) (c : Fin 2) (f : Buf (Elt F) (oLoc d)) :
    (coreP m d c f : sProp 𝕄) = bigSep Finset.univ fun s : Fin 16 => tileP m d c s f := by
  unfold coreP tileP qt
  rw [bigSep_sep', bigSep_sep', ← pointsTo_piecesOf Finset.univ (m (sLoc d)) six_pos' (qc c), ← pointsTo_piecesOf Finset.univ (XP m d) six_pos' (qc c)]

end Cert.Proof.Gather

end
-- ==== Proof.GatherRun.lean ====
/-
  The program's run: the task on each tile from what its handshake carries, the split and the return of the arrays,
  `@main`, and what every execution ends in — the arguments as they were, the result the gathered rows, every semaphore
  at zero.
-/
module

public import proofs.«01_k».proof.Proof.GatherLaunch

@[expose] public section

noncomputable section

namespace Cert.Proof.Gather

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type}

local notation "𝕄" => MT nD τ sig (HIx 1) (Elt F) ℕ UU ℕ

variable [FloatOps F]
variable (m : (ℓ : Loc nD τ sig) → Buf (Elt F) ℓ) (ρ : Dev nD → PrngReg)

theorem x_two (d : Dev nD) (c : Fin 2) (s : Fin 16) :
    (xLoc d ↦{qt c s} XP m d : sProp 𝕄) = iprop((xLoc d ↦{qx c s 0} XP m d) ∗ (xLoc d ↦{qx c s 1} XP m d)) := by
  unfold qx
  rw [pointsTo_piecesOf Finset.univ (XP m d) two_pos' (qt c s), bigSep_two]

/-- The tile's own buffers and semaphores, with its shares, are what the pipeline rests on. -/
theorem rest_intro (d : Dev nD) (c : Fin 2) (s : Fin 16) :
    iprop((sLoc d ↦{qt c s} m (sLoc d)) ∗ (xLoc d ↦{qt c s} XP m d)
        ∗ (∃ f, (tile d (coordsV c s)).loc cc0_scoped0 ↦{fullShare} f) ∗ (∃ f, (tile d (coordsV c s)).loc cc0_scoped2 ↦{fullShare} f)
        ∗ bigSep Finset.univ fun k : Fin 8 => semVal (cellOf d (coordsV c s) k) 0)
      ⊢ (REST d (coordsV c s) (m (sLoc d)) (XP m d) (qx c s) (qt c s) : sProp 𝕄) := by
  rw [sems_eight, x_two]
  iintro ⟨HS, ⟨HX0, HX1⟩, ⟨%fi, HI⟩, ⟨%fr, HR⟩, HC0, HC1, HC2, HC3, HC4, HC5, HC6, HC7⟩
  ihave HI := (Entails.of_eq (iSplit (F := F) d (coordsV c s) fi)) $$ HI
  icases HI with ⟨HI0, HI1⟩
  ihave HR := (Entails.of_eq (rSplit (F := F) d (coordsV c s) fr)) $$ HR
  icases HR with ⟨HR0, HR1⟩
  unfold REST iIdle rIdle gSems
  isplitl [HI0 HX0 HC0]
  · isplitl [HI0]; · iexists fi; iexact HI0
    isplitl [HX0]; · iexact HX0
    iexact HC0
  isplitl [HI1 HX1 HC1]
  · isplitl [HI1]; · iexists fi; iexact HI1
    isplitl [HX1]; · iexact HX1
    iexact HC1
  isplitl [HR0 HC2]
  · isplitl [HR0]; · iexists fr; iexact HR0
    iexact HC2
  isplitl [HR1 HC3]
  · isplitl [HR1]; · iexists fr; iexact HR1
    iexact HC3
  isplitl [HS]; · iexact HS
  isplitl [HC4]; · iexact HC4
  isplitl [HC5]; · iexact HC5
  isplitl [HC6]; · iexact HC6
  iexact HC7

/-- And back. -/
theorem rest_elim (d : Dev nD) (c : Fin 2) (s : Fin 16) :
    (REST d (coordsV c s) (m (sLoc d)) (XP m d) (qx c s) (qt c s) : sProp 𝕄)
      ⊢ iprop((sLoc d ↦{qt c s} m (sLoc d)) ∗ (xLoc d ↦{qt c s} XP m d)
        ∗ (∃ f, (tile d (coordsV c s)).loc cc0_scoped0 ↦{fullShare} f) ∗ (∃ f, (tile d (coordsV c s)).loc cc0_scoped2 ↦{fullShare} f)
        ∗ bigSep Finset.univ fun k : Fin 8 => semVal (cellOf d (coordsV c s) k) 0) := by
  rw [sems_eight, x_two]
  unfold REST iIdle rIdle gSems
  iintro ⟨⟨⟨%f0, HI0⟩, HX0, HC0⟩, ⟨⟨%f1, HI1⟩, HX1, HC1⟩, ⟨⟨%g0, HR0⟩, HC2⟩, ⟨⟨%g1, HR1⟩, HC3⟩, HS, HC4, HC5, HC6, HC7⟩
  ihave HI := (iJoin (F := F) d (coordsV c s) f0 f1) $$ [HI0 HI1]
  · isplitl [HI0]; · iexact HI0
    iexact HI1
  ihave HR := (rJoin (F := F) d (coordsV c s) g0 g1) $$ [HR0 HR1]
  · isplitl [HR0]; · iexact HR0
    iexact HR1
  isplitl [HS]; · iexact HS
  isplitl [HX0 HX1]
  · isplitl [HX0]; · iexact HX0
    iexact HX1
  isplitl [HI]; · iexact HI
  isplitl [HR]; · iexact HR
  isplitl [HC0]; · iexact HC0
  isplitl [HC1]; · iexact HC1
  isplitl [HC2]; · iexact HC2
  isplitl [HC3]; · iexact HC3
  isplitl [HC4]; · iexact HC4
  isplitl [HC5]; · iexact HC5
  isplitl [HC6]; · iexact HC6
  iexact HC7

/-- The task on tile `s` of SparseCore `c`, from what its handshake carries. -/
theorem tile_task (d : Dev nD) (c : Fin 2) (s : Fin 16) (hF : (K (F := F)).Facts) (hpre : PreOK m) (O : CellTallies nD τ sig (HIx 1)) (W : Waits sig (HIx 1)) (hO : ∀ g, O g none = 0) :
    iprop(levAts (K (F := F)).L (K (F := F)).lev ∗ emp ∗ tileP m d c s (m (oLoc d))
        ∗ scopedBufs (tile d (coordsV c s)) ∗ scopedSems0 (tile d (coordsV c s)) ∗ owes (tile d (coordsV c s)) O W)
      ⊢ wp frame (wpE (defs₀ (F := F)) 𝒱₀ (tile d (coordsV c s)) none) Set.univ
          (cc0_moe_gather (F := F) (coordsV c s) sV (Memref.isWhole_whole _) xV (Memref.isWhole_whole _) oV (Memref.isWhole_whole _) iV (Memref.isWhole_whole _) cc0_scoped1
            rV (Memref.isWhole_whole _) cc0_scoped3 cc0_scoped4 cc0_scoped5 cc0_scoped6 cc0_scoped7)
          fun _ => iprop(tileP m d c s (oGoal m d) ∗ scopedBufs (tile d (coordsV c s)) ∗ scopedSems0 (tile d (coordsV c s))
            ∗ ∃ W', ⌜∀ p ∈ W', p ∈ W ∨ p.2 = none⌝ ∗ owes (tile d (coordsV c s)) O W') := by
  rw [(K (F := F)).scopedBufs_V hF d (cV (coordsV c s)) (jV (coordsV c s)), SparseCore.Cfg.scopedSems0_V (Val := Elt F) d (cV (coordsV c s)) (jV (coordsV c s)), ownSems0_eq, ownBufs_tile]
  iintro ⟨#Hlv, -, ⟨HS, HX, HB⟩, ⟨HI, HR, Hbr⟩, ⟨HC, Hsr⟩, HO⟩
  ihave Hmw := (show levAts (K (F := F)).L (K (F := F)).lev ⊢ Transfers.MayWaits (tile d (coordsV c s)) (default : HIx 1) O from
    (K (F := F)).mayWaits_none (thr := tile d (coordsV c s)) hO) $$ Hlv
  ihave HH := (rest_intro m d c s) $$ [HS HX HI HR HC]
  · isplitl [HS]; · iexact HS
    isplitl [HX]; · iexact HX
    isplitl [HI]; · iexact HI
    isplitl [HR]; · iexact HR
    iexact HC
  ihave Hwp := (wp_core d (coordsV c s) (m (sLoc d)) (XP m d) (m (oLoc d)) (qx c s) (qt c s) O W (hpre d)) $$ [HH HB HO Hmw]
  · isplitl [HH]; · iexact HH
    isplitl [HB]; · iexact HB
    isplitl [HO]
    · unfold OW
      iexists W; isplitr
      · ipureintro; exact fun p hp => .inl hp
      iexact HO
    iexact Hmw
  iapply (wp_wand frame _ _) $$ Hwp
  iintro %_ ⟨HH, HB, HO⟩
  ihave HH := (rest_elim m d c s) $$ HH
  icases HH with ⟨HS, HX, HI, HR, HC⟩
  unfold OW
  isplitl [HS HX HB]
  · isplitl [HS]; · iexact HS
    isplitl [HX]; · iexact HX
    iexact HB
  isplitl [HI HR Hbr]
  · isplitl [HI]; · iexact HI
    isplitl [HR]; · iexact HR
    iexact Hbr
  isplitl [HC Hsr]
  · isplitl [HC]; · iexact HC
    iexact Hsr
  iexact HO

/-! ## The obligations of the launch -/

theorem defs₀_vector (c : Fin τ.nSC) (s : Fin τ.nSub) :
    defs₀ (F := F) (.scVector c s) 0 ()
      = SparseCore.onTile hcore0 hsub0 (fun (c : Fin 2) (s : Fin 16) => cc0_moe_gather (coordsV c s) sV (Memref.isWhole_whole _) xV (Memref.isWhole_whole _) oV (Memref.isWhole_whole _)
          iV (Memref.isWhole_whole _) cc0_scoped1 rV (Memref.isWhole_whole _) cc0_scoped3 cc0_scoped4 cc0_scoped5 cc0_scoped6 cc0_scoped7) ⟨⟩ c s := rfl

omit [FloatOps F] in
/-- A wait of the task's own is one the launch allows. -/
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_task m d (Fin.cast nCore_zero c) (Fin.cast nSub_zero i) hF hpre O W hO).trans (wp_mono frame _ _ fun _ => waits_weaken)

omit [FloatOps F] in
theorem bigSep_subs (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

theorem vecSplit : (K (F := F)).VecSplit' (P m) 0 := by
  intro d c
  show coreP m d (Fin.cast nCore_zero c) (m (oLoc d)) ⊢ |={Set.univ}=> iprop(
      (bigSep Finset.univ fun i : Fin ((K (F := F)).nSub 0) => tileP m d (Fin.cast nCore_zero c) (Fin.cast nSub_zero i) (m (oLoc d)))
      ∗ ((bigSep Finset.univ fun i : Fin ((K (F := F)).nSub 0) => tileP m d (Fin.cast nCore_zero c) (Fin.cast nSub_zero i) (oGoal m d))
          -∗ coreP m d (Fin.cast nCore_zero c) (oGoal m d)))
  rw [bigSep_subs (F := F) (fun i => tileP m d (Fin.cast nCore_zero c) i (m (oLoc d))), bigSep_subs (F := F) (fun i => tileP m d (Fin.cast nCore_zero c) i (oGoal m d)),
    core_tiles, core_tiles]
  iintro H; imodintro
  isplitl [H]; · iexact H
  iintro H; iexact H

/-! ## The launch's ghost state -/

def u₀ : UU := (initOf (K (F := F)).hsCells (K (F := F)).hsToks, 1)

omit [FloatOps F] in
theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emps]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emps]
  iempintro

/-! ## `@main` -/

abbrev S7 : Finset (DevRef τ sig) := {s', a', h', c', p', x', o'}

theorem hop1 : (op1 (F := F)).bufs ⊆ S7 := show ({a', h'} : Finset (DevRef τ sig)) ⊆ S7 by decide
theorem hop2 : (op2 (F := F)).bufs ⊆ S7 := show ({c'} : Finset (DevRef τ sig)) ⊆ S7 by decide
theorem hop3 : (op3 (F := F)).bufs ⊆ S7 := show ({c', p'} : Finset (DevRef τ sig)) ⊆ S7 by decide
theorem hop4 : (op4 (F := F)).bufs ⊆ S7 := show ({h', p', x'} : Finset (DevRef τ sig)) ⊆ S7 by decide

omit [FloatOps F] in
theorem held_S7 (d : Dev nD) (W : Valuation τ sig (Elt F)) :
    (held (T d) S7 W : sProp 𝕄)
      = iprop((sLoc d ↦{fullShare} W s') ∗ (aLoc d ↦{fullShare} W a') ∗ ((SparseCore.T d).loc main_v0 ↦{fullShare} W h') ∗ ((SparseCore.T d).loc main_c ↦{fullShare} W c')
          ∗ ((SparseCore.T d).loc main_call0_v0 ↦{fullShare} W p') ∗ (xLoc d ↦{fullShare} W x') ∗ oLoc d ↦{fullShare} W o') := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

set_option maxRecDepth 16384 in
theorem unscoped_held (d : Dev nD) : (unscopedBufs d (fun b => m ((SparseCore.T d).loc b)) : sProp 𝕄) = held (T d) S7 (V0 m d) := by
  rw [held_S7]
  unfold unscopedBufs
  rw [show (Finset.univ.filter fun b : Ref sig .tc => ¬ b.isScoped) = {main_arg0, main_arg1, main_v0, main_c, main_call0_v0, main_v1, main_v2} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

theorem held_V4 (d : Dev nD) :
    (held (T d) S7 ((op4 (F := F)).result ((op3 (F := F)).result ((op2 (F := F)).result ((op1 (F := F)).result (V0 m d))))) : sProp 𝕄)
      = iprop((sLoc d ↦{fullShare} m (sLoc d)) ∗ (aLoc d ↦{fullShare} m (aLoc d)) ∗ ((SparseCore.T d).loc main_v0 ↦{fullShare} V4 m d h') ∗ ((SparseCore.T d).loc main_c ↦{fullShare} V4 m d c')
          ∗ ((SparseCore.T d).loc main_call0_v0 ↦{fullShare} V4 m d p') ∗ (xLoc d ↦{fullShare} XP m d) ∗ oLoc d ↦{fullShare} m (oLoc d)) := by
  show held (SparseCore.T d) S7 (V4 m d) = _
  rw [held_S7, V4_s, V4_a, V4_x, V4_o]

theorem st0_eq (d : Dev nD) : (bigSep Finset.univ fun c : Fin ((K (F := F)).nCore 0) => (P m).st 0 d c)
    = iprop((sLoc d ↦{fullShare} m (sLoc d)) ∗ (xLoc d ↦{fullShare} XP m d) ∗ oLoc d ↦{fullShare} m (oLoc d)) :=
  (bigSep_cores (F := F) (fun c => coreP m d c (m (oLoc d)))).trans (arrays_cores m d _).symm
theorem dn0_eq (d : Dev nD) : (bigSep Finset.univ fun c : Fin ((K (F := F)).nCore 0) => (P m).dn 0 d c)
    = iprop((sLoc d ↦{fullShare} m (sLoc d)) ∗ (xLoc d ↦{fullShare} XP m d) ∗ oLoc d ↦{fullShare} oGoal m d) :=
  (bigSep_cores (F := F) (fun c => coreP m d c (oGoal m d))).trans (arrays_cores m d _).symm

/-- What `@main` leaves: the arguments as they were, the result at the gathered rows. -/
abbrev FIN (d : Dev nD) : sProp 𝕄 := iprop((sLoc d ↦{fullShare} m (sLoc d)) ∗ (aLoc d ↦{fullShare} m (aLoc d)) ∗ oLoc d ↦{fullShare} oGoal m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, fn_pad.body, wp_bind, wp_pure]
  iintro ⟨#Hctx, Hst, ⟨Hb, Hheld, Hts, -⟩, -⟩
  iapply (wp_hlo_within 𝒱 (SparseCore.T d) none Set.univ (op := op1) (S := S7) hop1 (V := V0 m d)) $$ [Hb Hheld]
  · isplitl [Hb] <;> iassumption
  iintro ⟨Hb, Hheld⟩
  rw [wp_ret]; imodintro
  iapply (wp_hlo_within 𝒱 (SparseCore.T d) none Set.univ (op := op2) (S := S7) hop2 (V := (op1 (F := F)).result (V0 m d))) $$ [Hb Hheld]
  · isplitl [Hb] <;> iassumption
  iintro ⟨Hb, Hheld⟩
  rw [wp_ret]; imodintro
  iapply (wp_hlo_within 𝒱 (SparseCore.T d) none Set.univ (op := op3) (S := S7) hop3 (V := (op2 (F := F)).result ((op1 (F := F)).result (V0 m d)))) $$ [Hb Hheld]
  · isplitl [Hb] <;> iassumption
  iintro ⟨Hb, Hheld⟩
  rw [wp_ret]; imodintro
  iapply (wp_hlo_within 𝒱 (SparseCore.T d) none Set.univ (op := op4) (S := S7) hop4 (V := (op3 (F := F)).result ((op2 (F := F)).result ((op1 (F := F)).result (V0 m d))))) $$ [Hb Hheld]
  · isplitl [Hb] <;> iassumption
  iintro ⟨Hb, Hheld⟩
  rw [wp_ret]; imodintro; imodintro
  ihave Hh := (Entails.of_eq (held_V4 (F := F) m d)) $$ Hheld
  icases Hh with ⟨Hs, Ha, Hh, Hc, Hp, Hx, Ho⟩
  iapply ((K (F := F)).wp_run (D (F := F)) 𝒱 (EH := EH) (P := P m) κ d 0) $$ [Hst Hs Hx Ho Hb Ha Hts]
  isplitr; · iexact Hctx
  isplitl [Hst]; · iexact Hst
  isplitl [Hs Hx Ho]
  · rw [st0_eq]
    isplitl [Hs]; · iexact Hs
    isplitl [Hx]; · iexact Hx
    iexact Ho
  iintro ⟨Hst, Hdn⟩
  ihave Hdn' := (Entails.of_eq (dn0_eq m d)) $$ Hdn
  icases Hdn' with ⟨Hs, Hx, Ho⟩
  imodintro
  isplitl [Hst]; · iexact Hst
  isplitr [Hb Hts]
  · isplitl [Hs]; · iexact Hs
    isplitl [Ha]; · iexact Ha
    iexact Ho
  isplitl [Hb] <;> iassumption

/-! ## The end of the run -/

def fq (d : Dev nD) (s' : Phys nD τ sig (Elt F)) : Prop :=
  s'.mem.mem (sLoc d) = m (sLoc d) ∧ s'.mem.mem (aLoc d) = m (aLoc d) ∧ s'.mem.mem (oLoc d) = oGoal m d

set_option maxRecDepth 16384 in
theorem hfin (d : Dev nD) (s' : Phys nD τ sig (Elt F)) : iprop(FIN m d ∗ SI s') ⊢ (⌜fq m d s'⌝ : sProp 𝕄) := by
  iintro ⟨⟨Hs, Ha, Ho⟩, HSI⟩
  ihave H := (persistent_entails_right (SI_pointsTo_agree (st := s') (ℓ := sLoc d) (I := Finset.univ) (q := fullShare) (f := m (sLoc d)))) $$ [HSI Hs]
  · isplitl [HSI] <;> iassumption
  icases H with ⟨%h1, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h2, HSI, -⟩
  ihave H := (SI_pointsTo_agree (st := s') (ℓ := oLoc d) (I := Finset.univ) (q := fullShare) (f := oGoal m d)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-- What every execution ends in. -/
def QC : PUnit × MemSt nD τ sig (Elt F) → Prop := fun r =>
  (∀ c : Dev nD, r.2.mem (sLoc c) = m (sLoc c) ∧ r.2.mem (aLoc c) = m (aLoc c) ∧ r.2.mem (oLoc c) = oGoal m c) ∧ r.2.sem = fun _ => 0

theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Gather

end
-- ==== Proof.GatherValue.lean ====
/-
  The claims of the gather: from the precondition every row number is in range; the padded index array read at its
  first sixty-four columns is the list of row numbers; the reference's result is the same rows; the frames and the
  equality of the results.
-/
module

public import proofs.«01_k».proof.Proof.GatherRun
public import proofs.«01_k».proof.Proof.Gen.Pre_in_rows
public import proofs.«01_k».proof.Proof.Gen.Reference.Run
public import Idealize.ShloMosaic.Lib.KernelVsHost
public import Idealize.ShloMosaic.Lib.Pipeline.Value
public import Idealize.ShloMosaic.Lib.ReduceAll
public import Idealize.ShloMosaic.Lib.Routing.Ops
public import Idealize.ShloMosaic.Lib.Quiescent

@[expose] public section

noncomputable section

namespace Cert.Proof.Gather

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Row numbers in range -/

/-- A word that is at least zero and below 16384, read signed, is below 16384. -/
theorem word_lt (v : BitVec 32) (e : IntOp.andi (IntOp.cmpi .sge v 0#32) (IntOp.cmpi .slt v 16384#32) = 1#1) : v.toNat < 16384 := by
  have andi_ofBool (p q : Bool) : IntOp.andi (BitVec.ofBool p) (BitVec.ofBool q) = BitVec.ofBool (p && q) := by
    cases p <;> cases q <;> decide
  have one (p : Bool) : (BitVec.ofBool p = 1#1) ↔ p = true := by cases p <;> decide
  simp only [IntOp.cmpi, andi_ofBool, one, Bool.and_eq_true, BitVec.sle_eq_decide, BitVec.slt_eq_decide,
    decide_eq_true_eq, BitVec.toInt_eq_toNat_cond, BitVec.toNat_ofNat, Nat.reducePow, Nat.reduceMod] at e
  omega

/-- The precondition, element by element. -/
theorem rows_lt (src : IVec Cert.Pre_in_rows.S16384x512 32) (idx : IVec Cert.Pre_in_rows.S18432 32)
    (h : Cert.Pre_in_rows.fn (F := Bits) src idx = fun _ => 1#1) (i : Cert.Pre_in_rows.S18432.Idx) : (idx i).toNat < 16384 := by
  have : Subsingleton Cert.Pre_in_rows.S_.Idx := ⟨fun a b => funext fun k => k.elim0⟩
  have e := Host.reduce_andi_all _ _ _ _ _ (congrFun h (fun k : Fin 0 => k.elim0)) i
  exact word_lt _ e

/-! ## The padded index array -/

section
variable [FloatOps F]
variable (m : (ℓ : Loc nD τ sig) → Buf (Elt F) ℓ)

/-- Place `p` of the list of row numbers. -/
def lIx (p : Fin 18432) : S18432.Idx := fun | ⟨0, _⟩ => p | ⟨_ + 1, h⟩ => absurd h (by simp)
def hIx (b : Fin 288) (j : Fin 64) : S288x64.Idx := fun | ⟨0, _⟩ => b | ⟨1, _⟩ => j | ⟨_ + 2, h⟩ => absurd h (by simp)

theorem rows_read (x : IVec S18432 32) (b : Fin 288) (j : Fin 64) (p : Fin 18432) (hp : p.val = b.val * 64 + j.val) :
    shapeCast S288x64 x shapeCasts_S18432_S288x64 (hIx b j) = x (lIx p) := by
  refine shapeCast_apply x _ _ _ ?_
  rw [Shape.rowMajor_val_two, Shape.rowMajor_val_one]
  show p.val = b.val * 64 + j.val
  exact hp

/-- Inside the first sixty-four columns the padded array is the list. -/
theorem XP_in (d : Dev nD) (b : Fin 288) (j : Fin 128) (hj : j.val < 64) (p : Fin 18432) (hp : p.val = b.val * 64 + j.val) :
    XP m d (xIx b j) = m (aLoc d) (lIx p) := by
  unfold XP
  rw [pad_apply_of_inside ![0, 0] ![0, 64] ![0, 0] _ _ _ _ (xIx b j) (hIx b ⟨j.val, hj⟩) (fun a => by
    match a with
    | ⟨0, _⟩ => show b.val = 0 + b.val * 1; omega
    | ⟨1, _⟩ => show j.val = 0 + j.val * 1; omega)]
  exact rows_read _ b ⟨j.val, hj⟩ p hp

/-- Elsewhere it is zero. -/
theorem XP_out (d : Dev nD) (y : S288x128.Idx) (hj : ¬(y 1).val < 64) : XP m d y = 0#32 := by
  unfold XP
  refine (pad_apply_of_not_inside (s := S288x64) (t := S288x128) ![0, 0] ![0, 64] ![0, 0] _ _ _ _ y (1 : Fin 2) (fun h => hj ?_)).trans rfl
  have := h.2.2
  have e : ((y 1).val - 0) / (0 + 1) < 64 := this
  omega

/-- Every word of the padded array names a row when every row number does. -/
theorem ok_of_rows (h : ∀ (d : Dev nD) (i : S18432.Idx), (m (aLoc d) i : BitVec 32).toNat < 16384) : PreOK m := by
  intro d y
  by_cases hj : (y 1).val < 64
  · have h0 : (y 0).val < 288 := (y 0).isLt
    have e : y = xIx (y 0) (y 1) := by
      funext a
      match a with
      | ⟨0, _⟩ => rfl
      | ⟨1, _⟩ => rfl
    rw [e, XP_in m d (y 0) (y 1) hj ⟨(y 0).val * 64 + (y 1).val, by omega⟩ rfl]
    exact h d _
  · rw [XP_out m d y hj]; decide

/-- The rows left, in terms of the list: row `z` is the source's row named by the list's place `z`. -/
theorem goal_read (d : Dev nD) (z : S18432x512.Idx) :
    oGoal m d z = m (sLoc d) (sIx (rowOf (m (aLoc d) (lIx (z 0)))) (z 1)) := by
  unfold oGoal goal
  rw [XP_in m d _ _ (show (z 0).val % 64 < 64 by omega) (z 0) (by show (z 0).val = (z 0).val / 64 * 64 + (z 0).val % 64; omega)]

end

/-! ## The reference's result -/

theorem reference_rows (src : S16384x512.Idx → BitVec 32) (idx : IVec S18432 32) (h : ∀ i, (idx i).toNat < 16384) (z : S18432x512.Idx) :
    Host.gather Cert.Reference.gather_S16384x512_S18432x1_S18432x512_1_0_n_n_0_1_1512 src
      (broadcastInDim Cert.Reference.S18432x1 ![0] Cert.Reference.Gen.bcast_S18432_S18432x1_0
        (select (cmpi .slt idx (broadcastInDim Cert.Reference.S18432 ![] Cert.Reference.Gen.bcast_S_S18432 (constantI Cert.Reference.S_ 32 0#32)))
          (addi idx (broadcastInDim Cert.Reference.S18432 ![] Cert.Reference.Gen.bcast_S_S18432 (constantI Cert.Reference.S_ 32 16384#32))) idx)) z
      = src (sIx (rowOf (idx (lIx (z 0)))) (z 1)) := by
  have hv := h (lIx (z 0))
  have ez : z = ValueIdx.ix2 (z 0) (z 1) := by
    funext a
    match a with
    | ⟨0, _⟩ => rfl
    | ⟨1, _⟩ => rfl
  have hlt : ∀ v : BitVec 32, v.toNat < 16384 → Scalar.select (IntOp.cmpi .slt v 0#32) (v + 16384#32) v = v := by
    intro v hv
    have : IntOp.cmpi .slt v 0#32 = 0#1 := by
      simp only [IntOp.cmpi, BitVec.slt_eq_decide, BitVec.toInt_eq_toNat_cond, BitVec.toNat_ofNat, Nat.reducePow, Nat.reduceMod]
      rw [decide_eq_false (by omega)]; rfl
    rw [this]; rfl
  rw [ez]
  refine (Routing.gather_row (nb := 16384) (B := 512) (n := 18432) Cert.Reference.gather_S16384x512_S18432x1_S18432x512_1_0_n_n_0_1_1512 rfl rfl rfl rfl rfl
    src _ (z 0) (z 1) ⟨(idx (lIx (z 0))).toNat, hv⟩ ?_ (by decide)).trans ?_
  · rw [broadcastInDim_apply _ _ _ _ (lIx (z 0)) (fun a => by
      match a with
      | ⟨0, _⟩ => exact (if_neg (show ¬(18432 = 1) by decide)).symm)]
    refine (hlt _ hv).trans ?_
    simp
  · congr 1
    funext a
    match a with
    | ⟨0, _⟩ => exact Fin.ext (by show (idx (lIx (z 0))).toNat = min (idx (lIx (z 0))).toNat 16383; omega)
    | ⟨1, _⟩ => rfl

/-! ## The claims -/

theorem pre_ok (m : (ℓ : Loc nD τ sig) → Buf (Elt Bits) ℓ) (h : Cert.Pre_Kernel m) : PreOK m :=
  ok_of_rows m fun d i => rows_lt _ _ (h d) i

theorem frame_kernel : Cert.quiescent_Kernel := fun m ρ hpre =>
  (θ_run Cert.Kernel.defs _ _).mono (fun _ h => ⟨fun c => ⟨(h.1 c).1, (h.1 c).2.1⟩, h.2⟩) (run_main (F := Bits) m ρ (pre_ok m hpre))

theorem frame_reference : Cert.quiescent_Reference := fun m ρ _ =>
  (θ_run Cert.Reference.defs _ _).mono (fun r h => ⟨fun c => (h c).2, Idealize.ShloMosaic.sem_eq_zero_of_no_sems (by decide) r.2⟩)
    (Cert.Reference.Value.run (F := Bits) m ρ)

theorem bitexact : Cert.bitexact_Kernel_Reference := by
  intro m ρ m' ρ' hpre hagree
  refine ⟨fun c => oGoal m c, ?_, ?_⟩
  · exact (θ_run Cert.Kernel.defs _ _).mono (fun _ h c => ⟨(h.1 c).2.2, (h.1 c).1, (h.1 c).2.1⟩) (run_main (F := Bits) m ρ (pre_ok m hpre))
  · refine (θ_run Cert.Reference.defs _ _).mono (fun _ h c => ⟨((h c).1).trans ?_, (h c).2⟩) (Cert.Reference.Value.run (F := Bits) m' ρ')
    rw [(hagree c).1, (hagree c).2]
    funext z
    exact (reference_rows _ _ (fun i => rows_lt _ _ (hpre c) i) z).trans (goal_read m c z).symm

end Cert.Proof.Gather

end
-- ==== Proof.MoeSetupI.lean ====
module

public import proofs.«01_k».proof.Proof.Gen.MoeIdeal.Launch
public import proofs.«01_k».proof.Proof.Gen.MoeIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.MoeI

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- The core's buffers when the call is entered: after the host's roundings of the weights. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The main function is the host's operations and then the call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The host part before the call writes the three rounded weights alone. -/
theorem V_of (c : Dev nD) (b : Ref sig .tc) (h0 : b ≠ main_v0) (h1 : b ≠ main_v1) (h2 : b ≠ main_v2) :
    V m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1, StableHlo.devRef_ne_of_ne h2⟩))

/-- The host part before the call leaves argument 0 as it was. -/
theorem V_main_arg0 (c : Dev nD) : V m c main_arg0 = m ((c : Thread nD τ).loc main_arg0) :=
  V_of m c main_arg0 (by decide) (by decide) (by decide)
/-- The host part before the call leaves argument 1 as it was. -/
theorem V_main_arg1 (c : Dev nD) : V m c main_arg1 = m ((c : Thread nD τ).loc main_arg1) :=
  V_of m c main_arg1 (by decide) (by decide) (by decide)
/-- The host part before the call leaves argument 2 as it was. -/
theorem V_main_arg2 (c : Dev nD) : V m c main_arg2 = m ((c : Thread nD τ).loc main_arg2) :=
  V_of m c main_arg2 (by decide) (by decide) (by decide)
/-- The host part before the call leaves argument 3 as it was. -/
theorem V_main_arg3 (c : Dev nD) : V m c main_arg3 = m ((c : Thread nD τ).loc main_arg3) :=
  V_of m c main_arg3 (by decide) (by decide) (by decide)
/-- The host part before the call leaves argument 4 as it was. -/
theorem V_main_arg4 (c : Dev nD) : V m c main_arg4 = m ((c : Thread nD τ).loc main_arg4) :=
  V_of m c main_arg4 (by decide) (by decide) (by decide)
/-- The host part before the call leaves argument 5 as it was. -/
theorem V_main_arg5 (c : Dev nD) : V m c main_arg5 = m ((c : Thread nD τ).loc main_arg5) :=
  V_of m c main_arg5 (by decide) (by decide) (by decide)

/-! ## The prefetched tables, read off the launch memory -/

/-- The two tables' contents when the call is entered. -/
def tbl : pre0.Contents (Elt F) := fun j => V m (0 : Dev nD) (pre0.ref j)
/-- The one device holds those contents. -/
theorem V_pre (c : Dev nD) (j : Fin 2) : V m c (pre0.ref j) = tbl m j := by
  obtain rfl : c = 0 := Subsingleton.elim _ _; rfl
/-- Every block the tables name is inside its array. -/
abbrev Ok : Prop := ok0 (F := F) (tbl m)
/-- The tables' contents as ones the pipeline takes, and the pipeline at them. -/
abbrev adm (hO : Ok m) : (pcfg0 (F := F)).Adm := ⟨tbl m, hO⟩
abbrev cfgM (hO : Ok m) : Pipeline.Cfg sig Λ₀ := cfg0 (adm m hO)

/-- Each table as the body sees it. -/
abbrev tbM0_0 : Memref sig .tc .smem S72 .i32 := Memref.whole main_arg0
abbrev htbM0_0 : tbM0_0.IsWhole := Memref.isWhole_whole _
abbrev tbM0_1 : Memref sig .tc .smem S1 .i32 := Memref.whole main_arg1
abbrev htbM0_1 : tbM0_1.IsWhole := Memref.isWhole_whole _

/-- Half of a table, held for reading: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves one by one. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read from its array as the call finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's staging buffer holds its block at every point, fetched there or kept. -/
theorem before0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or kept. -/
theorem before1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or kept. -/
theorem before2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or kept. -/
theorem before3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run of the pipeline, the arguments end as they began. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 0).trans (((dats 0 c).arrAt_in 0 rfl _).trans ((hA c 0).trans (V_main_arg2 m c))),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩) h

/-! ## The body's branch conditions: the tile is in use, and the half of the hidden axis -/

/-- The tile of the point is below the number `w` of tiles in use. -/
abbrev used (i : grid0.Coords) (w : BitVec 32) : Prop :=
  Scalar.cmpi .slt (Scalar.addi (BitVec.ofNat 32 (i 0).val) 0#32) w = 1#1

/-- The first branch's condition: a tile in use, first half. -/
abbrev cond1 (i : grid0.Coords) (w : BitVec 32) : Prop :=
  Scalar.cmpi .ne (Scalar.extui (Scalar.andi (Scalar.cmpi .slt (Scalar.addi (BitVec.ofNat 32 (i 0).val) 0#32) w)
    (Scalar.cmpi .eq (BitVec.ofNat 32 (i 1).val) 0#32)) : BitVec 32) 0#32 = 1#1

theorem half_cases (i : grid0.Coords) : (i 1).val = 0 ∨ (i 1).val = 1 := by
  have h : (i 1).val < 2 := (i 1).isLt
  omega

theorem bit_cases (b : BitVec 1) : b = 0#1 ∨ b = 1#1 := by revert b; decide

theorem cond1_iff (i : grid0.Coords) (w : BitVec 32) : cond1 i w ↔ used i w ∧ (i 1).val = 0 := by
  unfold cond1 used
  generalize Scalar.cmpi .slt (Scalar.addi (BitVec.ofNat 32 (i 0).val) 0#32) w = b
  rcases half_cases i with h | h <;> rcases bit_cases b with hb | hb <;> rw [h, hb] <;> decide

theorem cond2_iff (i : grid0.Coords) (w : BitVec 32) : k0_cond2 i w = 1#1 ↔ used i w ∧ (i 1).val = 1 := by
  unfold k0_cond2 used
  dsimp only
  generalize Scalar.cmpi .slt (Scalar.addi (BitVec.ofNat 32 (i 0).val) 0#32) w = b
  rcases half_cases i with h | h <;> rcases bit_cases b with hb | hb <;> rw [h, hb] <;> decide

theorem cond3_iff (i : grid0.Coords) (w : BitVec 32) : k0_cond3 i w = 1#1 ↔ ¬ used i w ∧ (i 1).val = 1 := by
  unfold k0_cond3 used
  dsimp only
  generalize Scalar.cmpi .slt (Scalar.addi (BitVec.ofNat 32 (i 0).val) 0#32) w = b
  rcases half_cases i with h | h <;> rcases bit_cases b with hb | hb <;> rw [h, hb] <;> decide

theorem half_at (t : Fin grid0.N) : (grid0.coords t 1).val = t.val % 2 := by
  have e1 : (grid0.coords t 1).val = t.val / 1 % 2 := Pipeline.Grid.coords_val t 1 (by decide) rfl
  rw [e1, Nat.div_one]

theorem tile_at (t : Fin grid0.N) : (grid0.coords t 0).val = t.val / 2 := by
  have ht : t.val < 72 := Nat.lt_of_lt_of_eq t.isLt N_0
  have e0 : (grid0.coords t 0).val = t.val / 2 % 36 := Pipeline.Grid.coords_val t 0 (by decide) rfl
  rw [e0]; omega

/-- The number of tiles in use, as the pipeline reads it. -/
abbrev nuW : BitVec 32 := (tbl m).atD 1 ![0]

/-! ## Where the windows are idle -/

theorem liveAt_0 (hO : Ok m) (t : Fin (cfgM m hO).N) : (cfgM m hO).idle 0 (grid0.coords t) = false := rfl
theorem liveAt_1 (hO : Ok m) (t : Fin (cfgM m hO).N) : (cfgM m hO).idle 1 (grid0.coords t) = false := rfl
theorem liveAt_2 (hO : Ok m) (t : Fin (cfgM m hO).N) : (cfgM m hO).idle 2 (grid0.coords t) = false := rfl
theorem liveAt_3 (hO : Ok m) (t : Fin (cfgM m hO).N) : (cfgM m hO).idle 3 (grid0.coords t) = false := rfl

/-- The output's window is idle at a first half, -/
theorem idleAt_4 (hO : Ok m) (t : Fin (cfgM m hO).N) (h : t.val % 2 = 0) : (cfgM m hO).idle 4 (grid0.coords t) = true := by
  have e : (cfgM m hO).idle 4 (grid0.coords t)
      = (!(k0_cond2 (grid0.coords t) (nuW m) == 1#1) && !(k0_cond3 (grid0.coords t) (nuW m) == 1#1)) := rfl
  have h1 : (grid0.coords t 1).val = 0 := (half_at t).trans h
  have n2 : ¬ k0_cond2 (grid0.coords t) (nuW m) = 1#1 := fun H => by have := ((cond2_iff _ _).mp H).2; omega
  have n3 : ¬ k0_cond3 (grid0.coords t) (nuW m) = 1#1 := fun H => by have := ((cond3_iff _ _).mp H).2; omega
  rw [e, beq_eq_false_iff_ne.mpr n2, beq_eq_false_iff_ne.mpr n3]; rfl

/-- and live at a second half, whether or not the tile is in use. -/
theorem liveAt_4 (hO : Ok m) (t : Fin (cfgM m hO).N) (h : t.val % 2 = 1) : (cfgM m hO).idle 4 (grid0.coords t) = false := by
  have e : (cfgM m hO).idle 4 (grid0.coords t)
      = (!(k0_cond2 (grid0.coords t) (nuW m) == 1#1) && !(k0_cond3 (grid0.coords t) (nuW m) == 1#1)) := rfl
  have h1 : (grid0.coords t 1).val = 1 := (half_at t).trans h
  rw [e]
  by_cases hu : used (grid0.coords t) (nuW m)
  · rw [beq_iff_eq.mpr ((cond2_iff _ _).mpr ⟨hu, h1⟩)]; rfl
  · rw [beq_iff_eq.mpr ((cond3_iff _ _).mpr ⟨hu, h1⟩), Bool.not_true, Bool.and_false]

/-- The output's block is written back at the second halves only. -/
theorem flush_4 (hO : Ok m) (t : Fin (cfgM m hO).N) : ((cfgM m hO).win 4).flush t = true ↔ t.val % 2 = 1 :=
  (by decide +kernel : ∀ t : Fin grid0.N, Pipeline.Window.flushOf grid0 true cc0_transform_4 t = true ↔ t.val % 2 = 1) t

theorem noFlush_4 (hO : Ok m) (t : Fin (cfgM m hO).N) (h : t.val % 2 = 0) : ((cfgM m hO).win 4).flush t = false :=
  Bool.eq_false_iff.mpr fun H => by have := (flush_4 m hO t).mp H; omega

/-! ## The kernel body on any staging memrefs: a subtype the run finds -/

/-- A buffer of the output window, to read the written pieces through. -/
abbrev VO0_4 : View sig .tc .vmem S1024x512 .bf16 := (Memref.whole cc0_stg4_0 : Memref sig .tc .vmem S1024x512 .bf16).view
/-- Each window's buffer at point `t`. -/
abbrev ms0_0 (hO : Ok m) (t : Fin (cfgM m hO).N) : Memref sig .tc .vmem S1024x512 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x1792 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1024x1792 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1792x1024 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1024x512 .bf16 := spec0_4.stage ((cfgM m hO).slots t 4)
abbrev hs0_4 (hO : Ok m) (t : Fin (cfgM m hO).N) : (ms0_4 m hO t).IsWhole := hstage0_4 (((cfgM m hO).slots t 4).cast nbuf0_4)
/-- The two scratch buffers: the tokens' tile, and the running sums. -/
abbrev scM0_0 : Memref sig .tc .vmem S512x1024 .bf16 := Memref.whole cc0_scratch0
abbrev scM0_1 : Memref sig .tc .vmem S512x1024 .f32 := Memref.whole cc0_scratch1
/-- The tokens' tile as a view. -/
abbrev VS0_0 : View sig .tc .vmem S512x1024 .bf16 := scM0_0.view
/-- The running sums as a view. -/
abbrev VS0_1 : View sig .tc .vmem S512x1024 .f32 := scM0_1.view

/-- What the call keeps between points: the scratch buffers at some contents and the generator's state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The kernel's body at point `t`, on what the pipeline calls it with. -/
abbrev bodyAt (hO : Ok m) (t : Fin (cfgM m hO).N) : Prog (TpuEff nD τ sig (Elt F) Λ₀ .tc) PUnit :=
  cc0_moe_grouped (grid0.coords t) tbM0_0 htbM0_0 tbM0_1 htbM0_1 (ms0_0 m hO t) (hs0_0 m hO t) (ms0_1 m hO t) (hs0_1 m hO t)
    (ms0_2 m hO t) (hs0_2 m hO t) (ms0_3 m hO t) (hs0_3 m hO t) (ms0_4 m hO t) (hs0_4 m hO t) scM0_0 (Memref.isWhole_whole _)
    scM0_1 (Memref.isWhole_whole _)

end Cert.Proof.MoeI

end
-- ==== Proof.MoeRunI.lean ====
module

public import proofs.«01_k».proof.Proof.MoeSetupI
public import Idealize.ShloMosaic.Lib.Pipeline.Value

@[expose] public section

set_option maxRecDepth 16384

noncomputable section

namespace Cert.Proof.MoeI

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body leaves in its buffers -/

/-- The columns of a block of the gate's or the up weights from `o` on, and the rows of a block of the down weights. -/
abbrev gw0 (x : Vec F S1x1024x1792 .bf16) : Vec F S1x1024x512 .bf16 := View.ld x (Rect.unit (s := S1x1024x1792) ![0, 0, 0] S1x1024x512.size inb_S1x1024x1792_S1x1024x512_0_0_0)
abbrev gw1 (x : Vec F S1x1024x1792 .bf16) : Vec F S1x1024x512 .bf16 := View.ld x (Rect.unit (s := S1x1024x1792) ![0, 0, 512] S1x1024x512.size inb_S1x1024x1792_S1x1024x512_0_0_512)
abbrev gw2 (x : Vec F S1x1024x1792 .bf16) : Vec F S1x1024x512 .bf16 := View.ld x (Rect.unit (s := S1x1024x1792) ![0, 0, 1024] S1x1024x512.size inb_S1x1024x1792_S1x1024x512_0_0_1024)
abbrev gw3 (x : Vec F S1x1024x1792 .bf16) : Vec F S1x1024x256 .bf16 := View.ld x (Rect.unit (s := S1x1024x1792) ![0, 0, 1536] S1x1024x256.size inb_S1x1024x1792_S1x1024x256_0_0_1536)
abbrev dw0 (x : Vec F S1x1792x1024 .bf16) : Vec F S1x512x1024 .bf16 := View.ld x (Rect.unit (s := S1x1792x1024) ![0, 0, 0] S1x512x1024.size inb_S1x1792x1024_S1x512x1024_0_0_0)
abbrev dw1 (x : Vec F S1x1792x1024 .bf16) : Vec F S1x512x1024 .bf16 := View.ld x (Rect.unit (s := S1x1792x1024) ![0, 512, 0] S1x512x1024.size inb_S1x1792x1024_S1x512x1024_0_512_0)
abbrev dw2 (x : Vec F S1x1792x1024 .bf16) : Vec F S1x512x1024 .bf16 := View.ld x (Rect.unit (s := S1x1792x1024) ![0, 1024, 0] S1x512x1024.size inb_S1x1792x1024_S1x512x1024_0_1024_0)
abbrev dw3 (x : Vec F S1x1792x1024 .bf16) : Vec F S1x256x1024 .bf16 := View.ld x (Rect.unit (s := S1x1792x1024) ![0, 1536, 0] S1x256x1024.size inb_S1x1792x1024_S1x256x1024_0_1536_0)

/-- The two stores that unpack a tile of tokens, the later first. -/
abbrev tokenPieces (x0 : Vec F S1024x512 .bf16) : List (View.Piece (Elt F) S512x1024 .bf16) :=
  [⟨Rect.unit (s := S512x1024) ![0, 512] S512x512.size inb_S512x1024_S512x512_0_512, k0_pay5 x0⟩,
   ⟨Rect.unit (s := S512x1024) ![0, 0] S512x512.size inb_S512x1024_S512x512_0_0, k0_pay4 x0⟩]

/-- The unpacked tile of tokens. -/
def tokens (x0 : Vec F S1024x512 .bf16) : Vec F S512x1024 .bf16 := View.canon (tokenPieces x0)

/-- The sums over the first half of the hidden axis. -/
def sums (xb : Vec F S512x1024 .bf16) (x1 x2 : Vec F S1x1024x1792 .bf16) (x3 : Vec F S1x1792x1024 .bf16) : Vec F S512x1024 .f32 :=
  k0_pay1 xb (k0_pay8 xb (k0_pay6 xb (gw0 x1) (gw0 x2)) (k0_pay7 (dw0 x3)) (gw1 x1) (gw1 x2) (dw1 x3))
    (k0_pay9 xb (gw2 x1)) (k0_pay10 xb (gw2 x2)) (k0_pay11 xb (gw2 x1)) k0_pay12 (dw2 x3) (gw3 x1) (gw3 x2) (dw3 x3)

/-- The packed output: the sums of the first half and those over the second. -/
def packed (xb : Vec F S512x1024 .bf16) (acc : Vec F S512x1024 .f32) (x1 x2 : Vec F S1x1024x1792 .bf16) (x3 : Vec F S1x1792x1024 .bf16) :
    Vec F S1024x512 .bf16 :=
  k0_pay2 acc xb (k0_pay18 xb (k0_pay13 xb (gw0 x1) (gw0 x2) (dw0 x3)) (k0_pay14 xb (gw1 x1)) (k0_pay15 xb (gw1 x2)) (k0_pay16 xb (gw1 x1))
    k0_pay17 (dw1 x3) (gw2 x1) (gw2 x2) (dw2 x3)) (k0_pay19 xb (gw3 x1)) (gw3 x2) (dw3 x3)

/-- The number of tiles in use, as the body reads it. -/
abbrev nuAt (c : Dev nD) (xt1 : TbBuf0 (F := F) c tbM0_1) : BitVec 32 :=
  View.readAt (Elt F) tbM0_1.view (Rect.unit (s := S1) ![0] S1.size inb_S1_S1_0).toLoadRect xt1 (Shape.Idx.first (by decide))

theorem tokens_cover (x0 : Vec F S1024x512 .bf16) (y : S512x1024.Idx) : ∃ pc ∈ tokenPieces x0, y ∈ pc.1.set :=
  View.cover_of_tiledL (tokenPieces x0) S512x512.size (by sl_kernel_rfl) y

theorem zeros2 : (![0, 0] : Fin 2 → ℕ) = fun _ => 0 := funext fun a => by fin_cases a <;> rfl

section
variable (c : Dev nD) (i : grid0.Coords) (arg4 : Memref sig .tc .vmem S1024x512 .bf16) (harg4 : arg4.IsWhole)
  (arg5 : Memref sig .tc .vmem S1x1024x1792 .bf16) (harg5 : arg5.IsWhole) (arg6 : Memref sig .tc .vmem S1x1024x1792 .bf16) (harg6 : arg6.IsWhole)
  (arg7 : Memref sig .tc .vmem S1x1792x1024 .bf16) (harg7 : arg7.IsWhole) (arg8 : Memref sig .tc .vmem S1024x512 .bf16) (harg8 : arg8.IsWhole)
  (x0 : Vec F S1024x512 .bf16) (x1 : Vec F S1x1024x1792 .bf16) (x2 : Vec F S1x1024x1792 .bf16) (x3 : Vec F S1x1792x1024 .bf16)
  (xt0 : TbBuf0 (F := F) c tbM0_0) (xt1 : TbBuf0 (F := F) c tbM0_1)

/-- The windows' buffers and the tables, held through the body. -/
abbrev held (x4 : Vec F S1024x512 .bf16) : sProp 𝕄 :=
  iprop(owns (c : Thread nD τ) arg4 fullShare x0 ∗ owns (c : Thread nD τ) arg5 fullShare x1 ∗ owns (c : Thread nD τ) arg6 fullShare x2
    ∗ owns (c : Thread nD τ) arg7 fullShare x3 ∗ owns (c : Thread nD τ) arg8 fullShare x4 ∗ tbPt0 c tbM0_0 xt0 ∗ tbPt0 c tbM0_1 xt1)

set_option maxHeartbeats 1000000 in
/-- A tile in use, first half: the tokens are unpacked and the first sums stored; the output's buffer stays. -/
theorem runA (hc1 : cond1 i (nuAt c xt1)) (hc2 : ¬ k0_cond2 i (nuAt c xt1) = 1#1) (hc3 : ¬ k0_cond3 i (nuAt c xt1) = 1#1)
    (x4 : Vec F S1024x512 .bf16) (E : Set ℕ) (K : PUnit → sProp 𝕄) :
    iprop(held c arg4 arg5 arg6 arg7 arg8 x0 x1 x2 x3 xt0 xt1 x4
        ∗ (∃ d, owns (c : Thread nD τ) scM0_0 fullShare d) ∗ (∃ d, owns (c : Thread nD τ) scM0_1 fullShare d)
        ∗ (iprop(held c arg4 arg5 arg6 arg7 arg8 x0 x1 x2 x3 xt0 xt1 x4
            ∗ owns (c : Thread nD τ) scM0_0 fullShare (tokens x0) ∗ owns (c : Thread nD τ) scM0_1 fullShare (sums (tokens x0) x1 x2 x3)) -∗ K ⟨⟩))
      ⊢ wp frame (wpE (defs₀ (F := F)) Variants.none c none) E (cc0_moe_grouped i tbM0_0 htbM0_0 tbM0_1 htbM0_1 arg4 harg4 arg5 harg5 arg6 harg6 arg7 harg7 arg8 harg8 scM0_0 (Memref.isWhole_whole _) scM0_1 (Memref.isWhole_whole _)) K := by
  simp only [cc0_moe_grouped_eq_skeleton]; unfold cc0_moe_grouped_skel
  simp only [k0_part1_eq_skeleton, k0_part2_eq_skeleton]
  unfold held owns
  iintro ⟨⟨⟨%f0, %hf0, H0⟩, ⟨%f1, %hf1, H1⟩, ⟨%f2, %hf2, H2⟩, ⟨%f3, %hf3, H3⟩, ⟨%f4, %hf4, H4⟩, HT0, HT1⟩, ⟨%ds0, %fs0, -, HS0⟩, ⟨%ds1, %fs1, -, HS1⟩, Hk⟩
  obtain rfl := harg4.eq_unread hf0; obtain rfl := harg5.eq_unread hf1; obtain rfl := harg6.eq_unread hf2; obtain rfl := harg7.eq_unread hf3; obtain rfl := harg8.eq_unread hf4
  sl_exec (disch := first | sl_exact hc1 | sl_exact hc2 | sl_exact hc3)
  sl_step
  iapply Hk
  isplitl [H0 H1 H2 H3 H4 HT0 HT1]
  · isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [HT0]; · iexact HT0
    iexact HT1
  isplitl [HS0]
  · iexists _; isplitr
    swap; · iexact HS0
    ipureintro
    sl_unfold_words
    simp only [View.readAt_eq_ld, harg4.read_unread, View.ld_unit_zero (S := S1024x512) zeros2]
    exact View.read_writes_eq_canon _ _ _ (tokens_cover x0)
  iexists _; isplitr
  swap; · iexact HS1
  ipureintro
  rw [View.read_writes_eq_canon _ _ _ (View.cover_of_tiledL _ S512x1024.size (by sl_kernel_rfl)), View.canon_unit_zero zeros2]
  sl_unfold_words
  have e : ∀ L : List (View.Piece (Elt F) S512x1024 .bf16), scM0_0.view.readCov L (Rect.unit (s := S512x1024) ![0, 0] S512x1024.size inb_S512x1024_S512x1024_0_0).toLoadRect = View.canon L := fun L => by
    rw [View.readCov_eq_canon']
    exact View.ld_unit_zero (S := S512x1024) zeros2 _ (View.canon L)
  simp only [View.readAt_eq_ld, harg4.read_unread, harg5.read_unread, harg6.read_unread, harg7.read_unread, View.ld_unit_zero (S := S1024x512) zeros2, e]
  rfl

set_option maxHeartbeats 1000000 in
/-- A tile in use, second half: the output's buffer is stored whole from the tokens and the first sums. -/
theorem runB (hc1 : ¬ cond1 i (nuAt c xt1)) (hc2 : k0_cond2 i (nuAt c xt1) = 1#1) (hc3 : ¬ k0_cond3 i (nuAt c xt1) = 1#1)
    (xb : Vec F S512x1024 .bf16) (acc : Vec F S512x1024 .f32) (x4 : Vec F S1024x512 .bf16) (E : Set ℕ) (K : PUnit → sProp 𝕄) :
    iprop(held c arg4 arg5 arg6 arg7 arg8 x0 x1 x2 x3 xt0 xt1 x4
        ∗ owns (c : Thread nD τ) scM0_0 fullShare xb ∗ owns (c : Thread nD τ) scM0_1 fullShare acc
        ∗ (iprop(held c arg4 arg5 arg6 arg7 arg8 x0 x1 x2 x3 xt0 xt1 (packed xb acc x1 x2 x3)
            ∗ owns (c : Thread nD τ) scM0_0 fullShare xb ∗ owns (c : Thread nD τ) scM0_1 fullShare acc) -∗ K ⟨⟩))
      ⊢ wp frame (wpE (defs₀ (F := F)) Variants.none c none) E (cc0_moe_grouped i tbM0_0 htbM0_0 tbM0_1 htbM0_1 arg4 harg4 arg5 harg5 arg6 harg6 arg7 harg7 arg8 harg8 scM0_0 (Memref.isWhole_whole _) scM0_1 (Memref.isWhole_whole _)) K := by
  have hs0 : scM0_0.IsWhole := Memref.isWhole_whole _
  have hs1 : scM0_1.IsWhole := Memref.isWhole_whole _
  simp only [cc0_moe_grouped_eq_skeleton]; unfold cc0_moe_grouped_skel
  simp only [k0_part3_eq_skeleton, k0_part4_eq_skeleton]
  unfold held owns
  iintro ⟨⟨⟨%f0, %hf0, H0⟩, ⟨%f1, %hf1, H1⟩, ⟨%f2, %hf2, H2⟩, ⟨%f3, %hf3, H3⟩, ⟨%f4, %hf4, H4⟩, HT0, HT1⟩, ⟨%fs0, %hfs0, HS0⟩, ⟨%fs1, %hfs1, HS1⟩, Hk⟩
  obtain rfl := harg4.eq_unread hf0; obtain rfl := harg5.eq_unread hf1; obtain rfl := harg6.eq_unread hf2; obtain rfl := harg7.eq_unread hf3; obtain rfl := harg8.eq_unread hf4
  obtain rfl := hs0.eq_unread hfs0; obtain rfl := hs1.eq_unread hfs1
  sl_exec (disch := first | sl_exact hc1 | sl_exact hc2 | sl_exact hc3)
  sl_step
  iapply Hk
  isplitl [H0 H1 H2 H3 H4 HT0 HT1]
  · isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr
      swap; · iexact H4
      ipureintro
      rw [View.read_writes_eq_canon _ _ _ (View.cover_of_tiledL _ S1024x512.size (by sl_kernel_rfl)), View.canon_unit_zero zeros2]
      sl_unfold_words
      simp only [View.readAt_eq_ld, hs0.read_unread, hs1.read_unread, harg5.read_unread, harg6.read_unread, harg7.read_unread, View.ld_unit_zero (S := S512x1024) zeros2]
      rfl
    isplitl [HT0]; · iexact HT0
    iexact HT1
  isplitl [HS0]
  · iexists _; isplitr; · ipureintro; exact hs0.read_unread _
    iexact HS0
  iexists _; isplitr; · ipureintro; exact hs1.read_unread _
  iexact HS1

set_option maxHeartbeats 1000000 in
/-- A tile not in use, first half: nothing is stored. -/
theorem runC (hc1 : ¬ cond1 i (nuAt c xt1)) (hc2 : ¬ k0_cond2 i (nuAt c xt1) = 1#1) (hc3 : ¬ k0_cond3 i (nuAt c xt1) = 1#1)
    (x4 : Vec F S1024x512 .bf16) (E : Set ℕ) (K : PUnit → sProp 𝕄) :
    iprop(held c arg4 arg5 arg6 arg7 arg8 x0 x1 x2 x3 xt0 xt1 x4
        ∗ (held c arg4 arg5 arg6 arg7 arg8 x0 x1 x2 x3 xt0 xt1 x4 -∗ K ⟨⟩))
      ⊢ wp frame (wpE (defs₀ (F := F)) Variants.none c none) E (cc0_moe_grouped i tbM0_0 htbM0_0 tbM0_1 htbM0_1 arg4 harg4 arg5 harg5 arg6 harg6 arg7 harg7 arg8 harg8 scM0_0 (Memref.isWhole_whole _) scM0_1 (Memref.isWhole_whole _)) K := by
  simp only [cc0_moe_grouped_eq_skeleton]; unfold cc0_moe_grouped_skel
  unfold held
  iintro ⟨⟨H0, H1, H2, H3, H4, HT0, HT1⟩, Hk⟩
  sl_exec (disch := first | sl_exact hc1 | sl_exact hc2 | sl_exact hc3)
  sl_step
  iapply Hk
  isplitl [H0]; · iexact H0
  isplitl [H1]; · iexact H1
  isplitl [H2]; · iexact H2
  isplitl [H3]; · iexact H3
  isplitl [H4]; · iexact H4
  isplitl [HT0]; · iexact HT0
  iexact HT1

set_option maxHeartbeats 1000000 in
/-- A tile not in use, second half: zeros are stored. -/
theorem runD (hc1 : ¬ cond1 i (nuAt c xt1)) (hc2 : ¬ k0_cond2 i (nuAt c xt1) = 1#1) (hc3 : k0_cond3 i (nuAt c xt1) = 1#1)
    (x4 : Vec F S1024x512 .bf16) (E : Set ℕ) (K : PUnit → sProp 𝕄) :
    iprop(held c arg4 arg5 arg6 arg7 arg8 x0 x1 x2 x3 xt0 xt1 x4
        ∗ (held c arg4 arg5 arg6 arg7 arg8 x0 x1 x2 x3 xt0 xt1 k0_pay3 -∗ K ⟨⟩))
      ⊢ wp frame (wpE (defs₀ (F := F)) Variants.none c none) E (cc0_moe_grouped i tbM0_0 htbM0_0 tbM0_1 htbM0_1 arg4 harg4 arg5 harg5 arg6 harg6 arg7 harg7 arg8 harg8 scM0_0 (Memref.isWhole_whole _) scM0_1 (Memref.isWhole_whole _)) K := by
  simp only [cc0_moe_grouped_eq_skeleton]; unfold cc0_moe_grouped_skel
  unfold held
  iintro ⟨⟨H0, H1, H2, H3, H4, HT0, HT1⟩, Hk⟩
  unfold owns
  icases H4 with ⟨%f4, %hf4, H4⟩
  obtain rfl := harg8.eq_unread hf4
  sl_exec (disch := first | sl_exact hc1 | sl_exact hc2 | sl_exact hc3)
  sl_step
  iapply Hk
  isplitl [H0]; · iexact H0
  isplitl [H1]; · iexact H1
  isplitl [H2]; · iexact H2
  isplitl [H3]; · iexact H3
  isplitl [H4]
  · iexists _; isplitr
    swap; · iexact H4
    ipureintro
    rw [View.read_writes_eq_canon _ _ _ (View.cover_of_tiledL _ S1024x512.size (by sl_kernel_rfl)), View.canon_unit_zero zeros2]
  isplitl [HT0]; · iexact HT0
  iexact HT1

end

end Cert.Proof.MoeI

end
-- ==== Proof.MoeFrameI.lean ====
module

public import proofs.«01_k».proof.Proof.MoeRunI
public import Idealize.ShloMosaic.Lib.Claim

@[expose] public section

set_option maxRecDepth 16384

noncomputable section

namespace Cert.Proof.MoeI

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold point by point -/

/-- The number of tiles in use is the second table's word. -/
theorem nuAt_eq (c : Dev nD) : nuAt (F := F) c (tbl m 1) = nuW m := by
  obtain rfl : c = 0 := Subsingleton.elim _ _
  rfl

/-- The point before an odd one. -/
abbrev prev (hO : Ok m) (t : Fin (cfgM m hO).N) : Fin (cfgM m hO).N := ⟨t.val - 1, Nat.lt_of_le_of_lt (Nat.sub_le _ _) t.isLt⟩

/-- The tokens of a point's tile, and the sums after it. -/
abbrev tokensAt (hO : Ok m) (c : Dev nD) (t : Fin (cfgM m hO).N) : Vec F S512x1024 .bf16 := tokens (iblk m hO c 0 t)
abbrev sumsAt (hO : Ok m) (c : Dev nD) (t : Fin (cfgM m hO).N) : Vec F S512x1024 .f32 :=
  sums (tokensAt m hO c t) (iblk m hO c 1 t) (iblk m hO c 2 t) (iblk m hO c 3 t)

/-- What the output's buffer holds after a second half. -/
def outAt (hO : Ok m) (c : Dev nD) (t : Fin (cfgM m hO).N) : Vec F S1024x512 .bf16 :=
  if used (grid0.coords t) (nuW m) then
    packed (tokensAt m hO c (prev m hO t)) (sumsAt m hO c (prev m hO t)) (iblk m hO c 1 t) (iblk m hO c 2 t) (iblk m hO c 3 t)
  else k0_pay3

/-- The scratch buffers after the first half of a tile in use. -/
abbrev named (hO : Ok m) (c : Dev nD) (t : Fin (cfgM m hO).N) : sProp 𝕄 :=
  iprop(iprop(owns (c : Thread nD τ) scM0_0 fullShare (tokensAt m hO c t) ∗ owns (c : Thread nD τ) scM0_1 fullShare (sumsAt m hO c t)) ∗ (∃ r, prngReg c r))

/-- What holds between points: after the first half of a tile in use the scratch buffers' contents are known. -/
def Phi (hO : Ok m) (c : Dev nD) (n : ℕ) (hn : n ≤ (cfgM m hO).N) : sProp 𝕄 :=
  if h : n % 2 = 1 then
    if used (grid0.coords (⟨n - 1, by omega⟩ : Fin (cfgM m hO).N)) (nuW m) then
      iprop(named m hO c ⟨n - 1, by omega⟩ ∗ Pipeline.ΦT pre0 (tbl m) c)
    else iprop(Pipeline.ΦA spec0 c ∗ Pipeline.ΦT pre0 (tbl m) c)
  else iprop(Pipeline.ΦA spec0 c ∗ Pipeline.ΦT pre0 (tbl m) c)

theorem Phi_even (hO : Ok m) (c : Dev nD) (n : ℕ) (hn : n ≤ (cfgM m hO).N) (h : n % 2 = 0) :
    Phi m hO c n hn = iprop(Pipeline.ΦA spec0 c ∗ Pipeline.ΦT pre0 (tbl m) c) :=
  dif_neg (by omega)

theorem Phi_used (hO : Ok m) (c : Dev nD) (n : ℕ) (hn : n ≤ (cfgM m hO).N) (h : n % 2 = 1)
    (hu : used (grid0.coords (⟨n - 1, by omega⟩ : Fin (cfgM m hO).N)) (nuW m)) :
    Phi m hO c n hn = iprop(named m hO c ⟨n - 1, by omega⟩ ∗ Pipeline.ΦT pre0 (tbl m) c) :=
  (dif_pos h).trans (if_pos hu)

theorem Phi_unused (hO : Ok m) (c : Dev nD) (n : ℕ) (hn : n ≤ (cfgM m hO).N) (h : n % 2 = 1)
    (hu : ¬ used (grid0.coords (⟨n - 1, by omega⟩ : Fin (cfgM m hO).N)) (nuW m)) :
    Phi m hO c n hn = iprop(Pipeline.ΦA spec0 c ∗ Pipeline.ΦT pre0 (tbl m) c) :=
  (dif_pos h).trans (if_neg hu)

/-- The two halves of a tile are in use together. -/
theorem used_prev (hO : Ok m) (t : Fin (cfgM m hO).N) (h : t.val % 2 = 1) (w : BitVec 32) :
    used (grid0.coords (prev m hO t)) w ↔ used (grid0.coords t) w := by
  have e : (grid0.coords (prev m hO t) 0).val = (grid0.coords t 0).val := by
    rw [tile_at, tile_at]; show (t.val - 1) / 2 = t.val / 2; omega
  unfold used; rw [e]

/-! ## The pipeline's proof data -/

/-- The arrays as the call finds them, each input's buffer at its block, the output's at `outAt`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outAt m hO c t
  Φ t := Phi m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = outAt m hO c t := by dsimp only [dats]; try rfl

theorem before_0 (hO : Ok m) (c : Dev nD) (t : Fin (cfgM m hO).N) (d) : (dats m hO 0 c).before 0 t d = iblk m hO c 0 t :=
  before0_of m hO (dats m hO 0 c) (A_eq m hO c 0) (after_0 m hO c) t d
theorem before_1 (hO : Ok m) (c : Dev nD) (t : Fin (cfgM m hO).N) (d) : (dats m hO 0 c).before 1 t d = iblk m hO c 1 t :=
  before1_of m hO (dats m hO 0 c) (A_eq m hO c 1) (after_1 m hO c) t d
theorem before_2 (hO : Ok m) (c : Dev nD) (t : Fin (cfgM m hO).N) (d) : (dats m hO 0 c).before 2 t d = iblk m hO c 2 t :=
  before2_of m hO (dats m hO 0 c) (A_eq m hO c 2) (after_2 m hO c) t d
theorem before_3 (hO : Ok m) (c : Dev nD) (t : Fin (cfgM m hO).N) (d) : (dats m hO 0 c).before 3 t d = iblk m hO c 3 t :=
  before3_of m hO (dats m hO 0 c) (A_eq m hO c 3) (after_3 m hO c) t d

/-! ## The body at a point -/

/-- What the body is given at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

/-- and what it gives back. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t)

theorem leaves_0 (hO : Ok m) (c : Dev nD) (t : Fin (cfgM m hO).N) :
    (dats m hO 0 c).leavesExact 0 t = owns (c : Thread nD τ) (ms0_0 m hO t) fullShare (iblk m hO c 0 t) := by
  rw [show (dats m hO 0 c).leavesExact 0 t = owns (c : Thread nD τ) (ms0_0 m hO t) fullShare ((dats m hO 0 c).after 0 t) from by
    unfold Dat.leavesExact; rw [liveAt_0 m hO t]; try rfl, after_0]
theorem leaves_1 (hO : Ok m) (c : Dev nD) (t : Fin (cfgM m hO).N) :
    (dats m hO 0 c).leavesExact 1 t = owns (c : Thread nD τ) (ms0_1 m hO t) fullShare (iblk m hO c 1 t) := by
  rw [show (dats m hO 0 c).leavesExact 1 t = owns (c : Thread nD τ) (ms0_1 m hO t) fullShare ((dats m hO 0 c).after 1 t) from by
    unfold Dat.leavesExact; rw [liveAt_1 m hO t]; try rfl, after_1]
theorem leaves_2 (hO : Ok m) (c : Dev nD) (t : Fin (cfgM m hO).N) :
    (dats m hO 0 c).leavesExact 2 t = owns (c : Thread nD τ) (ms0_2 m hO t) fullShare (iblk m hO c 2 t) := by
  rw [show (dats m hO 0 c).leavesExact 2 t = owns (c : Thread nD τ) (ms0_2 m hO t) fullShare ((dats m hO 0 c).after 2 t) from by
    unfold Dat.leavesExact; rw [liveAt_2 m hO t]; try rfl, after_2]
theorem leaves_3 (hO : Ok m) (c : Dev nD) (t : Fin (cfgM m hO).N) :
    (dats m hO 0 c).leavesExact 3 t = owns (c : Thread nD τ) (ms0_3 m hO t) fullShare (iblk m hO c 3 t) := by
  rw [show (dats m hO 0 c).leavesExact 3 t = owns (c : Thread nD τ) (ms0_3 m hO t) fullShare ((dats m hO 0 c).after 3 t) from by
    unfold Dat.leavesExact; rw [liveAt_3 m hO t]; try rfl, after_3]
theorem leaves_4 (hO : Ok m) (c : Dev nD) (t : Fin (cfgM m hO).N) (h : t.val % 2 = 1) :
    (dats m hO 0 c).leavesExact 4 t = owns (c : Thread nD τ) (ms0_4 m hO t) fullShare (outAt m hO c t) := by
  rw [show (dats m hO 0 c).leavesExact 4 t = owns (c : Thread nD τ) (ms0_4 m hO t) fullShare ((dats m hO 0 c).after 4 t) from by
    unfold Dat.leavesExact; rw [liveAt_4 m hO t h]; try rfl, after_4]

set_option maxHeartbeats 3200000 in
/-- The body at any point, by the four cases. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before_0, before_1, before_2, before_3]
  rw [show (dats m hO 0 c).owesAt () t.succ = (dats m hO 0 c).owesAt () t.castSucc from rfl]
  rw [show (dats m hO 0 c).Φ t.succ = Phi m hO c (t.val + 1) t.isLt from rfl,
    show (dats m hO 0 c).Φ t.castSucc = Phi m hO c t.val (Nat.le_of_lt t.isLt) from rfl,
    leaves_0, leaves_1, leaves_2, leaves_3]
  have hh := half_at t
  by_cases h0 : t.val % 2 = 0
  · have n2 : ¬ k0_cond2 (grid0.coords t) (nuAt (F := F) c (tbl m 1)) = 1#1 := fun H => by have := ((cond2_iff _ _).mp H).2; omega
    have n3 : ¬ k0_cond3 (grid0.coords t) (nuAt (F := F) c (tbl m 1)) = 1#1 := fun H => by have := ((cond3_iff _ _).mp H).2; omega
    rw [Dat.leavesExact_idle (dats m hO 0 c) 4 t (idleAt_4 m hO t h0) (noFlush_4 m hO t h0), Phi_even m hO c _ _ h0]
    by_cases hu : used (grid0.coords t) (nuW m)
    · have n1 : cond1 (grid0.coords t) (nuAt (F := F) c (tbl m 1)) := (cond1_iff _ _).mpr ⟨by rw [nuAt_eq]; exact hu, hh.trans h0⟩
      rw [Phi_used m hO c (t.val + 1) t.isLt (by omega) hu, PhiT0_eq, PhiA0_eq]
      iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩⟩
      iapply (runA c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (iblk m hO c 3 t) (tbl m 0) (tbl m 1) n1 n2 n3 _ Set.univ _)
      unfold held
      isplitl [H0 H1 H2 H3 H4 HT0 HT1]
      · isplitl [H0]; · iexact H0
        isplitl [H1]; · iexact H1
        isplitl [H2]; · iexact H2
        isplitl [H3]; · iexact H3
        isplitl [H4]; · iexact H4
        isplitl [HT0]; · iexact HT0
        iexact HT1
      isplitl [HS0]; · iexact HS0
      isplitl [HS1]; · iexact HS1
      iintro ⟨⟨H0, H1, H2, H3, H4, HT0, HT1⟩, HS0, HS1⟩
      isplitl [HS0 HS1 Hg HT0 HT1]
      · isplitl [HS0 HS1 Hg]
        · isplitl [HS0 HS1]
          · isplitl [HS0]; · iexact HS0
            iexact HS1
          iexact Hg
        isplitl [HT0]; · iexact HT0
        iexact HT1
      isplitl [Ho]; · iexact Ho
      isplitl [H0]; · iexact H0
      isplitl [H1]; · iexact H1
      isplitl [H2]; · iexact H2
      isplitl [H3]; · iexact H3
      iexists _; iexact H4
    · have n1 : ¬ cond1 (grid0.coords t) (nuAt (F := F) c (tbl m 1)) := fun H => hu (by have := ((cond1_iff _ _).mp H).1; rwa [nuAt_eq] at this)
      rw [Phi_unused m hO c (t.val + 1) t.isLt (by omega) hu, PhiT0_eq]
      iintro ⟨⟨HA, ⟨HT0, HT1⟩⟩, Ho, ⟨%d0, H0⟩, ⟨%d1, H1⟩, ⟨%d2, H2⟩, ⟨%d3, H3⟩, ⟨%d4, H4⟩⟩
      iapply (runC c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (iblk m hO c 3 t) (tbl m 0) (tbl m 1) n1 n2 n3 _ Set.univ _)
      unfold held
      isplitl [H0 H1 H2 H3 H4 HT0 HT1]
      · isplitl [H0]; · iexact H0
        isplitl [H1]; · iexact H1
        isplitl [H2]; · iexact H2
        isplitl [H3]; · iexact H3
        isplitl [H4]; · iexact H4
        isplitl [HT0]; · iexact HT0
        iexact HT1
      iintro ⟨H0, H1, H2, H3, H4, HT0, HT1⟩
      isplitl [HA HT0 HT1]
      · isplitl [HA]; · iexact HA
        isplitl [HT0]; · iexact HT0
        iexact HT1
      isplitl [Ho]; · iexact Ho
      isplitl [H0]; · iexact H0
      isplitl [H1]; · iexact H1
      isplitl [H2]; · iexact H2
      isplitl [H3]; · iexact H3
      iexists _; iexact H4
  · have h1 : t.val % 2 = 1 := by omega
    have n1 : ¬ cond1 (grid0.coords t) (nuAt (F := F) c (tbl m 1)) := fun H => by have := ((cond1_iff _ _).mp H).2; omega
    rw [leaves_4 m hO c t h1, Phi_even m hO c (t.val + 1) _ (by omega)]
    by_cases hu : used (grid0.coords t) (nuW m)
    · have n2 : k0_cond2 (grid0.coords t) (nuAt (F := F) c (tbl m 1)) = 1#1 := (cond2_iff _ _).mpr ⟨by rw [nuAt_eq]; exact hu, hh.trans h1⟩
      have n3 : ¬ k0_cond3 (grid0.coords t) (nuAt (F := F) c (tbl m 1)) = 1#1 := fun H => ((cond3_iff _ _).mp H).1 (by rw [nuAt_eq]; exact hu)
      rw [Phi_used m hO c t.val _ h1 ((used_prev m hO t h1 _).mpr hu), PhiT0_eq, PhiA0_eq,
        show outAt m hO c t = packed (tokensAt m hO c (prev m hO t)) (sumsAt m hO c (prev m hO t)) (iblk m hO c 1 t) (iblk m hO c 2 t) (iblk m hO c 3 t) from if_pos hu]
      iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩⟩
      iapply (runB c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (iblk m hO c 3 t) (tbl m 0) (tbl m 1) n1 n2 n3 _ _ _ Set.univ _)
      unfold held
      isplitl [H0 H1 H2 H3 H4 HT0 HT1]
      · isplitl [H0]; · iexact H0
        isplitl [H1]; · iexact H1
        isplitl [H2]; · iexact H2
        isplitl [H3]; · iexact H3
        isplitl [H4]; · iexact H4
        isplitl [HT0]; · iexact HT0
        iexact HT1
      isplitl [HS0]; · iexact HS0
      isplitl [HS1]; · iexact HS1
      iintro ⟨⟨H0, H1, H2, H3, H4, HT0, HT1⟩, HS0, HS1⟩
      isplitl [HS0 HS1 Hg HT0 HT1]
      · isplitl [HS0 HS1 Hg]
        · isplitl [HS0 HS1]
          · isplitl [HS0]; · iexists _; iexact HS0
            iexists _; iexact HS1
          iexact Hg
        isplitl [HT0]; · iexact HT0
        iexact HT1
      isplitl [Ho]; · iexact Ho
      isplitl [H0]; · iexact H0
      isplitl [H1]; · iexact H1
      isplitl [H2]; · iexact H2
      isplitl [H3]; · iexact H3
      iexact H4
    · have n2 : ¬ k0_cond2 (grid0.coords t) (nuAt (F := F) c (tbl m 1)) = 1#1 := fun H => hu (by have := ((cond2_iff _ _).mp H).1; rwa [nuAt_eq] at this)
      have n3 : k0_cond3 (grid0.coords t) (nuAt (F := F) c (tbl m 1)) = 1#1 := (cond3_iff _ _).mpr ⟨by rw [nuAt_eq]; exact hu, hh.trans h1⟩
      rw [Phi_unused m hO c t.val _ h1 (fun H => hu ((used_prev m hO t h1 _).mp H)), PhiT0_eq, show outAt m hO c t = k0_pay3 from if_neg hu]
      iintro ⟨⟨HA, ⟨HT0, HT1⟩⟩, Ho, ⟨%d0, H0⟩, ⟨%d1, H1⟩, ⟨%d2, H2⟩, ⟨%d3, H3⟩, ⟨%d4, H4⟩⟩
      iapply (runD c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (iblk m hO c 3 t) (tbl m 0) (tbl m 1) n1 n2 n3 _ Set.univ _)
      unfold held
      isplitl [H0 H1 H2 H3 H4 HT0 HT1]
      · isplitl [H0]; · iexact H0
        isplitl [H1]; · iexact H1
        isplitl [H2]; · iexact H2
        isplitl [H3]; · iexact H3
        isplitl [H4]; · iexact H4
        isplitl [HT0]; · iexact HT0
        iexact HT1
      iintro ⟨H0, H1, H2, H3, H4, HT0, HT1⟩
      isplitl [HA HT0 HT1]
      · isplitl [HA]; · iexact HA
        isplitl [HT0]; · iexact HT0
        iexact HT1
      isplitl [Ho]; · iexact Ho
      isplitl [H0]; · iexact H0
      isplitl [H1]; · iexact H1
      isplitl [H2]; · iexact H2
      isplitl [H3]; · iexact H3
      iexact H4

/-! ## The launch -/

theorem body_row (hO : Ok m) (t : Fin (cfgM m hO).N) :
    defs₀ (F := F) .tc (cfgM m hO).body ((cfgM m hO).bodyArgs t ((cfgM m hO).slots t)) = bodyAt m hO t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, body_row m hO]
  exact triple_restated (sound_body m hO c t) rfl .rfl fun _ => .rfl

theorem hin (hO : Ok m) (c : Dev nD) : iprop(Pipeline.ΦA spec0 c ∗ Pipeline.ΦT pre0 (tbl m) c) ⊢ (dats m hO 0 c).Φ 0 := by
  rw [show (dats m hO 0 c).Φ 0 = Phi m hO c 0 (Nat.zero_le _) from rfl, Phi_even m hO c 0 _ rfl]

theorem hout (hO : Ok m) (c : Dev nD) : (dats m hO 0 c).Φ (Fin.last (cfgM m hO).N) ⊢ Pipeline.ΦA spec0 c := by
  have hN : (cfgM m hO).N = 72 := N_0
  rw [show (dats m hO 0 c).Φ (Fin.last (cfgM m hO).N) = Phi m hO c (cfgM m hO).N (Nat.le_refl _) from rfl,
    Phi_even m hO c _ _ (by rw [hN])]
  iintro ⟨HA, -⟩
  iexact HA

set_option backward.isDefEq.respectTransparency.types false in
/-- The program runs, its arrays end at what the pipeline computes, and every semaphore is back at zero. -/
theorem run_main (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- The frame, for tables whose blocks are inside their arrays. -/
theorem frame_run (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ hO (dats m hO) (A_eq m hO) ((θ_run defs _ _).mono (fun _ h => h.1) (run_main m ρ hO)))
    ((θ_run defs _ _).mono (fun _ h => h.2) (run_main m ρ hO))

end Cert.Proof.MoeI

end
-- ==== Proof.MoeTablesI.lean ====
module

public import proofs.«01_k».proof.Proof.MoeFrameI
public import proofs.«01_k».proof.Proof.Gen.Pre_experts_named

@[expose] public section

set_option maxRecDepth 16384

noncomputable section

namespace Cert.Proof.MoeI

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The experts named by the first table -/

/-- The expert a point's tile names. -/
def teAt (i : grid0.Coords) : BitVec 32 := m (((0 : Dev nD).tc : Thread nD τ).loc main_arg0) (fun a => match a with | ⟨0, _⟩ => (⟨(i 0).val, Nat.lt_of_lt_of_le (i 0).isLt (by decide)⟩ : Fin 72))

/-- The half of the hidden features a point's blocks hold: its own half for a tile in use, the second otherwise. -/
def halfOf (i : grid0.Coords) : ℕ := if used i (nuW m) then (i 1).val else 1

theorem halfOf_lt (i : grid0.Coords) : halfOf m i < 2 := by
  unfold halfOf; split
  · exact (i 1).isLt
  · decide

/-- The first table's word read at a point. -/
theorem at_0 (i : grid0.Coords) (h : ∀ a, (k0_off1 i) a + S1.size a ≤ S72.size a) :
    (tbl m).at 0 (Rect.unit (s := S72) (k0_off1 i) S1.size h) numel1_S1 = teAt m i := by
  have e : (k0_off1 i) 0 = (i 0).val := by
    have hi := (i 0).isLt
    have hi' : (i 0).val < 36 := hi
    simp only [k0_off1, Scalar.addi, Scalar.indexCast, IntOp.addi, Matrix.cons_val_zero, BitVec.add_zero, BitVec.toNat_ofNat]
    omega
  show V m 0 main_arg0 _ = _
  rw [V_main_arg0]; unfold teAt
  refine congrArg _ (funext fun a => ?_)
  match a with
  | ⟨0, _⟩ =>
    apply Fin.ext
    refine Eq.trans (?_ : _ = (k0_off1 i) 0) e
    show (k0_off1 i) 0 + (Shape.Idx.first (s := S1) (numel1_S1.symm ▸ Nat.one_pos) 0).val * 1 = _
    have := (Shape.Idx.first (s := S1) (numel1_S1.symm ▸ Nat.one_pos) 0).isLt
    have e1 : S1.size 0 = 1 := rfl
    omega

/-- The second table's word. -/
theorem at_1 (h : ∀ a, (![0] : Fin 1 → Nat) a + S1.size a ≤ S1.size a) :
    (tbl m).at 1 (Rect.unit (s := S1) ![0] S1.size h) numel1_S1 = nuW m := rfl

theorem sel_eq (i : grid0.Coords) :
    (Scalar.select (Scalar.cmpi .slt (Scalar.addi (BitVec.ofNat 32 (i 0).val) 0#32) (nuW m)) (BitVec.ofNat 32 (i 1).val) 1#32 : BitVec 32).toNat = halfOf m i := by
  unfold halfOf
  have hi : (i 1).val < 2 := (i 1).isLt
  by_cases hu : used i (nuW m)
  · rw [if_pos hu]
    rw [show Scalar.cmpi .slt (Scalar.addi (BitVec.ofNat 32 (i 0).val) 0#32) (nuW m) = 1#1 from hu]
    simp only [Scalar.select, BitVec.toNat_ofNat]
    show (BitVec.ofNat 32 (i 1).val).toNat = _
    rw [BitVec.toNat_ofNat]; omega
  · rw [if_neg hu]
    rw [show Scalar.cmpi .slt (Scalar.addi (BitVec.ofNat 32 (i 0).val) 0#32) (nuW m) = 0#1 from by
      have hb (b : BitVec 1) (h : ¬ b = 1#1) : b = 0#1 := by revert h; revert b; decide
      exact hb _ hu]
    rfl

theorem transform_1_eq (i : grid0.Coords) (h) : cc0_transform_1 h numel1_S1 inb_S1_S1_0 (tbl m) i = ![(teAt m i).toNat, 0, halfOf m i] := by
  rw [← at_0 m i (h i), ← sel_eq m i]; rfl
theorem transform_2_eq (i : grid0.Coords) (h) : cc0_transform_2 h numel1_S1 inb_S1_S1_0 (tbl m) i = ![(teAt m i).toNat, 0, halfOf m i] := by
  rw [← at_0 m i (h i), ← sel_eq m i]; rfl
theorem transform_3_eq (i : grid0.Coords) (h) : cc0_transform_3 h numel1_S1 inb_S1_S1_0 (tbl m) i = ![(teAt m i).toNat, halfOf m i, 0] := by
  rw [← at_0 m i (h i), ← sel_eq m i]; rfl

/-- With every named expert one of the eight, every block is inside its array. -/
theorem ok_of_lt (h : ∀ i : grid0.Coords, (teAt m i).toNat < 8) : Ok m := by
  refine ⟨fun i => ?_, fun i => ?_, fun i => ?_⟩
  · refine ⟨fun a => ?_, .inr (Affine.block_words_dvd (of_decide_eq_true rfl) (by decide))⟩
    rw [transform_1_eq]
    have h1 := h i
    have h2 := halfOf_lt m i
    match a with
    | ⟨0, _⟩ => show ((teAt m i).toNat + 1) * 1 ≤ 8; omega
    | ⟨1, _⟩ => show (0 + 1) * 1024 ≤ 1024; omega
    | ⟨2, _⟩ => show (halfOf m i + 1) * 1792 ≤ 3584; omega
  · refine ⟨fun a => ?_, .inr (Affine.block_words_dvd (of_decide_eq_true rfl) (by decide))⟩
    rw [transform_2_eq]
    have h1 := h i
    have h2 := halfOf_lt m i
    match a with
    | ⟨0, _⟩ => show ((teAt m i).toNat + 1) * 1 ≤ 8; omega
    | ⟨1, _⟩ => show (0 + 1) * 1024 ≤ 1024; omega
    | ⟨2, _⟩ => show (halfOf m i + 1) * 1792 ≤ 3584; omega
  · refine ⟨fun a => ?_, .inr (Affine.block_words_dvd (of_decide_eq_true rfl) (by decide))⟩
    rw [transform_3_eq]
    have h1 := h i
    have h2 := halfOf_lt m i
    match a with
    | ⟨0, _⟩ => show ((teAt m i).toNat + 1) * 1 ≤ 8; omega
    | ⟨1, _⟩ => show (halfOf m i + 1) * 1792 ≤ 3584; omega
    | ⟨2, _⟩ => show (0 + 1) * 1024 ≤ 1024; omega

/-! ## The precondition -/

/-- A word that is at least zero and below eight, read signed, is below eight. -/
theorem word_lt (v : BitVec 32) (e : IntOp.andi (IntOp.cmpi .sge v 0#32) (IntOp.cmpi .slt v 8#32) = 1#1) : v.toNat < 8 := by
  have andi_ofBool (p q : Bool) : IntOp.andi (BitVec.ofBool p) (BitVec.ofBool q) = BitVec.ofBool (p && q) := by
    cases p <;> cases q <;> decide
  have one (p : Bool) : (BitVec.ofBool p = 1#1) ↔ p = true := by cases p <;> decide
  simp only [IntOp.cmpi, andi_ofBool, one, Bool.and_eq_true, BitVec.sle_eq_decide, BitVec.slt_eq_decide,
    decide_eq_true_eq, BitVec.toInt_eq_toNat_cond, BitVec.toNat_ofNat, Nat.reducePow, Nat.reduceMod] at e
  omega

/-- The precondition gives it. -/
theorem te_lt (h : Cert.Pre_experts_named.fn (F := F) (m (((0 : Dev nD).tc : Thread nD τ).loc main_arg0)) (m (((0 : Dev nD).tc : Thread nD τ).loc main_arg1)) (m (((0 : Dev nD).tc : Thread nD τ).loc main_arg2)) (m (((0 : Dev nD).tc : Thread nD τ).loc main_arg3)) (m (((0 : Dev nD).tc : Thread nD τ).loc main_arg4)) (m (((0 : Dev nD).tc : Thread nD τ).loc main_arg5)) = fun _ => 1#1)
    (x : S72.Idx) : (m (((0 : Dev nD).tc : Thread nD τ).loc main_arg0) x : BitVec 32).toNat < 8 :=
  word_lt _ (congrFun h x)

theorem ok_of_pre (h : Cert.Pre_experts_named.fn (F := F) (m (((0 : Dev nD).tc : Thread nD τ).loc main_arg0)) (m (((0 : Dev nD).tc : Thread nD τ).loc main_arg1)) (m (((0 : Dev nD).tc : Thread nD τ).loc main_arg2)) (m (((0 : Dev nD).tc : Thread nD τ).loc main_arg3)) (m (((0 : Dev nD).tc : Thread nD τ).loc main_arg4)) (m (((0 : Dev nD).tc : Thread nD τ).loc main_arg5)) = fun _ => 1#1) : Ok m :=
  ok_of_lt m fun i => te_lt m h _

end Cert.Proof.MoeI

end
-- ==== Proof.MoeFrames.lean ====
/-
  The frames of the second program at both of its printings and of its reference, and the rules its ideal printing used.
-/
module

public import proofs.«01_k».proof.Defs
public import proofs.«01_k».proof.Proof.MoeTablesI
public import proofs.«01_k».proof.Proof.MoeTablesB
public import proofs.«01_k».proof.Proof.Gen.MoeReferenceIdeal.Run
public import Idealize.ShloMosaic.Lib.Bf16Pair
public import Idealize.ShloMosaic.Lib.Quiescent

@[expose] public section

noncomputable section

namespace Cert.Proof.Moe

open Idealize.ShloMosaic Idealize.SL.Sem

theorem frame_bits : Cert.quiescent_Moe (hMoe := Cert.Moe.Gen.facts) (hPre_experts_named := Cert.Pre_experts_named.Gen.facts) := fun m ρ hpre =>
  MoeB.frame_run (F := Bits) m ρ (MoeB.ok_of_pre (F := Bits) m (hpre 0))

theorem frame_ideal : Cert.quiescent_MoeIdeal (hMoeIdeal := Cert.MoeIdeal.Gen.facts) (hPre_experts_named := Cert.Pre_experts_named.Gen.facts) := fun m ρ hpre =>
  MoeI.frame_run (F := Ideal) m ρ (MoeI.ok_of_pre (F := Ideal) m (hpre 0))

theorem frame_reference : Cert.quiescent_MoeReferenceIdeal (hMoeReferenceIdeal := Cert.MoeReferenceIdeal.Gen.facts) (hPre_experts_named := Cert.Pre_experts_named.Gen.facts) := fun m ρ _ =>
  (θ_run Cert.MoeReferenceIdeal.defs _ _).mono (fun r h => ⟨fun c => (h c).2, sem_eq_zero_of_no_sems (by decide) r.2⟩)
    (Cert.MoeReferenceIdeal.Value.run (F := Ideal) m ρ)

theorem preserves : Cert.preserves_Moe_MoeIdeal :=
  ⟨IdealRules.bf16_pair.statement _ _, IdealRules.bf16_pack.statement _⟩

end Cert.Proof.Moe

end
-- ==== Proof.MoeMath.lean ====
/-
  The expert's function at the ideal values, element by element: the gated activation, a product of matrices read at
  an index, the sum over the hidden features cut into the kernel's parts.
-/
module

public import Idealize.ShloMosaic.PureOps
public import Idealize.ShloMosaic.Lib.MatmulPlain
public import Idealize.ShloMosaic.Lib.StackMember
public import Idealize.ShloMosaic.Lib.IdealHost
public import Idealize.ShloMosaic.Lib.ValueIdx
public import Idealize.ShloMosaic.Lib.ValueLayout
public import Mathlib.Algebra.BigOperators.Fin

@[expose] public section

noncomputable section

namespace Cert.Proof.MoeMath

open Idealize.ShloMosaic Idealize.ShloMosaic.ValueIdx
open scoped BigOperators

/-- The gated activation: `g` times its logistic, times `u`. -/
def gated (g u : EReal) : EReal := (g * Ideal.div 1 (1 + (FloatOps.exp (F := Ideal) (φ := .f32) (-g) : EReal))) * u

/-- One part of the hidden features, as the kernel computes it: the gate's and the up products, the gated activation,
    the down product. -/
def partOut {n : ℕ} (xb : FVec Ideal ⟨2, ![512, 1024]⟩ .bf16) (wg wu : FVec Ideal ⟨3, ![1, 1024, n]⟩ .bf16) (wd : FVec Ideal ⟨3, ![1, n, 1024]⟩ .bf16)
    (hc : (⟨3, ![1, 1024, n]⟩ : Shape).ShapeCasts ⟨2, ![1024, n]⟩) (hd : (⟨3, ![1, n, 1024]⟩ : Shape).ShapeCasts ⟨2, ![n, 1024]⟩)
    (ht : FTy.bits .bf16 < FTy.bits .f32) : FVec Ideal ⟨2, ![512, 1024]⟩ .f32 :=
    FloatOps.matmul (DotDims.plain 512 n 1024) none
      (truncf .bf16 (mulf (mulf (FloatOps.matmul (DotDims.plain 512 1024 n) none xb (shapeCast ⟨2, ![1024, n]⟩ wg hc) (constant _ .f32 0x00000000#32))
        (divf (broadcast _ (Scalar.ofBits .f32 0x3F800000#32)) (addf (broadcast _ (Scalar.ofBits .f32 0x3F800000#32))
          (exp (subf (broadcast _ (Scalar.ofBits .f32 0x00000000#32)) (FloatOps.matmul (DotDims.plain 512 1024 n) none xb (shapeCast ⟨2, ![1024, n]⟩ wg hc) (constant _ .f32 0x00000000#32)))))))
        (FloatOps.matmul (DotDims.plain 512 1024 n) none xb (shapeCast ⟨2, ![1024, n]⟩ wu hc) (constant _ .f32 0x00000000#32)) : FVec Ideal ⟨2, ![512, n]⟩ .f32) ht)
      (shapeCast ⟨2, ![n, 1024]⟩ wd hd) (constant _ .f32 0x00000000#32)

/-- The part at an index: the sum over its hidden features. -/
theorem part_apply {n : ℕ} (xb : FVec Ideal ⟨2, ![512, 1024]⟩ .bf16) (wg wu : FVec Ideal ⟨3, ![1, 1024, n]⟩ .bf16) (wd : FVec Ideal ⟨3, ![1, n, 1024]⟩ .bf16)
    (hc : (⟨3, ![1, 1024, n]⟩ : Shape).ShapeCasts ⟨2, ![1024, n]⟩) (hd : (⟨3, ![1, n, 1024]⟩ : Shape).ShapeCasts ⟨2, ![n, 1024]⟩)
    (ht : FTy.bits .bf16 < FTy.bits .f32) (p : Fin 512) (j : Fin 1024) :
    partOut xb wg wu wd hc hd ht (ix2 p j)
    = ∑ h : Fin n, gated (∑ k : Fin 1024, xb (ix2 p k) * wg (ix3 0 k h)) (∑ k : Fin 1024, xb (ix2 p k) * wu (ix3 0 k h)) * wd (ix3 0 h j) := by
  have mm (w : FVec Ideal ⟨3, ![1, 1024, n]⟩ .bf16) (h : Fin n) :
      (FloatOps.matmul (DotDims.plain 512 1024 n) none xb (shapeCast ⟨2, ![1024, n]⟩ w hc) (constant _ .f32 0x00000000#32) : FVec Ideal ⟨2, ![512, n]⟩ .f32) (ix2 p h)
        = ∑ k : Fin 1024, xb (ix2 p k) * w (ix3 0 k h) := by
    rw [Ideal.matmul_plain_apply, constant_apply, Ideal.ofBits_zero_f32, zero_add]
    exact Finset.sum_congr rfl fun k _ => by rw [shapeCast_1ab_ab_apply]
  unfold partOut
  rw [Ideal.matmul_plain_apply, constant_apply, Ideal.ofBits_zero_f32, zero_add]
  refine Finset.sum_congr rfl fun h _ => ?_
  rw [shapeCast_1ab_ab_apply, truncf_apply, mulf_apply, mulf_apply, mm, mm, divf_apply, addf_apply]
  rw [show (broadcast ⟨2, ![512, n]⟩ (Scalar.ofBits (F := Ideal) .f32 0x3F800000#32) : FVec Ideal ⟨2, ![512, n]⟩ .f32) (ix2 p h) = (1 : EReal) from Ideal.ofBits_one_f32]
  rw [show (exp (subf (broadcast ⟨2, ![512, n]⟩ (Scalar.ofBits (F := Ideal) .f32 0x00000000#32)) (FloatOps.matmul (DotDims.plain 512 1024 n) none xb (shapeCast ⟨2, ![1024, n]⟩ wg hc) (constant _ .f32 0x00000000#32))) : FVec Ideal ⟨2, ![512, n]⟩ .f32) (ix2 p h)
      = FloatOps.exp (F := Ideal) (φ := .f32) (-(∑ k : Fin 1024, xb (ix2 p k) * wg (ix3 0 k h))) from by
    show FloatOps.exp (F := Ideal) (φ := .f32) _ = _
    rw [subf_apply, mm]
    rw [show (broadcast ⟨2, ![512, n]⟩ (Scalar.ofBits (F := Ideal) .f32 0x00000000#32) : FVec Ideal ⟨2, ![512, n]⟩ .f32) (ix2 p h) = (0 : EReal) from Ideal.ofBits_zero_f32, zero_sub]]
  rfl

/-- A sum over a half's 1792 features is the sums over its four parts. -/
theorem sum_parts (f : Fin 1792 → EReal) :
    (((∑ h : Fin 512, f ⟨0 + h.val, by omega⟩) + ∑ h : Fin 512, f ⟨512 + h.val, by omega⟩) + ∑ h : Fin 512, f ⟨1024 + h.val, by omega⟩) + ∑ h : Fin 256, f ⟨1536 + h.val, by omega⟩
      = ∑ h : Fin 1792, f h := by
  rw [show (∑ h : Fin 1792, f h) = ∑ h : Fin (((512 + 512) + 512) + 256), f h from rfl, Fin.sum_univ_add, Fin.sum_univ_add, Fin.sum_univ_add]
  congr 1

/-- A sum over all the hidden features is the sums over the two halves. -/
theorem sum_halves (f : Fin 3584 → EReal) :
    (∑ h : Fin 1792, f ⟨0 * 1792 + h.val, by omega⟩) + (∑ h : Fin 1792, f ⟨1 * 1792 + h.val, by omega⟩) = ∑ h : Fin 3584, f h := by
  rw [show (∑ h : Fin 3584, f h) = ∑ h : Fin (1792 + 1792), f h from rfl, Fin.sum_univ_add]
  congr 1

end Cert.Proof.MoeMath

end
-- ==== Proof.MoeTerms.lean ====
/-
  What the body's runs leave, at the ideal values, element by element: the unpacked tokens, the sums over half the
  hidden features, the packed output.
-/
module

public import proofs.«01_k».proof.Proof.MoeRunI
public import proofs.«01_k».proof.Proof.MoeMath
public import Idealize.ShloMosaic.Lib.Pipeline.Value

@[expose] public section

set_option maxRecDepth 16384

noncomputable section

namespace Cert.Proof.MoeI

open Cert.MoeIdeal Cert.MoeIdeal.Gen
open Idealize.ShloMosaic Idealize.ShloMosaic.ValueIdx Cert.Proof.MoeMath
open scoped BigOperators

/-! ## Parts of a block -/

theorem gw0_apply (x : Vec Ideal S1x1024x1792 .bf16) (k : Fin 1024) (h : Fin 512) : gw0 x (ix3 (0 : Fin 1) k h) = x (ix3 (0 : Fin 1) k (⟨0 + h.val, by omega⟩ : Fin 1792)) := by
  refine congrArg x (funext fun a => Fin.ext ?_)
  match a with
  | ⟨0, _⟩ => rfl
  | ⟨1, _⟩ => show 0 + 1 * k.val = k.val; omega
  | ⟨2, _⟩ => show 0 + 1 * h.val = 0 + h.val; omega
theorem gw1_apply (x : Vec Ideal S1x1024x1792 .bf16) (k : Fin 1024) (h : Fin 512) : gw1 x (ix3 (0 : Fin 1) k h) = x (ix3 (0 : Fin 1) k (⟨512 + h.val, by omega⟩ : Fin 1792)) := by
  refine congrArg x (funext fun a => Fin.ext ?_)
  match a with
  | ⟨0, _⟩ => rfl
  | ⟨1, _⟩ => show 0 + 1 * k.val = k.val; omega
  | ⟨2, _⟩ => show 512 + 1 * h.val = 512 + h.val; omega
theorem gw2_apply (x : Vec Ideal S1x1024x1792 .bf16) (k : Fin 1024) (h : Fin 512) : gw2 x (ix3 (0 : Fin 1) k h) = x (ix3 (0 : Fin 1) k (⟨1024 + h.val, by omega⟩ : Fin 1792)) := by
  refine congrArg x (funext fun a => Fin.ext ?_)
  match a with
  | ⟨0, _⟩ => rfl
  | ⟨1, _⟩ => show 0 + 1 * k.val = k.val; omega
  | ⟨2, _⟩ => show 1024 + 1 * h.val = 1024 + h.val; omega
theorem gw3_apply (x : Vec Ideal S1x1024x1792 .bf16) (k : Fin 1024) (h : Fin 256) : gw3 x (ix3 (0 : Fin 1) k h) = x (ix3 (0 : Fin 1) k (⟨1536 + h.val, by omega⟩ : Fin 1792)) := by
  refine congrArg x (funext fun a => Fin.ext ?_)
  match a with
  | ⟨0, _⟩ => rfl
  | ⟨1, _⟩ => show 0 + 1 * k.val = k.val; omega
  | ⟨2, _⟩ => show 1536 + 1 * h.val = 1536 + h.val; omega
theorem dw0_apply (x : Vec Ideal S1x1792x1024 .bf16) (h : Fin 512) (j : Fin 1024) : dw0 x (ix3 (0 : Fin 1) h j) = x (ix3 (0 : Fin 1) (⟨0 + h.val, by omega⟩ : Fin 1792) j) := by
  refine congrArg x (funext fun a => Fin.ext ?_)
  match a with
  | ⟨0, _⟩ => rfl
  | ⟨1, _⟩ => show 0 + 1 * h.val = 0 + h.val; omega
  | ⟨2, _⟩ => show 0 + 1 * j.val = j.val; omega
theorem dw1_apply (x : Vec Ideal S1x1792x1024 .bf16) (h : Fin 512) (j : Fin 1024) : dw1 x (ix3 (0 : Fin 1) h j) = x (ix3 (0 : Fin 1) (⟨512 + h.val, by omega⟩ : Fin 1792) j) := by
  refine congrArg x (funext fun a => Fin.ext ?_)
  match a with
  | ⟨0, _⟩ => rfl
  | ⟨1, _⟩ => show 512 + 1 * h.val = 512 + h.val; omega
  | ⟨2, _⟩ => show 0 + 1 * j.val = j.val; omega
theorem dw2_apply (x : Vec Ideal S1x1792x1024 .bf16) (h : Fin 512) (j : Fin 1024) : dw2 x (ix3 (0 : Fin 1) h j) = x (ix3 (0 : Fin 1) (⟨1024 + h.val, by omega⟩ : Fin 1792) j) := by
  refine congrArg x (funext fun a => Fin.ext ?_)
  match a with
  | ⟨0, _⟩ => rfl
  | ⟨1, _⟩ => show 1024 + 1 * h.val = 1024 + h.val; omega
  | ⟨2, _⟩ => show 0 + 1 * j.val = j.val; omega
theorem dw3_apply (x : Vec Ideal S1x1792x1024 .bf16) (h : Fin 256) (j : Fin 1024) : dw3 x (ix3 (0 : Fin 1) h j) = x (ix3 (0 : Fin 1) (⟨1536 + h.val, by omega⟩ : Fin 1792) j) := by
  refine congrArg x (funext fun a => Fin.ext ?_)
  match a with
  | ⟨0, _⟩ => rfl
  | ⟨1, _⟩ => show 1536 + 1 * h.val = 1536 + h.val; omega
  | ⟨2, _⟩ => show 0 + 1 * j.val = j.val; omega

/-! ## The sums over a half of the hidden features -/

/-- A hidden feature's contribution to output feature `j` of row `p`. -/
def contrib (xb : Vec Ideal S512x1024 .bf16) (x1 x2 : Vec Ideal S1x1024x1792 .bf16) (x3 : Vec Ideal S1x1792x1024 .bf16) (p : Fin 512) (j : Fin 1024) (h : Fin 1792) : EReal :=
  gated (∑ k : Fin 1024, xb (ix2 p k) * x1 (ix3 (0 : Fin 1) k h)) (∑ k : Fin 1024, xb (ix2 p k) * x2 (ix3 (0 : Fin 1) k h)) * x3 (ix3 (0 : Fin 1) h j)

/-- The four parts, added up. -/
def fourParts (xb : Vec Ideal S512x1024 .bf16) (x1 x2 : Vec Ideal S1x1024x1792 .bf16) (x3 : Vec Ideal S1x1792x1024 .bf16) : FVec Ideal S512x1024 .f32 :=
  addf (addf (addf (partOut xb (gw0 x1) (gw0 x2) (dw0 x3) shapeCasts_S1x1024x512_S1024x512 shapeCasts_S1x512x1024_S512x1024 bitsLt_bf16_f32)
    (partOut xb (gw1 x1) (gw1 x2) (dw1 x3) shapeCasts_S1x1024x512_S1024x512 shapeCasts_S1x512x1024_S512x1024 bitsLt_bf16_f32))
    (partOut xb (gw2 x1) (gw2 x2) (dw2 x3) shapeCasts_S1x1024x512_S1024x512 shapeCasts_S1x512x1024_S512x1024 bitsLt_bf16_f32))
    (partOut xb (gw3 x1) (gw3 x2) (dw3 x3) shapeCasts_S1x1024x256_S1024x256 shapeCasts_S1x256x1024_S256x1024 bitsLt_bf16_f32)

theorem fourParts_apply (xb : Vec Ideal S512x1024 .bf16) (x1 x2 : Vec Ideal S1x1024x1792 .bf16) (x3 : Vec Ideal S1x1792x1024 .bf16) (p : Fin 512) (j : Fin 1024) :
    fourParts xb x1 x2 x3 (ix2 p j) = ∑ h : Fin 1792, contrib xb x1 x2 x3 p j h := by
  unfold fourParts
  rw [addf_apply, addf_apply, addf_apply, part_apply, part_apply, part_apply, part_apply, ← sum_parts]
  refine congrArg₂ (· + ·) (congrArg₂ (· + ·) (congrArg₂ (· + ·) ?_ ?_) ?_) ?_
  · exact Finset.sum_congr rfl fun h _ => congrArg₂ (· * ·) (congrArg₂ gated (Finset.sum_congr rfl fun k _ => congrArg (xb (ix2 p k) * ·) (gw0_apply x1 k h))
      (Finset.sum_congr rfl fun k _ => congrArg (xb (ix2 p k) * ·) (gw0_apply x2 k h))) (dw0_apply x3 h j)
  · exact Finset.sum_congr rfl fun h _ => congrArg₂ (· * ·) (congrArg₂ gated (Finset.sum_congr rfl fun k _ => congrArg (xb (ix2 p k) * ·) (gw1_apply x1 k h))
      (Finset.sum_congr rfl fun k _ => congrArg (xb (ix2 p k) * ·) (gw1_apply x2 k h))) (dw1_apply x3 h j)
  · exact Finset.sum_congr rfl fun h _ => congrArg₂ (· * ·) (congrArg₂ gated (Finset.sum_congr rfl fun k _ => congrArg (xb (ix2 p k) * ·) (gw2_apply x1 k h))
      (Finset.sum_congr rfl fun k _ => congrArg (xb (ix2 p k) * ·) (gw2_apply x2 k h))) (dw2_apply x3 h j)
  · exact Finset.sum_congr rfl fun h _ => congrArg₂ (· * ·) (congrArg₂ gated (Finset.sum_congr rfl fun k _ => congrArg (xb (ix2 p k) * ·) (gw3_apply x1 k h))
      (Finset.sum_congr rfl fun k _ => congrArg (xb (ix2 p k) * ·) (gw3_apply x2 k h))) (dw3_apply x3 h j)

theorem sums_eq (xb : Vec Ideal S512x1024 .bf16) (x1 x2 : Vec Ideal S1x1024x1792 .bf16) (x3 : Vec Ideal S1x1792x1024 .bf16) :
    sums xb x1 x2 x3 = shapeCast S512x1024 (fourParts xb x1 x2 x3) shapeCasts_S512x1024_S512x1024 := rfl

theorem sums_apply (xb : Vec Ideal S512x1024 .bf16) (x1 x2 : Vec Ideal S1x1024x1792 .bf16) (x3 : Vec Ideal S1x1792x1024 .bf16) (p : Fin 512) (j : Fin 1024) :
    sums xb x1 x2 x3 (ix2 p j) = ∑ h : Fin 1792, contrib xb x1 x2 x3 p j h := by
  rw [sums_eq, shapeCast_self, fourParts_apply]

/-! ## The packed output -/

theorem packed_eq (xb : Vec Ideal S512x1024 .bf16) (acc : Vec Ideal S512x1024 .f32) (x1 x2 : Vec Ideal S1x1024x1792 .bf16) (x3 : Vec Ideal S1x1792x1024 .bf16) :
    packed xb acc x1 x2 x3 = interleaveRows S1024x512
      (extractStridedSlice S512x512 ![0, 0] (addf acc (fourParts xb x1 x2 x3)) slices_S512x1024_o0_0_S512x512)
      (extractStridedSlice S512x512 ![0, 512] (addf acc (fourParts xb x1 x2 x3)) slices_S512x1024_o0_512_S512x512) bitcasts_S1024x512_w16_S512x512_w32 := rfl

/-- Rows `2p` and `2p + 1` of the output's block are the first and the last 512 features of row `p`. -/
theorem packed_apply (xb : Vec Ideal S512x1024 .bf16) (acc : Vec Ideal S512x1024 .f32) (x1 x2 : Vec Ideal S1x1024x1792 .bf16) (x3 : Vec Ideal S1x1792x1024 .bf16)
    (q : Fin 1024) (c : Fin 512) (p : Fin 512) (j : Fin 1024) (hp : p.val = q.val / 2) (hj : j.val = q.val % 2 * 512 + c.val) :
    packed xb acc x1 x2 x3 (ix2 q c) = acc (ix2 p j) + ∑ h : Fin 1792, contrib xb x1 x2 x3 p j h := by
  rw [packed_eq, ← fourParts_apply, ← addf_apply]
  generalize addf acc (fourParts xb x1 x2 x3) = v
  unfold interleaveRows
  have hrow : Shape.row (s := S1024x512) (ix2 q c) = q.val := rfl
  dsimp only
  rw [hrow]
  split
  · refine congrArg v (funext fun a => Fin.ext ?_)
    match a with
    | ⟨0, _⟩ => show 0 + q.val / 2 = p.val; omega
    | ⟨1, _⟩ => show 0 + c.val = j.val; omega
  · refine congrArg v (funext fun a => Fin.ext ?_)
    match a with
    | ⟨0, _⟩ => show 0 + q.val / 2 = p.val; omega
    | ⟨1, _⟩ => show 512 + c.val = j.val; omega

/-! ## The tokens -/

/-- Row `p` of the tokens is rows `2p` and `2p + 1` of the block side by side. -/
theorem tokens_apply (x0 : Vec Ideal S1024x512 .bf16) (p : Fin 512) (k : Fin 1024) :
    tokens x0 (ix2 p k) = x0 (ix2 (⟨2 * p.val + k.val / 512, by omega⟩ : Fin 1024) (⟨k.val % 512, by omega⟩ : Fin 512)) := by
  let G : S512x1024.Idx → Elt Ideal .bf16 := fun y => x0 (ix2 (⟨2 * (y 0).val + (y 1).val / 512, by have := idx2_lt0 y; have := idx2_lt1 y; omega⟩ : Fin 1024) (⟨(y 1).val % 512, by omega⟩ : Fin 512))
  have key : View.canon (tokenPieces x0) (ix2 p k) = G (ix2 p k) := by
    refine View.canon_apply_of_pieces G (tokenPieces x0) ?_ (ix2 p k) ?_
    · intro P hP x
      rcases List.mem_cons.mp hP with rfl | hP
      · have e : k0_pay5 x0 = rowsOfParity 1 S512x512 x0 bitcasts_S1024x512_w16_S512x512_w32 := by
          unfold k0_pay5; exact shapeCast_self _ _
        have h0 : (x 0).val < 512 := idx2_lt0 x
        have h1 : (x 1).val < 512 := idx2_lt1 x
        show k0_pay5 x0 x = _
        rw [e]
        refine congrArg x0 (funext fun a => Fin.ext ?_)
        match a with
        | ⟨0, _⟩ => show 2 * (x 0).val + 1 = 2 * (0 + 1 * (x 0).val) + (512 + 1 * (x 1).val) / 512; omega
        | ⟨1, _⟩ => show (x 1).val = (512 + 1 * (x 1).val) % 512; omega
      · obtain rfl := List.mem_singleton.mp hP
        have e : k0_pay4 x0 = rowsOfParity 0 S512x512 x0 bitcasts_S1024x512_w16_S512x512_w32 := by
          unfold k0_pay4; exact shapeCast_self _ _
        have h0 : (x 0).val < 512 := idx2_lt0 x
        have h1 : (x 1).val < 512 := idx2_lt1 x
        show k0_pay4 x0 x = _
        rw [e]
        refine congrArg x0 (funext fun a => Fin.ext ?_)
        match a with
        | ⟨0, _⟩ => show 2 * (x 0).val + 0 = 2 * (0 + 1 * (x 0).val) + (0 + 1 * (x 1).val) / 512; omega
        | ⟨1, _⟩ => show (x 1).val = (0 + 1 * (x 1).val) % 512; omega
    · exact tokens_cover x0 _
  exact key

end Cert.Proof.MoeI

end
-- ==== Proof.MoeSpec.lean ====
/-
  The experts' layer as a function of its arguments, element by element: what both programs are shown to leave.
-/
module

public import proofs.«01_k».proof.Proof.MoeMath
public import Idealize.ShloMosaic.Lib.WordCmp

@[expose] public section

noncomputable section

namespace Cert.Proof.MoeMath

open Idealize.ShloMosaic Idealize.ShloMosaic.ValueIdx
open scoped BigOperators

/-- Feature `k` of token `r`: the packed tokens hold a token's features in two rows. -/
def tok (xs : (⟨2, ![36864, 512]⟩ : Shape).Idx → EReal) (r : Fin 18432) (k : Fin 1024) : EReal :=
  xs (ix2 (⟨2 * r.val + k.val / 512, by omega⟩ : Fin 36864) (⟨k.val % 512, by omega⟩ : Fin 512))

/-- Expert `e` at output feature `j` of token `r`. -/
def expert (xs : (⟨2, ![36864, 512]⟩ : Shape).Idx → EReal) (wg wu : (⟨3, ![8, 1024, 3584]⟩ : Shape).Idx → EReal) (wd : (⟨3, ![8, 3584, 1024]⟩ : Shape).Idx → EReal)
    (e : Fin 8) (r : Fin 18432) (j : Fin 1024) : EReal :=
  ∑ h : Fin 3584, gated (∑ k : Fin 1024, tok xs r k * wg (ix3 e k h)) (∑ k : Fin 1024, tok xs r k * wu (ix3 e k h)) * wd (ix3 e h j)

/-- The expert token `r`'s tile names. -/
def named (te : (⟨1, ![72]⟩ : Shape).Idx → BitVec 32) (r : Fin 18432) : Fin 8 :=
  ⟨(te (ix1 (⟨r.val / 512, by omega⟩ : Fin 72))).toNat % 8, Nat.mod_lt _ (by decide)⟩

/-- The layer at output feature `j` of token `r`: the named expert where the tile is in use, zero elsewhere. -/
def layer (te : (⟨1, ![72]⟩ : Shape).Idx → BitVec 32) (nu : BitVec 32) (xs : (⟨2, ![36864, 512]⟩ : Shape).Idx → EReal)
    (wg wu : (⟨3, ![8, 1024, 3584]⟩ : Shape).Idx → EReal) (wd : (⟨3, ![8, 3584, 1024]⟩ : Shape).Idx → EReal) (r : Fin 18432) (j : Fin 1024) : EReal :=
  if IntOp.cmpi .slt (BitVec.ofNat 32 (r.val / 512)) nu = 1#1 then expert xs wg wu wd (named te r) r j else 0

end Cert.Proof.MoeMath

end
-- ==== Proof.MoeBlocks.lean ====
/-
  The windows' blocks at the ideal values, element by element: which elements of the arguments a point reads.
-/
module

public import proofs.«01_k».proof.Proof.MoeTablesI
public import proofs.«01_k».proof.Proof.MoeTerms
public import proofs.«01_k».proof.Proof.MoeSpec
public import Idealize.ShloMosaic.Lib.StableHlo.Run

@[expose] public section

set_option maxRecDepth 16384

noncomputable section

namespace Cert.Proof.MoeI

open Cert.MoeIdeal Cert.MoeIdeal.Gen
open Idealize.ShloMosaic Idealize.ShloMosaic.ValueIdx Idealize.ShloMosaic.TcCoe Idealize.ShloMosaic.StableHlo Cert.Proof.MoeMath
open scoped BigOperators

variable (m : (ℓ : Loc nD τ sig) → Buf (Elt Ideal) ℓ)

/-! ## The rounded weights are the weights -/

theorem V_main_v0 (c : Dev nD) : V m c main_v0 = m ((c.tc : Thread nD τ).loc main_arg3) := by
  show after hostOps0 (fun b => m (c, b)) (Proc.devRef .tc main_v0) = _
  after_results
  rfl
theorem V_main_v1 (c : Dev nD) : V m c main_v1 = m ((c.tc : Thread nD τ).loc main_arg4) := by
  show after hostOps0 (fun b => m (c, b)) (Proc.devRef .tc main_v1) = _
  after_results
  rfl
theorem V_main_v2 (c : Dev nD) : V m c main_v2 = m ((c.tc : Thread nD τ).loc main_arg5) := by
  show after hostOps0 (fun b => m (c, b)) (Proc.devRef .tc main_v2) = _
  after_results
  rfl

/-! ## The blocks -/

theorem blk_0 (hO : Ok m) (c : Dev nD) (t : Fin (cfgM m hO).N) (q : Fin 1024) (d : Fin 512) (r : Fin 36864) (hr : r.val = t.val / 2 * 1024 + q.val) :
    (iblk m hO c 0 t : Vec Ideal S1024x512 .bf16) (ix2 q d) = m ((c.tc : Thread nD τ).loc main_arg2) (ix2 r d) := by
  show V m c main_arg2 _ = _
  rw [V_main_arg2]
  refine congrArg _ (funext fun a => Fin.ext ?_)
  have ht : (grid0.coords t 0).val = t.val / 2 := tile_at t
  have hN : t.val < 72 := t.isLt
  match a with
  | ⟨0, _⟩ =>
    show (BitVec.ofNat 32 (grid0.coords t 0).val).toNat * 1024 + 1 * q.val = r.val
    rw [ht, BitVec.toNat_ofNat]; omega
  | ⟨1, _⟩ => show 0 * 512 + 1 * d.val = d.val; omega

/-- Where window 1's block lies. -/
theorem index_1 (hO : Ok m) (t : Fin (cfgM m hO).N) : ((cfgM m hO).win 1).index t = (![(teAt m (grid0.coords t)).toNat, 0, halfOf m (grid0.coords t)] : Fin 3 → ℕ) :=
  transform_1_eq m (grid0.coords t) k0_off1_inb

theorem emb_1 (hO : Ok m) (t : Fin (cfgM m hO).N) (y : (((cfgM m hO).win 1).xblock ((cfgM m hO).grid.coords t)).Idx) (a : Fin ((cfgM m hO).win 1).shape.rank) :
    ((((cfgM m hO).win 1).blk t).view.emb y a : ℕ) = ((cfgM m hO).win 1).index t a * ((cfgM m hO).win 1).size a + (y a).val :=
  Pipeline.Window.rect_emb_val ((cfgM m hO).win 1) t y a

theorem blk_1 (hO : Ok m) (c : Dev nD) (t : Fin (cfgM m hO).N) (k : Fin 1024) (h : Fin 1792) (e : Fin 8) (h' : Fin 3584)
    (he : e.val = (teAt m (grid0.coords t)).toNat) (hh : h'.val = halfOf m (grid0.coords t) * 1792 + h.val) :
    (iblk m hO c 1 t : Vec Ideal S1x1024x1792 .bf16) (ix3 (0 : Fin 1) k h) = m ((c.tc : Thread nD τ).loc main_arg3) (ix3 e k h') := by
  show V m c main_v0 _ = _
  rw [V_main_v0]
  refine congrArg _ (funext fun a => Fin.ext ?_)
  match a with
  | ⟨0, _⟩ =>
    refine ((emb_1 m hO t _ _).trans (congrArg (fun n => n * 1 + ((0 : Fin 1) : Fin 1).val) (congrFun (index_1 m hO t) (⟨0, by decide⟩ : Fin 3)))).trans ?_
    show (teAt m (grid0.coords t)).toNat * 1 + 0 = e.val; omega
  | ⟨1, _⟩ =>
    refine ((emb_1 m hO t _ _).trans (congrArg (fun n => n * 1024 + (k : Fin 1024).val) (congrFun (index_1 m hO t) (⟨1, by decide⟩ : Fin 3)))).trans ?_
    show 0 * 1024 + k.val = k.val; omega
  | ⟨2, _⟩ =>
    refine ((emb_1 m hO t _ _).trans (congrArg (fun n => n * 1792 + (h : Fin 1792).val) (congrFun (index_1 m hO t) (⟨2, by decide⟩ : Fin 3)))).trans ?_
    exact hh.symm

/-- Where window 2's block lies. -/
theorem index_2 (hO : Ok m) (t : Fin (cfgM m hO).N) : ((cfgM m hO).win 2).index t = (![(teAt m (grid0.coords t)).toNat, 0, halfOf m (grid0.coords t)] : Fin 3 → ℕ) :=
  transform_2_eq m (grid0.coords t) k0_off1_inb

theorem emb_2 (hO : Ok m) (t : Fin (cfgM m hO).N) (y : (((cfgM m hO).win 2).xblock ((cfgM m hO).grid.coords t)).Idx) (a : Fin ((cfgM m hO).win 2).shape.rank) :
    ((((cfgM m hO).win 2).blk t).view.emb y a : ℕ) = ((cfgM m hO).win 2).index t a * ((cfgM m hO).win 2).size a + (y a).val :=
  Pipeline.Window.rect_emb_val ((cfgM m hO).win 2) t y a

theorem blk_2 (hO : Ok m) (c : Dev nD) (t : Fin (cfgM m hO).N) (k : Fin 1024) (h : Fin 1792) (e : Fin 8) (h' : Fin 3584)
    (he : e.val = (teAt m (grid0.coords t)).toNat) (hh : h'.val = halfOf m (grid0.coords t) * 1792 + h.val) :
    (iblk m hO c 2 t : Vec Ideal S1x1024x1792 .bf16) (ix3 (0 : Fin 1) k h) = m ((c.tc : Thread nD τ).loc main_arg4) (ix3 e k h') := by
  show V m c main_v1 _ = _
  rw [V_main_v1]
  refine congrArg _ (funext fun a => Fin.ext ?_)
  match a with
  | ⟨0, _⟩ =>
    refine ((emb_2 m hO t _ _).trans (congrArg (fun n => n * 1 + ((0 : Fin 1) : Fin 1).val) (congrFun (index_2 m hO t) (⟨0, by decide⟩ : Fin 3)))).trans ?_
    show (teAt m (grid0.coords t)).toNat * 1 + 0 = e.val; omega
  | ⟨1, _⟩ =>
    refine ((emb_2 m hO t _ _).trans (congrArg (fun n => n * 1024 + (k : Fin 1024).val) (congrFun (index_2 m hO t) (⟨1, by decide⟩ : Fin 3)))).trans ?_
    show 0 * 1024 + k.val = k.val; omega
  | ⟨2, _⟩ =>
    refine ((emb_2 m hO t _ _).trans (congrArg (fun n => n * 1792 + (h : Fin 1792).val) (congrFun (index_2 m hO t) (⟨2, by decide⟩ : Fin 3)))).trans ?_
    exact hh.symm

/-- Where window 3's block lies. -/
theorem index_3 (hO : Ok m) (t : Fin (cfgM m hO).N) : ((cfgM m hO).win 3).index t = (![(teAt m (grid0.coords t)).toNat, halfOf m (grid0.coords t), 0] : Fin 3 → ℕ) :=
  transform_3_eq m (grid0.coords t) k0_off1_inb

theorem emb_3 (hO : Ok m) (t : Fin (cfgM m hO).N) (y : (((cfgM m hO).win 3).xblock ((cfgM m hO).grid.coords t)).Idx) (a : Fin ((cfgM m hO).win 3).shape.rank) :
    ((((cfgM m hO).win 3).blk t).view.emb y a : ℕ) = ((cfgM m hO).win 3).index t a * ((cfgM m hO).win 3).size a + (y a).val :=
  Pipeline.Window.rect_emb_val ((cfgM m hO).win 3) t y a

theorem blk_3 (hO : Ok m) (c : Dev nD) (t : Fin (cfgM m hO).N) (h : Fin 1792) (j : Fin 1024) (e : Fin 8) (h' : Fin 3584)
    (he : e.val = (teAt m (grid0.coords t)).toNat) (hh : h'.val = halfOf m (grid0.coords t) * 1792 + h.val) :
    (iblk m hO c 3 t : Vec Ideal S1x1792x1024 .bf16) (ix3 (0 : Fin 1) h j) = m ((c.tc : Thread nD τ).loc main_arg5) (ix3 e h' j) := by
  show V m c main_v2 _ = _
  rw [V_main_v2]
  refine congrArg _ (funext fun a => Fin.ext ?_)
  match a with
  | ⟨0, _⟩ =>
    refine ((emb_3 m hO t _ _).trans (congrArg (fun n => n * 1 + ((0 : Fin 1) : Fin 1).val) (congrFun (index_3 m hO t) (⟨0, by decide⟩ : Fin 3)))).trans ?_
    show (teAt m (grid0.coords t)).toNat * 1 + 0 = e.val; omega
  | ⟨1, _⟩ =>
    refine ((emb_3 m hO t _ _).trans (congrArg (fun n => n * 1792 + (h : Fin 1792).val) (congrFun (index_3 m hO t) (⟨1, by decide⟩ : Fin 3)))).trans ?_
    exact hh.symm
  | ⟨2, _⟩ =>
    refine ((emb_3 m hO t _ _).trans (congrArg (fun n => n * 1024 + (j : Fin 1024).val) (congrFun (index_3 m hO t) (⟨2, by decide⟩ : Fin 3)))).trans ?_
    show 0 * 1024 + j.val = j.val; omega

end Cert.Proof.MoeI

end
-- ==== Proof.MoeValue.lean ====
/-
  What the output's buffer holds after a tile's second half, at the ideal values: the layer's rows of the tile.
-/
module

public import proofs.«01_k».proof.Proof.MoeBlocks

@[expose] public section

set_option maxRecDepth 16384

noncomputable section

namespace Cert.Proof.MoeI

open Cert.MoeIdeal Cert.MoeIdeal.Gen
open Idealize.ShloMosaic Idealize.ShloMosaic.ValueIdx Idealize.ShloMosaic.TcCoe Cert.Proof.MoeMath
open scoped BigOperators

variable (m : (ℓ : Loc nD τ sig) → Buf (Elt Ideal) ℓ)

/-! ## The arguments -/

abbrev teOf : S72.Idx → BitVec 32 := m (((0 : Dev nD).tc : Thread nD τ).loc main_arg0)
abbrev xsOf : S36864x512.Idx → EReal := m (((0 : Dev nD).tc : Thread nD τ).loc main_arg2)
abbrev wgOf : S8x1024x3584.Idx → EReal := m (((0 : Dev nD).tc : Thread nD τ).loc main_arg3)
abbrev wuOf : S8x1024x3584.Idx → EReal := m (((0 : Dev nD).tc : Thread nD τ).loc main_arg4)
abbrev wdOf : S8x3584x1024.Idx → EReal := m (((0 : Dev nD).tc : Thread nD τ).loc main_arg5)

/-- The layer of the program's arguments. -/
abbrev layerOf (r : Fin 18432) (j : Fin 1024) : EReal := layer (teOf m) (nuW m) (xsOf m) (wgOf m) (wuOf m) (wdOf m) r j

/-- One hidden feature's contribution to the layer. -/
def term (e : Fin 8) (r : Fin 18432) (j : Fin 1024) (h : Fin 3584) : EReal :=
  gated (∑ k : Fin 1024, tok (xsOf m) r k * wgOf m (ix3 e k h)) (∑ k : Fin 1024, tok (xsOf m) r k * wuOf m (ix3 e k h)) * wdOf m (ix3 e h j)

theorem expert_eq (e : Fin 8) (r : Fin 18432) (j : Fin 1024) :
    expert (xsOf m) (wgOf m) (wuOf m) (wdOf m) e r j = ∑ h : Fin 3584, term m e r j h := rfl

/-- The expert a point's tile names, as the table's word at the tile. -/
theorem teAt_eq (i : grid0.Coords) (x : Fin 72) (hx : x.val = (i 0).val) : teAt m i = teOf m (ix1 x) := by
  unfold teAt
  refine congrArg _ (funext fun a => Fin.ext ?_)
  match a with
  | ⟨0, _⟩ => exact hx.symm

/-! ## The tokens and the contributions at a point -/

theorem tokensAt_apply (hO : Ok m) (s : Fin (cfgM m hO).N) (p : Fin 512) (r : Fin 18432) (hr : r.val = s.val / 2 * 512 + p.val) (k : Fin 1024) :
    tokensAt m hO 0 s (ix2 p k) = tok (xsOf m) r k := by
  refine (tokens_apply (iblk m hO 0 0 s) p k).trans ?_
  exact blk_0 m hO 0 s _ _ _ (by show 2 * r.val + k.val / 512 = s.val / 2 * 1024 + (2 * p.val + k.val / 512); omega)

theorem contrib_at (hO : Ok m) (s t : Fin (cfgM m hO).N) (p : Fin 512) (j : Fin 1024) (r : Fin 18432) (hr : r.val = s.val / 2 * 512 + p.val)
    (e : Fin 8) (he : e.val = (teAt m (grid0.coords t)).toNat) (h : Fin 1792) (h' : Fin 3584) (hh : h'.val = halfOf m (grid0.coords t) * 1792 + h.val) :
    contrib (tokensAt m hO 0 s) (iblk m hO 0 1 t) (iblk m hO 0 2 t) (iblk m hO 0 3 t) p j h = term m e r j h' := by
  unfold contrib term
  exact congrArg₂ (· * ·) (congrArg₂ gated
      (Finset.sum_congr rfl fun k _ => congrArg₂ (· * ·) (tokensAt_apply m hO s p r hr k) (blk_1 m hO 0 t k h e h' he hh))
      (Finset.sum_congr rfl fun k _ => congrArg₂ (· * ·) (tokensAt_apply m hO s p r hr k) (blk_2 m hO 0 t k h e h' he hh)))
    (blk_3 m hO 0 t h j e h' he hh)

/-! ## The output's buffer -/

theorem outAt_used (hO : Ok m) (t : Fin (cfgM m hO).N) (ht : t.val % 2 = 1) (hu : used (grid0.coords t) (nuW m))
    (q : Fin 1024) (d : Fin 512) (r : Fin 18432) (j : Fin 1024) (hr : r.val = t.val / 2 * 512 + q.val / 2) (hj : j.val = q.val % 2 * 512 + d.val)
    (e : Fin 8) (he : e.val = (teAt m (grid0.coords t)).toNat) :
    outAt m hO 0 t (ix2 q d) = expert (xsOf m) (wgOf m) (wuOf m) (wdOf m) e r j := by
  have hup : used (grid0.coords (prev m hO t)) (nuW m) := (used_prev m hO t ht _).mpr hu
  have hr' : r.val = (prev m hO t).val / 2 * 512 + (⟨q.val / 2, by omega⟩ : Fin 512).val := by
    show r.val = (t.val - 1) / 2 * 512 + q.val / 2; omega
  have h0 : halfOf m (grid0.coords (prev m hO t)) = 0 := by
    unfold halfOf; rw [if_pos hup]; refine (half_at _).trans ?_; show (t.val - 1) % 2 = 0; omega
  have h1 : halfOf m (grid0.coords t) = 1 := by
    unfold halfOf; rw [if_pos hu]; exact (half_at _).trans ht
  have hte : teAt m (grid0.coords (prev m hO t)) = teAt m (grid0.coords t) := by
    have hN : t.val < 72 := t.isLt
    have e1 : (grid0.coords (prev m hO t) 0).val = t.val / 2 := by
      refine (tile_at _).trans ?_; show (t.val - 1) / 2 = t.val / 2; omega
    rw [teAt_eq m (grid0.coords t) (⟨t.val / 2, by omega⟩ : Fin 72) (tile_at t).symm]
    exact teAt_eq m _ _ e1.symm
  unfold outAt
  rw [if_pos hu]
  refine (packed_apply (tokensAt m hO 0 (prev m hO t)) (sumsAt m hO 0 (prev m hO t)) (iblk m hO 0 1 t) (iblk m hO 0 2 t) (iblk m hO 0 3 t)
    q d (⟨q.val / 2, by omega⟩ : Fin 512) j rfl hj).trans ?_
  refine (congrArg (· + _) (sums_apply (tokensAt m hO 0 (prev m hO t)) (iblk m hO 0 1 (prev m hO t)) (iblk m hO 0 2 (prev m hO t)) (iblk m hO 0 3 (prev m hO t)) _ j)).trans ?_
  rw [expert_eq, ← sum_halves]
  refine congrArg₂ (· + ·) (Finset.sum_congr rfl fun h _ => ?_) (Finset.sum_congr rfl fun h _ => ?_)
  · exact contrib_at m hO (prev m hO t) (prev m hO t) _ j r hr' e (by rw [hte]; exact he) h _ (by rw [h0])
  · exact contrib_at m hO (prev m hO t) t _ j r hr' e he h _ (by rw [h1])

theorem outAt_unused (hO : Ok m) (t : Fin (cfgM m hO).N) (hu : ¬ used (grid0.coords t) (nuW m)) (y : S1024x512.Idx) :
    outAt m hO 0 t y = (0 : EReal) := by
  unfold outAt
  rw [if_neg hu]
  exact Ideal.ofBits_zero_bf16

/-- After a second half the output's buffer holds the layer's rows of the tile. -/
theorem outAt_eq (hO : Ok m) (hte : ∀ x : S72.Idx, (teOf m x).toNat < 8) (t : Fin (cfgM m hO).N) (ht : t.val % 2 = 1)
    (q : Fin 1024) (d : Fin 512) (r : Fin 18432) (j : Fin 1024) (hr : r.val = t.val / 2 * 512 + q.val / 2) (hj : j.val = q.val % 2 * 512 + d.val) :
    outAt m hO 0 t (ix2 q d) = layerOf m r j := by
  have hN : t.val < 72 := t.isLt
  have hd : r.val / 512 = t.val / 2 := by omega
  have hc : used (grid0.coords t) (nuW m) ↔ IntOp.cmpi .slt (BitVec.ofNat 32 (r.val / 512)) (nuW m) = 1#1 := by
    unfold used
    have e1 : (grid0.coords t 0).val = r.val / 512 := (tile_at t).trans hd.symm
    rw [e1]
    show IntOp.cmpi .slt (IntOp.addi (BitVec.ofNat 32 (r.val / 512)) 0#32) (nuW m) = 1#1 ↔ _
    rw [show IntOp.addi (BitVec.ofNat 32 (r.val / 512)) 0#32 = BitVec.ofNat 32 (r.val / 512) from BitVec.add_zero _]
  unfold layerOf layer
  by_cases hu : used (grid0.coords t) (nuW m)
  · rw [if_pos (hc.mp hu)]
    refine outAt_used m hO t ht hu q d r j hr hj _ ?_
    have hx := teAt_eq m (grid0.coords t) (⟨r.val / 512, by omega⟩ : Fin 72) (by show r.val / 512 = _; rw [hd]; exact (tile_at t).symm)
    rw [hx]
    exact Nat.mod_eq_of_lt (hte _)
  · rw [if_neg fun h => hu (hc.mpr h)]
    exact outAt_unused m hO t hu _

end Cert.Proof.MoeI

end
-- ==== Proof.MoeArray.lean ====
/-
  The result's array after the run, at the ideal values: the layer, on the rows of the tiles computed.
-/
module

public import proofs.«01_k».proof.Proof.MoeValue

@[expose] public section

set_option maxRecDepth 16384

noncomputable section

namespace Cert.Proof.MoeI

open Cert.MoeIdeal Cert.MoeIdeal.Gen
open Idealize.ShloMosaic Idealize.ShloMosaic.ValueIdx Idealize.ShloMosaic.TcCoe Idealize.SL.Sem Cert.Proof.MoeMath
open Idealize.ShloMosaic.Pipeline (Dat)

variable (m : (ℓ : Loc nD τ sig) → Buf (Elt Ideal) ℓ) (ρ : Dev nD → PrngReg)

/-- Where the output's block lies. -/
theorem index_4 (hO : Ok m) (t : Fin (cfgM m hO).N) : ((cfgM m hO).win 4).index t = (![t.val / 2, 0] : Fin 2 → ℕ) := by
  have ht : (grid0.coords t 0).val = t.val / 2 := tile_at t
  have hN : t.val < 72 := t.isLt
  have e : cc0_transform_4 (grid0.coords t) = (![t.val / 2, 0] : Fin 2 → ℕ) := by
    have h0 : (BitVec.ofNat 32 (grid0.coords t 0).val + 0#32).toNat = t.val / 2 := by
      rw [ht, BitVec.add_zero, BitVec.toNat_ofNat]; omega
    show (![(BitVec.ofNat 32 (grid0.coords t 0).val + 0#32).toNat, (0#32 : BitVec 32).toNat] : Fin 2 → ℕ) = _
    rw [h0]; rfl
  exact e

theorem emb_4 (hO : Ok m) (t : Fin (cfgM m hO).N) (y : (((cfgM m hO).win 4).xblock ((cfgM m hO).grid.coords t)).Idx) (a : Fin ((cfgM m hO).win 4).shape.rank) :
    ((((cfgM m hO).win 4).blk t).view.emb y a : ℕ) = ((cfgM m hO).win 4).index t a * ((cfgM m hO).win 4).size a + (y a).val :=
  Pipeline.Window.rect_emb_val ((cfgM m hO).win 4) t y a

theorem emb_4_row (hO : Ok m) (t : Fin (cfgM m hO).N) (y : S1024x512.Idx) :
    ((((cfgM m hO).win 4).blk t).view.emb y (0 : Fin 2) : ℕ) = t.val / 2 * 1024 + (y 0).val :=
  (emb_4 m hO t y (0 : Fin 2)).trans (congrArg (fun n => n * 1024 + (y 0).val) (congrFun (index_4 m hO t) (0 : Fin 2)))

theorem emb_4_col (hO : Ok m) (t : Fin (cfgM m hO).N) (y : S1024x512.Idx) :
    ((((cfgM m hO).win 4).blk t).view.emb y (1 : Fin 2) : ℕ) = (y 1).val :=
  ((emb_4 m hO t y (1 : Fin 2)).trans (congrArg (fun n => n * 512 + (y 1).val) (congrFun (index_4 m hO t) (1 : Fin 2)))).trans
    (by show 0 * 512 + (y 1).val = (y 1).val; omega)

/-- An element of the result holds the layer's value of its token and feature. -/
def Holds (i : S73728x512.Idx) (v : EReal) : Prop :=
  ∀ (r : Fin 18432) (j : Fin 1024), (i 0).val = 2 * r.val + j.val / 512 → (i 1).val = j.val % 512 → v = layerOf m r j

/-- What a second half writes back has it. -/
theorem holds_outAt (hO : Ok m) (hte : ∀ x : S72.Idx, (teOf m x).toNat < 8) (t : Fin (cfgM m hO).N) (ht : t.val % 2 = 1) (y : S1024x512.Idx) :
    Holds m (((cfgM m hO).win 4).blk t |>.view.emb y) (outAt m hO 0 t y) := by
  intro r j h0 h1
  have e0 := (emb_4_row m hO t y).symm.trans h0
  have e1 := (emb_4_col m hO t y).symm.trans h1
  have hy0 : (y 0).val < 1024 := idx2_lt0 y
  have hy1 : (y 1).val < 512 := idx2_lt1 y
  rw [eq_ix2 y]
  exact outAt_eq m hO hte t ht (⟨(y 0).val, hy0⟩ : Fin 1024) (⟨(y 1).val, hy1⟩ : Fin 512) r j
    (by show r.val = t.val / 2 * 512 + (y 0).val / 2; omega) (by show j.val = (y 0).val % 2 * 512 + (y 1).val; omega)

/-- The rows of the tiles computed are under the blocks written back. -/
theorem covered (hO : Ok m) (i : S73728x512.Idx) (hi : (i 0).val < 36864) :
    ∃ t : Fin (cfgM m hO).N, ((cfgM m hO).win 4).flush t = true ∧ i ∈ (((cfgM m hO).win 4).blk t).view.set := by
  have hi1 : (i 1).val < 512 := idx2_lt1 i
  have hN : (cfgM m hO).N = 72 := N_0
  refine ⟨⟨2 * ((i 0).val / 1024) + 1, by rw [hN]; omega⟩, (flush_4 m hO _).mpr (by show (2 * ((i 0).val / 1024) + 1) % 2 = 1; omega), ?_⟩
  generalize ht : (⟨2 * ((i 0).val / 1024) + 1, _⟩ : Fin (cfgM m hO).N) = t
  have htv : t.val = 2 * ((i 0).val / 1024) + 1 := by rw [← ht]
  have e : (((cfgM m hO).win 4).blk t).view.emb (ix2 (⟨(i 0).val % 1024, by omega⟩ : Fin 1024) (⟨(i 1).val, hi1⟩ : Fin 512) : S1024x512.Idx) = i := by
    refine funext fun a => Fin.ext ?_
    match a with
    | ⟨0, _⟩ =>
      refine (emb_4_row m hO t _).trans ?_
      show t.val / 2 * 1024 + (i 0).val % 1024 = (i 0).val
      omega
    | ⟨1, _⟩ => exact emb_4_col m hO t _
  exact e ▸ View.emb_mem_set _ _

theorem final_holds (hO : Ok m) (hte : ∀ x : S72.Idx, (teOf m x).toNat < 8) (i : S73728x512.Idx) (hi : (i 0).val < 36864) :
    Holds m i ((dats m hO 0 0).arrAt 4 (cfgM m hO).N i) := by
  obtain ⟨t, hf, hm⟩ := covered m hO i hi
  exact Dat.arrAt_forall_of_flushed (dats m hO 0 0) 4 (Holds m)
    (fun t hf y => by
      have h := holds_outAt m hO hte t ((flush_4 m hO t).mp hf) y
      rw [← after_4] at h
      exact h)
    (cfgM m hO).N t i t.isLt hf hm

end Cert.Proof.MoeI

end
-- ==== Proof.MoeReference.lean ====
/-
  The reference's result at the ideal values, element by element: the layer.
-/
module

public import proofs.«01_k».proof.Proof.Gen.MoeReferenceIdeal.Run
public import proofs.«01_k».proof.Proof.MoeSpec
public import Idealize.ShloMosaic.Lib.Pipeline.Value

@[expose] public section

set_option maxRecDepth 16384

noncomputable section

namespace Cert.Proof.MoeR

open Cert.MoeReferenceIdeal Cert.MoeReferenceIdeal.Gen Cert.MoeReferenceIdeal.Value
open Idealize.ShloMosaic Idealize.ShloMosaic.ValueIdx Idealize.ShloMosaic.StackMember Idealize.ShloMosaic.TcCoe Idealize.ShloMosaic.StableHlo Idealize.SL.Sem Cert.Proof.MoeMath
open scoped BigOperators

variable (V : Valuation τ sig (Elt Ideal))

/-! ## The arguments -/

abbrev te : S72.Idx → BitVec 32 := V (Proc.devRef .tc main_arg0)
abbrev nu : S1.Idx → BitVec 32 := V (Proc.devRef .tc main_arg1)
abbrev xs : S36864x512.Idx → EReal := V (Proc.devRef .tc main_arg2)
abbrev wg : S8x1024x3584.Idx → EReal := V (Proc.devRef .tc main_arg3)
abbrev wu : S8x1024x3584.Idx → EReal := V (Proc.devRef .tc main_arg4)
abbrev wd : S8x3584x1024.Idx → EReal := V (Proc.devRef .tc main_arg5)

/-! ## Tokens, experts' numbers and the tiles in use -/

theorem tokens_at (r : Fin 18432) (k : Fin 1024) : (res_main_v1 V : FVec Ideal S18432x1024 .f32) (ix2 r k) = tok (xs V) r k := by
  unfold tok
  show shapeCast S18432x1024 (xs V) shapeCasts_S36864x512_S18432x1024 (ix2 r k) = _
  refine shapeCast_apply _ _ _ _ ?_
  rw [Shape.rowMajor_val_two, Shape.rowMajor_val_two]
  show (2 * r.val + k.val / 512) * 512 + k.val % 512 = r.val * 1024 + k.val
  omega

theorem number_at (r : Fin 18432) : (res_main_v7 V : IVec S18432x1 32) (ix2 r (0 : Fin 1)) = te V (ix1 (⟨r.val / 512, by omega⟩ : Fin 72)) := by
  show shapeCast S18432x1 (broadcastInDim S36x512 ![0, 1] bcast_S36x1_S36x512_0_1 (shapeCast S36x1 (extractStridedSlice S36 ![0] (te V) slices_S72_S36_0) shapeCasts_S36_S36x1)) shapeCasts_S36x512_S18432x1 (ix2 r (0 : Fin 1)) = _
  refine (shapeCast_apply _ _ _ (ix2 (⟨r.val / 512, by omega⟩ : Fin 36) (⟨r.val % 512, by omega⟩ : Fin 512)) ?_).trans ?_
  · rw [Shape.rowMajor_val_two, Shape.rowMajor_val_two]
    show r.val / 512 * 512 + r.val % 512 = r.val * 1 + 0
    omega
  refine (broadcastInDim_apply _ _ _ _ (ix2 (⟨r.val / 512, by omega⟩ : Fin 36) (0 : Fin 1)) (fun a => ?_)).trans ?_
  · match a with
    | ⟨0, _⟩ => rfl
    | ⟨1, _⟩ => rfl
  refine (shapeCast_apply _ _ _ (ix1 (⟨r.val / 512, by omega⟩ : Fin 36)) ?_).trans ?_
  · rw [Shape.rowMajor_val_two, Shape.rowMajor_val_one]
    show r.val / 512 = r.val / 512 * 1 + 0
    omega
  refine extractStridedSlice_apply _ _ _ _ _ (fun a => ?_)
  match a with
  | ⟨0, _⟩ => show r.val / 512 = 0 + r.val / 512; omega

/-- A column of bits spread over the features. -/
theorem spread_at (b : IVec S18432x1 1) (r : Fin 18432) (j : Fin 1024) :
    broadcastInDim S18432x1024 ![0, 1] bcast_S18432x1_S18432x1024_0_1 b (ix2 r j) = b (ix2 r (0 : Fin 1)) := by
  refine broadcastInDim_apply _ _ _ _ _ (fun a => ?_)
  match a with
  | ⟨0, _⟩ => rfl
  | ⟨1, _⟩ => rfl

/-- The condition of expert `k`. -/
theorem isExpert_at (k : BitVec 32) (r : Fin 18432) (j : Fin 1024) :
    broadcastInDim S18432x1024 ![0, 1] bcast_S18432x1_S18432x1024_0_1 (cmpi .eq (res_main_v7 V) (broadcastInDim S18432x1 ![] bcast_S_S18432x1 (constantI S_ 32 k))) (ix2 r j)
      = IntOp.cmpi .eq (te V (ix1 (⟨r.val / 512, by omega⟩ : Fin 72))) k := by
  refine (spread_at _ r j).trans ?_
  exact congrArg₂ (IntOp.cmpi .eq) (number_at V r) (broadcastInDim_scalar_apply _ _ _)

/-- The condition of a tile in use. -/
theorem inUse_at (r : Fin 18432) (j : Fin 1024) :
    broadcastInDim S18432x1024 ![0, 1] bcast_S18432x1_S18432x1024_0_1 (cmpi .slt (shapeCast _ (iotaInDim S36x512 32 0) shapeCasts_S36x512_S18432x1)
        (broadcastInDim S18432x1 ![] bcast_S_S18432x1 (shapeCast _ (nu V) shapeCasts_S1_S_))) (ix2 r j)
      = IntOp.cmpi .slt (BitVec.ofNat 32 (r.val / 512)) (nu V (ix1 (0 : Fin 1))) := by
  refine (spread_at _ r j).trans (congrArg₂ (IntOp.cmpi .slt) ?_ ?_)
  · refine (shapeCast_apply _ _ _ (ix2 (⟨r.val / 512, by omega⟩ : Fin 36) (⟨r.val % 512, by omega⟩ : Fin 512)) ?_).trans rfl
    rw [Shape.rowMajor_val_two, Shape.rowMajor_val_two]
    show r.val / 512 * 512 + r.val % 512 = r.val * 1 + 0
    omega
  · refine (broadcastInDim_scalar_apply _ _ _).trans ?_
    refine congrArg (nu V) (funext fun a => Fin.ext ?_)
    match a with
    | ⟨0, _⟩ => exact Nat.lt_one_iff.mp (Fin.isLt _)

/-! ## One expert -/

/-- A product of the tokens with one expert's slice of the weights. -/
def product (w : S8x1024x3584.Idx → EReal) (o : Fin 3 → ℕ) (hs : S8x1024x3584.Slices o S1x1024x3584) : FVec Ideal S18432x3584 .f32 :=
  Host.dotGeneral (φ₁ := .f32) (φ₂ := .f32) dot_S18432x1024_S1024x3584_S18432x3584_1_0_0_1_n_n none (res_main_v1 V : FVec Ideal S18432x1024 .f32)
    (shapeCast S1024x3584 (extractStridedSlice S1x1024x3584 o w hs) shapeCasts_S1x1024x3584_S1024x3584 : FVec Ideal S1024x3584 .f32)

theorem product_apply (w : S8x1024x3584.Idx → EReal) (e : Fin 8) (hs) (r : Fin 18432) (h : Fin 3584) :
    product V w ![e.val, 0, 0] hs (ix2 r h) = ∑ k : Fin 1024, tok (xs V) r k * w (ix3 e k h) := by
  unfold product
  refine (dotGeneral_plain_apply (m := 18432) (n := 3584) (k := 1024) none _ _ r h).trans ?_
  refine Finset.sum_congr rfl fun k _ => congrArg₂ (· * ·) (tokens_at V r k) ?_
  refine (shapeCast_1ab_ab_apply _ _ _ _).trans ?_
  refine extractStridedSlice_apply _ _ _ _ _ (fun a => ?_)
  match a with
  | ⟨0, _⟩ => rfl
  | ⟨1, _⟩ => show k.val = 0 + k.val; omega
  | ⟨2, _⟩ => show h.val = 0 + h.val; omega

/-- One expert of every token, from its gate's products. -/
def expertOut (g : FVec Ideal S18432x3584 .f32) (o : Fin 3 → ℕ) (hs : S8x1024x3584.Slices o S1x1024x3584) (hd : S8x3584x1024.Slices o S1x3584x1024) : FVec Ideal S18432x1024 .f32 :=
  Host.dotGeneral (φ₁ := .f32) (φ₂ := .f32) dot_S18432x3584_S3584x1024_S18432x1024_1_0_0_1_n_n none
    (mulf (mulf g (Host.divf (broadcastInDim S18432x3584 ![] bcast_S_S18432x3584 (constant S_ .f32 0x3F800000#32))
        (addf (broadcastInDim S18432x3584 ![] bcast_S_S18432x3584 (constant S_ .f32 0x3F800000#32)) (Host.exp (Host.negf g)))))
      (product V (wu V) o hs))
    (shapeCast S3584x1024 (extractStridedSlice S1x3584x1024 o (wd V) hd) shapeCasts_S1x3584x1024_S3584x1024 : FVec Ideal S3584x1024 .f32)

theorem expertOut_apply (e : Fin 8) (hg hs hd) (r : Fin 18432) (j : Fin 1024) :
    expertOut V (product V (wg V) ![e.val, 0, 0] hg) ![e.val, 0, 0] hs hd (ix2 r j) = expert (xs V) (wg V) (wu V) (wd V) e r j := by
  unfold expertOut expert
  refine (dotGeneral_plain_apply (m := 18432) (n := 1024) (k := 3584) none _ _ r j).trans ?_
  refine Finset.sum_congr rfl fun h _ => congrArg₂ (· * ·) ?_ ?_
  · rw [← product_apply V (wg V) e hg r h, ← product_apply V (wu V) e hs r h]
    have one : broadcastInDim S18432x3584 ![] bcast_S_S18432x3584 (constant (F := Ideal) S_ .f32 0x3F800000#32) (ix2 r h) = (1 : EReal) :=
      (broadcastInDim_scalar_apply _ _ _).trans Ideal.ofBits_one_f32
    unfold gated
    rw [mulf_apply, mulf_apply, hostDivf_apply, addf_apply, one]
    rfl
  · refine (shapeCast_1ab_ab_apply _ _ _ _).trans ?_
    refine extractStridedSlice_apply _ _ _ _ _ (fun a => ?_)
    match a with
    | ⟨0, _⟩ => rfl
    | ⟨1, _⟩ => show h.val = 0 + h.val; omega
    | ⟨2, _⟩ => show j.val = 0 + j.val; omega

/-! ## The choice among the experts -/

/-- Choosing the values one by one by the word is reading the list at the word. -/
theorem choose_eq (f : Fin 8 → EReal) (z : EReal) (w : BitVec 32) (hw : w.toNat < 8) :
    Scalar.select (IntOp.cmpi .eq w 7#32) (f 7) (Scalar.select (IntOp.cmpi .eq w 6#32) (f 6) (Scalar.select (IntOp.cmpi .eq w 5#32) (f 5)
      (Scalar.select (IntOp.cmpi .eq w 4#32) (f 4) (Scalar.select (IntOp.cmpi .eq w 3#32) (f 3) (Scalar.select (IntOp.cmpi .eq w 2#32) (f 2)
      (Scalar.select (IntOp.cmpi .eq w 1#32) (f 1) (Scalar.select (IntOp.cmpi .eq w 0#32) (f 0) z)))))))
      = f ⟨w.toNat % 8, Nat.mod_lt _ (by decide)⟩ := by
  obtain ⟨e, rfl⟩ : ∃ e : Fin 8, w = BitVec.ofNat 32 e.val :=
    ⟨⟨w.toNat, hw⟩, BitVec.eq_of_toNat_eq (by rw [BitVec.toNat_ofNat]; exact (Nat.mod_eq_of_lt w.isLt).symm)⟩
  match e with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

/-- A choice of expert `k`'s values where its number is named. -/
abbrev pick (k : BitVec 32) (x y : FVec Ideal S18432x1024 .f32) : FVec Ideal S18432x1024 .f32 :=
  select (broadcastInDim S18432x1024 ![0, 1] bcast_S18432x1_S18432x1024_0_1 (cmpi .eq (res_main_v7 V) (broadcastInDim S18432x1 ![] bcast_S_S18432x1 (constantI S_ 32 k)))) x y

theorem pick_apply (k : BitVec 32) (x y : FVec Ideal S18432x1024 .f32) (r : Fin 18432) (j : Fin 1024) (a b : EReal)
    (hx : x (ix2 r j) = a) (hy : y (ix2 r j) = b) :
    pick V k x y (ix2 r j) = Scalar.select (IntOp.cmpi .eq (te V (ix1 (⟨r.val / 512, by omega⟩ : Fin 72))) k) a b := by
  subst hx hy
  exact congrArg (fun b => Scalar.select b (x (ix2 r j)) (y (ix2 r j))) (isExpert_at V k r j)

/-- The first five experts' choices. -/
theorem first_five : (res_main_v78 V : FVec Ideal S18432x1024 .f32)
    = pick V 4#32 (expertOut V (product V (wg V) ![4, 0, 0] slices_S8x1024x3584_S1x1024x3584_4_0_0) ![4, 0, 0] slices_S8x1024x3584_S1x1024x3584_4_0_0 slices_S8x3584x1024_S1x3584x1024_4_0_0)
      (pick V 3#32 (expertOut V (product V (wg V) ![3, 0, 0] slices_S8x1024x3584_S1x1024x3584_3_0_0) ![3, 0, 0] slices_S8x1024x3584_S1x1024x3584_3_0_0 slices_S8x3584x1024_S1x3584x1024_3_0_0)
      (pick V 2#32 (expertOut V (product V (wg V) ![2, 0, 0] slices_S8x1024x3584_S1x1024x3584_2_0_0) ![2, 0, 0] slices_S8x1024x3584_S1x1024x3584_2_0_0 slices_S8x3584x1024_S1x3584x1024_2_0_0)
      (pick V 1#32 (expertOut V (product V (wg V) ![1, 0, 0] slices_S8x1024x3584_S1x1024x3584_1_0_0) ![1, 0, 0] slices_S8x1024x3584_S1x1024x3584_1_0_0 slices_S8x3584x1024_S1x3584x1024_1_0_0)
      (pick V 0#32 (expertOut V (product V (wg V) ![0, 0, 0] slices_S8x1024x3584_S1x1024x3584_0_0_0) ![0, 0, 0] slices_S8x1024x3584_S1x1024x3584_0_0_0 slices_S8x3584x1024_S1x3584x1024_0_0_0)
      (broadcastInDim S18432x1024 ![] bcast_S_S18432x1024 (constant S_ .f32 0x00000000#32)))))) := rfl

/-- All the experts' choices. -/
def chosen : FVec Ideal S18432x1024 .f32 :=
  pick V 7#32 (expertOut V (product V (wg V) ![7, 0, 0] slices_S8x1024x3584_S1x1024x3584_7_0_0) ![7, 0, 0] slices_S8x1024x3584_S1x1024x3584_7_0_0 slices_S8x3584x1024_S1x3584x1024_7_0_0)
    (pick V 6#32 (expertOut V (product V (wg V) ![6, 0, 0] slices_S8x1024x3584_S1x1024x3584_6_0_0) ![6, 0, 0] slices_S8x1024x3584_S1x1024x3584_6_0_0 slices_S8x3584x1024_S1x3584x1024_6_0_0)
    (pick V 5#32 (expertOut V (product V (wg V) ![5, 0, 0] slices_S8x1024x3584_S1x1024x3584_5_0_0) ![5, 0, 0] slices_S8x1024x3584_S1x1024x3584_5_0_0 slices_S8x3584x1024_S1x3584x1024_5_0_0)
    (res_main_v78 V)))

theorem zero_at (r : Fin 18432) (j : Fin 1024) :
    broadcastInDim S18432x1024 ![] bcast_S_S18432x1024 (constant (F := Ideal) S_ .f32 0x00000000#32) (ix2 r j) = (0 : EReal) :=
  (broadcastInDim_scalar_apply _ _ _).trans Ideal.ofBits_zero_f32

theorem chosen_apply (r : Fin 18432) (j : Fin 1024) (hw : (te V (ix1 (⟨r.val / 512, by omega⟩ : Fin 72))).toNat < 8) :
    chosen V (ix2 r j) = expert (xs V) (wg V) (wu V) (wd V) (named (te V) r) r j := by
  unfold chosen
  rw [first_five]
  refine (pick_apply V _ _ _ r j _ _ (expertOut_apply V 7 _ _ _ r j) (pick_apply V _ _ _ r j _ _ (expertOut_apply V 6 _ _ _ r j)
    (pick_apply V _ _ _ r j _ _ (expertOut_apply V 5 _ _ _ r j) (pick_apply V _ _ _ r j _ _ (expertOut_apply V 4 _ _ _ r j)
    (pick_apply V _ _ _ r j _ _ (expertOut_apply V 3 _ _ _ r j) (pick_apply V _ _ _ r j _ _ (expertOut_apply V 2 _ _ _ r j)
    (pick_apply V _ _ _ r j _ _ (expertOut_apply V 1 _ _ _ r j) (pick_apply V _ _ _ r j _ _ (expertOut_apply V 0 _ _ _ r j)
    (zero_at r j))))))))).trans ?_
  exact choose_eq (fun e => expert (xs V) (wg V) (wu V) (wd V) e r j) 0 _ hw

/-! ## The result -/

/-- Every token's layer. -/
def rows : FVec Ideal S18432x1024 .f32 :=
  select (broadcastInDim S18432x1024 ![0, 1] bcast_S18432x1_S18432x1024_0_1 (cmpi .slt (shapeCast _ (iotaInDim S36x512 32 0) shapeCasts_S36x512_S18432x1)
    (broadcastInDim S18432x1 ![] bcast_S_S18432x1 (shapeCast _ (nu V) shapeCasts_S1_S_)))) (chosen V)
    (broadcastInDim S18432x1024 ![] bcast_S_S18432x1024 (constant S_ .f32 0x00000000#32))

theorem rows_apply (r : Fin 18432) (j : Fin 1024) (hw : (te V (ix1 (⟨r.val / 512, by omega⟩ : Fin 72))).toNat < 8) :
    rows V (ix2 r j) = layer (te V) (nu V (ix1 (0 : Fin 1))) (xs V) (wg V) (wu V) (wd V) r j := by
  unfold rows layer
  rw [ValueIdx.select_apply, inUse_at, chosen_apply V r j hw, zero_at]
  rfl

/-- The rows, packed again two to a token, and zeros behind them. -/
def result : FVec Ideal S73728x512 .bf16 :=
  concatenate S73728x512 0 [⟨S36864x512, (shapeCast _ (truncf .bf16 (rows V) bitsLt_bf16_f32) shapeCasts_S18432x1024_S36864x512)⟩,
    ⟨S36864x512, (broadcastInDim S36864x512 ![] bcast_S_S36864x512 (constant S_ .bf16 0x0000#16))⟩] concatenates_S36864x512_S36864x512_S73728x512_d0

theorem result_apply (i : S73728x512.Idx) (r : Fin 18432) (j : Fin 1024) (h0 : (i 0).val = 2 * r.val + j.val / 512) (h1 : (i 1).val = j.val % 512)
    (hw : (te V (ix1 (⟨r.val / 512, by omega⟩ : Fin 72))).toNat < 8) :
    result V i = layer (te V) (nu V (ix1 (0 : Fin 1))) (xs V) (wg V) (wu V) (wd V) r j := by
  unfold result
  refine (concatenate_pair_apply_left (t := S73728x512) (s₁ := S36864x512) (s₂ := S36864x512) _ _ _ _ i rfl (ix2 (⟨2 * r.val + j.val / 512, by omega⟩ : Fin 36864) (⟨j.val % 512, by omega⟩ : Fin 512)) (fun b => ?_)).trans ?_
  · match b with
    | ⟨0, _⟩ => exact h0.symm
    | ⟨1, _⟩ => exact h1.symm
  refine (shapeCast_apply _ _ _ (ix2 r j) ?_).trans ?_
  · rw [Shape.rowMajor_val_two, Shape.rowMajor_val_two]
    show r.val * 1024 + j.val = (2 * r.val + j.val / 512) * 512 + j.val % 512
    omega
  exact (ValueIdx.truncf_apply (rows V) bitsLt_bf16_f32 _).trans (rows_apply V r j hw)

/-- The reference's run, its result named. -/
theorem run (m : (ℓ : Loc nD τ sig) → Buf (Elt Ideal) ℓ) (ρ : Dev nD → PrngReg) :
    θ_run defs (onTc (τ := τ) (main (F := Ideal))) ⟨m, fun _ => 0, ρ⟩ fun s => ∀ c : Dev nD,
      s.2.mem ((c.tc : Thread nD τ).loc main_v129) = result (launchContents m c)
      ∧ s.2.mem ((c.tc : Thread nD τ).loc main_arg0) = m ((c.tc : Thread nD τ).loc main_arg0)
      ∧ s.2.mem ((c.tc : Thread nD τ).loc main_arg1) = m ((c.tc : Thread nD τ).loc main_arg1)
      ∧ s.2.mem ((c.tc : Thread nD τ).loc main_arg2) = m ((c.tc : Thread nD τ).loc main_arg2)
      ∧ s.2.mem ((c.tc : Thread nD τ).loc main_arg3) = m ((c.tc : Thread nD τ).loc main_arg3)
      ∧ s.2.mem ((c.tc : Thread nD τ).loc main_arg4) = m ((c.tc : Thread nD τ).loc main_arg4)
      ∧ s.2.mem ((c.tc : Thread nD τ).loc main_arg5) = m ((c.tc : Thread nD τ).loc main_arg5) :=
  (θ_run defs _ _).mono (fun _ h c => ⟨(h c).1.trans (by unfold result rows chosen expertOut product; rfl), (h c).2⟩) (Value.run (F := Ideal) m ρ)

end Cert.Proof.MoeR

end
-- ==== Proof.MoeClaims.lean ====
/-
  The second program's value: on the tiles computed its result and the reference's are the same, at the ideal values.
-/
module

public import proofs.«01_k».proof.Defs
public import proofs.«01_k».proof.Proof.MoeArray
public import proofs.«01_k».proof.Proof.MoeReference
public import proofs.«01_k».proof.Proof.Gen.On_tiles_computed

@[expose] public section

set_option maxRecDepth 16384

noncomputable section

namespace Cert.Proof.Moe

open Idealize.ShloMosaic Idealize.ShloMosaic.ValueIdx Idealize.SL.Sem Cert.Proof.MoeMath

/-- The mask is on only at the rows of the tiles computed. -/
theorem row_lt (i : (⟨2, ![73728, 512]⟩ : Shape).Idx) (h : IntOp.cmpi .slt (BitVec.ofNat 32 (i 0).val) 36864#32 = 1#1) : (i 0).val < 36864 := by
  have hi : (i 0).val < 73728 := idx2_lt0 i
  have one (p : Bool) : (BitVec.ofBool p = 1#1) ↔ p = true := by cases p <;> decide
  simp only [IntOp.cmpi, one, BitVec.slt_eq_decide, decide_eq_true_eq, BitVec.toInt_eq_toNat_cond, BitVec.toNat_ofNat,
    Nat.reducePow, Nat.reduceMod] at h
  omega

/-- The layer's value at an element of the result. -/
def valueAt (m : (ℓ : Loc Cert.MoeIdeal.nD Cert.MoeIdeal.τ Cert.MoeIdeal.sig) → Buf (Elt Ideal) ℓ) (i : (⟨2, ![73728, 512]⟩ : Shape).Idx) : EReal :=
  if h : (i 0).val < 36864 then
    MoeI.layerOf m (⟨(i 0).val / 2, by omega⟩ : Fin 18432) (⟨(i 0).val % 2 * 512 + (i 1).val, by have := idx2_lt1 i; omega⟩ : Fin 1024)
  else 0

theorem valueAt_of (m : (ℓ : Loc Cert.MoeIdeal.nD Cert.MoeIdeal.τ Cert.MoeIdeal.sig) → Buf (Elt Ideal) ℓ) (i : (⟨2, ![73728, 512]⟩ : Shape).Idx) (h : (i 0).val < 36864) (h1 : (i 1).val < 512) :
    valueAt m i = MoeI.layerOf m (⟨(i 0).val / 2, by omega⟩ : Fin 18432) (⟨(i 0).val % 2 * 512 + (i 1).val, by omega⟩ : Fin 1024) :=
  dif_pos h

/-- The number of tiles in use is the second argument's word. -/
theorem inUse_eq (m : (ℓ : Loc Cert.MoeIdeal.nD Cert.MoeIdeal.τ Cert.MoeIdeal.sig) → Buf (Elt Ideal) ℓ) :
    m (((0 : Dev Cert.MoeIdeal.nD).tc : Thread Cert.MoeIdeal.nD Cert.MoeIdeal.τ).loc Cert.MoeIdeal.main_arg1) (ix1 (0 : Fin 1)) = MoeI.nuW m := by
  refine Eq.trans ?_ (MoeI.at_1 m (by decide))
  show _ = MoeI.V m 0 Cert.MoeIdeal.main_arg1 _
  rw [MoeI.V_main_arg1]
  refine congrArg _ (funext fun a => Fin.ext ?_)
  match a with
  | ⟨0, _⟩ => exact (Nat.lt_one_iff.mp (Fin.isLt _)).symm

theorem algebraic : Cert.algebraic_MoeIdeal_MoeReferenceIdeal_on_tiles_computed (hMoeIdeal := Cert.MoeIdeal.Gen.facts) (hMoeReferenceIdeal := Cert.MoeReferenceIdeal.Gen.facts)
    (hPre_experts_named := Cert.Pre_experts_named.Gen.facts) (hOn_tiles_computed := Cert.On_tiles_computed.Gen.facts) := by
  intro m g m' g' hpre hargs
  have hO : MoeI.Ok m := MoeI.ok_of_pre (F := Ideal) m (hpre 0)
  have hte : ∀ x, (MoeI.teOf m x).toNat < 8 := MoeI.te_lt (F := Ideal) m (hpre 0)
  refine ⟨fun _ i => valueAt m i, ?_, ?_⟩
  · have hrun := MoeI.run_main (F := Ideal) m g hO
    have hframe := MoeI.frame_run (F := Ideal) m g hO
    refine (θ_run Cert.MoeIdeal.defs _ _).mono (fun r h c => ⟨fun i hi => ?_, h.2.1 c⟩) (θ_run_and hrun hframe)
    obtain rfl : c = 0 := Subsingleton.elim _ _
    have hlt := row_lt i hi
    have h1 := idx2_lt1 i
    have hmem : r.2.mem (((0 : Dev Cert.MoeIdeal.nD).tc : Thread Cert.MoeIdeal.nD Cert.MoeIdeal.τ).loc Cert.MoeIdeal.main_v3)
        = (MoeI.dats m hO 0 0).arrAt 4 (MoeI.cfgM m hO).N := (h.1.1 0).1 4
    refine (congrFun hmem i).trans (Eq.trans ?_ (valueAt_of m i hlt h1).symm)
    refine MoeI.final_holds m hO hte i hlt _ _ ?_ ?_
    · show (i 0).val = 2 * ((i 0).val / 2) + ((i 0).val % 2 * 512 + (i 1).val) / 512; omega
    · show (i 1).val = ((i 0).val % 2 * 512 + (i 1).val) % 512; omega
  · refine (θ_run Cert.MoeReferenceIdeal.defs _ _).mono (fun r h c => ⟨fun i hi => ?_, (h c).2⟩) (MoeR.run m' g')
    obtain rfl : c = 0 := Subsingleton.elim _ _
    have hlt := row_lt i hi
    have h1 := idx2_lt1 i
    obtain ⟨a0, a1, a2, a3, a4, a5⟩ := hargs 0
    refine (congrFun (h 0).1 i).trans (Eq.trans ?_ (valueAt_of m i hlt h1).symm)
    have e0 : MoeR.te (StableHlo.launchContents m' 0) = MoeI.teOf m := a0
    have e1 : MoeR.nu (StableHlo.launchContents m' 0) (ix1 (0 : Fin 1)) = MoeI.nuW m := (congrFun a1 _).trans (inUse_eq m)
    have e2 : MoeR.xs (StableHlo.launchContents m' 0) = MoeI.xsOf m := a2
    have e3 : MoeR.wg (StableHlo.launchContents m' 0) = MoeI.wgOf m := a3
    have e4 : MoeR.wu (StableHlo.launchContents m' 0) = MoeI.wuOf m := a4
    have e5 : MoeR.wd (StableHlo.launchContents m' 0) = MoeI.wdOf m := a5
    refine (MoeR.result_apply (StableHlo.launchContents m' 0) i (⟨(i 0).val / 2, by omega⟩ : Fin 18432) (⟨(i 0).val % 2 * 512 + (i 1).val, by omega⟩ : Fin 1024) ?_ ?_ ?_).trans ?_
    · show (i 0).val = 2 * ((i 0).val / 2) + ((i 0).val % 2 * 512 + (i 1).val) / 512; omega
    · show (i 1).val = ((i 0).val % 2 * 512 + (i 1).val) % 512; omega
    · rw [e0]; exact hte _
    · rw [e0, e1, e2, e3, e4, e5]

end Cert.Proof.Moe

end
-- ==== Proof.TailSetupI.lean ====
module

public import proofs.«01_k».proof.Proof.Gen.TailIdeal.Launch
public import proofs.«01_k».proof.Proof.Gen.TailIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.TailI

open Cert.TailIdeal Cert.TailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- The core's buffers when the call is entered: after the host's roundings of the weights. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The main function is the host's operations and then the call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The host part before the call writes the three rounded weights and the result's first contents alone. -/
theorem V_of (c : Dev nD) (b : Ref sig .tc) (h0 : b ≠ main_v0) (h1 : b ≠ main_v1) (h2 : b ≠ main_v2) (h3 : b ≠ main_v3) :
    V m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1, StableHlo.devRef_ne_of_ne h2, StableHlo.devRef_ne_of_ne h3⟩))

/-- The host part before the call leaves argument 0 as it was. -/
theorem V_main_arg0 (c : Dev nD) : V m c main_arg0 = m ((c : Thread nD τ).loc main_arg0) :=
  V_of m c main_arg0 (by decide) (by decide) (by decide) (by decide)
/-- The host part before the call leaves argument 1 as it was. -/
theorem V_main_arg1 (c : Dev nD) : V m c main_arg1 = m ((c : Thread nD τ).loc main_arg1) :=
  V_of m c main_arg1 (by decide) (by decide) (by decide) (by decide)
/-- The host part before the call leaves argument 2 as it was. -/
theorem V_main_arg2 (c : Dev nD) : V m c main_arg2 = m ((c : Thread nD τ).loc main_arg2) :=
  V_of m c main_arg2 (by decide) (by decide) (by decide) (by decide)
/-- The host part before the call leaves argument 3 as it was. -/
theorem V_main_arg3 (c : Dev nD) : V m c main_arg3 = m ((c : Thread nD τ).loc main_arg3) :=
  V_of m c main_arg3 (by decide) (by decide) (by decide) (by decide)
/-- The host part before the call leaves argument 4 as it was. -/
theorem V_main_arg4 (c : Dev nD) : V m c main_arg4 = m ((c : Thread nD τ).loc main_arg4) :=
  V_of m c main_arg4 (by decide) (by decide) (by decide) (by decide)
/-- The host part before the call leaves argument 5 as it was. -/
theorem V_main_arg5 (c : Dev nD) : V m c main_arg5 = m ((c : Thread nD τ).loc main_arg5) :=
  V_of m c main_arg5 (by decide) (by decide) (by decide) (by decide)
/-- The host part before the call leaves argument 6 as it was. -/
theorem V_main_arg6 (c : Dev nD) : V m c main_arg6 = m ((c : Thread nD τ).loc main_arg6) :=
  V_of m c main_arg6 (by decide) (by decide) (by decide) (by decide)

/-! ## The prefetched tables, read off the launch memory -/

/-- The two tables' contents when the call is entered. -/
def tbl : pre0.Contents (Elt F) := fun j => V m (0 : Dev nD) (pre0.ref j)
/-- The one device holds those contents. -/
theorem V_pre (c : Dev nD) (j : Fin 2) : V m c (pre0.ref j) = tbl m j := by
  obtain rfl : c = 0 := Subsingleton.elim _ _; rfl
/-- Every block the tables name is inside its array. -/
abbrev Ok : Prop := ok0 (F := F) (tbl m)
/-- The tables' contents as ones the pipeline takes, and the pipeline at them. -/
abbrev adm (hO : Ok m) : (pcfg0 (F := F)).Adm := ⟨tbl m, hO⟩
abbrev cfgM (hO : Ok m) : Pipeline.Cfg sig Λ₀ := cfg0 (adm m hO)

/-- Each table as the body sees it. -/
abbrev tbM0_0 : Memref sig .tc .smem S72 .i32 := Memref.whole main_arg0
abbrev htbM0_0 : tbM0_0.IsWhole := Memref.isWhole_whole _
abbrev tbM0_1 : Memref sig .tc .smem S1 .i32 := Memref.whole main_arg1
abbrev htbM0_1 : tbM0_1.IsWhole := Memref.isWhole_whole _

/-- Half of a table, held for reading: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves one by one. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read from its array as the call finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's staging buffer holds its block at every point, fetched there or kept. -/
theorem before0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or kept. -/
theorem before1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or kept. -/
theorem before2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or kept. -/
theorem before3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run of the pipeline, the arguments end as they began. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 0).trans (((dats 0 c).arrAt_in 0 rfl _).trans ((hA c 0).trans (V_main_arg2 m c))),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c)⟩) h

/-! ## The body's branch conditions: the tile is in use, and the half of the hidden axis -/

/-- The tile of the point is below the number `w` of tiles in use. -/
abbrev used (i : grid0.Coords) (w : BitVec 32) : Prop :=
  Scalar.cmpi .slt (Scalar.addi (BitVec.ofNat 32 (i 0).val) 36#32) w = 1#1

/-- The first branch's condition: a tile in use, first half. -/
abbrev cond1 (i : grid0.Coords) (w : BitVec 32) : Prop :=
  Scalar.cmpi .ne (Scalar.extui (Scalar.andi (Scalar.cmpi .slt (Scalar.addi (BitVec.ofNat 32 (i 0).val) 36#32) w)
    (Scalar.cmpi .eq (BitVec.ofNat 32 (i 1).val) 0#32)) : BitVec 32) 0#32 = 1#1

theorem half_cases (i : grid0.Coords) : (i 1).val = 0 ∨ (i 1).val = 1 := by
  have h : (i 1).val < 2 := (i 1).isLt
  omega

theorem bit_cases (b : BitVec 1) : b = 0#1 ∨ b = 1#1 := by revert b; decide

theorem cond1_iff (i : grid0.Coords) (w : BitVec 32) : cond1 i w ↔ used i w ∧ (i 1).val = 0 := by
  unfold cond1 used
  generalize Scalar.cmpi .slt (Scalar.addi (BitVec.ofNat 32 (i 0).val) 36#32) w = b
  rcases half_cases i with h | h <;> rcases bit_cases b with hb | hb <;> rw [h, hb] <;> decide

theorem cond2_iff (i : grid0.Coords) (w : BitVec 32) : k0_cond2 i w = 1#1 ↔ used i w ∧ (i 1).val = 1 := by
  unfold k0_cond2 used
  dsimp only
  generalize Scalar.cmpi .slt (Scalar.addi (BitVec.ofNat 32 (i 0).val) 36#32) w = b
  rcases half_cases i with h | h <;> rcases bit_cases b with hb | hb <;> rw [h, hb] <;> decide

theorem cond3_iff (i : grid0.Coords) (w : BitVec 32) : k0_cond3 i w = 1#1 ↔ ¬ used i w ∧ (i 1).val = 1 := by
  unfold k0_cond3 used
  dsimp only
  generalize Scalar.cmpi .slt (Scalar.addi (BitVec.ofNat 32 (i 0).val) 36#32) w = b
  rcases half_cases i with h | h <;> rcases bit_cases b with hb | hb <;> rw [h, hb] <;> decide

theorem half_at (t : Fin grid0.N) : (grid0.coords t 1).val = t.val % 2 := by
  have e1 : (grid0.coords t 1).val = t.val / 1 % 2 := Pipeline.Grid.coords_val t 1 (by decide) rfl
  rw [e1, Nat.div_one]

theorem tile_at (t : Fin grid0.N) : (grid0.coords t 0).val = t.val / 2 := by
  have ht : t.val < 72 := Nat.lt_of_lt_of_eq t.isLt N_0
  have e0 : (grid0.coords t 0).val = t.val / 2 % 36 := Pipeline.Grid.coords_val t 0 (by decide) rfl
  rw [e0]; omega

/-- The number of tiles in use, as the pipeline reads it. -/
abbrev nuW : BitVec 32 := (tbl m).atD 1 ![0]

/-! ## Where the windows are idle -/

theorem liveAt_0 (hO : Ok m) (t : Fin (cfgM m hO).N) : (cfgM m hO).idle 0 (grid0.coords t) = false := rfl
theorem liveAt_1 (hO : Ok m) (t : Fin (cfgM m hO).N) : (cfgM m hO).idle 1 (grid0.coords t) = false := rfl
theorem liveAt_2 (hO : Ok m) (t : Fin (cfgM m hO).N) : (cfgM m hO).idle 2 (grid0.coords t) = false := rfl
theorem liveAt_3 (hO : Ok m) (t : Fin (cfgM m hO).N) : (cfgM m hO).idle 3 (grid0.coords t) = false := rfl

/-- The output's window is idle at a first half, -/
theorem idleAt_4 (hO : Ok m) (t : Fin (cfgM m hO).N) (h : t.val % 2 = 0) : (cfgM m hO).idle 4 (grid0.coords t) = true := by
  have e : (cfgM m hO).idle 4 (grid0.coords t)
      = (!(k0_cond2 (grid0.coords t) (nuW m) == 1#1) && !(k0_cond3 (grid0.coords t) (nuW m) == 1#1)) := rfl
  have h1 : (grid0.coords t 1).val = 0 := (half_at t).trans h
  have n2 : ¬ k0_cond2 (grid0.coords t) (nuW m) = 1#1 := fun H => by have := ((cond2_iff _ _).mp H).2; omega
  have n3 : ¬ k0_cond3 (grid0.coords t) (nuW m) = 1#1 := fun H => by have := ((cond3_iff _ _).mp H).2; omega
  rw [e, beq_eq_false_iff_ne.mpr n2, beq_eq_false_iff_ne.mpr n3]; rfl

/-- and live at a second half, whether or not the tile is in use. -/
theorem liveAt_4 (hO : Ok m) (t : Fin (cfgM m hO).N) (h : t.val % 2 = 1) : (cfgM m hO).idle 4 (grid0.coords t) = false := by
  have e : (cfgM m hO).idle 4 (grid0.coords t)
      = (!(k0_cond2 (grid0.coords t) (nuW m) == 1#1) && !(k0_cond3 (grid0.coords t) (nuW m) == 1#1)) := rfl
  have h1 : (grid0.coords t 1).val = 1 := (half_at t).trans h
  rw [e]
  by_cases hu : used (grid0.coords t) (nuW m)
  · rw [beq_iff_eq.mpr ((cond2_iff _ _).mpr ⟨hu, h1⟩)]; rfl
  · rw [beq_iff_eq.mpr ((cond3_iff _ _).mpr ⟨hu, h1⟩), Bool.not_true, Bool.and_false]

/-- The output's block is written back at the second halves only. -/
theorem flush_4 (hO : Ok m) (t : Fin (cfgM m hO).N) : ((cfgM m hO).win 4).flush t = true ↔ t.val % 2 = 1 :=
  (by decide +kernel : ∀ t : Fin grid0.N, Pipeline.Window.flushOf grid0 true cc0_transform_5 t = true ↔ t.val % 2 = 1) t

theorem noFlush_4 (hO : Ok m) (t : Fin (cfgM m hO).N) (h : t.val % 2 = 0) : ((cfgM m hO).win 4).flush t = false :=
  Bool.eq_false_iff.mpr fun H => by have := (flush_4 m hO t).mp H; omega

/-! ## The kernel body on any staging memrefs: a subtype the run finds -/

/-- A buffer of the output window, to read the written pieces through. -/
abbrev VO0_4 : View sig .tc .vmem S1024x512 .bf16 := (Memref.whole cc0_stg4_0 : Memref sig .tc .vmem S1024x512 .bf16).view
/-- Each window's buffer at point `t`. -/
abbrev ms0_0 (hO : Ok m) (t : Fin (cfgM m hO).N) : Memref sig .tc .vmem S1024x512 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x1792 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1024x1792 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1792x1024 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1024x512 .bf16 := spec0_4.stage ((cfgM m hO).slots t 4)
abbrev hs0_4 (hO : Ok m) (t : Fin (cfgM m hO).N) : (ms0_4 m hO t).IsWhole := hstage0_4 (((cfgM m hO).slots t 4).cast nbuf0_4)
/-- The two scratch buffers: the tokens' tile, and the running sums. -/
abbrev scM0_0 : Memref sig .tc .vmem S512x1024 .bf16 := Memref.whole cc0_scratch0
abbrev scM0_1 : Memref sig .tc .vmem S512x1024 .f32 := Memref.whole cc0_scratch1
/-- The tokens' tile as a view. -/
abbrev VS0_0 : View sig .tc .vmem S512x1024 .bf16 := scM0_0.view
/-- The running sums as a view. -/
abbrev VS0_1 : View sig .tc .vmem S512x1024 .f32 := scM0_1.view

/-- What the call keeps between points: the scratch buffers at some contents and the generator's state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The kernel's body at point `t`, on what the pipeline calls it with. -/
abbrev bodyAt (hO : Ok m) (t : Fin (cfgM m hO).N) : Prog (TpuEff nD τ sig (Elt F) Λ₀ .tc) PUnit :=
  cc0_moe_grouped (grid0.coords t) tbM0_0 htbM0_0 tbM0_1 htbM0_1 (ms0_0 m hO t) (hs0_0 m hO t) (ms0_1 m hO t) (hs0_1 m hO t)
    (ms0_2 m hO t) (hs0_2 m hO t) (ms0_3 m hO t) (hs0_3 m hO t) (Memref.whole main_arg6) (Memref.isWhole_whole _) (ms0_4 m hO t) (hs0_4 m hO t) scM0_0 (Memref.isWhole_whole _)
    scM0_1 (Memref.isWhole_whole _)

end Cert.Proof.TailI

end
-- ==== Proof.TailRunI.lean ====
module

public import proofs.«01_k».proof.Proof.TailSetupI
public import Idealize.ShloMosaic.Lib.Pipeline.Value

@[expose] public section

set_option maxRecDepth 16384

noncomputable section

namespace Cert.Proof.TailI

open Cert.TailIdeal Cert.TailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body leaves in its buffers -/

/-- The columns of a block of the gate's or the up weights from `o` on, and the rows of a block of the down weights. -/
abbrev gw0 (x : Vec F S1x1024x1792 .bf16) : Vec F S1x1024x512 .bf16 := View.ld x (Rect.unit (s := S1x1024x1792) ![0, 0, 0] S1x1024x512.size inb_S1x1024x1792_S1x1024x512_0_0_0)
abbrev gw1 (x : Vec F S1x1024x1792 .bf16) : Vec F S1x1024x512 .bf16 := View.ld x (Rect.unit (s := S1x1024x1792) ![0, 0, 512] S1x1024x512.size inb_S1x1024x1792_S1x1024x512_0_0_512)
abbrev gw2 (x : Vec F S1x1024x1792 .bf16) : Vec F S1x1024x512 .bf16 := View.ld x (Rect.unit (s := S1x1024x1792) ![0, 0, 1024] S1x1024x512.size inb_S1x1024x1792_S1x1024x512_0_0_1024)
abbrev gw3 (x : Vec F S1x1024x1792 .bf16) : Vec F S1x1024x256 .bf16 := View.ld x (Rect.unit (s := S1x1024x1792) ![0, 0, 1536] S1x1024x256.size inb_S1x1024x1792_S1x1024x256_0_0_1536)
abbrev dw0 (x : Vec F S1x1792x1024 .bf16) : Vec F S1x512x1024 .bf16 := View.ld x (Rect.unit (s := S1x1792x1024) ![0, 0, 0] S1x512x1024.size inb_S1x1792x1024_S1x512x1024_0_0_0)
abbrev dw1 (x : Vec F S1x1792x1024 .bf16) : Vec F S1x512x1024 .bf16 := View.ld x (Rect.unit (s := S1x1792x1024) ![0, 512, 0] S1x512x1024.size inb_S1x1792x1024_S1x512x1024_0_512_0)
abbrev dw2 (x : Vec F S1x1792x1024 .bf16) : Vec F S1x512x1024 .bf16 := View.ld x (Rect.unit (s := S1x1792x1024) ![0, 1024, 0] S1x512x1024.size inb_S1x1792x1024_S1x512x1024_0_1024_0)
abbrev dw3 (x : Vec F S1x1792x1024 .bf16) : Vec F S1x256x1024 .bf16 := View.ld x (Rect.unit (s := S1x1792x1024) ![0, 1536, 0] S1x256x1024.size inb_S1x1792x1024_S1x256x1024_0_1536_0)

/-- The two stores that unpack a tile of tokens, the later first. -/
abbrev tokenPieces (x0 : Vec F S1024x512 .bf16) : List (View.Piece (Elt F) S512x1024 .bf16) :=
  [⟨Rect.unit (s := S512x1024) ![0, 512] S512x512.size inb_S512x1024_S512x512_0_512, k0_pay5 x0⟩,
   ⟨Rect.unit (s := S512x1024) ![0, 0] S512x512.size inb_S512x1024_S512x512_0_0, k0_pay4 x0⟩]

/-- The unpacked tile of tokens. -/
def tokens (x0 : Vec F S1024x512 .bf16) : Vec F S512x1024 .bf16 := View.canon (tokenPieces x0)

/-- The sums over the first half of the hidden axis. -/
def sums (xb : Vec F S512x1024 .bf16) (x1 x2 : Vec F S1x1024x1792 .bf16) (x3 : Vec F S1x1792x1024 .bf16) : Vec F S512x1024 .f32 :=
  k0_pay1 xb (k0_pay8 xb (k0_pay6 xb (gw0 x1) (gw0 x2)) (k0_pay7 (dw0 x3)) (gw1 x1) (gw1 x2) (dw1 x3))
    (k0_pay9 xb (gw2 x1)) (k0_pay10 xb (gw2 x2)) (k0_pay11 xb (gw2 x1)) k0_pay12 (dw2 x3) (gw3 x1) (gw3 x2) (dw3 x3)

/-- The packed output: the sums of the first half and those over the second. -/
def packed (xb : Vec F S512x1024 .bf16) (acc : Vec F S512x1024 .f32) (x1 x2 : Vec F S1x1024x1792 .bf16) (x3 : Vec F S1x1792x1024 .bf16) :
    Vec F S1024x512 .bf16 :=
  k0_pay2 acc xb (k0_pay18 xb (k0_pay13 xb (gw0 x1) (gw0 x2) (dw0 x3)) (k0_pay14 xb (gw1 x1)) (k0_pay15 xb (gw1 x2)) (k0_pay16 xb (gw1 x1))
    k0_pay17 (dw1 x3) (gw2 x1) (gw2 x2) (dw2 x3)) (k0_pay19 xb (gw3 x1)) (gw3 x2) (dw3 x3)

/-- The number of tiles in use, as the body reads it. -/
abbrev nuAt (c : Dev nD) (xt1 : TbBuf0 (F := F) c tbM0_1) : BitVec 32 :=
  View.readAt (Elt F) tbM0_1.view (Rect.unit (s := S1) ![0] S1.size inb_S1_S1_0).toLoadRect xt1 (Shape.Idx.first (by decide))

theorem tokens_cover (x0 : Vec F S1024x512 .bf16) (y : S512x1024.Idx) : ∃ pc ∈ tokenPieces x0, y ∈ pc.1.set :=
  View.cover_of_tiledL (tokenPieces x0) S512x512.size (by sl_kernel_rfl) y

theorem zeros2 : (![0, 0] : Fin 2 → ℕ) = fun _ => 0 := funext fun a => by fin_cases a <;> rfl

section
variable (c : Dev nD) (i : grid0.Coords) (arg4 : Memref sig .tc .vmem S1024x512 .bf16) (harg4 : arg4.IsWhole)
  (arg5 : Memref sig .tc .vmem S1x1024x1792 .bf16) (harg5 : arg5.IsWhole) (arg6 : Memref sig .tc .vmem S1x1024x1792 .bf16) (harg6 : arg6.IsWhole)
  (arg7 : Memref sig .tc .vmem S1x1792x1024 .bf16) (harg7 : arg7.IsWhole) (arg8 : Memref sig .tc .vmem S1024x512 .bf16) (harg8 : arg8.IsWhole)
  (x0 : Vec F S1024x512 .bf16) (x1 : Vec F S1x1024x1792 .bf16) (x2 : Vec F S1x1024x1792 .bf16) (x3 : Vec F S1x1792x1024 .bf16)
  (xt0 : TbBuf0 (F := F) c tbM0_0) (xt1 : TbBuf0 (F := F) c tbM0_1)

/-- The windows' buffers and the tables, held through the body. -/
abbrev held (x4 : Vec F S1024x512 .bf16) : sProp 𝕄 :=
  iprop(owns (c : Thread nD τ) arg4 fullShare x0 ∗ owns (c : Thread nD τ) arg5 fullShare x1 ∗ owns (c : Thread nD τ) arg6 fullShare x2
    ∗ owns (c : Thread nD τ) arg7 fullShare x3 ∗ owns (c : Thread nD τ) arg8 fullShare x4 ∗ tbPt0 c tbM0_0 xt0 ∗ tbPt0 c tbM0_1 xt1)

set_option maxHeartbeats 1000000 in
/-- A tile in use, first half: the tokens are unpacked and the first sums stored; the output's buffer stays. -/
theorem runA (hc1 : cond1 i (nuAt c xt1)) (hc2 : ¬ k0_cond2 i (nuAt c xt1) = 1#1) (hc3 : ¬ k0_cond3 i (nuAt c xt1) = 1#1)
    (x4 : Vec F S1024x512 .bf16) (E : Set ℕ) (K : PUnit → sProp 𝕄) :
    iprop(held c arg4 arg5 arg6 arg7 arg8 x0 x1 x2 x3 xt0 xt1 x4
        ∗ (∃ d, owns (c : Thread nD τ) scM0_0 fullShare d) ∗ (∃ d, owns (c : Thread nD τ) scM0_1 fullShare d)
        ∗ (iprop(held c arg4 arg5 arg6 arg7 arg8 x0 x1 x2 x3 xt0 xt1 x4
            ∗ owns (c : Thread nD τ) scM0_0 fullShare (tokens x0) ∗ owns (c : Thread nD τ) scM0_1 fullShare (sums (tokens x0) x1 x2 x3)) -∗ K ⟨⟩))
      ⊢ wp frame (wpE (defs₀ (F := F)) Variants.none c none) E (cc0_moe_grouped i tbM0_0 htbM0_0 tbM0_1 htbM0_1 arg4 harg4 arg5 harg5 arg6 harg6 arg7 harg7 (Memref.whole main_arg6) (Memref.isWhole_whole _) arg8 harg8 scM0_0 (Memref.isWhole_whole _) scM0_1 (Memref.isWhole_whole _)) K := by
  simp only [cc0_moe_grouped_eq_skeleton]; unfold cc0_moe_grouped_skel
  simp only [k0_part1_eq_skeleton, k0_part2_eq_skeleton]
  unfold held owns
  iintro ⟨⟨⟨%f0, %hf0, H0⟩, ⟨%f1, %hf1, H1⟩, ⟨%f2, %hf2, H2⟩, ⟨%f3, %hf3, H3⟩, ⟨%f4, %hf4, H4⟩, HT0, HT1⟩, ⟨%ds0, %fs0, -, HS0⟩, ⟨%ds1, %fs1, -, HS1⟩, Hk⟩
  obtain rfl := harg4.eq_unread hf0; obtain rfl := harg5.eq_unread hf1; obtain rfl := harg6.eq_unread hf2; obtain rfl := harg7.eq_unread hf3; obtain rfl := harg8.eq_unread hf4
  sl_exec (disch := first | sl_exact hc1 | sl_exact hc2 | sl_exact hc3)
  sl_step
  iapply Hk
  isplitl [H0 H1 H2 H3 H4 HT0 HT1]
  · isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [HT0]; · iexact HT0
    iexact HT1
  isplitl [HS0]
  · iexists _; isplitr
    swap; · iexact HS0
    ipureintro
    sl_unfold_words
    simp only [View.readAt_eq_ld, harg4.read_unread, View.ld_unit_zero (S := S1024x512) zeros2]
    exact View.read_writes_eq_canon _ _ _ (tokens_cover x0)
  iexists _; isplitr
  swap; · iexact HS1
  ipureintro
  rw [View.read_writes_eq_canon _ _ _ (View.cover_of_tiledL _ S512x1024.size (by sl_kernel_rfl)), View.canon_unit_zero zeros2]
  sl_unfold_words
  have e : ∀ L : List (View.Piece (Elt F) S512x1024 .bf16), scM0_0.view.readCov L (Rect.unit (s := S512x1024) ![0, 0] S512x1024.size inb_S512x1024_S512x1024_0_0).toLoadRect = View.canon L := fun L => by
    rw [View.readCov_eq_canon']
    exact View.ld_unit_zero (S := S512x1024) zeros2 _ (View.canon L)
  simp only [View.readAt_eq_ld, harg4.read_unread, harg5.read_unread, harg6.read_unread, harg7.read_unread, View.ld_unit_zero (S := S1024x512) zeros2, e]
  rfl

set_option maxHeartbeats 1000000 in
/-- A tile in use, second half: the output's buffer is stored whole from the tokens and the first sums. -/
theorem runB (hc1 : ¬ cond1 i (nuAt c xt1)) (hc2 : k0_cond2 i (nuAt c xt1) = 1#1) (hc3 : ¬ k0_cond3 i (nuAt c xt1) = 1#1)
    (xb : Vec F S512x1024 .bf16) (acc : Vec F S512x1024 .f32) (x4 : Vec F S1024x512 .bf16) (E : Set ℕ) (K : PUnit → sProp 𝕄) :
    iprop(held c arg4 arg5 arg6 arg7 arg8 x0 x1 x2 x3 xt0 xt1 x4
        ∗ owns (c : Thread nD τ) scM0_0 fullShare xb ∗ owns (c : Thread nD τ) scM0_1 fullShare acc
        ∗ (iprop(held c arg4 arg5 arg6 arg7 arg8 x0 x1 x2 x3 xt0 xt1 (packed xb acc x1 x2 x3)
            ∗ owns (c : Thread nD τ) scM0_0 fullShare xb ∗ owns (c : Thread nD τ) scM0_1 fullShare acc) -∗ K ⟨⟩))
      ⊢ wp frame (wpE (defs₀ (F := F)) Variants.none c none) E (cc0_moe_grouped i tbM0_0 htbM0_0 tbM0_1 htbM0_1 arg4 harg4 arg5 harg5 arg6 harg6 arg7 harg7 (Memref.whole main_arg6) (Memref.isWhole_whole _) arg8 harg8 scM0_0 (Memref.isWhole_whole _) scM0_1 (Memref.isWhole_whole _)) K := by
  have hs0 : scM0_0.IsWhole := Memref.isWhole_whole _
  have hs1 : scM0_1.IsWhole := Memref.isWhole_whole _
  simp only [cc0_moe_grouped_eq_skeleton]; unfold cc0_moe_grouped_skel
  simp only [k0_part3_eq_skeleton, k0_part4_eq_skeleton]
  unfold held owns
  iintro ⟨⟨⟨%f0, %hf0, H0⟩, ⟨%f1, %hf1, H1⟩, ⟨%f2, %hf2, H2⟩, ⟨%f3, %hf3, H3⟩, ⟨%f4, %hf4, H4⟩, HT0, HT1⟩, ⟨%fs0, %hfs0, HS0⟩, ⟨%fs1, %hfs1, HS1⟩, Hk⟩
  obtain rfl := harg4.eq_unread hf0; obtain rfl := harg5.eq_unread hf1; obtain rfl := harg6.eq_unread hf2; obtain rfl := harg7.eq_unread hf3; obtain rfl := harg8.eq_unread hf4
  obtain rfl := hs0.eq_unread hfs0; obtain rfl := hs1.eq_unread hfs1
  sl_exec (disch := first | sl_exact hc1 | sl_exact hc2 | sl_exact hc3)
  sl_step
  iapply Hk
  isplitl [H0 H1 H2 H3 H4 HT0 HT1]
  · isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr
      swap; · iexact H4
      ipureintro
      rw [View.read_writes_eq_canon _ _ _ (View.cover_of_tiledL _ S1024x512.size (by sl_kernel_rfl)), View.canon_unit_zero zeros2]
      sl_unfold_words
      simp only [View.readAt_eq_ld, hs0.read_unread, hs1.read_unread, harg5.read_unread, harg6.read_unread, harg7.read_unread, View.ld_unit_zero (S := S512x1024) zeros2]
      rfl
    isplitl [HT0]; · iexact HT0
    iexact HT1
  isplitl [HS0]
  · iexists _; isplitr; · ipureintro; exact hs0.read_unread _
    iexact HS0
  iexists _; isplitr; · ipureintro; exact hs1.read_unread _
  iexact HS1

set_option maxHeartbeats 1000000 in
/-- A tile not in use, first half: nothing is stored. -/
theorem runC (hc1 : ¬ cond1 i (nuAt c xt1)) (hc2 : ¬ k0_cond2 i (nuAt c xt1) = 1#1) (hc3 : ¬ k0_cond3 i (nuAt c xt1) = 1#1)
    (x4 : Vec F S1024x512 .bf16) (E : Set ℕ) (K : PUnit → sProp 𝕄) :
    iprop(held c arg4 arg5 arg6 arg7 arg8 x0 x1 x2 x3 xt0 xt1 x4
        ∗ (held c arg4 arg5 arg6 arg7 arg8 x0 x1 x2 x3 xt0 xt1 x4 -∗ K ⟨⟩))
      ⊢ wp frame (wpE (defs₀ (F := F)) Variants.none c none) E (cc0_moe_grouped i tbM0_0 htbM0_0 tbM0_1 htbM0_1 arg4 harg4 arg5 harg5 arg6 harg6 arg7 harg7 (Memref.whole main_arg6) (Memref.isWhole_whole _) arg8 harg8 scM0_0 (Memref.isWhole_whole _) scM0_1 (Memref.isWhole_whole _)) K := by
  simp only [cc0_moe_grouped_eq_skeleton]; unfold cc0_moe_grouped_skel
  unfold held
  iintro ⟨⟨H0, H1, H2, H3, H4, HT0, HT1⟩, Hk⟩
  sl_exec (disch := first | sl_exact hc1 | sl_exact hc2 | sl_exact hc3)
  sl_step
  iapply Hk
  isplitl [H0]; · iexact H0
  isplitl [H1]; · iexact H1
  isplitl [H2]; · iexact H2
  isplitl [H3]; · iexact H3
  isplitl [H4]; · iexact H4
  isplitl [HT0]; · iexact HT0
  iexact HT1

set_option maxHeartbeats 1000000 in
/-- A tile not in use, second half: zeros are stored. -/
theorem runD (hc1 : ¬ cond1 i (nuAt c xt1)) (hc2 : ¬ k0_cond2 i (nuAt c xt1) = 1#1) (hc3 : k0_cond3 i (nuAt c xt1) = 1#1)
    (x4 : Vec F S1024x512 .bf16) (E : Set ℕ) (K : PUnit → sProp 𝕄) :
    iprop(held c arg4 arg5 arg6 arg7 arg8 x0 x1 x2 x3 xt0 xt1 x4
        ∗ (held c arg4 arg5 arg6 arg7 arg8 x0 x1 x2 x3 xt0 xt1 k0_pay3 -∗ K ⟨⟩))
      ⊢ wp frame (wpE (defs₀ (F := F)) Variants.none c none) E (cc0_moe_grouped i tbM0_0 htbM0_0 tbM0_1 htbM0_1 arg4 harg4 arg5 harg5 arg6 harg6 arg7 harg7 (Memref.whole main_arg6) (Memref.isWhole_whole _) arg8 harg8 scM0_0 (Memref.isWhole_whole _) scM0_1 (Memref.isWhole_whole _)) K := by
  simp only [cc0_moe_grouped_eq_skeleton]; unfold cc0_moe_grouped_skel
  unfold held
  iintro ⟨⟨H0, H1, H2, H3, H4, HT0, HT1⟩, Hk⟩
  unfold owns
  icases H4 with ⟨%f4, %hf4, H4⟩
  obtain rfl := harg8.eq_unread hf4
  sl_exec (disch := first | sl_exact hc1 | sl_exact hc2 | sl_exact hc3)
  sl_step
  iapply Hk
  isplitl [H0]; · iexact H0
  isplitl [H1]; · iexact H1
  isplitl [H2]; · iexact H2
  isplitl [H3]; · iexact H3
  isplitl [H4]
  · iexists _; isplitr
    swap; · iexact H4
    ipureintro
    rw [View.read_writes_eq_canon _ _ _ (View.cover_of_tiledL _ S1024x512.size (by sl_kernel_rfl)), View.canon_unit_zero zeros2]
  isplitl [HT0]; · iexact HT0
  iexact HT1

end

end Cert.Proof.TailI

end
-- ==== Proof.TailFrameI.lean ====
module

public import proofs.«01_k».proof.Proof.TailRunI
public import Idealize.ShloMosaic.Lib.Claim

@[expose] public section

set_option maxRecDepth 16384

noncomputable section

namespace Cert.Proof.TailI

open Cert.TailIdeal Cert.TailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold point by point -/

/-- The number of tiles in use is the second table's word. -/
theorem nuAt_eq (c : Dev nD) : nuAt (F := F) c (tbl m 1) = nuW m := by
  obtain rfl : c = 0 := Subsingleton.elim _ _
  rfl

/-- The point before an odd one. -/
abbrev prev (hO : Ok m) (t : Fin (cfgM m hO).N) : Fin (cfgM m hO).N := ⟨t.val - 1, Nat.lt_of_le_of_lt (Nat.sub_le _ _) t.isLt⟩

/-- The tokens of a point's tile, and the sums after it. -/
abbrev tokensAt (hO : Ok m) (c : Dev nD) (t : Fin (cfgM m hO).N) : Vec F S512x1024 .bf16 := tokens (iblk m hO c 0 t)
abbrev sumsAt (hO : Ok m) (c : Dev nD) (t : Fin (cfgM m hO).N) : Vec F S512x1024 .f32 :=
  sums (tokensAt m hO c t) (iblk m hO c 1 t) (iblk m hO c 2 t) (iblk m hO c 3 t)

/-- What the output's buffer holds after a second half. -/
def outAt (hO : Ok m) (c : Dev nD) (t : Fin (cfgM m hO).N) : Vec F S1024x512 .bf16 :=
  if used (grid0.coords t) (nuW m) then
    packed (tokensAt m hO c (prev m hO t)) (sumsAt m hO c (prev m hO t)) (iblk m hO c 1 t) (iblk m hO c 2 t) (iblk m hO c 3 t)
  else k0_pay3

/-- The scratch buffers after the first half of a tile in use. -/
abbrev named (hO : Ok m) (c : Dev nD) (t : Fin (cfgM m hO).N) : sProp 𝕄 :=
  iprop(iprop(owns (c : Thread nD τ) scM0_0 fullShare (tokensAt m hO c t) ∗ owns (c : Thread nD τ) scM0_1 fullShare (sumsAt m hO c t)) ∗ (∃ r, prngReg c r))

/-- What holds between points: after the first half of a tile in use the scratch buffers' contents are known. -/
def Phi (hO : Ok m) (c : Dev nD) (n : ℕ) (hn : n ≤ (cfgM m hO).N) : sProp 𝕄 :=
  if h : n % 2 = 1 then
    if used (grid0.coords (⟨n - 1, by omega⟩ : Fin (cfgM m hO).N)) (nuW m) then
      iprop(named m hO c ⟨n - 1, by omega⟩ ∗ Pipeline.ΦT pre0 (tbl m) c)
    else iprop(Pipeline.ΦA spec0 c ∗ Pipeline.ΦT pre0 (tbl m) c)
  else iprop(Pipeline.ΦA spec0 c ∗ Pipeline.ΦT pre0 (tbl m) c)

theorem Phi_even (hO : Ok m) (c : Dev nD) (n : ℕ) (hn : n ≤ (cfgM m hO).N) (h : n % 2 = 0) :
    Phi m hO c n hn = iprop(Pipeline.ΦA spec0 c ∗ Pipeline.ΦT pre0 (tbl m) c) :=
  dif_neg (by omega)

theorem Phi_used (hO : Ok m) (c : Dev nD) (n : ℕ) (hn : n ≤ (cfgM m hO).N) (h : n % 2 = 1)
    (hu : used (grid0.coords (⟨n - 1, by omega⟩ : Fin (cfgM m hO).N)) (nuW m)) :
    Phi m hO c n hn = iprop(named m hO c ⟨n - 1, by omega⟩ ∗ Pipeline.ΦT pre0 (tbl m) c) :=
  (dif_pos h).trans (if_pos hu)

theorem Phi_unused (hO : Ok m) (c : Dev nD) (n : ℕ) (hn : n ≤ (cfgM m hO).N) (h : n % 2 = 1)
    (hu : ¬ used (grid0.coords (⟨n - 1, by omega⟩ : Fin (cfgM m hO).N)) (nuW m)) :
    Phi m hO c n hn = iprop(Pipeline.ΦA spec0 c ∗ Pipeline.ΦT pre0 (tbl m) c) :=
  (dif_pos h).trans (if_neg hu)

/-- The two halves of a tile are in use together. -/
theorem used_prev (hO : Ok m) (t : Fin (cfgM m hO).N) (h : t.val % 2 = 1) (w : BitVec 32) :
    used (grid0.coords (prev m hO t)) w ↔ used (grid0.coords t) w := by
  have e : (grid0.coords (prev m hO t) 0).val = (grid0.coords t 0).val := by
    rw [tile_at, tile_at]; show (t.val - 1) / 2 = t.val / 2; omega
  unfold used; rw [e]

/-! ## The pipeline's proof data -/

/-- The arrays as the call finds them, each input's buffer at its block, the output's at `outAt`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outAt m hO c t
  Φ t := Phi m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = outAt m hO c t := by dsimp only [dats]; try rfl

theorem before_0 (hO : Ok m) (c : Dev nD) (t : Fin (cfgM m hO).N) (d) : (dats m hO 0 c).before 0 t d = iblk m hO c 0 t :=
  before0_of m hO (dats m hO 0 c) (A_eq m hO c 0) (after_0 m hO c) t d
theorem before_1 (hO : Ok m) (c : Dev nD) (t : Fin (cfgM m hO).N) (d) : (dats m hO 0 c).before 1 t d = iblk m hO c 1 t :=
  before1_of m hO (dats m hO 0 c) (A_eq m hO c 1) (after_1 m hO c) t d
theorem before_2 (hO : Ok m) (c : Dev nD) (t : Fin (cfgM m hO).N) (d) : (dats m hO 0 c).before 2 t d = iblk m hO c 2 t :=
  before2_of m hO (dats m hO 0 c) (A_eq m hO c 2) (after_2 m hO c) t d
theorem before_3 (hO : Ok m) (c : Dev nD) (t : Fin (cfgM m hO).N) (d) : (dats m hO 0 c).before 3 t d = iblk m hO c 3 t :=
  before3_of m hO (dats m hO 0 c) (A_eq m hO c 3) (after_3 m hO c) t d

/-! ## The body at a point -/

/-- What the body is given at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

/-- and what it gives back. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t)

theorem leaves_0 (hO : Ok m) (c : Dev nD) (t : Fin (cfgM m hO).N) :
    (dats m hO 0 c).leavesExact 0 t = owns (c : Thread nD τ) (ms0_0 m hO t) fullShare (iblk m hO c 0 t) := by
  rw [show (dats m hO 0 c).leavesExact 0 t = owns (c : Thread nD τ) (ms0_0 m hO t) fullShare ((dats m hO 0 c).after 0 t) from by
    unfold Dat.leavesExact; rw [liveAt_0 m hO t]; try rfl, after_0]
theorem leaves_1 (hO : Ok m) (c : Dev nD) (t : Fin (cfgM m hO).N) :
    (dats m hO 0 c).leavesExact 1 t = owns (c : Thread nD τ) (ms0_1 m hO t) fullShare (iblk m hO c 1 t) := by
  rw [show (dats m hO 0 c).leavesExact 1 t = owns (c : Thread nD τ) (ms0_1 m hO t) fullShare ((dats m hO 0 c).after 1 t) from by
    unfold Dat.leavesExact; rw [liveAt_1 m hO t]; try rfl, after_1]
theorem leaves_2 (hO : Ok m) (c : Dev nD) (t : Fin (cfgM m hO).N) :
    (dats m hO 0 c).leavesExact 2 t = owns (c : Thread nD τ) (ms0_2 m hO t) fullShare (iblk m hO c 2 t) := by
  rw [show (dats m hO 0 c).leavesExact 2 t = owns (c : Thread nD τ) (ms0_2 m hO t) fullShare ((dats m hO 0 c).after 2 t) from by
    unfold Dat.leavesExact; rw [liveAt_2 m hO t]; try rfl, after_2]
theorem leaves_3 (hO : Ok m) (c : Dev nD) (t : Fin (cfgM m hO).N) :
    (dats m hO 0 c).leavesExact 3 t = owns (c : Thread nD τ) (ms0_3 m hO t) fullShare (iblk m hO c 3 t) := by
  rw [show (dats m hO 0 c).leavesExact 3 t = owns (c : Thread nD τ) (ms0_3 m hO t) fullShare ((dats m hO 0 c).after 3 t) from by
    unfold Dat.leavesExact; rw [liveAt_3 m hO t]; try rfl, after_3]
theorem leaves_4 (hO : Ok m) (c : Dev nD) (t : Fin (cfgM m hO).N) (h : t.val % 2 = 1) :
    (dats m hO 0 c).leavesExact 4 t = owns (c : Thread nD τ) (ms0_4 m hO t) fullShare (outAt m hO c t) := by
  rw [show (dats m hO 0 c).leavesExact 4 t = owns (c : Thread nD τ) (ms0_4 m hO t) fullShare ((dats m hO 0 c).after 4 t) from by
    unfold Dat.leavesExact; rw [liveAt_4 m hO t h]; try rfl, after_4]

set_option maxHeartbeats 3200000 in
/-- The body at any point, by the four cases. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before_0, before_1, before_2, before_3]
  rw [show (dats m hO 0 c).owesAt () t.succ = (dats m hO 0 c).owesAt () t.castSucc from rfl]
  rw [show (dats m hO 0 c).Φ t.succ = Phi m hO c (t.val + 1) t.isLt from rfl,
    show (dats m hO 0 c).Φ t.castSucc = Phi m hO c t.val (Nat.le_of_lt t.isLt) from rfl,
    leaves_0, leaves_1, leaves_2, leaves_3]
  have hh := half_at t
  by_cases h0 : t.val % 2 = 0
  · have n2 : ¬ k0_cond2 (grid0.coords t) (nuAt (F := F) c (tbl m 1)) = 1#1 := fun H => by have := ((cond2_iff _ _).mp H).2; omega
    have n3 : ¬ k0_cond3 (grid0.coords t) (nuAt (F := F) c (tbl m 1)) = 1#1 := fun H => by have := ((cond3_iff _ _).mp H).2; omega
    rw [Dat.leavesExact_idle (dats m hO 0 c) 4 t (idleAt_4 m hO t h0) (noFlush_4 m hO t h0), Phi_even m hO c _ _ h0]
    by_cases hu : used (grid0.coords t) (nuW m)
    · have n1 : cond1 (grid0.coords t) (nuAt (F := F) c (tbl m 1)) := (cond1_iff _ _).mpr ⟨by rw [nuAt_eq]; exact hu, hh.trans h0⟩
      rw [Phi_used m hO c (t.val + 1) t.isLt (by omega) hu, PhiT0_eq, PhiA0_eq]
      iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩⟩
      iapply (runA c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (iblk m hO c 3 t) (tbl m 0) (tbl m 1) n1 n2 n3 _ Set.univ _)
      unfold held
      isplitl [H0 H1 H2 H3 H4 HT0 HT1]
      · isplitl [H0]; · iexact H0
        isplitl [H1]; · iexact H1
        isplitl [H2]; · iexact H2
        isplitl [H3]; · iexact H3
        isplitl [H4]; · iexact H4
        isplitl [HT0]; · iexact HT0
        iexact HT1
      isplitl [HS0]; · iexact HS0
      isplitl [HS1]; · iexact HS1
      iintro ⟨⟨H0, H1, H2, H3, H4, HT0, HT1⟩, HS0, HS1⟩
      isplitl [HS0 HS1 Hg HT0 HT1]
      · isplitl [HS0 HS1 Hg]
        · isplitl [HS0 HS1]
          · isplitl [HS0]; · iexact HS0
            iexact HS1
          iexact Hg
        isplitl [HT0]; · iexact HT0
        iexact HT1
      isplitl [Ho]; · iexact Ho
      isplitl [H0]; · iexact H0
      isplitl [H1]; · iexact H1
      isplitl [H2]; · iexact H2
      isplitl [H3]; · iexact H3
      iexists _; iexact H4
    · have n1 : ¬ cond1 (grid0.coords t) (nuAt (F := F) c (tbl m 1)) := fun H => hu (by have := ((cond1_iff _ _).mp H).1; rwa [nuAt_eq] at this)
      rw [Phi_unused m hO c (t.val + 1) t.isLt (by omega) hu, PhiT0_eq]
      iintro ⟨⟨HA, ⟨HT0, HT1⟩⟩, Ho, ⟨%d0, H0⟩, ⟨%d1, H1⟩, ⟨%d2, H2⟩, ⟨%d3, H3⟩, ⟨%d4, H4⟩⟩
      iapply (runC c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (iblk m hO c 3 t) (tbl m 0) (tbl m 1) n1 n2 n3 _ Set.univ _)
      unfold held
      isplitl [H0 H1 H2 H3 H4 HT0 HT1]
      · isplitl [H0]; · iexact H0
        isplitl [H1]; · iexact H1
        isplitl [H2]; · iexact H2
        isplitl [H3]; · iexact H3
        isplitl [H4]; · iexact H4
        isplitl [HT0]; · iexact HT0
        iexact HT1
      iintro ⟨H0, H1, H2, H3, H4, HT0, HT1⟩
      isplitl [HA HT0 HT1]
      · isplitl [HA]; · iexact HA
        isplitl [HT0]; · iexact HT0
        iexact HT1
      isplitl [Ho]; · iexact Ho
      isplitl [H0]; · iexact H0
      isplitl [H1]; · iexact H1
      isplitl [H2]; · iexact H2
      isplitl [H3]; · iexact H3
      iexists _; iexact H4
  · have h1 : t.val % 2 = 1 := by omega
    have n1 : ¬ cond1 (grid0.coords t) (nuAt (F := F) c (tbl m 1)) := fun H => by have := ((cond1_iff _ _).mp H).2; omega
    rw [leaves_4 m hO c t h1, Phi_even m hO c (t.val + 1) _ (by omega)]
    by_cases hu : used (grid0.coords t) (nuW m)
    · have n2 : k0_cond2 (grid0.coords t) (nuAt (F := F) c (tbl m 1)) = 1#1 := (cond2_iff _ _).mpr ⟨by rw [nuAt_eq]; exact hu, hh.trans h1⟩
      have n3 : ¬ k0_cond3 (grid0.coords t) (nuAt (F := F) c (tbl m 1)) = 1#1 := fun H => ((cond3_iff _ _).mp H).1 (by rw [nuAt_eq]; exact hu)
      rw [Phi_used m hO c t.val _ h1 ((used_prev m hO t h1 _).mpr hu), PhiT0_eq, PhiA0_eq,
        show outAt m hO c t = packed (tokensAt m hO c (prev m hO t)) (sumsAt m hO c (prev m hO t)) (iblk m hO c 1 t) (iblk m hO c 2 t) (iblk m hO c 3 t) from if_pos hu]
      iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩⟩
      iapply (runB c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (iblk m hO c 3 t) (tbl m 0) (tbl m 1) n1 n2 n3 _ _ _ Set.univ _)
      unfold held
      isplitl [H0 H1 H2 H3 H4 HT0 HT1]
      · isplitl [H0]; · iexact H0
        isplitl [H1]; · iexact H1
        isplitl [H2]; · iexact H2
        isplitl [H3]; · iexact H3
        isplitl [H4]; · iexact H4
        isplitl [HT0]; · iexact HT0
        iexact HT1
      isplitl [HS0]; · iexact HS0
      isplitl [HS1]; · iexact HS1
      iintro ⟨⟨H0, H1, H2, H3, H4, HT0, HT1⟩, HS0, HS1⟩
      isplitl [HS0 HS1 Hg HT0 HT1]
      · isplitl [HS0 HS1 Hg]
        · isplitl [HS0 HS1]
          · isplitl [HS0]; · iexists _; iexact HS0
            iexists _; iexact HS1
          iexact Hg
        isplitl [HT0]; · iexact HT0
        iexact HT1
      isplitl [Ho]; · iexact Ho
      isplitl [H0]; · iexact H0
      isplitl [H1]; · iexact H1
      isplitl [H2]; · iexact H2
      isplitl [H3]; · iexact H3
      iexact H4
    · have n2 : ¬ k0_cond2 (grid0.coords t) (nuAt (F := F) c (tbl m 1)) = 1#1 := fun H => hu (by have := ((cond2_iff _ _).mp H).1; rwa [nuAt_eq] at this)
      have n3 : k0_cond3 (grid0.coords t) (nuAt (F := F) c (tbl m 1)) = 1#1 := (cond3_iff _ _).mpr ⟨by rw [nuAt_eq]; exact hu, hh.trans h1⟩
      rw [Phi_unused m hO c t.val _ h1 (fun H => hu ((used_prev m hO t h1 _).mp H)), PhiT0_eq, show outAt m hO c t = k0_pay3 from if_neg hu]
      iintro ⟨⟨HA, ⟨HT0, HT1⟩⟩, Ho, ⟨%d0, H0⟩, ⟨%d1, H1⟩, ⟨%d2, H2⟩, ⟨%d3, H3⟩, ⟨%d4, H4⟩⟩
      iapply (runD c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (iblk m hO c 3 t) (tbl m 0) (tbl m 1) n1 n2 n3 _ Set.univ _)
      unfold held
      isplitl [H0 H1 H2 H3 H4 HT0 HT1]
      · isplitl [H0]; · iexact H0
        isplitl [H1]; · iexact H1
        isplitl [H2]; · iexact H2
        isplitl [H3]; · iexact H3
        isplitl [H4]; · iexact H4
        isplitl [HT0]; · iexact HT0
        iexact HT1
      iintro ⟨H0, H1, H2, H3, H4, HT0, HT1⟩
      isplitl [HA HT0 HT1]
      · isplitl [HA]; · iexact HA
        isplitl [HT0]; · iexact HT0
        iexact HT1
      isplitl [Ho]; · iexact Ho
      isplitl [H0]; · iexact H0
      isplitl [H1]; · iexact H1
      isplitl [H2]; · iexact H2
      isplitl [H3]; · iexact H3
      iexact H4

/-! ## The launch -/

theorem body_row (hO : Ok m) (t : Fin (cfgM m hO).N) :
    defs₀ (F := F) .tc (cfgM m hO).body ((cfgM m hO).bodyArgs t ((cfgM m hO).slots t)) = bodyAt m hO t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, body_row m hO]
  exact triple_restated (sound_body m hO c t) rfl .rfl fun _ => .rfl

theorem hin (hO : Ok m) (c : Dev nD) : iprop(Pipeline.ΦA spec0 c ∗ Pipeline.ΦT pre0 (tbl m) c) ⊢ (dats m hO 0 c).Φ 0 := by
  rw [show (dats m hO 0 c).Φ 0 = Phi m hO c 0 (Nat.zero_le _) from rfl, Phi_even m hO c 0 _ rfl]

theorem hout (hO : Ok m) (c : Dev nD) : (dats m hO 0 c).Φ (Fin.last (cfgM m hO).N) ⊢ Pipeline.ΦA spec0 c := by
  have hN : (cfgM m hO).N = 72 := N_0
  rw [show (dats m hO 0 c).Φ (Fin.last (cfgM m hO).N) = Phi m hO c (cfgM m hO).N (Nat.le_refl _) from rfl,
    Phi_even m hO c _ _ (by rw [hN])]
  iintro ⟨HA, -⟩
  iexact HA

set_option backward.isDefEq.respectTransparency.types false in
/-- The program runs, its arrays end at what the pipeline computes, and every semaphore is back at zero. -/
theorem run_main (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- The frame, for tables whose blocks are inside their arrays. -/
theorem frame_run (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ hO (dats m hO) (A_eq m hO) ((θ_run defs _ _).mono (fun _ h => h.1) (run_main m ρ hO)))
    ((θ_run defs _ _).mono (fun _ h => h.2) (run_main m ρ hO))

end Cert.Proof.TailI

end
-- ==== Proof.TailTablesI.lean ====
module

public import proofs.«01_k».proof.Proof.TailFrameI
public import proofs.«01_k».proof.Proof.Gen.Pre_experts_named3

@[expose] public section

set_option maxRecDepth 16384

noncomputable section

namespace Cert.Proof.TailI

open Cert.TailIdeal Cert.TailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The experts named by the first table -/

/-- The expert a point's tile names. -/
def teAt (i : grid0.Coords) : BitVec 32 := m (((0 : Dev nD).tc : Thread nD τ).loc main_arg0) (fun a => match a with | ⟨0, _⟩ => (⟨36 + (i 0).val, Nat.add_lt_add_left (i 0).isLt 36⟩ : Fin 72))

/-- The half of the hidden features a point's blocks hold: its own half for a tile in use, the second otherwise. -/
def halfOf (i : grid0.Coords) : ℕ := if used i (nuW m) then (i 1).val else 1

theorem halfOf_lt (i : grid0.Coords) : halfOf m i < 2 := by
  unfold halfOf; split
  · exact (i 1).isLt
  · decide

/-- The first table's word read at a point. -/
theorem at_0 (i : grid0.Coords) (h : ∀ a, (k0_off1 i) a + S1.size a ≤ S72.size a) :
    (tbl m).at 0 (Rect.unit (s := S72) (k0_off1 i) S1.size h) numel1_S1 = teAt m i := by
  have e : (k0_off1 i) 0 = 36 + (i 0).val := by
    rw [k0_off1_eq]; exact Nat.add_comm _ _
  show V m 0 main_arg0 _ = _
  rw [V_main_arg0]; unfold teAt
  refine congrArg _ (funext fun a => ?_)
  match a with
  | ⟨0, _⟩ =>
    apply Fin.ext
    refine Eq.trans (?_ : _ = (k0_off1 i) 0) e
    show (k0_off1 i) 0 + (Shape.Idx.first (s := S1) (numel1_S1.symm ▸ Nat.one_pos) 0).val * 1 = _
    have := (Shape.Idx.first (s := S1) (numel1_S1.symm ▸ Nat.one_pos) 0).isLt
    have e1 : S1.size 0 = 1 := rfl
    omega

/-- The second table's word. -/
theorem at_1 (h : ∀ a, (![0] : Fin 1 → Nat) a + S1.size a ≤ S1.size a) :
    (tbl m).at 1 (Rect.unit (s := S1) ![0] S1.size h) numel1_S1 = nuW m := rfl

theorem sel_eq (i : grid0.Coords) :
    (Scalar.select (Scalar.cmpi .slt (Scalar.addi (BitVec.ofNat 32 (i 0).val) 36#32) (nuW m)) (BitVec.ofNat 32 (i 1).val) 1#32 : BitVec 32).toNat = halfOf m i := by
  unfold halfOf
  have hi : (i 1).val < 2 := (i 1).isLt
  by_cases hu : used i (nuW m)
  · rw [if_pos hu]
    rw [show Scalar.cmpi .slt (Scalar.addi (BitVec.ofNat 32 (i 0).val) 36#32) (nuW m) = 1#1 from hu]
    simp only [Scalar.select, BitVec.toNat_ofNat]
    show (BitVec.ofNat 32 (i 1).val).toNat = _
    rw [BitVec.toNat_ofNat]; omega
  · rw [if_neg hu]
    rw [show Scalar.cmpi .slt (Scalar.addi (BitVec.ofNat 32 (i 0).val) 36#32) (nuW m) = 0#1 from by
      have hb (b : BitVec 1) (h : ¬ b = 1#1) : b = 0#1 := by revert h; revert b; decide
      exact hb _ hu]
    rfl

theorem transform_1_eq (i : grid0.Coords) (h) : cc0_transform_1 h numel1_S1 inb_S1_S1_0 (tbl m) i = ![(teAt m i).toNat, 0, halfOf m i] := by
  rw [← at_0 m i (h i), ← sel_eq m i]; rfl
theorem transform_2_eq (i : grid0.Coords) (h) : cc0_transform_2 h numel1_S1 inb_S1_S1_0 (tbl m) i = ![(teAt m i).toNat, 0, halfOf m i] := by
  rw [← at_0 m i (h i), ← sel_eq m i]; rfl
theorem transform_3_eq (i : grid0.Coords) (h) : cc0_transform_3 h numel1_S1 inb_S1_S1_0 (tbl m) i = ![(teAt m i).toNat, halfOf m i, 0] := by
  rw [← at_0 m i (h i), ← sel_eq m i]; rfl

set_option maxHeartbeats 1000000 in
/-- With every named expert one of the eight, every block is inside its array. -/
theorem ok_of_lt (h : ∀ i : grid0.Coords, (teAt m i).toNat < 8) : Ok m := by
  refine ⟨fun i => ?_, fun i => ?_, fun i => ?_⟩
  · refine ⟨fun a => ?_, .inr (Affine.block_words_dvd (of_decide_eq_true rfl) (by decide))⟩
    rw [transform_1_eq]
    have h1 := h i
    have h2 := halfOf_lt m i
    match a with
    | ⟨0, _⟩ => show ((teAt m i).toNat + 1) * 1 ≤ 8; omega
    | ⟨1, _⟩ => show (0 + 1) * 1024 ≤ 1024; omega
    | ⟨2, _⟩ => show (halfOf m i + 1) * 1792 ≤ 3584; omega
  · refine ⟨fun a => ?_, .inr (Affine.block_words_dvd (of_decide_eq_true rfl) (by decide))⟩
    rw [transform_2_eq]
    have h1 := h i
    have h2 := halfOf_lt m i
    match a with
    | ⟨0, _⟩ => show ((teAt m i).toNat + 1) * 1 ≤ 8; omega
    | ⟨1, _⟩ => show (0 + 1) * 1024 ≤ 1024; omega
    | ⟨2, _⟩ => show (halfOf m i + 1) * 1792 ≤ 3584; omega
  · refine ⟨fun a => ?_, .inr (Affine.block_words_dvd (of_decide_eq_true rfl) (by decide))⟩
    rw [transform_3_eq]
    have h1 := h i
    have h2 := halfOf_lt m i
    match a with
    | ⟨0, _⟩ => show ((teAt m i).toNat + 1) * 1 ≤ 8; omega
    | ⟨1, _⟩ => show (halfOf m i + 1) * 1792 ≤ 3584; omega
    | ⟨2, _⟩ => show (0 + 1) * 1024 ≤ 1024; omega

/-! ## The precondition -/

/-- A word that is at least zero and below eight, read signed, is below eight. -/
theorem word_lt (v : BitVec 32) (e : IntOp.andi (IntOp.cmpi .sge v 0#32) (IntOp.cmpi .slt v 8#32) = 1#1) : v.toNat < 8 := by
  have andi_ofBool (p q : Bool) : IntOp.andi (BitVec.ofBool p) (BitVec.ofBool q) = BitVec.ofBool (p && q) := by
    cases p <;> cases q <;> decide
  have one (p : Bool) : (BitVec.ofBool p = 1#1) ↔ p = true := by cases p <;> decide
  simp only [IntOp.cmpi, andi_ofBool, one, Bool.and_eq_true, BitVec.sle_eq_decide, BitVec.slt_eq_decide,
    decide_eq_true_eq, BitVec.toInt_eq_toNat_cond, BitVec.toNat_ofNat, Nat.reducePow, Nat.reduceMod] at e
  omega

/-- The precondition gives it. -/
theorem te_lt (h : Cert.Pre_experts_named3.fn (F := F) (m (((0 : Dev nD).tc : Thread nD τ).loc main_arg0)) (m (((0 : Dev nD).tc : Thread nD τ).loc main_arg1)) (m (((0 : Dev nD).tc : Thread nD τ).loc main_arg2)) (m (((0 : Dev nD).tc : Thread nD τ).loc main_arg3)) (m (((0 : Dev nD).tc : Thread nD τ).loc main_arg4)) (m (((0 : Dev nD).tc : Thread nD τ).loc main_arg5)) (m (((0 : Dev nD).tc : Thread nD τ).loc main_arg6)) = fun _ => 1#1)
    (x : S72.Idx) : (m (((0 : Dev nD).tc : Thread nD τ).loc main_arg0) x : BitVec 32).toNat < 8 :=
  word_lt _ (congrFun h x)

theorem ok_of_pre (h : Cert.Pre_experts_named3.fn (F := F) (m (((0 : Dev nD).tc : Thread nD τ).loc main_arg0)) (m (((0 : Dev nD).tc : Thread nD τ).loc main_arg1)) (m (((0 : Dev nD).tc : Thread nD τ).loc main_arg2)) (m (((0 : Dev nD).tc : Thread nD τ).loc main_arg3)) (m (((0 : Dev nD).tc : Thread nD τ).loc main_arg4)) (m (((0 : Dev nD).tc : Thread nD τ).loc main_arg5)) (m (((0 : Dev nD).tc : Thread nD τ).loc main_arg6)) = fun _ => 1#1) : Ok m :=
  ok_of_lt m fun i => te_lt m h _

end Cert.Proof.TailI

end
-- ==== Proof.TailFrames.lean ====
/-
  The frames of the third program at both of its printings and of its reference, and the rules its ideal printing used.
-/
module

public import proofs.«01_k».proof.Defs
public import proofs.«01_k».proof.Proof.TailTablesI
public import proofs.«01_k».proof.Proof.TailTablesB
public import proofs.«01_k».proof.Proof.Gen.TailReferenceIdeal.Run
public import Idealize.ShloMosaic.Lib.Bf16Pair
public import Idealize.ShloMosaic.Lib.Quiescent

@[expose] public section

noncomputable section

namespace Cert.Proof.Tail

open Idealize.ShloMosaic Idealize.SL.Sem

theorem frame_bits : Cert.quiescent_Tail (hTail := Cert.Tail.Gen.facts) (hPre_experts_named3 := Cert.Pre_experts_named3.Gen.facts) := fun m ρ hpre =>
  TailB.frame_run (F := Bits) m ρ (TailB.ok_of_pre (F := Bits) m (hpre 0))

theorem frame_ideal : Cert.quiescent_TailIdeal (hTailIdeal := Cert.TailIdeal.Gen.facts) (hPre_experts_named3 := Cert.Pre_experts_named3.Gen.facts) := fun m ρ hpre =>
  TailI.frame_run (F := Ideal) m ρ (TailI.ok_of_pre (F := Ideal) m (hpre 0))

theorem frame_reference : Cert.quiescent_TailReferenceIdeal (hTailReferenceIdeal := Cert.TailReferenceIdeal.Gen.facts) (hPre_experts_named3 := Cert.Pre_experts_named3.Gen.facts) := fun m ρ _ =>
  (θ_run Cert.TailReferenceIdeal.defs _ _).mono (fun r h => ⟨fun c => (h c).2, sem_eq_zero_of_no_sems (by decide) r.2⟩)
    (Cert.TailReferenceIdeal.Value.run (F := Ideal) m ρ)

theorem preserves : Cert.preserves_Tail_TailIdeal :=
  ⟨IdealRules.bf16_pair.statement _ _, IdealRules.bf16_pack.statement _⟩

end Cert.Proof.Tail

end
-- ==== Proof.TailTerms.lean ====
/-
  What the body's runs leave, at the ideal values, element by element: the unpacked tokens, the sums over half the
  hidden features, the packed output.
-/
module

public import proofs.«01_k».proof.Proof.TailRunI
public import proofs.«01_k».proof.Proof.MoeMath
public import Idealize.ShloMosaic.Lib.Pipeline.Value

@[expose] public section

set_option maxRecDepth 16384

noncomputable section

namespace Cert.Proof.TailI

open Cert.TailIdeal Cert.TailIdeal.Gen
open Idealize.ShloMosaic Idealize.ShloMosaic.ValueIdx Cert.Proof.MoeMath
open scoped BigOperators

/-! ## Parts of a block -/

theorem gw0_apply (x : Vec Ideal S1x1024x1792 .bf16) (k : Fin 1024) (h : Fin 512) : gw0 x (ix3 (0 : Fin 1) k h) = x (ix3 (0 : Fin 1) k (⟨0 + h.val, by omega⟩ : Fin 1792)) := by
  refine congrArg x (funext fun a => Fin.ext ?_)
  match a with
  | ⟨0, _⟩ => rfl
  | ⟨1, _⟩ => show 0 + 1 * k.val = k.val; omega
  | ⟨2, _⟩ => show 0 + 1 * h.val = 0 + h.val; omega
theorem gw1_apply (x : Vec Ideal S1x1024x1792 .bf16) (k : Fin 1024) (h : Fin 512) : gw1 x (ix3 (0 : Fin 1) k h) = x (ix3 (0 : Fin 1) k (⟨512 + h.val, by omega⟩ : Fin 1792)) := by
  refine congrArg x (funext fun a => Fin.ext ?_)
  match a with
  | ⟨0, _⟩ => rfl
  | ⟨1, _⟩ => show 0 + 1 * k.val = k.val; omega
  | ⟨2, _⟩ => show 512 + 1 * h.val = 512 + h.val; omega
theorem gw2_apply (x : Vec Ideal S1x1024x1792 .bf16) (k : Fin 1024) (h : Fin 512) : gw2 x (ix3 (0 : Fin 1) k h) = x (ix3 (0 : Fin 1) k (⟨1024 + h.val, by omega⟩ : Fin 1792)) := by
  refine congrArg x (funext fun a => Fin.ext ?_)
  match a with
  | ⟨0, _⟩ => rfl
  | ⟨1, _⟩ => show 0 + 1 * k.val = k.val; omega
  | ⟨2, _⟩ => show 1024 + 1 * h.val = 1024 + h.val; omega
theorem gw3_apply (x : Vec Ideal S1x1024x1792 .bf16) (k : Fin 1024) (h : Fin 256) : gw3 x (ix3 (0 : Fin 1) k h) = x (ix3 (0 : Fin 1) k (⟨1536 + h.val, by omega⟩ : Fin 1792)) := by
  refine congrArg x (funext fun a => Fin.ext ?_)
  match a with
  | ⟨0, _⟩ => rfl
  | ⟨1, _⟩ => show 0 + 1 * k.val = k.val; omega
  | ⟨2, _⟩ => show 1536 + 1 * h.val = 1536 + h.val; omega
theorem dw0_apply (x : Vec Ideal S1x1792x1024 .bf16) (h : Fin 512) (j : Fin 1024) : dw0 x (ix3 (0 : Fin 1) h j) = x (ix3 (0 : Fin 1) (⟨0 + h.val, by omega⟩ : Fin 1792) j) := by
  refine congrArg x (funext fun a => Fin.ext ?_)
  match a with
  | ⟨0, _⟩ => rfl
  | ⟨1, _⟩ => show 0 + 1 * h.val = 0 + h.val; omega
  | ⟨2, _⟩ => show 0 + 1 * j.val = j.val; omega
theorem dw1_apply (x : Vec Ideal S1x1792x1024 .bf16) (h : Fin 512) (j : Fin 1024) : dw1 x (ix3 (0 : Fin 1) h j) = x (ix3 (0 : Fin 1) (⟨512 + h.val, by omega⟩ : Fin 1792) j) := by
  refine congrArg x (funext fun a => Fin.ext ?_)
  match a with
  | ⟨0, _⟩ => rfl
  | ⟨1, _⟩ => show 512 + 1 * h.val = 512 + h.val; omega
  | ⟨2, _⟩ => show 0 + 1 * j.val = j.val; omega
theorem dw2_apply (x : Vec Ideal S1x1792x1024 .bf16) (h : Fin 512) (j : Fin 1024) : dw2 x (ix3 (0 : Fin 1) h j) = x (ix3 (0 : Fin 1) (⟨1024 + h.val, by omega⟩ : Fin 1792) j) := by
  refine congrArg x (funext fun a => Fin.ext ?_)
  match a with
  | ⟨0, _⟩ => rfl
  | ⟨1, _⟩ => show 1024 + 1 * h.val = 1024 + h.val; omega
  | ⟨2, _⟩ => show 0 + 1 * j.val = j.val; omega
theorem dw3_apply (x : Vec Ideal S1x1792x1024 .bf16) (h : Fin 256) (j : Fin 1024) : dw3 x (ix3 (0 : Fin 1) h j) = x (ix3 (0 : Fin 1) (⟨1536 + h.val, by omega⟩ : Fin 1792) j) := by
  refine congrArg x (funext fun a => Fin.ext ?_)
  match a with
  | ⟨0, _⟩ => rfl
  | ⟨1, _⟩ => show 1536 + 1 * h.val = 1536 + h.val; omega
  | ⟨2, _⟩ => show 0 + 1 * j.val = j.val; omega

/-! ## The sums over a half of the hidden features -/

/-- A hidden feature's contribution to output feature `j` of row `p`. -/
def contrib (xb : Vec Ideal S512x1024 .bf16) (x1 x2 : Vec Ideal S1x1024x1792 .bf16) (x3 : Vec Ideal S1x1792x1024 .bf16) (p : Fin 512) (j : Fin 1024) (h : Fin 1792) : EReal :=
  gated (∑ k : Fin 1024, xb (ix2 p k) * x1 (ix3 (0 : Fin 1) k h)) (∑ k : Fin 1024, xb (ix2 p k) * x2 (ix3 (0 : Fin 1) k h)) * x3 (ix3 (0 : Fin 1) h j)

/-- The four parts, added up. -/
def fourParts (xb : Vec Ideal S512x1024 .bf16) (x1 x2 : Vec Ideal S1x1024x1792 .bf16) (x3 : Vec Ideal S1x1792x1024 .bf16) : FVec Ideal S512x1024 .f32 :=
  addf (addf (addf (partOut xb (gw0 x1) (gw0 x2) (dw0 x3) shapeCasts_S1x1024x512_S1024x512 shapeCasts_S1x512x1024_S512x1024 bitsLt_bf16_f32)
    (partOut xb (gw1 x1) (gw1 x2) (dw1 x3) shapeCasts_S1x1024x512_S1024x512 shapeCasts_S1x512x1024_S512x1024 bitsLt_bf16_f32))
    (partOut xb (gw2 x1) (gw2 x2) (dw2 x3) shapeCasts_S1x1024x512_S1024x512 shapeCasts_S1x512x1024_S512x1024 bitsLt_bf16_f32))
    (partOut xb (gw3 x1) (gw3 x2) (dw3 x3) shapeCasts_S1x1024x256_S1024x256 shapeCasts_S1x256x1024_S256x1024 bitsLt_bf16_f32)

theorem fourParts_apply (xb : Vec Ideal S512x1024 .bf16) (x1 x2 : Vec Ideal S1x1024x1792 .bf16) (x3 : Vec Ideal S1x1792x1024 .bf16) (p : Fin 512) (j : Fin 1024) :
    fourParts xb x1 x2 x3 (ix2 p j) = ∑ h : Fin 1792, contrib xb x1 x2 x3 p j h := by
  unfold fourParts
  rw [addf_apply, addf_apply, addf_apply, part_apply, part_apply, part_apply, part_apply, ← sum_parts]
  refine congrArg₂ (· + ·) (congrArg₂ (· + ·) (congrArg₂ (· + ·) ?_ ?_) ?_) ?_
  · exact Finset.sum_congr rfl fun h _ => congrArg₂ (· * ·) (congrArg₂ gated (Finset.sum_congr rfl fun k _ => congrArg (xb (ix2 p k) * ·) (gw0_apply x1 k h))
      (Finset.sum_congr rfl fun k _ => congrArg (xb (ix2 p k) * ·) (gw0_apply x2 k h))) (dw0_apply x3 h j)
  · exact Finset.sum_congr rfl fun h _ => congrArg₂ (· * ·) (congrArg₂ gated (Finset.sum_congr rfl fun k _ => congrArg (xb (ix2 p k) * ·) (gw1_apply x1 k h))
      (Finset.sum_congr rfl fun k _ => congrArg (xb (ix2 p k) * ·) (gw1_apply x2 k h))) (dw1_apply x3 h j)
  · exact Finset.sum_congr rfl fun h _ => congrArg₂ (· * ·) (congrArg₂ gated (Finset.sum_congr rfl fun k _ => congrArg (xb (ix2 p k) * ·) (gw2_apply x1 k h))
      (Finset.sum_congr rfl fun k _ => congrArg (xb (ix2 p k) * ·) (gw2_apply x2 k h))) (dw2_apply x3 h j)
  · exact Finset.sum_congr rfl fun h _ => congrArg₂ (· * ·) (congrArg₂ gated (Finset.sum_congr rfl fun k _ => congrArg (xb (ix2 p k) * ·) (gw3_apply x1 k h))
      (Finset.sum_congr rfl fun k _ => congrArg (xb (ix2 p k) * ·) (gw3_apply x2 k h))) (dw3_apply x3 h j)

theorem sums_eq (xb : Vec Ideal S512x1024 .bf16) (x1 x2 : Vec Ideal S1x1024x1792 .bf16) (x3 : Vec Ideal S1x1792x1024 .bf16) :
    sums xb x1 x2 x3 = shapeCast S512x1024 (fourParts xb x1 x2 x3) shapeCasts_S512x1024_S512x1024 := rfl

theorem sums_apply (xb : Vec Ideal S512x1024 .bf16) (x1 x2 : Vec Ideal S1x1024x1792 .bf16) (x3 : Vec Ideal S1x1792x1024 .bf16) (p : Fin 512) (j : Fin 1024) :
    sums xb x1 x2 x3 (ix2 p j) = ∑ h : Fin 1792, contrib xb x1 x2 x3 p j h := by
  rw [sums_eq, shapeCast_self, fourParts_apply]

/-! ## The packed output -/

theorem packed_eq (xb : Vec Ideal S512x1024 .bf16) (acc : Vec Ideal S512x1024 .f32) (x1 x2 : Vec Ideal S1x1024x1792 .bf16) (x3 : Vec Ideal S1x1792x1024 .bf16) :
    packed xb acc x1 x2 x3 = interleaveRows S1024x512
      (extractStridedSlice S512x512 ![0, 0] (addf acc (fourParts xb x1 x2 x3)) slices_S512x1024_o0_0_S512x512)
      (extractStridedSlice S512x512 ![0, 512] (addf acc (fourParts xb x1 x2 x3)) slices_S512x1024_o0_512_S512x512) bitcasts_S1024x512_w16_S512x512_w32 := rfl

/-- Rows `2p` and `2p + 1` of the output's block are the first and the last 512 features of row `p`. -/
theorem packed_apply (xb : Vec Ideal S512x1024 .bf16) (acc : Vec Ideal S512x1024 .f32) (x1 x2 : Vec Ideal S1x1024x1792 .bf16) (x3 : Vec Ideal S1x1792x1024 .bf16)
    (q : Fin 1024) (c : Fin 512) (p : Fin 512) (j : Fin 1024) (hp : p.val = q.val / 2) (hj : j.val = q.val % 2 * 512 + c.val) :
    packed xb acc x1 x2 x3 (ix2 q c) = acc (ix2 p j) + ∑ h : Fin 1792, contrib xb x1 x2 x3 p j h := by
  rw [packed_eq, ← fourParts_apply, ← addf_apply]
  generalize addf acc (fourParts xb x1 x2 x3) = v
  unfold interleaveRows
  have hrow : Shape.row (s := S1024x512) (ix2 q c) = q.val := rfl
  dsimp only
  rw [hrow]
  split
  · refine congrArg v (funext fun a => Fin.ext ?_)
    match a with
    | ⟨0, _⟩ => show 0 + q.val / 2 = p.val; omega
    | ⟨1, _⟩ => show 0 + c.val = j.val; omega
  · refine congrArg v (funext fun a => Fin.ext ?_)
    match a with
    | ⟨0, _⟩ => show 0 + q.val / 2 = p.val; omega
    | ⟨1, _⟩ => show 512 + c.val = j.val; omega

/-! ## The tokens -/

/-- Row `p` of the tokens is rows `2p` and `2p + 1` of the block side by side. -/
theorem tokens_apply (x0 : Vec Ideal S1024x512 .bf16) (p : Fin 512) (k : Fin 1024) :
    tokens x0 (ix2 p k) = x0 (ix2 (⟨2 * p.val + k.val / 512, by omega⟩ : Fin 1024) (⟨k.val % 512, by omega⟩ : Fin 512)) := by
  let G : S512x1024.Idx → Elt Ideal .bf16 := fun y => x0 (ix2 (⟨2 * (y 0).val + (y 1).val / 512, by have := idx2_lt0 y; have := idx2_lt1 y; omega⟩ : Fin 1024) (⟨(y 1).val % 512, by omega⟩ : Fin 512))
  have key : View.canon (tokenPieces x0) (ix2 p k) = G (ix2 p k) := by
    refine View.canon_apply_of_pieces G (tokenPieces x0) ?_ (ix2 p k) ?_
    · intro P hP x
      rcases List.mem_cons.mp hP with rfl | hP
      · have e : k0_pay5 x0 = rowsOfParity 1 S512x512 x0 bitcasts_S1024x512_w16_S512x512_w32 := by
          unfold k0_pay5; exact shapeCast_self _ _
        have h0 : (x 0).val < 512 := idx2_lt0 x
        have h1 : (x 1).val < 512 := idx2_lt1 x
        show k0_pay5 x0 x = _
        rw [e]
        refine congrArg x0 (funext fun a => Fin.ext ?_)
        match a with
        | ⟨0, _⟩ => show 2 * (x 0).val + 1 = 2 * (0 + 1 * (x 0).val) + (512 + 1 * (x 1).val) / 512; omega
        | ⟨1, _⟩ => show (x 1).val = (512 + 1 * (x 1).val) % 512; omega
      · obtain rfl := List.mem_singleton.mp hP
        have e : k0_pay4 x0 = rowsOfParity 0 S512x512 x0 bitcasts_S1024x512_w16_S512x512_w32 := by
          unfold k0_pay4; exact shapeCast_self _ _
        have h0 : (x 0).val < 512 := idx2_lt0 x
        have h1 : (x 1).val < 512 := idx2_lt1 x
        show k0_pay4 x0 x = _
        rw [e]
        refine congrArg x0 (funext fun a => Fin.ext ?_)
        match a with
        | ⟨0, _⟩ => show 2 * (x 0).val + 0 = 2 * (0 + 1 * (x 0).val) + (0 + 1 * (x 1).val) / 512; omega
        | ⟨1, _⟩ => show (x 1).val = (0 + 1 * (x 1).val) % 512; omega
    · exact tokens_cover x0 _
  exact key

end Cert.Proof.TailI

end
-- ==== Proof.TailSpec.lean ====
/-
  The experts' layer of the second 36 tiles, element by element: what the third program and its reference are shown to leave.
-/
module

public import proofs.«01_k».proof.Proof.MoeSpec

@[expose] public section

noncomputable section

namespace Cert.Proof.MoeMath

open Idealize.ShloMosaic Idealize.ShloMosaic.ValueIdx
open scoped BigOperators

/-- The expert that token `r`'s tile names, among the second 36. -/
def namedSecond (te : (⟨1, ![72]⟩ : Shape).Idx → BitVec 32) (r : Fin 18432) : Fin 8 :=
  ⟨(te (ix1 (⟨36 + r.val / 512, by omega⟩ : Fin 72))).toNat % 8, Nat.mod_lt _ (by decide)⟩

/-- The layer at output feature `j` of token `r`: the named expert where the tile is in use, zero elsewhere. -/
def layerSecond (te : (⟨1, ![72]⟩ : Shape).Idx → BitVec 32) (nu : BitVec 32) (xs : (⟨2, ![36864, 512]⟩ : Shape).Idx → EReal)
    (wg wu : (⟨3, ![8, 1024, 3584]⟩ : Shape).Idx → EReal) (wd : (⟨3, ![8, 3584, 1024]⟩ : Shape).Idx → EReal) (r : Fin 18432) (j : Fin 1024) : EReal :=
  if IntOp.cmpi .slt (IntOp.addi (BitVec.ofNat 32 (r.val / 512)) 36#32) nu = 1#1 then expert xs wg wu wd (namedSecond te r) r j else 0

end Cert.Proof.MoeMath

end
-- ==== Proof.TailBlocks.lean ====
/-
  The windows' blocks at the ideal values, element by element: which elements of the arguments a point reads.
-/
module

public import proofs.«01_k».proof.Proof.TailTablesI
public import proofs.«01_k».proof.Proof.TailTerms
public import proofs.«01_k».proof.Proof.TailSpec
public import Idealize.ShloMosaic.Lib.StableHlo.Run

@[expose] public section

set_option maxRecDepth 16384

noncomputable section

namespace Cert.Proof.TailI

open Cert.TailIdeal Cert.TailIdeal.Gen
open Idealize.ShloMosaic Idealize.ShloMosaic.ValueIdx Idealize.ShloMosaic.TcCoe Idealize.ShloMosaic.StableHlo Cert.Proof.MoeMath
open scoped BigOperators

variable (m : (ℓ : Loc nD τ sig) → Buf (Elt Ideal) ℓ)

/-! ## The rounded weights are the weights -/

theorem V_main_v0 (c : Dev nD) : V m c main_v0 = m ((c.tc : Thread nD τ).loc main_arg3) := by
  show after hostOps0 (fun b => m (c, b)) (Proc.devRef .tc main_v0) = _
  after_results
  rfl
theorem V_main_v1 (c : Dev nD) : V m c main_v1 = m ((c.tc : Thread nD τ).loc main_arg4) := by
  show after hostOps0 (fun b => m (c, b)) (Proc.devRef .tc main_v1) = _
  after_results
  rfl
theorem V_main_v2 (c : Dev nD) : V m c main_v2 = m ((c.tc : Thread nD τ).loc main_arg5) := by
  show after hostOps0 (fun b => m (c, b)) (Proc.devRef .tc main_v2) = _
  after_results
  rfl

/-- The result's first contents are the last argument's. -/
theorem V_main_v3 (c : Dev nD) : V m c main_v3 = m ((c.tc : Thread nD τ).loc main_arg6) := by
  show after hostOps0 (fun b => m (c, b)) (Proc.devRef .tc main_v3) = _
  after_results
  rfl

/-! ## The blocks -/

theorem blk_0 (hO : Ok m) (c : Dev nD) (t : Fin (cfgM m hO).N) (q : Fin 1024) (d : Fin 512) (r : Fin 36864) (hr : r.val = t.val / 2 * 1024 + q.val) :
    (iblk m hO c 0 t : Vec Ideal S1024x512 .bf16) (ix2 q d) = m ((c.tc : Thread nD τ).loc main_arg2) (ix2 r d) := by
  show V m c main_arg2 _ = _
  rw [V_main_arg2]
  refine congrArg _ (funext fun a => Fin.ext ?_)
  have ht : (grid0.coords t 0).val = t.val / 2 := tile_at t
  have hN : t.val < 72 := t.isLt
  match a with
  | ⟨0, _⟩ =>
    show (BitVec.ofNat 32 (grid0.coords t 0).val).toNat * 1024 + 1 * q.val = r.val
    rw [ht, BitVec.toNat_ofNat]; omega
  | ⟨1, _⟩ => show 0 * 512 + 1 * d.val = d.val; omega

/-- Where window 1's block lies. -/
theorem index_1 (hO : Ok m) (t : Fin (cfgM m hO).N) : ((cfgM m hO).win 1).index t = (![(teAt m (grid0.coords t)).toNat, 0, halfOf m (grid0.coords t)] : Fin 3 → ℕ) :=
  transform_1_eq m (grid0.coords t) k0_off1_inb

theorem emb_1 (hO : Ok m) (t : Fin (cfgM m hO).N) (y : (((cfgM m hO).win 1).xblock ((cfgM m hO).grid.coords t)).Idx) (a : Fin ((cfgM m hO).win 1).shape.rank) :
    ((((cfgM m hO).win 1).blk t).view.emb y a : ℕ) = ((cfgM m hO).win 1).index t a * ((cfgM m hO).win 1).size a + (y a).val :=
  Pipeline.Window.rect_emb_val ((cfgM m hO).win 1) t y a

theorem blk_1 (hO : Ok m) (c : Dev nD) (t : Fin (cfgM m hO).N) (k : Fin 1024) (h : Fin 1792) (e : Fin 8) (h' : Fin 3584)
    (he : e.val = (teAt m (grid0.coords t)).toNat) (hh : h'.val = halfOf m (grid0.coords t) * 1792 + h.val) :
    (iblk m hO c 1 t : Vec Ideal S1x1024x1792 .bf16) (ix3 (0 : Fin 1) k h) = m ((c.tc : Thread nD τ).loc main_arg3) (ix3 e k h') := by
  show V m c main_v0 _ = _
  rw [V_main_v0]
  refine congrArg _ (funext fun a => Fin.ext ?_)
  match a with
  | ⟨0, _⟩ =>
    refine ((emb_1 m hO t _ _).trans (congrArg (fun n => n * 1 + ((0 : Fin 1) : Fin 1).val) (congrFun (index_1 m hO t) (⟨0, by decide⟩ : Fin 3)))).trans ?_
    show (teAt m (grid0.coords t)).toNat * 1 + 0 = e.val; omega
  | ⟨1, _⟩ =>
    refine ((emb_1 m hO t _ _).trans (congrArg (fun n => n * 1024 + (k : Fin 1024).val) (congrFun (index_1 m hO t) (⟨1, by decide⟩ : Fin 3)))).trans ?_
    show 0 * 1024 + k.val = k.val; omega
  | ⟨2, _⟩ =>
    refine ((emb_1 m hO t _ _).trans (congrArg (fun n => n * 1792 + (h : Fin 1792).val) (congrFun (index_1 m hO t) (⟨2, by decide⟩ : Fin 3)))).trans ?_
    exact hh.symm

/-- Where window 2's block lies. -/
theorem index_2 (hO : Ok m) (t : Fin (cfgM m hO).N) : ((cfgM m hO).win 2).index t = (![(teAt m (grid0.coords t)).toNat, 0, halfOf m (grid0.coords t)] : Fin 3 → ℕ) :=
  transform_2_eq m (grid0.coords t) k0_off1_inb

theorem emb_2 (hO : Ok m) (t : Fin (cfgM m hO).N) (y : (((cfgM m hO).win 2).xblock ((cfgM m hO).grid.coords t)).Idx) (a : Fin ((cfgM m hO).win 2).shape.rank) :
    ((((cfgM m hO).win 2).blk t).view.emb y a : ℕ) = ((cfgM m hO).win 2).index t a * ((cfgM m hO).win 2).size a + (y a).val :=
  Pipeline.Window.rect_emb_val ((cfgM m hO).win 2) t y a

theorem blk_2 (hO : Ok m) (c : Dev nD) (t : Fin (cfgM m hO).N) (k : Fin 1024) (h : Fin 1792) (e : Fin 8) (h' : Fin 3584)
    (he : e.val = (teAt m (grid0.coords t)).toNat) (hh : h'.val = halfOf m (grid0.coords t) * 1792 + h.val) :
    (iblk m hO c 2 t : Vec Ideal S1x1024x1792 .bf16) (ix3 (0 : Fin 1) k h) = m ((c.tc : Thread nD τ).loc main_arg4) (ix3 e k h') := by
  show V m c main_v1 _ = _
  rw [V_main_v1]
  refine congrArg _ (funext fun a => Fin.ext ?_)
  match a with
  | ⟨0, _⟩ =>
    refine ((emb_2 m hO t _ _).trans (congrArg (fun n => n * 1 + ((0 : Fin 1) : Fin 1).val) (congrFun (index_2 m hO t) (⟨0, by decide⟩ : Fin 3)))).trans ?_
    show (teAt m (grid0.coords t)).toNat * 1 + 0 = e.val; omega
  | ⟨1, _⟩ =>
    refine ((emb_2 m hO t _ _).trans (congrArg (fun n => n * 1024 + (k : Fin 1024).val) (congrFun (index_2 m hO t) (⟨1, by decide⟩ : Fin 3)))).trans ?_
    show 0 * 1024 + k.val = k.val; omega
  | ⟨2, _⟩ =>
    refine ((emb_2 m hO t _ _).trans (congrArg (fun n => n * 1792 + (h : Fin 1792).val) (congrFun (index_2 m hO t) (⟨2, by decide⟩ : Fin 3)))).trans ?_
    exact hh.symm

/-- Where window 3's block lies. -/
theorem index_3 (hO : Ok m) (t : Fin (cfgM m hO).N) : ((cfgM m hO).win 3).index t = (![(teAt m (grid0.coords t)).toNat, halfOf m (grid0.coords t), 0] : Fin 3 → ℕ) :=
  transform_3_eq m (grid0.coords t) k0_off1_inb

theorem emb_3 (hO : Ok m) (t : Fin (cfgM m hO).N) (y : (((cfgM m hO).win 3).xblock ((cfgM m hO).grid.coords t)).Idx) (a : Fin ((cfgM m hO).win 3).shape.rank) :
    ((((cfgM m hO).win 3).blk t).view.emb y a : ℕ) = ((cfgM m hO).win 3).index t a * ((cfgM m hO).win 3).size a + (y a).val :=
  Pipeline.Window.rect_emb_val ((cfgM m hO).win 3) t y a

theorem blk_3 (hO : Ok m) (c : Dev nD) (t : Fin (cfgM m hO).N) (h : Fin 1792) (j : Fin 1024) (e : Fin 8) (h' : Fin 3584)
    (he : e.val = (teAt m (grid0.coords t)).toNat) (hh : h'.val = halfOf m (grid0.coords t) * 1792 + h.val) :
    (iblk m hO c 3 t : Vec Ideal S1x1792x1024 .bf16) (ix3 (0 : Fin 1) h j) = m ((c.tc : Thread nD τ).loc main_arg5) (ix3 e h' j) := by
  show V m c main_v2 _ = _
  rw [V_main_v2]
  refine congrArg _ (funext fun a => Fin.ext ?_)
  match a with
  | ⟨0, _⟩ =>
    refine ((emb_3 m hO t _ _).trans (congrArg (fun n => n * 1 + ((0 : Fin 1) : Fin 1).val) (congrFun (index_3 m hO t) (⟨0, by decide⟩ : Fin 3)))).trans ?_
    show (teAt m (grid0.coords t)).toNat * 1 + 0 = e.val; omega
  | ⟨1, _⟩ =>
    refine ((emb_3 m hO t _ _).trans (congrArg (fun n => n * 1792 + (h : Fin 1792).val) (congrFun (index_3 m hO t) (⟨1, by decide⟩ : Fin 3)))).trans ?_
    exact hh.symm
  | ⟨2, _⟩ =>
    refine ((emb_3 m hO t _ _).trans (congrArg (fun n => n * 1024 + (j : Fin 1024).val) (congrFun (index_3 m hO t) (⟨2, by decide⟩ : Fin 3)))).trans ?_
    show 0 * 1024 + j.val = j.val; omega

end Cert.Proof.TailI

end
-- ==== Proof.TailValue.lean ====
/-
  What the output's buffer holds after a tile's second half, at the ideal values: the layer's rows of the tile.
-/
module

public import proofs.«01_k».proof.Proof.TailBlocks

@[expose] public section

set_option maxRecDepth 16384

noncomputable section

namespace Cert.Proof.TailI

open Cert.TailIdeal Cert.TailIdeal.Gen
open Idealize.ShloMosaic Idealize.ShloMosaic.ValueIdx Idealize.ShloMosaic.TcCoe Cert.Proof.MoeMath
open scoped BigOperators

variable (m : (ℓ : Loc nD τ sig) → Buf (Elt Ideal) ℓ)

/-! ## The arguments -/

abbrev teOf : S72.Idx → BitVec 32 := m (((0 : Dev nD).tc : Thread nD τ).loc main_arg0)
abbrev xsOf : S36864x512.Idx → EReal := m (((0 : Dev nD).tc : Thread nD τ).loc main_arg2)
abbrev wgOf : S8x1024x3584.Idx → EReal := m (((0 : Dev nD).tc : Thread nD τ).loc main_arg3)
abbrev wuOf : S8x1024x3584.Idx → EReal := m (((0 : Dev nD).tc : Thread nD τ).loc main_arg4)
abbrev wdOf : S8x3584x1024.Idx → EReal := m (((0 : Dev nD).tc : Thread nD τ).loc main_arg5)

/-- The layer of the program's arguments. -/
abbrev layerOf (r : Fin 18432) (j : Fin 1024) : EReal := layerSecond (teOf m) (nuW m) (xsOf m) (wgOf m) (wuOf m) (wdOf m) r j

/-- One hidden feature's contribution to the layer. -/
def term (e : Fin 8) (r : Fin 18432) (j : Fin 1024) (h : Fin 3584) : EReal :=
  gated (∑ k : Fin 1024, tok (xsOf m) r k * wgOf m (ix3 e k h)) (∑ k : Fin 1024, tok (xsOf m) r k * wuOf m (ix3 e k h)) * wdOf m (ix3 e h j)

theorem expert_eq (e : Fin 8) (r : Fin 18432) (j : Fin 1024) :
    expert (xsOf m) (wgOf m) (wuOf m) (wdOf m) e r j = ∑ h : Fin 3584, term m e r j h := rfl

/-- The expert a point's tile names, as the table's word at the tile. -/
theorem teAt_eq (i : grid0.Coords) (x : Fin 72) (hx : x.val = 36 + (i 0).val) : teAt m i = teOf m (ix1 x) := by
  unfold teAt
  refine congrArg _ (funext fun a => Fin.ext ?_)
  match a with
  | ⟨0, _⟩ => exact hx.symm

/-! ## The tokens and the contributions at a point -/

theorem tokensAt_apply (hO : Ok m) (s : Fin (cfgM m hO).N) (p : Fin 512) (r : Fin 18432) (hr : r.val = s.val / 2 * 512 + p.val) (k : Fin 1024) :
    tokensAt m hO 0 s (ix2 p k) = tok (xsOf m) r k := by
  refine (tokens_apply (iblk m hO 0 0 s) p k).trans ?_
  exact blk_0 m hO 0 s _ _ _ (by show 2 * r.val + k.val / 512 = s.val / 2 * 1024 + (2 * p.val + k.val / 512); omega)

theorem contrib_at (hO : Ok m) (s t : Fin (cfgM m hO).N) (p : Fin 512) (j : Fin 1024) (r : Fin 18432) (hr : r.val = s.val / 2 * 512 + p.val)
    (e : Fin 8) (he : e.val = (teAt m (grid0.coords t)).toNat) (h : Fin 1792) (h' : Fin 3584) (hh : h'.val = halfOf m (grid0.coords t) * 1792 + h.val) :
    contrib (tokensAt m hO 0 s) (iblk m hO 0 1 t) (iblk m hO 0 2 t) (iblk m hO 0 3 t) p j h = term m e r j h' := by
  unfold contrib term
  exact congrArg₂ (· * ·) (congrArg₂ gated
      (Finset.sum_congr rfl fun k _ => congrArg₂ (· * ·) (tokensAt_apply m hO s p r hr k) (blk_1 m hO 0 t k h e h' he hh))
      (Finset.sum_congr rfl fun k _ => congrArg₂ (· * ·) (tokensAt_apply m hO s p r hr k) (blk_2 m hO 0 t k h e h' he hh)))
    (blk_3 m hO 0 t h j e h' he hh)

/-! ## The output's buffer -/

theorem outAt_used (hO : Ok m) (t : Fin (cfgM m hO).N) (ht : t.val % 2 = 1) (hu : used (grid0.coords t) (nuW m))
    (q : Fin 1024) (d : Fin 512) (r : Fin 18432) (j : Fin 1024) (hr : r.val = t.val / 2 * 512 + q.val / 2) (hj : j.val = q.val % 2 * 512 + d.val)
    (e : Fin 8) (he : e.val = (teAt m (grid0.coords t)).toNat) :
    outAt m hO 0 t (ix2 q d) = expert (xsOf m) (wgOf m) (wuOf m) (wdOf m) e r j := by
  have hup : used (grid0.coords (prev m hO t)) (nuW m) := (used_prev m hO t ht _).mpr hu
  have hr' : r.val = (prev m hO t).val / 2 * 512 + (⟨q.val / 2, by omega⟩ : Fin 512).val := by
    show r.val = (t.val - 1) / 2 * 512 + q.val / 2; omega
  have h0 : halfOf m (grid0.coords (prev m hO t)) = 0 := by
    unfold halfOf; rw [if_pos hup]; refine (half_at _).trans ?_; show (t.val - 1) % 2 = 0; omega
  have h1 : halfOf m (grid0.coords t) = 1 := by
    unfold halfOf; rw [if_pos hu]; exact (half_at _).trans ht
  have hte : teAt m (grid0.coords (prev m hO t)) = teAt m (grid0.coords t) := by
    have hN : t.val < 72 := t.isLt
    have e1 : (grid0.coords (prev m hO t) 0).val = t.val / 2 := by
      refine (tile_at _).trans ?_; show (t.val - 1) / 2 = t.val / 2; omega
    rw [teAt_eq m (grid0.coords t) (⟨36 + t.val / 2, by omega⟩ : Fin 72) (congrArg (36 + ·) (tile_at t).symm)]
    exact teAt_eq m _ _ (congrArg (36 + ·) e1.symm)
  unfold outAt
  rw [if_pos hu]
  refine (packed_apply (tokensAt m hO 0 (prev m hO t)) (sumsAt m hO 0 (prev m hO t)) (iblk m hO 0 1 t) (iblk m hO 0 2 t) (iblk m hO 0 3 t)
    q d (⟨q.val / 2, by omega⟩ : Fin 512) j rfl hj).trans ?_
  refine (congrArg (· + _) (sums_apply (tokensAt m hO 0 (prev m hO t)) (iblk m hO 0 1 (prev m hO t)) (iblk m hO 0 2 (prev m hO t)) (iblk m hO 0 3 (prev m hO t)) _ j)).trans ?_
  rw [expert_eq, ← sum_halves]
  refine congrArg₂ (· + ·) (Finset.sum_congr rfl fun h _ => ?_) (Finset.sum_congr rfl fun h _ => ?_)
  · exact contrib_at m hO (prev m hO t) (prev m hO t) _ j r hr' e (by rw [hte]; exact he) h _ (by rw [h0])
  · exact contrib_at m hO (prev m hO t) t _ j r hr' e he h _ (by rw [h1])

theorem outAt_unused (hO : Ok m) (t : Fin (cfgM m hO).N) (hu : ¬ used (grid0.coords t) (nuW m)) (y : S1024x512.Idx) :
    outAt m hO 0 t y = (0 : EReal) := by
  unfold outAt
  rw [if_neg hu]
  exact Ideal.ofBits_zero_bf16

/-- After a second half the output's buffer holds the layer's rows of the tile. -/
theorem outAt_eq (hO : Ok m) (hte : ∀ x : S72.Idx, (teOf m x).toNat < 8) (t : Fin (cfgM m hO).N) (ht : t.val % 2 = 1)
    (q : Fin 1024) (d : Fin 512) (r : Fin 18432) (j : Fin 1024) (hr : r.val = t.val / 2 * 512 + q.val / 2) (hj : j.val = q.val % 2 * 512 + d.val) :
    outAt m hO 0 t (ix2 q d) = layerOf m r j := by
  have hN : t.val < 72 := t.isLt
  have hd : r.val / 512 = t.val / 2 := by omega
  have hc : used (grid0.coords t) (nuW m) ↔ IntOp.cmpi .slt (IntOp.addi (BitVec.ofNat 32 (r.val / 512)) 36#32) (nuW m) = 1#1 := by
    unfold used
    have e1 : (grid0.coords t 0).val = r.val / 512 := (tile_at t).trans hd.symm
    rw [e1]
    exact Iff.rfl
  unfold layerOf layerSecond
  by_cases hu : used (grid0.coords t) (nuW m)
  · rw [if_pos (hc.mp hu)]
    refine outAt_used m hO t ht hu q d r j hr hj _ ?_
    have hx := teAt_eq m (grid0.coords t) (⟨36 + r.val / 512, by omega⟩ : Fin 72) (by show 36 + r.val / 512 = _; rw [hd]; exact congrArg (36 + ·) (tile_at t).symm)
    rw [hx]
    exact Nat.mod_eq_of_lt (hte _)
  · rw [if_neg fun h => hu (hc.mpr h)]
    exact outAt_unused m hO t hu _

end Cert.Proof.TailI

end
-- ==== Proof.TailArray.lean ====
/-
  The result's array after the run, at the ideal values: the layer, on the rows of the tiles computed.
-/
module

public import proofs.«01_k».proof.Proof.TailValue

@[expose] public section

set_option maxRecDepth 16384

noncomputable section

namespace Cert.Proof.TailI

open Cert.TailIdeal Cert.TailIdeal.Gen
open Idealize.ShloMosaic Idealize.ShloMosaic.ValueIdx Idealize.ShloMosaic.TcCoe Idealize.SL.Sem Cert.Proof.MoeMath
open Idealize.ShloMosaic.Pipeline (Dat)

variable (m : (ℓ : Loc nD τ sig) → Buf (Elt Ideal) ℓ) (ρ : Dev nD → PrngReg)

/-- Where the output's block lies. -/
theorem index_4 (hO : Ok m) (t : Fin (cfgM m hO).N) : ((cfgM m hO).win 4).index t = (![t.val / 2 + 36, 0] : Fin 2 → ℕ) := by
  have ht : (grid0.coords t 0).val = t.val / 2 := tile_at t
  have hN : t.val < 72 := t.isLt
  have e : cc0_transform_5 (grid0.coords t) = (![t.val / 2 + 36, 0] : Fin 2 → ℕ) := by
    have h0 : (BitVec.ofNat 32 (grid0.coords t 0).val + 36#32).toNat = t.val / 2 + 36 := by
      rw [ht, BitVec.toNat_add, BitVec.toNat_ofNat, BitVec.toNat_ofNat]; omega
    show (![(BitVec.ofNat 32 (grid0.coords t 0).val + 36#32).toNat, (0#32 : BitVec 32).toNat] : Fin 2 → ℕ) = _
    rw [h0]; rfl
  exact e

theorem emb_4 (hO : Ok m) (t : Fin (cfgM m hO).N) (y : (((cfgM m hO).win 4).xblock ((cfgM m hO).grid.coords t)).Idx) (a : Fin ((cfgM m hO).win 4).shape.rank) :
    ((((cfgM m hO).win 4).blk t).view.emb y a : ℕ) = ((cfgM m hO).win 4).index t a * ((cfgM m hO).win 4).size a + (y a).val :=
  Pipeline.Window.rect_emb_val ((cfgM m hO).win 4) t y a

theorem emb_4_row (hO : Ok m) (t : Fin (cfgM m hO).N) (y : S1024x512.Idx) :
    ((((cfgM m hO).win 4).blk t).view.emb y (0 : Fin 2) : ℕ) = (t.val / 2 + 36) * 1024 + (y 0).val :=
  (emb_4 m hO t y (0 : Fin 2)).trans (congrArg (fun n => n * 1024 + (y 0).val) (congrFun (index_4 m hO t) (0 : Fin 2)))

theorem emb_4_col (hO : Ok m) (t : Fin (cfgM m hO).N) (y : S1024x512.Idx) :
    ((((cfgM m hO).win 4).blk t).view.emb y (1 : Fin 2) : ℕ) = (y 1).val :=
  ((emb_4 m hO t y (1 : Fin 2)).trans (congrArg (fun n => n * 512 + (y 1).val) (congrFun (index_4 m hO t) (1 : Fin 2)))).trans
    (by show 0 * 512 + (y 1).val = (y 1).val; omega)

/-- An element of the result holds the layer's value of its token and feature. -/
def Holds (i : S73728x512.Idx) (v : EReal) : Prop :=
  ∀ (r : Fin 18432) (j : Fin 1024), (i 0).val = 36864 + (2 * r.val + j.val / 512) → (i 1).val = j.val % 512 → v = layerOf m r j

/-- What a second half writes back has it. -/
theorem holds_outAt (hO : Ok m) (hte : ∀ x : S72.Idx, (teOf m x).toNat < 8) (t : Fin (cfgM m hO).N) (ht : t.val % 2 = 1) (y : S1024x512.Idx) :
    Holds m (((cfgM m hO).win 4).blk t |>.view.emb y) (outAt m hO 0 t y) := by
  intro r j h0 h1
  have e0 := (emb_4_row m hO t y).symm.trans h0
  have e1 := (emb_4_col m hO t y).symm.trans h1
  have hy0 : (y 0).val < 1024 := idx2_lt0 y
  have hy1 : (y 1).val < 512 := idx2_lt1 y
  rw [eq_ix2 y]
  exact outAt_eq m hO hte t ht (⟨(y 0).val, hy0⟩ : Fin 1024) (⟨(y 1).val, hy1⟩ : Fin 512) r j
    (by show r.val = t.val / 2 * 512 + (y 0).val / 2; omega) (by show j.val = (y 0).val % 2 * 512 + (y 1).val; omega)

/-- The rows of the tiles computed are under the blocks written back. -/
theorem covered (hO : Ok m) (i : S73728x512.Idx) (hi : 36864 ≤ (i 0).val) :
    ∃ t : Fin (cfgM m hO).N, ((cfgM m hO).win 4).flush t = true ∧ i ∈ (((cfgM m hO).win 4).blk t).view.set := by
  have hi0 : (i 0).val < 73728 := idx2_lt0 i
  have hi1 : (i 1).val < 512 := idx2_lt1 i
  have hN : (cfgM m hO).N = 72 := N_0
  refine ⟨⟨2 * ((i 0).val / 1024 - 36) + 1, by rw [hN]; omega⟩, (flush_4 m hO _).mpr (by show (2 * ((i 0).val / 1024 - 36) + 1) % 2 = 1; omega), ?_⟩
  generalize ht : (⟨2 * ((i 0).val / 1024 - 36) + 1, _⟩ : Fin (cfgM m hO).N) = t
  have htv : t.val = 2 * ((i 0).val / 1024 - 36) + 1 := by rw [← ht]
  have e : (((cfgM m hO).win 4).blk t).view.emb (ix2 (⟨(i 0).val % 1024, by omega⟩ : Fin 1024) (⟨(i 1).val, hi1⟩ : Fin 512) : S1024x512.Idx) = i := by
    refine funext fun a => Fin.ext ?_
    match a with
    | ⟨0, _⟩ =>
      refine (emb_4_row m hO t _).trans ?_
      show (t.val / 2 + 36) * 1024 + (i 0).val % 1024 = (i 0).val
      omega
    | ⟨1, _⟩ => exact emb_4_col m hO t _
  exact e ▸ View.emb_mem_set _ _

theorem final_holds (hO : Ok m) (hte : ∀ x : S72.Idx, (teOf m x).toNat < 8) (i : S73728x512.Idx) (hi : 36864 ≤ (i 0).val) :
    Holds m i ((dats m hO 0 0).arrAt 4 (cfgM m hO).N i) := by
  obtain ⟨t, hf, hm⟩ := covered m hO i hi
  exact Dat.arrAt_forall_of_flushed (dats m hO 0 0) 4 (Holds m)
    (fun t hf y => by
      have h := holds_outAt m hO hte t ((flush_4 m hO t).mp hf) y
      rw [← after_4] at h
      exact h)
    (cfgM m hO).N t i t.isLt hf hm

/-- The rows before the tiles computed are under no block, and keep the last argument's contents. -/
theorem final_kept (hO : Ok m) (i : S73728x512.Idx) (hi : (i 0).val < 36864) :
    (dats m hO 0 0).arrAt 4 (cfgM m hO).N i = m (((0 : Dev nD).tc : Thread nD τ).loc main_arg6) i := by
  refine (Dat.arrAt_apply_of_forall_not_mem (dats m hO 0 0) 4 (cfgM m hO).N i fun t _ _ hm => ?_).trans (congrFun (V_main_v3 m 0) i)
  obtain ⟨y, rfl⟩ := View.exists_emb_of_mem_set _ hm
  have e0 := emb_4_row m hO t y
  omega

end Cert.Proof.TailI

end
-- ==== Proof.TailReference.lean ====
/-
  The reference's result at the ideal values, element by element: the last argument's first rows, and the layer.
-/
module

public import proofs.«01_k».proof.Proof.Gen.TailReferenceIdeal.Run
public import proofs.«01_k».proof.Proof.TailSpec
public import Idealize.ShloMosaic.Lib.Pipeline.Value

@[expose] public section

set_option maxRecDepth 16384

noncomputable section

namespace Cert.Proof.TailR

open Cert.TailReferenceIdeal Cert.TailReferenceIdeal.Gen Cert.TailReferenceIdeal.Value
open Idealize.ShloMosaic Idealize.ShloMosaic.ValueIdx Idealize.ShloMosaic.StackMember Idealize.ShloMosaic.TcCoe Idealize.ShloMosaic.StableHlo Idealize.SL.Sem Cert.Proof.MoeMath
open scoped BigOperators

variable (V : Valuation τ sig (Elt Ideal))

/-! ## The arguments -/

abbrev te : S72.Idx → BitVec 32 := V (Proc.devRef .tc main_arg0)
abbrev nu : S1.Idx → BitVec 32 := V (Proc.devRef .tc main_arg1)
abbrev xs : S36864x512.Idx → EReal := V (Proc.devRef .tc main_arg2)
abbrev wg : S8x1024x3584.Idx → EReal := V (Proc.devRef .tc main_arg3)
abbrev wu : S8x1024x3584.Idx → EReal := V (Proc.devRef .tc main_arg4)
abbrev kept : S73728x512.Idx → EReal := V (Proc.devRef .tc main_arg6)
abbrev wd : S8x3584x1024.Idx → EReal := V (Proc.devRef .tc main_arg5)

/-! ## Tokens, experts' numbers and the tiles in use -/

theorem tokens_at (r : Fin 18432) (k : Fin 1024) : (res_main_v1 V : FVec Ideal S18432x1024 .f32) (ix2 r k) = tok (xs V) r k := by
  unfold tok
  show shapeCast S18432x1024 (xs V) shapeCasts_S36864x512_S18432x1024 (ix2 r k) = _
  refine shapeCast_apply _ _ _ _ ?_
  rw [Shape.rowMajor_val_two, Shape.rowMajor_val_two]
  show (2 * r.val + k.val / 512) * 512 + k.val % 512 = r.val * 1024 + k.val
  omega

theorem number_at (r : Fin 18432) : (res_main_v9 V : IVec S18432x1 32) (ix2 r (0 : Fin 1)) = te V (ix1 (⟨36 + r.val / 512, by omega⟩ : Fin 72)) := by
  show shapeCast S18432x1 (broadcastInDim S36x512 ![0, 1] bcast_S36x1_S36x512_0_1 (shapeCast S36x1 (extractStridedSlice S36 ![36] (te V) slices_S72_S36_36) shapeCasts_S36_S36x1)) shapeCasts_S36x512_S18432x1 (ix2 r (0 : Fin 1)) = _
  refine (shapeCast_apply _ _ _ (ix2 (⟨r.val / 512, by omega⟩ : Fin 36) (⟨r.val % 512, by omega⟩ : Fin 512)) ?_).trans ?_
  · rw [Shape.rowMajor_val_two, Shape.rowMajor_val_two]
    show r.val / 512 * 512 + r.val % 512 = r.val * 1 + 0
    omega
  refine (broadcastInDim_apply _ _ _ _ (ix2 (⟨r.val / 512, by omega⟩ : Fin 36) (0 : Fin 1)) (fun a => ?_)).trans ?_
  · match a with
    | ⟨0, _⟩ => rfl
    | ⟨1, _⟩ => rfl
  refine (shapeCast_apply _ _ _ (ix1 (⟨r.val / 512, by omega⟩ : Fin 36)) ?_).trans ?_
  · rw [Shape.rowMajor_val_two, Shape.rowMajor_val_one]
    show r.val / 512 = r.val / 512 * 1 + 0
    omega
  refine extractStridedSlice_apply _ _ _ _ _ (fun a => ?_)
  match a with
  | ⟨0, _⟩ => rfl

/-- A column of bits spread over the features. -/
theorem spread_at (b : IVec S18432x1 1) (r : Fin 18432) (j : Fin 1024) :
    broadcastInDim S18432x1024 ![0, 1] bcast_S18432x1_S18432x1024_0_1 b (ix2 r j) = b (ix2 r (0 : Fin 1)) := by
  refine broadcastInDim_apply _ _ _ _ _ (fun a => ?_)
  match a with
  | ⟨0, _⟩ => rfl
  | ⟨1, _⟩ => rfl

/-- The condition of expert `k`. -/
theorem isExpert_at (k : BitVec 32) (r : Fin 18432) (j : Fin 1024) :
    broadcastInDim S18432x1024 ![0, 1] bcast_S18432x1_S18432x1024_0_1 (cmpi .eq (res_main_v9 V) (broadcastInDim S18432x1 ![] bcast_S_S18432x1 (constantI S_ 32 k))) (ix2 r j)
      = IntOp.cmpi .eq (te V (ix1 (⟨36 + r.val / 512, by omega⟩ : Fin 72))) k := by
  refine (spread_at _ r j).trans ?_
  exact congrArg₂ (IntOp.cmpi .eq) (number_at V r) (broadcastInDim_scalar_apply _ _ _)

/-- The condition of a tile in use. -/
theorem inUse_at (r : Fin 18432) (j : Fin 1024) :
    broadcastInDim S18432x1024 ![0, 1] bcast_S18432x1_S18432x1024_0_1 (cmpi .slt (addi (shapeCast _ (iotaInDim S36x512 32 0) shapeCasts_S36x512_S18432x1) (broadcastInDim S18432x1 ![] bcast_S_S18432x1 (constantI S_ 32 36#32)))
        (broadcastInDim S18432x1 ![] bcast_S_S18432x1 (shapeCast _ (nu V) shapeCasts_S1_S_))) (ix2 r j)
      = IntOp.cmpi .slt (IntOp.addi (BitVec.ofNat 32 (r.val / 512)) 36#32) (nu V (ix1 (0 : Fin 1))) := by
  refine (spread_at _ r j).trans (congrArg₂ (IntOp.cmpi .slt) ?_ ?_)
  · refine congrArg₂ IntOp.addi ((shapeCast_apply _ _ _ (ix2 (⟨r.val / 512, by omega⟩ : Fin 36) (⟨r.val % 512, by omega⟩ : Fin 512)) ?_).trans rfl) (broadcastInDim_scalar_apply _ _ _)
    rw [Shape.rowMajor_val_two, Shape.rowMajor_val_two]
    show r.val / 512 * 512 + r.val % 512 = r.val * 1 + 0
    omega
  · refine (broadcastInDim_scalar_apply _ _ _).trans ?_
    refine congrArg (nu V) (funext fun a => Fin.ext ?_)
    match a with
    | ⟨0, _⟩ => exact Nat.lt_one_iff.mp (Fin.isLt _)

/-! ## One expert -/

/-- A product of the tokens with one expert's slice of the weights. -/
def product (w : S8x1024x3584.Idx → EReal) (o : Fin 3 → ℕ) (hs : S8x1024x3584.Slices o S1x1024x3584) : FVec Ideal S18432x3584 .f32 :=
  Host.dotGeneral (φ₁ := .f32) (φ₂ := .f32) dot_S18432x1024_S1024x3584_S18432x3584_1_0_0_1_n_n none (res_main_v1 V : FVec Ideal S18432x1024 .f32)
    (shapeCast S1024x3584 (extractStridedSlice S1x1024x3584 o w hs) shapeCasts_S1x1024x3584_S1024x3584 : FVec Ideal S1024x3584 .f32)

theorem product_apply (w : S8x1024x3584.Idx → EReal) (e : Fin 8) (hs) (r : Fin 18432) (h : Fin 3584) :
    product V w ![e.val, 0, 0] hs (ix2 r h) = ∑ k : Fin 1024, tok (xs V) r k * w (ix3 e k h) := by
  unfold product
  refine (dotGeneral_plain_apply (m := 18432) (n := 3584) (k := 1024) none _ _ r h).trans ?_
  refine Finset.sum_congr rfl fun k _ => congrArg₂ (· * ·) (tokens_at V r k) ?_
  refine (shapeCast_1ab_ab_apply _ _ _ _).trans ?_
  refine extractStridedSlice_apply _ _ _ _ _ (fun a => ?_)
  match a with
  | ⟨0, _⟩ => rfl
  | ⟨1, _⟩ => show k.val = 0 + k.val; omega
  | ⟨2, _⟩ => show h.val = 0 + h.val; omega

/-- One expert of every token, from its gate's products. -/
def expertOut (g : FVec Ideal S18432x3584 .f32) (o : Fin 3 → ℕ) (hs : S8x1024x3584.Slices o S1x1024x3584) (hd : S8x3584x1024.Slices o S1x3584x1024) : FVec Ideal S18432x1024 .f32 :=
  Host.dotGeneral (φ₁ := .f32) (φ₂ := .f32) dot_S18432x3584_S3584x1024_S18432x1024_1_0_0_1_n_n none
    (mulf (mulf g (Host.divf (broadcastInDim S18432x3584 ![] bcast_S_S18432x3584 (constant S_ .f32 0x3F800000#32))
        (addf (broadcastInDim S18432x3584 ![] bcast_S_S18432x3584 (constant S_ .f32 0x3F800000#32)) (Host.exp (Host.negf g)))))
      (product V (wu V) o hs))
    (shapeCast S3584x1024 (extractStridedSlice S1x3584x1024 o (wd V) hd) shapeCasts_S1x3584x1024_S3584x1024 : FVec Ideal S3584x1024 .f32)

theorem expertOut_apply (e : Fin 8) (hg hs hd) (r : Fin 18432) (j : Fin 1024) :
    expertOut V (product V (wg V) ![e.val, 0, 0] hg) ![e.val, 0, 0] hs hd (ix2 r j) = expert (xs V) (wg V) (wu V) (wd V) e r j := by
  unfold expertOut expert
  refine (dotGeneral_plain_apply (m := 18432) (n := 1024) (k := 3584) none _ _ r j).trans ?_
  refine Finset.sum_congr rfl fun h _ => congrArg₂ (· * ·) ?_ ?_
  · rw [← product_apply V (wg V) e hg r h, ← product_apply V (wu V) e hs r h]
    have one : broadcastInDim S18432x3584 ![] bcast_S_S18432x3584 (constant (F := Ideal) S_ .f32 0x3F800000#32) (ix2 r h) = (1 : EReal) :=
      (broadcastInDim_scalar_apply _ _ _).trans Ideal.ofBits_one_f32
    unfold gated
    rw [mulf_apply, mulf_apply, hostDivf_apply, addf_apply, one]
    rfl
  · refine (shapeCast_1ab_ab_apply _ _ _ _).trans ?_
    refine extractStridedSlice_apply _ _ _ _ _ (fun a => ?_)
    match a with
    | ⟨0, _⟩ => rfl
    | ⟨1, _⟩ => show h.val = 0 + h.val; omega
    | ⟨2, _⟩ => show j.val = 0 + j.val; omega

/-! ## The choice among the experts -/

/-- Choosing the values one by one by the word is reading the list at the word. -/
theorem choose_eq (f : Fin 8 → EReal) (z : EReal) (w : BitVec 32) (hw : w.toNat < 8) :
    Scalar.select (IntOp.cmpi .eq w 7#32) (f 7) (Scalar.select (IntOp.cmpi .eq w 6#32) (f 6) (Scalar.select (IntOp.cmpi .eq w 5#32) (f 5)
      (Scalar.select (IntOp.cmpi .eq w 4#32) (f 4) (Scalar.select (IntOp.cmpi .eq w 3#32) (f 3) (Scalar.select (IntOp.cmpi .eq w 2#32) (f 2)
      (Scalar.select (IntOp.cmpi .eq w 1#32) (f 1) (Scalar.select (IntOp.cmpi .eq w 0#32) (f 0) z)))))))
      = f ⟨w.toNat % 8, Nat.mod_lt _ (by decide)⟩ := by
  obtain ⟨e, rfl⟩ : ∃ e : Fin 8, w = BitVec.ofNat 32 e.val :=
    ⟨⟨w.toNat, hw⟩, BitVec.eq_of_toNat_eq (by rw [BitVec.toNat_ofNat]; exact (Nat.mod_eq_of_lt w.isLt).symm)⟩
  match e with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

/-- A choice of expert `k`'s values where its number is named. -/
abbrev pick (k : BitVec 32) (x y : FVec Ideal S18432x1024 .f32) : FVec Ideal S18432x1024 .f32 :=
  select (broadcastInDim S18432x1024 ![0, 1] bcast_S18432x1_S18432x1024_0_1 (cmpi .eq (res_main_v9 V) (broadcastInDim S18432x1 ![] bcast_S_S18432x1 (constantI S_ 32 k)))) x y

theorem pick_apply (k : BitVec 32) (x y : FVec Ideal S18432x1024 .f32) (r : Fin 18432) (j : Fin 1024) (a b : EReal)
    (hx : x (ix2 r j) = a) (hy : y (ix2 r j) = b) :
    pick V k x y (ix2 r j) = Scalar.select (IntOp.cmpi .eq (te V (ix1 (⟨36 + r.val / 512, by omega⟩ : Fin 72))) k) a b := by
  subst hx hy
  exact congrArg (fun b => Scalar.select b (x (ix2 r j)) (y (ix2 r j))) (isExpert_at V k r j)

/-- The first five experts' choices. -/
theorem first_five : (res_main_v80 V : FVec Ideal S18432x1024 .f32)
    = pick V 4#32 (expertOut V (product V (wg V) ![4, 0, 0] slices_S8x1024x3584_S1x1024x3584_4_0_0) ![4, 0, 0] slices_S8x1024x3584_S1x1024x3584_4_0_0 slices_S8x3584x1024_S1x3584x1024_4_0_0)
      (pick V 3#32 (expertOut V (product V (wg V) ![3, 0, 0] slices_S8x1024x3584_S1x1024x3584_3_0_0) ![3, 0, 0] slices_S8x1024x3584_S1x1024x3584_3_0_0 slices_S8x3584x1024_S1x3584x1024_3_0_0)
      (pick V 2#32 (expertOut V (product V (wg V) ![2, 0, 0] slices_S8x1024x3584_S1x1024x3584_2_0_0) ![2, 0, 0] slices_S8x1024x3584_S1x1024x3584_2_0_0 slices_S8x3584x1024_S1x3584x1024_2_0_0)
      (pick V 1#32 (expertOut V (product V (wg V) ![1, 0, 0] slices_S8x1024x3584_S1x1024x3584_1_0_0) ![1, 0, 0] slices_S8x1024x3584_S1x1024x3584_1_0_0 slices_S8x3584x1024_S1x3584x1024_1_0_0)
      (pick V 0#32 (expertOut V (product V (wg V) ![0, 0, 0] slices_S8x1024x3584_S1x1024x3584_0_0_0) ![0, 0, 0] slices_S8x1024x3584_S1x1024x3584_0_0_0 slices_S8x3584x1024_S1x3584x1024_0_0_0)
      (broadcastInDim S18432x1024 ![] bcast_S_S18432x1024 (constant S_ .f32 0x00000000#32)))))) := rfl

/-- All the experts' choices. -/
def chosen : FVec Ideal S18432x1024 .f32 :=
  pick V 7#32 (expertOut V (product V (wg V) ![7, 0, 0] slices_S8x1024x3584_S1x1024x3584_7_0_0) ![7, 0, 0] slices_S8x1024x3584_S1x1024x3584_7_0_0 slices_S8x3584x1024_S1x3584x1024_7_0_0)
    (pick V 6#32 (expertOut V (product V (wg V) ![6, 0, 0] slices_S8x1024x3584_S1x1024x3584_6_0_0) ![6, 0, 0] slices_S8x1024x3584_S1x1024x3584_6_0_0 slices_S8x3584x1024_S1x3584x1024_6_0_0)
    (pick V 5#32 (expertOut V (product V (wg V) ![5, 0, 0] slices_S8x1024x3584_S1x1024x3584_5_0_0) ![5, 0, 0] slices_S8x1024x3584_S1x1024x3584_5_0_0 slices_S8x3584x1024_S1x3584x1024_5_0_0)
    (res_main_v80 V)))

theorem zero_at (r : Fin 18432) (j : Fin 1024) :
    broadcastInDim S18432x1024 ![] bcast_S_S18432x1024 (constant (F := Ideal) S_ .f32 0x00000000#32) (ix2 r j) = (0 : EReal) :=
  (broadcastInDim_scalar_apply _ _ _).trans Ideal.ofBits_zero_f32

theorem chosen_apply (r : Fin 18432) (j : Fin 1024) (hw : (te V (ix1 (⟨36 + r.val / 512, by omega⟩ : Fin 72))).toNat < 8) :
    chosen V (ix2 r j) = expert (xs V) (wg V) (wu V) (wd V) (namedSecond (te V) r) r j := by
  unfold chosen
  rw [first_five]
  refine (pick_apply V _ _ _ r j _ _ (expertOut_apply V 7 _ _ _ r j) (pick_apply V _ _ _ r j _ _ (expertOut_apply V 6 _ _ _ r j)
    (pick_apply V _ _ _ r j _ _ (expertOut_apply V 5 _ _ _ r j) (pick_apply V _ _ _ r j _ _ (expertOut_apply V 4 _ _ _ r j)
    (pick_apply V _ _ _ r j _ _ (expertOut_apply V 3 _ _ _ r j) (pick_apply V _ _ _ r j _ _ (expertOut_apply V 2 _ _ _ r j)
    (pick_apply V _ _ _ r j _ _ (expertOut_apply V 1 _ _ _ r j) (pick_apply V _ _ _ r j _ _ (expertOut_apply V 0 _ _ _ r j)
    (zero_at r j))))))))).trans ?_
  exact choose_eq (fun e => expert (xs V) (wg V) (wu V) (wd V) e r j) 0 _ hw

/-! ## The result -/

/-- Every token's layer. -/
def rows : FVec Ideal S18432x1024 .f32 :=
  select (broadcastInDim S18432x1024 ![0, 1] bcast_S18432x1_S18432x1024_0_1 (cmpi .slt (addi (shapeCast _ (iotaInDim S36x512 32 0) shapeCasts_S36x512_S18432x1) (broadcastInDim S18432x1 ![] bcast_S_S18432x1 (constantI S_ 32 36#32)))
    (broadcastInDim S18432x1 ![] bcast_S_S18432x1 (shapeCast _ (nu V) shapeCasts_S1_S_)))) (chosen V)
    (broadcastInDim S18432x1024 ![] bcast_S_S18432x1024 (constant S_ .f32 0x00000000#32))

theorem rows_apply (r : Fin 18432) (j : Fin 1024) (hw : (te V (ix1 (⟨36 + r.val / 512, by omega⟩ : Fin 72))).toNat < 8) :
    rows V (ix2 r j) = layerSecond (te V) (nu V (ix1 (0 : Fin 1))) (xs V) (wg V) (wu V) (wd V) r j := by
  unfold rows layerSecond
  rw [ValueIdx.select_apply, inUse_at, chosen_apply V r j hw, zero_at]
  rfl

/-- The rows kept, and the rows computed behind them, packed again two to a token. -/
def result : FVec Ideal S73728x512 .bf16 :=
  concatenate S73728x512 0 [⟨S36864x512, (extractStridedSlice S36864x512 ![0, 0] (kept V) slices_S73728x512_S36864x512_0_0)⟩,
    ⟨S36864x512, (shapeCast _ (truncf .bf16 (rows V) bitsLt_bf16_f32) shapeCasts_S18432x1024_S36864x512)⟩] concatenates_S36864x512_S36864x512_S73728x512_d0

theorem result_kept (i : S73728x512.Idx) (h0 : (i 0).val < 36864) : result V i = kept V i := by
  have h1 : (i 1).val < 512 := idx2_lt1 i
  unfold result
  refine (concatenate_pair_apply_left (t := S73728x512) (s₁ := S36864x512) (s₂ := S36864x512) _ _ _ _ i rfl (ix2 (⟨(i 0).val, h0⟩ : Fin 36864) (⟨(i 1).val, h1⟩ : Fin 512)) (fun b => ?_)).trans ?_
  · match b with
    | ⟨0, _⟩ => rfl
    | ⟨1, _⟩ => rfl
  refine extractStridedSlice_apply _ _ _ _ _ (fun a => ?_)
  match a with
  | ⟨0, _⟩ => show (i 0).val = 0 + (i 0).val; omega
  | ⟨1, _⟩ => show (i 1).val = 0 + (i 1).val; omega

theorem result_apply (i : S73728x512.Idx) (r : Fin 18432) (j : Fin 1024) (h0 : (i 0).val = 36864 + (2 * r.val + j.val / 512)) (h1 : (i 1).val = j.val % 512)
    (hw : (te V (ix1 (⟨36 + r.val / 512, by omega⟩ : Fin 72))).toNat < 8) :
    result V i = layerSecond (te V) (nu V (ix1 (0 : Fin 1))) (xs V) (wg V) (wu V) (wd V) r j := by
  unfold result
  refine (concatenate_pair_apply_right (t := S73728x512) (s₁ := S36864x512) (s₂ := S36864x512) (0 : Fin 2) _ _ _ i rfl rfl (ix2 (⟨2 * r.val + j.val / 512, by omega⟩ : Fin 36864) (⟨j.val % 512, by omega⟩ : Fin 512)) (fun b hb => ?_) ?_).trans ?_
  · match b with
    | ⟨0, _⟩ => exact absurd rfl hb
    | ⟨1, _⟩ => exact h1.symm
  · show 2 * r.val + j.val / 512 + 36864 = (i 0).val
    omega
  refine (shapeCast_apply _ _ _ (ix2 r j) ?_).trans ?_
  · rw [Shape.rowMajor_val_two, Shape.rowMajor_val_two]
    show r.val * 1024 + j.val = (2 * r.val + j.val / 512) * 512 + j.val % 512
    omega
  exact (ValueIdx.truncf_apply (rows V) bitsLt_bf16_f32 _).trans (rows_apply V r j hw)

/-- The reference's run, its result named. -/
theorem run (m : (ℓ : Loc nD τ sig) → Buf (Elt Ideal) ℓ) (ρ : Dev nD → PrngReg) :
    θ_run defs (onTc (τ := τ) (main (F := Ideal))) ⟨m, fun _ => 0, ρ⟩ fun s => ∀ c : Dev nD,
      s.2.mem ((c.tc : Thread nD τ).loc main_v131) = result (launchContents m c)
      ∧ s.2.mem ((c.tc : Thread nD τ).loc main_arg0) = m ((c.tc : Thread nD τ).loc main_arg0)
      ∧ s.2.mem ((c.tc : Thread nD τ).loc main_arg1) = m ((c.tc : Thread nD τ).loc main_arg1)
      ∧ s.2.mem ((c.tc : Thread nD τ).loc main_arg2) = m ((c.tc : Thread nD τ).loc main_arg2)
      ∧ s.2.mem ((c.tc : Thread nD τ).loc main_arg3) = m ((c.tc : Thread nD τ).loc main_arg3)
      ∧ s.2.mem ((c.tc : Thread nD τ).loc main_arg4) = m ((c.tc : Thread nD τ).loc main_arg4)
      ∧ s.2.mem ((c.tc : Thread nD τ).loc main_arg5) = m ((c.tc : Thread nD τ).loc main_arg5)
      ∧ s.2.mem ((c.tc : Thread nD τ).loc main_arg6) = m ((c.tc : Thread nD τ).loc main_arg6) :=
  (θ_run defs _ _).mono (fun _ h c => ⟨(h c).1.trans (by unfold result rows chosen expertOut product; rfl), (h c).2⟩) (Value.run (F := Ideal) m ρ)

end Cert.Proof.TailR

end
-- ==== Proof.TailClaims.lean ====
/-
  The third program's value: its result and the reference's are the same, at the ideal values.
-/
module

public import proofs.«01_k».proof.Defs
public import proofs.«01_k».proof.Proof.TailArray
public import proofs.«01_k».proof.Proof.TailReference
public import proofs.«01_k».proof.Proof.Gen.Pre_experts_named3

@[expose] public section

set_option maxRecDepth 16384

noncomputable section

namespace Cert.Proof.Tail

open Idealize.ShloMosaic Idealize.ShloMosaic.ValueIdx Idealize.SL.Sem Cert.Proof.MoeMath

/-- The value at an element of the result: kept in the first 36 tiles' rows, the layer's behind them. -/
def valueAt (m : (ℓ : Loc Cert.TailIdeal.nD Cert.TailIdeal.τ Cert.TailIdeal.sig) → Buf (Elt Ideal) ℓ) (i : (⟨2, ![73728, 512]⟩ : Shape).Idx) : EReal :=
  if h : (i 0).val < 36864 then
    m (((0 : Dev Cert.TailIdeal.nD).tc : Thread Cert.TailIdeal.nD Cert.TailIdeal.τ).loc Cert.TailIdeal.main_arg6) i
  else
    TailI.layerOf m (⟨((i 0).val - 36864) / 2, by have := idx2_lt0 i; omega⟩ : Fin 18432) (⟨(i 0).val % 2 * 512 + (i 1).val, by have := idx2_lt1 i; omega⟩ : Fin 1024)

theorem valueAt_kept (m : (ℓ : Loc Cert.TailIdeal.nD Cert.TailIdeal.τ Cert.TailIdeal.sig) → Buf (Elt Ideal) ℓ) (i : (⟨2, ![73728, 512]⟩ : Shape).Idx) (h : (i 0).val < 36864) :
    valueAt m i = m (((0 : Dev Cert.TailIdeal.nD).tc : Thread Cert.TailIdeal.nD Cert.TailIdeal.τ).loc Cert.TailIdeal.main_arg6) i :=
  dif_pos h

theorem valueAt_of (m : (ℓ : Loc Cert.TailIdeal.nD Cert.TailIdeal.τ Cert.TailIdeal.sig) → Buf (Elt Ideal) ℓ) (i : (⟨2, ![73728, 512]⟩ : Shape).Idx) (h : ¬ (i 0).val < 36864) (h0 : (i 0).val < 73728) (h1 : (i 1).val < 512) :
    valueAt m i = TailI.layerOf m (⟨((i 0).val - 36864) / 2, by omega⟩ : Fin 18432) (⟨(i 0).val % 2 * 512 + (i 1).val, by omega⟩ : Fin 1024) :=
  dif_neg h

/-- The number of tiles in use is the second argument's word. -/
theorem inUse_eq (m : (ℓ : Loc Cert.TailIdeal.nD Cert.TailIdeal.τ Cert.TailIdeal.sig) → Buf (Elt Ideal) ℓ) :
    m (((0 : Dev Cert.TailIdeal.nD).tc : Thread Cert.TailIdeal.nD Cert.TailIdeal.τ).loc Cert.TailIdeal.main_arg1) (ix1 (0 : Fin 1)) = TailI.nuW m := by
  refine Eq.trans ?_ (TailI.at_1 m (by decide))
  show _ = TailI.V m 0 Cert.TailIdeal.main_arg1 _
  rw [TailI.V_main_arg1]
  refine congrArg _ (funext fun a => Fin.ext ?_)
  match a with
  | ⟨0, _⟩ => exact (Nat.lt_one_iff.mp (Fin.isLt _)).symm

theorem algebraic : Cert.algebraic_TailIdeal_TailReferenceIdeal (hTailIdeal := Cert.TailIdeal.Gen.facts) (hTailReferenceIdeal := Cert.TailReferenceIdeal.Gen.facts)
    (hPre_experts_named3 := Cert.Pre_experts_named3.Gen.facts) := by
  intro m g m' g' hpre hargs
  have hO : TailI.Ok m := TailI.ok_of_pre (F := Ideal) m (hpre 0)
  have hte : ∀ x, (TailI.teOf m x).toNat < 8 := TailI.te_lt (F := Ideal) m (hpre 0)
  refine ⟨fun _ i => valueAt m i, ?_, ?_⟩
  · have hrun := TailI.run_main (F := Ideal) m g hO
    have hframe := TailI.frame_run (F := Ideal) m g hO
    refine (θ_run Cert.TailIdeal.defs _ _).mono (fun r h c => ⟨funext fun i => ?_, h.2.1 c⟩) (θ_run_and hrun hframe)
    obtain rfl : c = 0 := Subsingleton.elim _ _
    have hi0 := idx2_lt0 i
    have h1 := idx2_lt1 i
    have hmem : r.2.mem (((0 : Dev Cert.TailIdeal.nD).tc : Thread Cert.TailIdeal.nD Cert.TailIdeal.τ).loc Cert.TailIdeal.main_v3)
        = (TailI.dats m hO 0 0).arrAt 4 (TailI.cfgM m hO).N := (h.1.1 0).1 4
    refine (congrFun hmem i).trans ?_
    by_cases hlt : (i 0).val < 36864
    · exact (TailI.final_kept m hO i hlt).trans (valueAt_kept m i hlt).symm
    refine Eq.trans ?_ (valueAt_of m i hlt hi0 h1).symm
    refine TailI.final_holds m hO hte i (Nat.le_of_not_lt hlt) _ _ ?_ ?_
    · show (i 0).val = 36864 + (2 * (((i 0).val - 36864) / 2) + ((i 0).val % 2 * 512 + (i 1).val) / 512); omega
    · show (i 1).val = ((i 0).val % 2 * 512 + (i 1).val) % 512; omega
  · refine (θ_run Cert.TailReferenceIdeal.defs _ _).mono (fun r h c => ⟨funext fun i => ?_, (h c).2⟩) (TailR.run m' g')
    obtain rfl : c = 0 := Subsingleton.elim _ _
    have hi0 := idx2_lt0 i
    have h1 := idx2_lt1 i
    obtain ⟨a0, a1, a2, a3, a4, a5, a6⟩ := hargs 0
    refine (congrFun (h 0).1 i).trans ?_
    by_cases hlt : (i 0).val < 36864
    · exact ((TailR.result_kept (StableHlo.launchContents m' 0) i hlt).trans (congrFun a6 i)).trans (valueAt_kept m i hlt).symm
    refine Eq.trans ?_ (valueAt_of m i hlt hi0 h1).symm
    have e0 : TailR.te (StableHlo.launchContents m' 0) = TailI.teOf m := a0
    have e1 : TailR.nu (StableHlo.launchContents m' 0) (ix1 (0 : Fin 1)) = TailI.nuW m := (congrFun a1 _).trans (inUse_eq m)
    have e2 : TailR.xs (StableHlo.launchContents m' 0) = TailI.xsOf m := a2
    have e3 : TailR.wg (StableHlo.launchContents m' 0) = TailI.wgOf m := a3
    have e4 : TailR.wu (StableHlo.launchContents m' 0) = TailI.wuOf m := a4
    have e5 : TailR.wd (StableHlo.launchContents m' 0) = TailI.wdOf m := a5
    refine (TailR.result_apply (StableHlo.launchContents m' 0) i (⟨((i 0).val - 36864) / 2, by omega⟩ : Fin 18432) (⟨(i 0).val % 2 * 512 + (i 1).val, by omega⟩ : Fin 1024) ?_ ?_ ?_).trans ?_
    · show (i 0).val = 36864 + (2 * (((i 0).val - 36864) / 2) + ((i 0).val % 2 * 512 + (i 1).val) / 512); omega
    · show (i 1).val = ((i 0).val % 2 * 512 + (i 1).val) % 512; omega
    · rw [e0]; exact hte _
    · rw [e0, e1, e2, e3, e4, e5]

end Cert.Proof.Tail

end
-- ==== Proof.DenseFrames.lean ====
/-
  The frames of the fourth program at both of its printings and of its reference; its ideal printing used no rule.
-/
module

public import proofs.«01_k».proof.Defs
public import proofs.«01_k».proof.Proof.Gen.Dense.Frame
public import proofs.«01_k».proof.Proof.Gen.DenseIdeal.Frame
public import proofs.«01_k».proof.Proof.Gen.DenseReferenceIdeal.Run
public import Idealize.ShloMosaic.Lib.Quiescent

@[expose] public section

noncomputable section

namespace Cert.Proof.Dense

open Idealize.ShloMosaic Idealize.SL.Sem

theorem frame_bits : Cert.quiescent_Dense (hDense := Cert.Dense.Gen.facts) := fun m ρ _ => Cert.Dense.Gen.frame (F := Bits) m ρ

theorem frame_ideal : Cert.quiescent_DenseIdeal (hDenseIdeal := Cert.DenseIdeal.Gen.facts) := fun m ρ _ => Cert.DenseIdeal.Gen.frame (F := Ideal) m ρ

theorem frame_reference : Cert.quiescent_DenseReferenceIdeal (hDenseReferenceIdeal := Cert.DenseReferenceIdeal.Gen.facts) := fun m ρ _ =>
  (θ_run Cert.DenseReferenceIdeal.defs _ _).mono (fun r h => ⟨fun c => (h c).2, sem_eq_zero_of_no_sems (by decide) r.2⟩)
    (Cert.DenseReferenceIdeal.Value.run (F := Ideal) m ρ)

theorem preserves : Cert.preserves_Dense_DenseIdeal := trivial

end Cert.Proof.Dense

end
-- ==== Proof.DenseSpec.lean ====
/-
  The mixer's output projection and the dense layer at the ideal values, one token at a time: what the fourth program's
  result holds.
-/
module

public import proofs.«01_k».proof.Proof.MoeMath
public import Idealize.ShloMosaic.Lib.Pipeline.Value
public import Idealize.ShloMosaic.Lib.ValueLayoutCasts

@[expose] public section

noncomputable section

namespace Cert.Proof.DenseMath

open Idealize.ShloMosaic Idealize.ShloMosaic.ValueIdx Idealize.ShloMosaic.StackMember Cert.Proof.MoeMath
open scoped BigOperators

/-! ## One token -/

/-- The projection of the three groups of heads' outputs, group by group. -/
def mixed (att : Fin 512 → EReal) (ret cnv : Fin 256 → EReal) (wo : Fin 1024 → EReal) : EReal :=
  ((∑ k : Fin 512, att k * wo ⟨0 + k.val, by omega⟩) + ∑ k : Fin 256, ret k * wo ⟨512 + k.val, by omega⟩) + ∑ k : Fin 256, cnv k * wo ⟨768 + k.val, by omega⟩

/-- The three groups side by side. -/
def beside (att : Fin 512 → EReal) (ret cnv : Fin 256 → EReal) (k : Fin 1024) : EReal :=
  if h : k.val < 512 then att ⟨k.val, h⟩ else if h' : k.val < 768 then ret ⟨k.val - 512, by omega⟩ else cnv ⟨k.val - 768, by omega⟩

/-- The projection of the groups side by side is the projection group by group. -/
theorem sum_beside (att : Fin 512 → EReal) (ret cnv : Fin 256 → EReal) (wo : Fin 1024 → EReal) :
    ∑ k : Fin 1024, beside att ret cnv k * wo k = mixed att ret cnv wo := by
  unfold mixed
  rw [show (∑ k : Fin 1024, beside att ret cnv k * wo k) = ∑ k : Fin ((512 + 256) + 256), beside att ret cnv k * wo k from rfl, Fin.sum_univ_add, Fin.sum_univ_add]
  refine congrArg₂ (· + ·) (congrArg₂ (· + ·) ?_ ?_) ?_
  · refine Finset.sum_congr rfl fun k _ => congrArg₂ (· * ·) ?_ (congrArg wo (Fin.ext ?_))
    · unfold beside
      have hk : k.val < 512 := k.isLt
      exact dif_pos hk
    · show k.val = 0 + k.val; omega
  · refine Finset.sum_congr rfl fun k _ => congrArg₂ (· * ·) ?_ (congrArg wo (Fin.ext rfl))
    unfold beside
    have hk : k.val < 256 := k.isLt
    refine (dif_neg (show ¬ 512 + k.val < 512 by omega)).trans ((dif_pos (show 512 + k.val < 768 by omega)).trans (congrArg ret (Fin.ext ?_)))
    show 512 + k.val - 512 = k.val; omega
  · refine Finset.sum_congr rfl fun k _ => congrArg₂ (· * ·) ?_ (congrArg wo (Fin.ext rfl))
    unfold beside
    have hk : k.val < 256 := k.isLt
    refine (dif_neg (show ¬ 768 + k.val < 512 by omega)).trans ((dif_neg (show ¬ 768 + k.val < 768 by omega)).trans (congrArg cnv (Fin.ext ?_)))
    show 768 + k.val - 768 = k.val; omega

/-- The root mean square normalisation of a token's features, scaled and shifted. -/
def normed (x w sc sh : Fin 1024 → EReal) (k : Fin 1024) : EReal :=
  x k * Ideal.rsqrt (Ideal.div (∑ i : Fin 1024, x i * x i) (Ideal.ofBits .f32 0x44800000#32) + Ideal.ofBits .f32 0x358637BD#32) * w k * (1 + sc k) + sh k

/-- The dense layer of a token. -/
def dense (x : Fin 1024 → EReal) (wg wu : Fin 1024 → Fin 2816 → EReal) (wd : Fin 2816 → Fin 1024 → EReal) (j : Fin 1024) : EReal :=
  ∑ h : Fin 2816, gated (∑ k : Fin 1024, x k * wg k h) (∑ k : Fin 1024, x k * wu k h) * wd h j

/-- A sum over the dense layer's 2816 hidden features is the sums over its six parts. -/
theorem sum_six (f : Fin 2816 → EReal) :
    (((((∑ h : Fin 512, f ⟨0 + h.val, by omega⟩) + ∑ h : Fin 512, f ⟨512 + h.val, by omega⟩) + ∑ h : Fin 512, f ⟨1024 + h.val, by omega⟩) + ∑ h : Fin 512, f ⟨1536 + h.val, by omega⟩)
      + ∑ h : Fin 512, f ⟨2048 + h.val, by omega⟩) + ∑ h : Fin 256, f ⟨2560 + h.val, by omega⟩
      = ∑ h : Fin 2816, f h := by
  rw [show (∑ h : Fin 2816, f h) = ∑ h : Fin (((((512 + 512) + 512) + 512) + 512) + 256), f h from rfl, Fin.sum_univ_add, Fin.sum_univ_add, Fin.sum_univ_add, Fin.sum_univ_add, Fin.sum_univ_add]
  congr 1

/-! ## All the tokens -/

abbrev Tok := (⟨3, ![2, 8192, 1024]⟩ : Shape).Idx → EReal
abbrev Att := (⟨3, ![2, 8192, 512]⟩ : Shape).Idx → EReal
abbrev Head := (⟨3, ![2, 8192, 256]⟩ : Shape).Idx → EReal
abbrev Row := (⟨3, ![2, 1, 1024]⟩ : Shape).Idx → EReal

/-- A token after the projection, added to it with its gate. -/
def resid (att : Att) (ret cnv : Head) (wo : (⟨2, ![1024, 1024]⟩ : Shape).Idx → EReal) (x : Tok) (g1 : Row) (b : Fin 2) (s : Fin 8192) (j : Fin 1024) : EReal :=
  x (ix3 b s j) + g1 (ix3 b 0 j) * mixed (fun k => att (ix3 b s k)) (fun k => ret (ix3 b s k)) (fun k => cnv (ix3 b s k)) (fun k => wo (ix2 k j))

/-- A token after the dense layer, added to it with its gate. -/
def outOf (att : Att) (ret cnv : Head) (wo : (⟨2, ![1024, 1024]⟩ : Shape).Idx → EReal) (x : Tok) (g1 : Row) (nw : (⟨1, ![1024]⟩ : Shape).Idx → EReal) (sc sh : Row)
    (wg wu : (⟨2, ![1024, 2816]⟩ : Shape).Idx → EReal) (wd : (⟨2, ![2816, 1024]⟩ : Shape).Idx → EReal) (g2 : Row) (b : Fin 2) (s : Fin 8192) (j : Fin 1024) : EReal :=
  resid att ret cnv wo x g1 b s j + g2 (ix3 b 0 j) *
    dense (normed (resid att ret cnv wo x g1 b s) (fun k => nw (ix1 k)) (fun k => sc (ix3 b 0 k)) (fun k => sh (ix3 b 0 k)))
      (fun k h => wg (ix2 k h)) (fun k h => wu (ix2 k h)) (fun h j => wd (ix2 h j)) j

/-! ## The kernel's operations, read at an index -/

/-- The gated activation of a part of the hidden features. -/
def actOf {n : ℕ} (xb : FVec Ideal ⟨2, ![512, 1024]⟩ .bf16) (wg wu : FVec Ideal ⟨2, ![1024, n]⟩ .bf16) (hc : (⟨2, ![1024, n]⟩ : Shape).ShapeCasts ⟨2, ![1024, n]⟩)
    (ht : FTy.bits .bf16 < FTy.bits .f32) : FVec Ideal ⟨2, ![512, n]⟩ .bf16 :=
  truncf .bf16 (mulf (mulf (FloatOps.matmul (DotDims.plain 512 1024 n) none xb (shapeCast ⟨2, ![1024, n]⟩ wg hc) (constant _ .f32 0x00000000#32))
        (divf (broadcast _ (Scalar.ofBits .f32 0x3F800000#32)) (addf (broadcast _ (Scalar.ofBits .f32 0x3F800000#32))
          (exp (subf (broadcast _ (Scalar.ofBits .f32 0x00000000#32)) (FloatOps.matmul (DotDims.plain 512 1024 n) none xb (shapeCast ⟨2, ![1024, n]⟩ wg hc) (constant _ .f32 0x00000000#32)))))))
        (FloatOps.matmul (DotDims.plain 512 1024 n) none xb (shapeCast ⟨2, ![1024, n]⟩ wu hc) (constant _ .f32 0x00000000#32)) : FVec Ideal ⟨2, ![512, n]⟩ .f32) ht

theorem prod_apply {m k n : ℕ} (a : FVec Ideal ⟨2, ![m, k]⟩ .bf16) (w : FVec Ideal ⟨2, ![k, n]⟩ .bf16) (hc : (⟨2, ![k, n]⟩ : Shape).ShapeCasts ⟨2, ![k, n]⟩) (p : Fin m) (h : Fin n) :
    (FloatOps.matmul (DotDims.plain m k n) none a (shapeCast ⟨2, ![k, n]⟩ w hc) (constant _ .f32 0x00000000#32) : FVec Ideal ⟨2, ![m, n]⟩ .f32) (ix2 p h)
      = ∑ i : Fin k, a (ix2 p i) * w (ix2 i h) := by
  rw [Ideal.matmul_plain_apply, constant_apply, Ideal.ofBits_zero_f32, zero_add, shapeCast_self]

theorem act_apply {n : ℕ} (xb : FVec Ideal ⟨2, ![512, 1024]⟩ .bf16) (wg wu : FVec Ideal ⟨2, ![1024, n]⟩ .bf16) (hc : (⟨2, ![1024, n]⟩ : Shape).ShapeCasts ⟨2, ![1024, n]⟩)
    (ht : FTy.bits .bf16 < FTy.bits .f32) (p : Fin 512) (h : Fin n) :
    actOf xb wg wu hc ht (ix2 p h) = gated (∑ k : Fin 1024, xb (ix2 p k) * wg (ix2 k h)) (∑ k : Fin 1024, xb (ix2 p k) * wu (ix2 k h)) := by
  unfold actOf
  rw [truncf_apply, mulf_apply, mulf_apply, prod_apply, prod_apply, divf_apply, addf_apply]
  rw [show (broadcast ⟨2, ![512, n]⟩ (Scalar.ofBits (F := Ideal) .f32 0x3F800000#32) : FVec Ideal ⟨2, ![512, n]⟩ .f32) (ix2 p h) = (1 : EReal) from Ideal.ofBits_one_f32]
  rw [show (exp (subf (broadcast ⟨2, ![512, n]⟩ (Scalar.ofBits (F := Ideal) .f32 0x00000000#32)) (FloatOps.matmul (DotDims.plain 512 1024 n) none xb (shapeCast ⟨2, ![1024, n]⟩ wg hc) (constant _ .f32 0x00000000#32))) : FVec Ideal ⟨2, ![512, n]⟩ .f32) (ix2 p h)
      = FloatOps.exp (F := Ideal) (φ := .f32) (-(∑ k : Fin 1024, xb (ix2 p k) * wg (ix2 k h))) from by
    show FloatOps.exp (F := Ideal) (φ := .f32) _ = _
    rw [subf_apply, prod_apply]
    rw [show (broadcast ⟨2, ![512, n]⟩ (Scalar.ofBits (F := Ideal) .f32 0x00000000#32) : FVec Ideal ⟨2, ![512, n]⟩ .f32) (ix2 p h) = (0 : EReal) from Ideal.ofBits_zero_f32, zero_sub]]
  rfl

/-- A part of the hidden features, through the down product. -/
def downOf {n : ℕ} (xb : FVec Ideal ⟨2, ![512, 1024]⟩ .bf16) (wg wu : FVec Ideal ⟨2, ![1024, n]⟩ .bf16) (wd : FVec Ideal ⟨2, ![n, 1024]⟩ .bf16)
    (hc : (⟨2, ![1024, n]⟩ : Shape).ShapeCasts ⟨2, ![1024, n]⟩) (hd : (⟨2, ![n, 1024]⟩ : Shape).ShapeCasts ⟨2, ![n, 1024]⟩)
    (ht : FTy.bits .bf16 < FTy.bits .f32) : FVec Ideal ⟨2, ![512, 1024]⟩ .f32 :=
  FloatOps.matmul (DotDims.plain 512 n 1024) none (actOf xb wg wu hc ht) (shapeCast ⟨2, ![n, 1024]⟩ wd hd) (constant _ .f32 0x00000000#32)

theorem down_apply {n : ℕ} (xb : FVec Ideal ⟨2, ![512, 1024]⟩ .bf16) (wg wu : FVec Ideal ⟨2, ![1024, n]⟩ .bf16) (wd : FVec Ideal ⟨2, ![n, 1024]⟩ .bf16)
    (hc : (⟨2, ![1024, n]⟩ : Shape).ShapeCasts ⟨2, ![1024, n]⟩) (hd : (⟨2, ![n, 1024]⟩ : Shape).ShapeCasts ⟨2, ![n, 1024]⟩)
    (ht : FTy.bits .bf16 < FTy.bits .f32) (p : Fin 512) (j : Fin 1024) :
    downOf xb wg wu wd hc hd ht (ix2 p j)
      = ∑ h : Fin n, gated (∑ k : Fin 1024, xb (ix2 p k) * wg (ix2 k h)) (∑ k : Fin 1024, xb (ix2 p k) * wu (ix2 k h)) * wd (ix2 h j) := by
  unfold downOf
  rw [prod_apply]
  exact Finset.sum_congr rfl fun h _ => congrArg (· * wd (ix2 h j)) (act_apply xb wg wu hc ht p h)

/-- The sum of the squares of a row. -/
theorem squares_apply (x : FVec Ideal ⟨2, ![512, 1024]⟩ .f32) (acc : BitVec (FTy.bits .f32)) (h : (⟨2, ![512, 1024]⟩ : Shape).Reduces [1] ⟨1, ![512]⟩)
    (hφ : FKind.Formats .f32) (hacc : acc = FKind.add.neutral .f32 hφ) (p : Fin 512) :
    multiReduction .add [1] (⟨1, ![512]⟩ : Shape) (mulf x x) acc h hφ hacc (ix1 p) = ∑ i : Fin 1024, x (ix2 p i) * x (ix2 p i) :=
  (Ideal.multiReduction_add_single (mulf x x) acc h hφ hacc (ix1 p)).trans
    (Finset.sum_congr rfl fun i _ => congrArg (mulf x x) (funext fun a => Fin.ext (by
      match a with
      | ⟨0, _⟩ => rfl
      | ⟨1, _⟩ => rfl)))

/-- The same sum as the reference takes it. -/
theorem squares3_apply (x : FVec Ideal ⟨3, ![2, 8192, 1024]⟩ .f32) (h : (⟨3, ![2, 8192, 1024]⟩ : Shape).ReducesTo [2] ⟨2, ![2, 8192]⟩)
    (h' : (⟨3, ![2, 8192, 1024]⟩ : Shape).Reduces [2] ⟨2, ![2, 8192]⟩) (init : EReal) (b : Fin 2) (s : Fin 8192) :
    Ideal.hostReduceAdd h (mulf x x) init (ix2 b s) = init + ∑ i : Fin 1024, x (ix3 b s i) * x (ix3 b s i) :=
  (Ideal.hostReduceAdd_single h h' (mulf x x) init (ix2 b s)).trans
    (congrArg (init + ·) (Finset.sum_congr rfl fun i _ => congrArg (mulf x x) (funext fun a => Fin.ext (by
      match a with
      | ⟨0, _⟩ => rfl
      | ⟨1, _⟩ => rfl
      | ⟨2, _⟩ => rfl))))

/-- A column spread over the features. -/
theorem spread_apply {α : Type} (v : (⟨2, ![512, 1]⟩ : Shape).Idx → α) (h : (⟨2, ![512, 1]⟩ : Shape).Broadcasts ⟨2, ![512, 1024]⟩) (p : Fin 512) (c : Fin 1024) :
    broadcastTo ⟨2, ![512, 1024]⟩ v h (ix2 p c) = v (ix2 p (0 : Fin 1)) := by
  refine broadcastTo_apply v h (ix2 p c) (ix2 p (0 : Fin 1)) fun ax => ?_
  match ax with
  | ⟨0, _⟩ => rfl
  | ⟨1, _⟩ => rfl

/-- A product of every token by a matrix, read at an index. -/
theorem dot3_apply {G m k n : ℕ} {φ₁ φ₂ : FTy}
    (w : DotDims.WF ⟨3, ![G, m, k]⟩ ⟨2, ![k, n]⟩ ⟨3, ![G, m, n]⟩ [2] [0] [0, 1] [1] [] [])
    (prec : Option ContractPrecision) (A : FVec Ideal ⟨3, ![G, m, k]⟩ φ₁) (B : FVec Ideal ⟨2, ![k, n]⟩ φ₂)
    (g : Fin G) (a : Fin m) (b : Fin n) :
    Host.dotGeneral (⟨[2], [0], [0, 1], [1], [], [], w⟩ : DotDims _ _ _) prec A B (ix3 g a b)
      = ∑ c : Fin k, A (ix3 g a c) * B (ix2 c b) := by
  show FloatOps.dotGeneral _ prec _ A B (ix3 g a b) = _
  rw [Ideal.dotGeneral_apply, ← Equiv.sum_comp (contrEquiv1 (⟨[2], [0], [0, 1], [1], [], [], w⟩ : DotDims _ _ _) k rfl rfl).symm]
  refine Finset.sum_congr rfl fun c _ => ?_
  have c3 := contrEquiv1_symm_val (⟨[2], [0], [0, 1], [1], [], [], w⟩ : DotDims ⟨3, ![G, m, k]⟩ ⟨2, ![k, n]⟩ ⟨3, ![G, m, n]⟩) k rfl rfl c
  have l3 : (⟨[2], [0], [0, 1], [1], [], [], w⟩ : DotDims ⟨3, ![G, m, k]⟩ ⟨2, ![k, n]⟩ ⟨3, ![G, m, n]⟩).lhsIdx (ix3 g a b)
      ((contrEquiv1 _ k rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [0], [0, 1], [1], [], [], w⟩ : DotDims ⟨3, ![G, m, k]⟩ ⟨2, ![k, n]⟩ ⟨3, ![G, m, n]⟩).rhsIdx (ix3 g a b)
      ((contrEquiv1 _ k rfl rfl).symm c) = ix2 c b := by
    funext ax; apply Fin.ext
    match ax with
    | ⟨0, _⟩ => simp [DotDims.rhsIdx]; exact c3
    | ⟨1, _⟩ => simp [DotDims.rhsIdx]; rfl
  rw [l3, r3]

end Cert.Proof.DenseMath

end
-- ==== Proof.DenseTerms.lean ====
/-
  What the fourth program's body leaves in the output's block, at the ideal values, element by element.
-/
module

public import proofs.«01_k».proof.Proof.Gen.DenseIdeal.Frame
public import proofs.«01_k».proof.Proof.DenseSpec
public import Idealize.ShloMosaic.Lib.Pipeline.ValueKit.Basic

@[expose] public section

set_option maxRecDepth 16384

noncomputable section

namespace Cert.Proof.DenseI

open Cert.DenseIdeal Cert.DenseIdeal.Gen
open Idealize.ShloMosaic Idealize.ShloMosaic.ValueIdx Cert.Proof.MoeMath Cert.Proof.DenseMath
open scoped BigOperators

/-! ## Parts of a block -/

/-- A load of a whole block is the block. -/
theorem ld_whole {S : Shape} {e : EltTy} (x : Vec Ideal S e) (off : Fin S.rank → ℕ) (inb : ∀ a, off a + S.size a ≤ S.size a) (ho : ∀ a, off a = 0) :
    View.ld x (Rect.unit (s := S) off S.size inb) = x := by
  refine funext fun y => congrArg x (funext fun a => Fin.ext ?_)
  show off a + 1 * (y a).val = (y a).val
  rw [ho a]; omega

/-- A load of a part of the columns. -/
theorem ld_cols {n : ℕ} (x : Vec Ideal S1024x2816 .bf16) (o : ℕ) (inb : ∀ a, (![0, o] : Fin 2 → ℕ) a + (![1024, n] : Fin 2 → ℕ) a ≤ S1024x2816.size a) (k : Fin 1024) (h : Fin n) (ho : o + h.val < 2816) :
    (View.ld x (Rect.unit (s := S1024x2816) ![0, o] ![1024, n] inb) : Vec Ideal ⟨2, ![1024, n]⟩ .bf16) (ix2 k h) = x (ix2 k (⟨o + h.val, ho⟩ : Fin 2816)) := by
  refine congrArg x (funext fun a => Fin.ext ?_)
  match a with
  | ⟨0, _⟩ => show 0 + 1 * k.val = k.val; omega
  | ⟨1, _⟩ => show o + 1 * h.val = o + h.val; omega

/-- A load of a part of the rows. -/
theorem ld_rows {N n : ℕ} (x : Vec Ideal ⟨2, ![N, 1024]⟩ .bf16) (o : ℕ) (inb : ∀ a, (![o, 0] : Fin 2 → ℕ) a + (![n, 1024] : Fin 2 → ℕ) a ≤ (⟨2, ![N, 1024]⟩ : Shape).size a) (h : Fin n) (j : Fin 1024) (ho : o + h.val < N) :
    (View.ld x (Rect.unit (s := ⟨2, ![N, 1024]⟩) ![o, 0] ![n, 1024] inb) : Vec Ideal ⟨2, ![n, 1024]⟩ .bf16) (ix2 h j) = x (ix2 (⟨o + h.val, ho⟩ : Fin N) j) := by
  refine congrArg x (funext fun a => Fin.ext ?_)
  match a with
  | ⟨0, _⟩ => show o + 1 * h.val = o + h.val; omega
  | ⟨1, _⟩ => show 0 + 1 * j.val = j.val; omega

/-! ## The payloads -/

theorem row_apply (v : Vec Ideal S1x1x1024 .f32) (j : Fin 1024) : shapeCast S1x1024 v shapeCasts_S1x1x1024_S1x1024 (ix2 (0 : Fin 1) j) = v (ix3 (0 : Fin 1) (0 : Fin 1) j) :=
  shapeCast_1ab_ab_apply v _ _ _

/-- The token after the projection. -/
theorem pay2_apply (a : Vec Ideal S1x512x512 .bf16) (w0 : Vec Ideal S512x1024 .bf16) (r : Vec Ideal S1x512x256 .bf16) (w1 : Vec Ideal S256x1024 .bf16) (c : Vec Ideal S1x512x256 .bf16) (w2 : Vec Ideal S256x1024 .bf16)
    (x : Vec Ideal S1x512x1024 .f32) (g : Vec Ideal S1x1x1024 .f32) (p : Fin 512) (j : Fin 1024) :
    k0_pay2 a w0 r w1 c w2 x g (ix2 p j) = x (ix3 (0 : Fin 1) p j) + g (ix3 (0 : Fin 1) (0 : Fin 1) j) *
      (((∑ k : Fin 512, a (ix3 (0 : Fin 1) p k) * w0 (ix2 k j)) + ∑ k : Fin 256, r (ix3 (0 : Fin 1) p k) * w1 (ix2 k j)) + ∑ k : Fin 256, c (ix3 (0 : Fin 1) p k) * w2 (ix2 k j)) := by
  have e : k0_pay2 a w0 r w1 c w2 x g = addf (shapeCast S512x1024 x shapeCasts_S1x512x1024_S512x1024)
      (mulf (broadcastTo S512x1024 (shapeCast S1x1024 g shapeCasts_S1x1x1024_S1x1024) broadcasts_S1x1024_S512x1024)
        (addf (addf (FloatOps.matmul (DotDims.plain 512 512 1024) none (shapeCast S512x512 a shapeCasts_S1x512x512_S512x512) (shapeCast S512x1024 w0 shapeCasts_S512x1024_S512x1024) (constant _ .f32 0x00000000#32))
          (FloatOps.matmul (DotDims.plain 512 256 1024) none (shapeCast S512x256 r shapeCasts_S1x512x256_S512x256) (shapeCast S256x1024 w1 shapeCasts_S256x1024_S256x1024) (constant _ .f32 0x00000000#32)))
          (FloatOps.matmul (DotDims.plain 512 256 1024) none (shapeCast S512x256 c shapeCasts_S1x512x256_S512x256) (shapeCast S256x1024 w2 shapeCasts_S256x1024_S256x1024) (constant _ .f32 0x00000000#32)))) := rfl
  rw [e, addf_apply, mulf_apply, addf_apply, addf_apply]
  refine congrArg₂ (· + ·) (shapeCast_1ab_ab_apply x _ _ _) (congrArg₂ (· * ·) ((broadcastTo_1b_ab_apply _ _ p j).trans (row_apply g j)) (congrArg₂ (· + ·) (congrArg₂ (· + ·) ?_ ?_) ?_))
  · exact (prod_apply _ w0 _ p j).trans (Finset.sum_congr rfl fun k _ => congrArg (· * w0 (ix2 k j)) (shapeCast_1ab_ab_apply a _ _ _))
  · exact (prod_apply _ w1 _ p j).trans (Finset.sum_congr rfl fun k _ => congrArg (· * w1 (ix2 k j)) (shapeCast_1ab_ab_apply r _ _ _))
  · exact (prod_apply _ w2 _ p j).trans (Finset.sum_congr rfl fun k _ => congrArg (· * w2 (ix2 k j)) (shapeCast_1ab_ab_apply c _ _ _))

/-- The token normalised. -/
theorem pay5_apply (x : FVec Ideal S512x1024 .f32) (w sc : FVec Ideal S1x1024 .f32) (sh : Vec Ideal S1x1x1024 .f32) (p : Fin 512) (k : Fin 1024) :
    k0_pay5 x w sc sh (ix2 p k) = normed (fun i => x (ix2 p i)) (fun i => w (ix2 (0 : Fin 1) i)) (fun i => sc (ix2 (0 : Fin 1) i)) (fun i => sh (ix3 (0 : Fin 1) (0 : Fin 1) i)) k := by
  have e : k0_pay5 x w sc sh = truncf .bf16 (addf (mulf (mulf (mulf x (broadcastTo S512x1024 (rsqrt (addf (divf (shapeCast S512x1 (multiReduction .add [1] S512 (mulf x x) 0x00000000#32 reduces_S512x1024_S512 (.inl rfl) rfl) shapeCasts_S512_S512x1)
        (broadcast S512x1 (Scalar.ofBits .f32 0x44800000#32))) (broadcast S512x1 (Scalar.ofBits .f32 0x358637BD#32)))) broadcasts_S512x1_S512x1024))
      (broadcastTo S512x1024 w broadcasts_S1x1024_S512x1024))
      (broadcastTo S512x1024 (addf (broadcast S1x1024 (Scalar.ofBits .f32 0x3F800000#32)) sc) broadcasts_S1x1024_S512x1024))
      (broadcastTo S512x1024 (shapeCast S1x1024 sh shapeCasts_S1x1x1024_S1x1024) broadcasts_S1x1024_S512x1024)) bitsLt_bf16_f32 := rfl
  unfold normed
  rw [e, truncf_apply, addf_apply, mulf_apply, mulf_apply, mulf_apply]
  refine congrArg₂ (· + ·) (congrArg₂ (· * ·) (congrArg₂ (· * ·) (congrArg (x (ix2 p k) * ·) ?_) (broadcastTo_1b_ab_apply _ _ p k)) ?_) ((broadcastTo_1b_ab_apply _ _ p k).trans (row_apply sh k))
  · refine (spread_apply _ _ p k).trans ?_
    refine congrArg Ideal.rsqrt (congrArg (· + Ideal.ofBits .f32 0x358637BD#32) (congrArg (Ideal.div · (Ideal.ofBits .f32 0x44800000#32)) ?_))
    exact (shapeCast_a_a1_apply _ _ p (0 : Fin 1)).trans (squares_apply x _ _ _ _ p)
  · exact (broadcastTo_1b_ab_apply _ _ p k).trans (congrArg (· + sc (ix2 (0 : Fin 1) k)) Ideal.ofBits_one_f32)

/-! ## The output's block -/

section
variable (x0 : Vec Ideal S1x512x512 .bf16) (x1 x2 : Vec Ideal S1x512x256 .bf16) (x3 : Vec Ideal S1024x1024 .bf16) (x4 : Vec Ideal S1x512x1024 .f32) (x5 : Vec Ideal S1x1x1024 .f32)
  (x6 : Vec Ideal S1x1024 .f32) (x7 x8 : Vec Ideal S1x1x1024 .f32) (x9 x10 : Vec Ideal S1024x2816 .bf16) (x11 : Vec Ideal S2816x1024 .bf16) (x12 : Vec Ideal S1x1x1024 .f32)

/-- Row `p` of the block after the projection. -/
def residRow (p : Fin 512) (j : Fin 1024) : EReal :=
  x4 (ix3 (0 : Fin 1) p j) + x5 (ix3 (0 : Fin 1) (0 : Fin 1) j) * mixed (fun k => x0 (ix3 (0 : Fin 1) p k)) (fun k => x1 (ix3 (0 : Fin 1) p k)) (fun k => x2 (ix3 (0 : Fin 1) p k)) (fun k => x3 (ix2 k j))

theorem resid_apply (p : Fin 512) (j : Fin 1024) : k0_pay15 x0 x1 x2 x3 x4 x5 x6 x7 x8 x9 x10 x11 x12 (ix2 p j) = residRow x0 x1 x2 x3 x4 x5 p j := by
  unfold k0_pay15 residRow mixed
  refine (pay2_apply _ _ _ _ _ _ _ _ p j).trans ?_
  rw [ld_whole x0 _ _ (by decide), ld_whole x1 _ _ (by decide), ld_whole x2 _ _ (by decide), ld_whole x4 _ _ (by decide), ld_whole x5 _ _ (by decide)]
  refine congrArg (x4 (ix3 (0 : Fin 1) p j) + ·) (congrArg (x5 (ix3 (0 : Fin 1) (0 : Fin 1) j) * ·) (congrArg₂ (· + ·) (congrArg₂ (· + ·) ?_ ?_) ?_))
  · exact Finset.sum_congr rfl fun k _ => congrArg (x0 (ix3 (0 : Fin 1) p k) * ·) (ld_rows x3 0 _ k j (by omega))
  · exact Finset.sum_congr rfl fun k _ => congrArg (x1 (ix3 (0 : Fin 1) p k) * ·) (ld_rows x3 512 _ k j (by omega))
  · exact Finset.sum_congr rfl fun k _ => congrArg (x2 (ix3 (0 : Fin 1) p k) * ·) (ld_rows x3 768 _ k j (by omega))

/-- Row `p` of the block normalised. -/
def normRow (p : Fin 512) : Fin 1024 → EReal :=
  normed (residRow x0 x1 x2 x3 x4 x5 p) (fun k => x6 (ix2 (0 : Fin 1) k)) (fun k => x7 (ix3 (0 : Fin 1) (0 : Fin 1) k)) (fun k => x8 (ix3 (0 : Fin 1) (0 : Fin 1) k))

theorem norm_apply (p : Fin 512) (k : Fin 1024) : k0_pay18 x0 x1 x2 x3 x4 x5 x6 x7 x8 x9 x10 x11 x12 (ix2 p k) = normRow x0 x1 x2 x3 x4 x5 x6 x7 x8 p k := by
  unfold k0_pay18 normRow
  refine (pay5_apply _ _ _ _ p k).trans ?_
  have h15 : (fun i => k0_pay15 x0 x1 x2 x3 x4 x5 x6 x7 x8 x9 x10 x11 x12 (ix2 p i)) = residRow x0 x1 x2 x3 x4 x5 p := funext fun i => resid_apply x0 x1 x2 x3 x4 x5 x6 x7 x8 x9 x10 x11 x12 p i
  have h16 : (fun i => k0_pay16 x0 x1 x2 x3 x4 x5 x6 x7 x8 x9 x10 x11 x12 (ix2 (0 : Fin 1) i)) = fun k => x6 (ix2 (0 : Fin 1) k) := funext fun i => by
    show shapeCast S1x1024 (View.ld x6 r0_7) shapeCasts_S1x1024_S1x1024 _ = _
    rw [ld_whole x6 _ _ (by decide)]
    exact congrFun (shapeCast_self x6 _) _
  have h17 : (fun i => k0_pay17 x0 x1 x2 x3 x4 x5 x6 x7 x8 x9 x10 x11 x12 (ix2 (0 : Fin 1) i)) = fun k => x7 (ix3 (0 : Fin 1) (0 : Fin 1) k) := funext fun i => by
    show shapeCast S1x1024 (View.ld x7 r0_6) shapeCasts_S1x1x1024_S1x1024 _ = _
    rw [ld_whole x7 _ _ (by decide), row_apply]
  rw [h15, h16, h17, ld_whole x8 _ _ (by decide)]

/-- The six parts of the hidden features, added up. -/
def sixParts (xb : FVec Ideal S512x1024 .bf16) : FVec Ideal S512x1024 .f32 :=
  addf (addf (addf (addf (addf
    (downOf (n := 512) xb (View.ld x9 r0_8) (View.ld x10 r0_8) (View.ld x11 r0_9) shapeCasts_S1024x512_S1024x512 shapeCasts_S512x1024_S512x1024 bitsLt_bf16_f32)
    (downOf (n := 512) xb (View.ld x9 r0_10) (View.ld x10 r0_10) (View.ld x11 r0_11) shapeCasts_S1024x512_S1024x512 shapeCasts_S512x1024_S512x1024 bitsLt_bf16_f32))
    (downOf (n := 512) xb (View.ld x9 r0_12) (View.ld x10 r0_12) (View.ld x11 r0_13) shapeCasts_S1024x512_S1024x512 shapeCasts_S512x1024_S512x1024 bitsLt_bf16_f32))
    (downOf (n := 512) xb (View.ld x9 r0_14) (View.ld x10 r0_14) (View.ld x11 r0_15) shapeCasts_S1024x512_S1024x512 shapeCasts_S512x1024_S512x1024 bitsLt_bf16_f32))
    (downOf (n := 512) xb (View.ld x9 r0_16) (View.ld x10 r0_16) (View.ld x11 r0_17) shapeCasts_S1024x512_S1024x512 shapeCasts_S512x1024_S512x1024 bitsLt_bf16_f32))
    (downOf (n := 256) xb (View.ld x9 r0_18) (View.ld x10 r0_18) (View.ld x11 r0_19) shapeCasts_S1024x256_S1024x256 shapeCasts_S256x1024_S256x1024 bitsLt_bf16_f32)

/-- A part of the hidden features, over the whole weights. -/
theorem part_apply {n : ℕ} (xb : FVec Ideal S512x1024 .bf16) (o : ℕ) (ic) (ir) (hc) (hd) (ht) (p : Fin 512) (j : Fin 1024) (ho : o + n ≤ 2816) :
    downOf (n := n) xb (View.ld x9 (Rect.unit (s := S1024x2816) ![0, o] ![1024, n] ic)) (View.ld x10 (Rect.unit (s := S1024x2816) ![0, o] ![1024, n] ic)) (View.ld x11 (Rect.unit (s := S2816x1024) ![o, 0] ![n, 1024] ir)) hc hd ht (ix2 p j)
      = ∑ h : Fin n, gated (∑ k : Fin 1024, xb (ix2 p k) * x9 (ix2 k (⟨o + h.val, by omega⟩ : Fin 2816))) (∑ k : Fin 1024, xb (ix2 p k) * x10 (ix2 k (⟨o + h.val, by omega⟩ : Fin 2816))) * x11 (ix2 (⟨o + h.val, by omega⟩ : Fin 2816) j) := by
  refine (down_apply xb _ _ _ hc hd ht p j).trans (Finset.sum_congr rfl fun h _ => congrArg₂ (· * ·) (congrArg₂ gated ?_ ?_) (ld_rows x11 o ir h j (by omega)))
  · exact Finset.sum_congr rfl fun k _ => congrArg (xb (ix2 p k) * ·) (ld_cols x9 o ic k h (by omega))
  · exact Finset.sum_congr rfl fun k _ => congrArg (xb (ix2 p k) * ·) (ld_cols x10 o ic k h (by omega))

theorem sixParts_apply (xb : FVec Ideal S512x1024 .bf16) (p : Fin 512) (j : Fin 1024) :
    sixParts x9 x10 x11 xb (ix2 p j) = dense (fun k => xb (ix2 p k)) (fun k h => x9 (ix2 k h)) (fun k h => x10 (ix2 k h)) (fun h j => x11 (ix2 h j)) j := by
  unfold sixParts dense
  rw [addf_apply, addf_apply, addf_apply, addf_apply, addf_apply, ← sum_six]
  exact congrArg₂ (· + ·) (congrArg₂ (· + ·) (congrArg₂ (· + ·) (congrArg₂ (· + ·) (congrArg₂ (· + ·)
    (part_apply x9 x10 x11 xb 0 _ _ _ _ _ p j (by decide))
    (part_apply x9 x10 x11 xb 512 _ _ _ _ _ p j (by decide)))
    (part_apply x9 x10 x11 xb 1024 _ _ _ _ _ p j (by decide)))
    (part_apply x9 x10 x11 xb 1536 _ _ _ _ _ p j (by decide)))
    (part_apply x9 x10 x11 xb 2048 _ _ _ _ _ p j (by decide)))
    (part_apply x9 x10 x11 xb 2560 _ _ _ _ _ p j (by decide))

/-- The last payload, with the earlier ones it takes spelt out, is the six parts with the gate, added to the token. -/
theorem pay1_eq (v : FVec Ideal S512x1024 .f32) (xb : FVec Ideal S512x1024 .bf16) (g : FVec Ideal S1x1024 .f32) (a0 : FVec Ideal S512x512 .bf16)
    (ha : a0 = actOf (n := 512) xb (View.ld x9 r0_8) (View.ld x10 r0_8) shapeCasts_S1024x512_S1024x512 bitsLt_bf16_f32) :
    k0_pay1 v xb g (k0_pay10 xb (k0_pay8 xb a0 (View.ld x11 r0_9) (View.ld x9 r0_10) (View.ld x10 r0_10) (View.ld x11 r0_11)) (k0_pay9 xb (View.ld x9 r0_12) (View.ld x10 r0_12)) (View.ld x11 r0_13) (View.ld x9 r0_14) (View.ld x10 r0_14) (View.ld x11 r0_15))
        (k0_pay11 xb (View.ld x9 r0_16)) (k0_pay12 xb (View.ld x10 r0_16)) (k0_pay13 xb (View.ld x9 r0_16)) (k0_pay14 (F := Ideal)) (View.ld x11 r0_17) (View.ld x9 r0_18) (View.ld x10 r0_18) (View.ld x11 r0_19)
      = shapeCast S1x512x1024 (addf v (mulf (broadcastTo S512x1024 g broadcasts_S1x1024_S512x1024) (sixParts x9 x10 x11 xb))) shapeCasts_S512x1024_S1x512x1024 := by
  subst ha; rfl

/-- An element of the output's block. -/
theorem out_apply (p : Fin 512) (j : Fin 1024) :
    out0_13 x0 x1 x2 x3 x4 x5 x6 x7 x8 x9 x10 x11 x12 (ix3 (0 : Fin 1) p j)
      = residRow x0 x1 x2 x3 x4 x5 p j + x12 (ix3 (0 : Fin 1) (0 : Fin 1) j) *
        dense (normRow x0 x1 x2 x3 x4 x5 x6 x7 x8 p) (fun k h => x9 (ix2 k h)) (fun k h => x10 (ix2 k h)) (fun h j => x11 (ix2 h j)) j := by
  unfold out0_13
  rw [View.canon_cons_unit_lit (S := S1x512x1024) (off := ![0, 0, 0]) inb_S1x512x1024_S1x512x1024_0_0_0 _ [] (by decide)]
  rw [pay1_eq x9 x10 x11 _ _ _ _ (by unfold k0_pay18; rfl)]
  refine (shapeCast_ab_1ab_apply _ _ _ _ _).trans ?_
  rw [addf_apply, mulf_apply, sixParts_apply]
  refine congrArg₂ (· + ·) (resid_apply x0 x1 x2 x3 x4 x5 x6 x7 x8 x9 x10 x11 x12 p j) (congrArg₂ (· * ·) ?_ ?_)
  · refine (broadcastTo_1b_ab_apply _ _ p j).trans ?_
    show shapeCast S1x1024 (View.ld x12 r0_6) shapeCasts_S1x1x1024_S1x1024 _ = _
    rw [ld_whole x12 _ _ (by decide), row_apply]
  · exact congrArg (fun r => dense r (fun k h => x9 (ix2 k h)) (fun k h => x10 (ix2 k h)) (fun h j => x11 (ix2 h j)) j) (funext fun k => norm_apply x0 x1 x2 x3 x4 x5 x6 x7 x8 x9 x10 x11 x12 p k)

end

end Cert.Proof.DenseI

end
-- ==== Proof.DenseBlocks.lean ====
/-
  The fourth program's blocks at the ideal values, element by element: which elements of the arguments a point reads.
-/
module

public import proofs.«01_k».proof.Proof.DenseTerms
public import Idealize.ShloMosaic.Lib.StableHlo.Run

@[expose] public section

set_option maxRecDepth 16384

noncomputable section

namespace Cert.Proof.DenseI

open Cert.DenseIdeal Cert.DenseIdeal.Gen
open Idealize.ShloMosaic Idealize.ShloMosaic.ValueIdx Idealize.ShloMosaic.TcCoe Idealize.ShloMosaic.StableHlo Cert.Proof.MoeMath Cert.Proof.DenseMath

variable (m : (ℓ : Loc nD τ sig) → Buf (Elt Ideal) ℓ)

/-! ## The rounded weights are the weights, and the normalisation's weight is a row -/

theorem V_main_v0 (c : Dev nD) : V m c main_v0 = m ((c.tc : Thread nD τ).loc main_arg3) := by
  show after hostOps0 (fun b => m (c, b)) (Proc.devRef .tc main_v0) = _
  after_results
  rfl
theorem V_main_v2 (c : Dev nD) : V m c main_v2 = m ((c.tc : Thread nD τ).loc main_arg9) := by
  show after hostOps0 (fun b => m (c, b)) (Proc.devRef .tc main_v2) = _
  after_results
  rfl
theorem V_main_v3 (c : Dev nD) : V m c main_v3 = m ((c.tc : Thread nD τ).loc main_arg10) := by
  show after hostOps0 (fun b => m (c, b)) (Proc.devRef .tc main_v3) = _
  after_results
  rfl
theorem V_main_v4 (c : Dev nD) : V m c main_v4 = m ((c.tc : Thread nD τ).loc main_arg11) := by
  show after hostOps0 (fun b => m (c, b)) (Proc.devRef .tc main_v4) = _
  after_results
  rfl
theorem V_main_v1 (c : Dev nD) : V m c main_v1 = shapeCast S1x1024 (m ((c.tc : Thread nD τ).loc main_arg6) : Vec Ideal S1024 .f32) shapeCasts_S1024_S1x1024 := by
  show after hostOps0 (fun b => m (c, b)) (Proc.devRef .tc main_v1) = _
  after_results
  rfl

theorem V_main_v1_apply (c : Dev nD) (k : Fin 1024) : (V m c main_v1 : Vec Ideal S1x1024 .f32) (ix2 (0 : Fin 1) k) = (m ((c.tc : Thread nD τ).loc main_arg6) : Vec Ideal S1024 .f32) (ix1 k) :=
  (congrFun (V_main_v1 m c) _).trans (shapeCast_apply _ _ _ (ix1 k) (by
    rw [Shape.rowMajor_val_one, Shape.rowMajor_val_two]
    show k.val = 0 * 1024 + k.val; omega))

/-! ## The grid's points -/

theorem batch_at (t : Fin grid0.N) : (grid0.coords t 0).val = t.val / 16 := by
  have ht : t.val < 32 := Nat.lt_of_lt_of_eq t.isLt (by decide)
  have e0 : (grid0.coords t 0).val = t.val / 16 % 2 := Pipeline.Grid.coords_val t 0 (by decide) rfl
  rw [e0]; omega

theorem span_at (t : Fin grid0.N) : (grid0.coords t 1).val = t.val % 16 := by
  have e1 : (grid0.coords t 1).val = t.val / 1 % 16 := Pipeline.Grid.coords_val t 1 (by decide) rfl
  rw [e1, Nat.div_one]

theorem batch_word (t : Fin grid0.N) : (BitVec.ofNat 32 (grid0.coords t 0).val).toNat = t.val / 16 := by
  have ht : t.val < 32 := Nat.lt_of_lt_of_eq t.isLt (by decide)
  rw [batch_at t, BitVec.toNat_ofNat]; omega

theorem span_word (t : Fin grid0.N) : (BitVec.ofNat 32 (grid0.coords t 1).val).toNat = t.val % 16 := by
  have ht : t.val < 32 := Nat.lt_of_lt_of_eq t.isLt (by decide)
  rw [span_at t, BitVec.toNat_ofNat]; omega

/-- Where a block of a batch's tokens lies, and where a batch's row does. -/
theorem tok_index (t : Fin grid0.N) : (![(BitVec.ofNat 32 (grid0.coords t 0).val).toNat, (BitVec.ofNat 32 (grid0.coords t 1).val).toNat, (0#32 : BitVec 32).toNat] : Fin 3 → ℕ) = ![t.val / 16, t.val % 16, 0] := by
  rw [batch_word, span_word]; rfl

theorem row_index (t : Fin grid0.N) : (![(BitVec.ofNat 32 (grid0.coords t 0).val).toNat, (0#32 : BitVec 32).toNat, (0#32 : BitVec 32).toNat] : Fin 3 → ℕ) = ![t.val / 16, 0, 0] := by
  rw [batch_word]; rfl

/-! ## The blocks -/

theorem index_0 (t : Fin cfg0.N) : (cfg0.win 0).index t = (![t.val / 16, t.val % 16, 0] : Fin 3 → ℕ) := tok_index t

theorem emb_0 (t : Fin cfg0.N) (y : S1x512x512.Idx) (a : Fin 3) : (((cfg0.win 0).blk t).view.emb y a : ℕ) = (![t.val / 16, t.val % 16, 0] : Fin 3 → ℕ) a * S1x512x512.size a + (y a).val :=
  (Pipeline.Window.rect_emb_val (cfg0.win 0) t y a).trans (congrArg (fun n => n * S1x512x512.size a + (y a).val) (congrFun (index_0 t) a))

theorem blk_0 (c : Dev nD) (t : Fin cfg0.N) (p : Fin 512) (k : Fin 512) (b : Fin 2) (s : Fin 8192) (hb : b.val = t.val / 16) (hs : s.val = t.val % 16 * 512 + p.val) :
    (iblk m c 0 t : Vec Ideal S1x512x512 .bf16) (ix3 (0 : Fin 1) p k) = m ((c.tc : Thread nD τ).loc main_arg0) (ix3 b s k) := by
  show V m c main_arg0 _ = _
  rw [V_main_arg0]
  refine congrArg _ (funext fun a => Fin.ext ?_)
  match a with
  | ⟨0, _⟩ =>
    refine (emb_0 t _ (0 : Fin 3)).trans ?_
    show t.val / 16 * 1 + 0 = b.val; omega
  | ⟨1, _⟩ =>
    refine (emb_0 t _ (1 : Fin 3)).trans ?_
    exact hs.symm
  | ⟨2, _⟩ =>
    refine (emb_0 t _ (2 : Fin 3)).trans ?_
    show 0 * 512 + k.val = k.val; omega

theorem index_1 (t : Fin cfg0.N) : (cfg0.win 1).index t = (![t.val / 16, t.val % 16, 0] : Fin 3 → ℕ) := tok_index t

theorem emb_1 (t : Fin cfg0.N) (y : S1x512x256.Idx) (a : Fin 3) : (((cfg0.win 1).blk t).view.emb y a : ℕ) = (![t.val / 16, t.val % 16, 0] : Fin 3 → ℕ) a * S1x512x256.size a + (y a).val :=
  (Pipeline.Window.rect_emb_val (cfg0.win 1) t y a).trans (congrArg (fun n => n * S1x512x256.size a + (y a).val) (congrFun (index_1 t) a))

theorem blk_1 (c : Dev nD) (t : Fin cfg0.N) (p : Fin 512) (k : Fin 256) (b : Fin 2) (s : Fin 8192) (hb : b.val = t.val / 16) (hs : s.val = t.val % 16 * 512 + p.val) :
    (iblk m c 1 t : Vec Ideal S1x512x256 .bf16) (ix3 (0 : Fin 1) p k) = m ((c.tc : Thread nD τ).loc main_arg1) (ix3 b s k) := by
  show V m c main_arg1 _ = _
  rw [V_main_arg1]
  refine congrArg _ (funext fun a => Fin.ext ?_)
  match a with
  | ⟨0, _⟩ =>
    refine (emb_1 t _ (0 : Fin 3)).trans ?_
    show t.val / 16 * 1 + 0 = b.val; omega
  | ⟨1, _⟩ =>
    refine (emb_1 t _ (1 : Fin 3)).trans ?_
    exact hs.symm
  | ⟨2, _⟩ =>
    refine (emb_1 t _ (2 : Fin 3)).trans ?_
    show 0 * 256 + k.val = k.val; omega

theorem index_2 (t : Fin cfg0.N) : (cfg0.win 2).index t = (![t.val / 16, t.val % 16, 0] : Fin 3 → ℕ) := tok_index t

theorem emb_2 (t : Fin cfg0.N) (y : S1x512x256.Idx) (a : Fin 3) : (((cfg0.win 2).blk t).view.emb y a : ℕ) = (![t.val / 16, t.val % 16, 0] : Fin 3 → ℕ) a * S1x512x256.size a + (y a).val :=
  (Pipeline.Window.rect_emb_val (cfg0.win 2) t y a).trans (congrArg (fun n => n * S1x512x256.size a + (y a).val) (congrFun (index_2 t) a))

theorem blk_2 (c : Dev nD) (t : Fin cfg0.N) (p : Fin 512) (k : Fin 256) (b : Fin 2) (s : Fin 8192) (hb : b.val = t.val / 16) (hs : s.val = t.val % 16 * 512 + p.val) :
    (iblk m c 2 t : Vec Ideal S1x512x256 .bf16) (ix3 (0 : Fin 1) p k) = m ((c.tc : Thread nD τ).loc main_arg2) (ix3 b s k) := by
  show V m c main_arg2 _ = _
  rw [V_main_arg2]
  refine congrArg _ (funext fun a => Fin.ext ?_)
  match a with
  | ⟨0, _⟩ =>
    refine (emb_2 t _ (0 : Fin 3)).trans ?_
    show t.val / 16 * 1 + 0 = b.val; omega
  | ⟨1, _⟩ =>
    refine (emb_2 t _ (1 : Fin 3)).trans ?_
    exact hs.symm
  | ⟨2, _⟩ =>
    refine (emb_2 t _ (2 : Fin 3)).trans ?_
    show 0 * 256 + k.val = k.val; omega

theorem index_3 (t : Fin cfg0.N) : (cfg0.win 3).index t = (![0, 0] : Fin 2 → ℕ) := rfl

theorem emb_3 (t : Fin cfg0.N) (y : S1024x1024.Idx) (a : Fin 2) : (((cfg0.win 3).blk t).view.emb y a : ℕ) = (![0, 0] : Fin 2 → ℕ) a * S1024x1024.size a + (y a).val :=
  (Pipeline.Window.rect_emb_val (cfg0.win 3) t y a).trans (congrArg (fun n => n * S1024x1024.size a + (y a).val) (congrFun (index_3 t) a))

theorem blk_3 (c : Dev nD) (t : Fin cfg0.N) (i : Fin 1024) (k : Fin 1024) :
    (iblk m c 3 t : Vec Ideal S1024x1024 .bf16) (ix2 i k) = m ((c.tc : Thread nD τ).loc main_arg3) (ix2 i k) := by
  show V m c main_v0 _ = _
  rw [V_main_v0]
  refine congrArg _ (funext fun a => Fin.ext ?_)
  match a with
  | ⟨0, _⟩ =>
    refine (emb_3 t _ (0 : Fin 2)).trans ?_
    show 0 * 1024 + i.val = i.val; omega
  | ⟨1, _⟩ =>
    refine (emb_3 t _ (1 : Fin 2)).trans ?_
    show 0 * 1024 + k.val = k.val; omega

theorem index_4 (t : Fin cfg0.N) : (cfg0.win 4).index t = (![t.val / 16, t.val % 16, 0] : Fin 3 → ℕ) := tok_index t

theorem emb_4 (t : Fin cfg0.N) (y : S1x512x1024.Idx) (a : Fin 3) : (((cfg0.win 4).blk t).view.emb y a : ℕ) = (![t.val / 16, t.val % 16, 0] : Fin 3 → ℕ) a * S1x512x1024.size a + (y a).val :=
  (Pipeline.Window.rect_emb_val (cfg0.win 4) t y a).trans (congrArg (fun n => n * S1x512x1024.size a + (y a).val) (congrFun (index_4 t) a))

theorem blk_4 (c : Dev nD) (t : Fin cfg0.N) (p : Fin 512) (k : Fin 1024) (b : Fin 2) (s : Fin 8192) (hb : b.val = t.val / 16) (hs : s.val = t.val % 16 * 512 + p.val) :
    (iblk m c 4 t : Vec Ideal S1x512x1024 .f32) (ix3 (0 : Fin 1) p k) = m ((c.tc : Thread nD τ).loc main_arg4) (ix3 b s k) := by
  show V m c main_arg4 _ = _
  rw [V_main_arg4]
  refine congrArg _ (funext fun a => Fin.ext ?_)
  match a with
  | ⟨0, _⟩ =>
    refine (emb_4 t _ (0 : Fin 3)).trans ?_
    show t.val / 16 * 1 + 0 = b.val; omega
  | ⟨1, _⟩ =>
    refine (emb_4 t _ (1 : Fin 3)).trans ?_
    exact hs.symm
  | ⟨2, _⟩ =>
    refine (emb_4 t _ (2 : Fin 3)).trans ?_
    show 0 * 1024 + k.val = k.val; omega

theorem index_5 (t : Fin cfg0.N) : (cfg0.win 5).index t = (![t.val / 16, 0, 0] : Fin 3 → ℕ) := row_index t

theorem emb_5 (t : Fin cfg0.N) (y : S1x1x1024.Idx) (a : Fin 3) : (((cfg0.win 5).blk t).view.emb y a : ℕ) = (![t.val / 16, 0, 0] : Fin 3 → ℕ) a * S1x1x1024.size a + (y a).val :=
  (Pipeline.Window.rect_emb_val (cfg0.win 5) t y a).trans (congrArg (fun n => n * S1x1x1024.size a + (y a).val) (congrFun (index_5 t) a))

theorem blk_5 (c : Dev nD) (t : Fin cfg0.N) (k : Fin 1024) (b : Fin 2) (hb : b.val = t.val / 16) :
    (iblk m c 5 t : Vec Ideal S1x1x1024 .f32) (ix3 (0 : Fin 1) (0 : Fin 1) k) = m ((c.tc : Thread nD τ).loc main_arg5) (ix3 b (0 : Fin 1) k) := by
  show V m c main_arg5 _ = _
  rw [V_main_arg5]
  refine congrArg _ (funext fun a => Fin.ext ?_)
  match a with
  | ⟨0, _⟩ =>
    refine (emb_5 t _ (0 : Fin 3)).trans ?_
    show t.val / 16 * 1 + 0 = b.val; omega
  | ⟨1, _⟩ =>
    refine (emb_5 t _ (1 : Fin 3)).trans ?_
    rfl
  | ⟨2, _⟩ =>
    refine (emb_5 t _ (2 : Fin 3)).trans ?_
    show 0 * 1024 + k.val = k.val; omega

theorem index_6 (t : Fin cfg0.N) : (cfg0.win 6).index t = (![0, 0] : Fin 2 → ℕ) := rfl

theorem emb_6 (t : Fin cfg0.N) (y : S1x1024.Idx) (a : Fin 2) : (((cfg0.win 6).blk t).view.emb y a : ℕ) = (![0, 0] : Fin 2 → ℕ) a * S1x1024.size a + (y a).val :=
  (Pipeline.Window.rect_emb_val (cfg0.win 6) t y a).trans (congrArg (fun n => n * S1x1024.size a + (y a).val) (congrFun (index_6 t) a))

theorem blk_6 (c : Dev nD) (t : Fin cfg0.N) (k : Fin 1024) :
    (iblk m c 6 t : Vec Ideal S1x1024 .f32) (ix2 (0 : Fin 1) k) = (m ((c.tc : Thread nD τ).loc main_arg6) : Vec Ideal S1024 .f32) (ix1 k) := by
  refine Eq.trans ?_ (V_main_v1_apply m c k)
  show V m c main_v1 _ = _
  refine congrArg _ (funext fun a => Fin.ext ?_)
  match a with
  | ⟨0, _⟩ =>
    refine (emb_6 t _ (0 : Fin 2)).trans ?_
    rfl
  | ⟨1, _⟩ =>
    refine (emb_6 t _ (1 : Fin 2)).trans ?_
    show 0 * 1024 + k.val = k.val; omega

theorem index_7 (t : Fin cfg0.N) : (cfg0.win 7).index t = (![t.val / 16, 0, 0] : Fin 3 → ℕ) := row_index t

theorem emb_7 (t : Fin cfg0.N) (y : S1x1x1024.Idx) (a : Fin 3) : (((cfg0.win 7).blk t).view.emb y a : ℕ) = (![t.val / 16, 0, 0] : Fin 3 → ℕ) a * S1x1x1024.size a + (y a).val :=
  (Pipeline.Window.rect_emb_val (cfg0.win 7) t y a).trans (congrArg (fun n => n * S1x1x1024.size a + (y a).val) (congrFun (index_7 t) a))

theorem blk_7 (c : Dev nD) (t : Fin cfg0.N) (k : Fin 1024) (b : Fin 2) (hb : b.val = t.val / 16) :
    (iblk m c 7 t : Vec Ideal S1x1x1024 .f32) (ix3 (0 : Fin 1) (0 : Fin 1) k) = m ((c.tc : Thread nD τ).loc main_arg7) (ix3 b (0 : Fin 1) k) := by
  show V m c main_arg7 _ = _
  rw [V_main_arg7]
  refine congrArg _ (funext fun a => Fin.ext ?_)
  match a with
  | ⟨0, _⟩ =>
    refine (emb_7 t _ (0 : Fin 3)).trans ?_
    show t.val / 16 * 1 + 0 = b.val; omega
  | ⟨1, _⟩ =>
    refine (emb_7 t _ (1 : Fin 3)).trans ?_
    rfl
  | ⟨2, _⟩ =>
    refine (emb_7 t _ (2 : Fin 3)).trans ?_
    show 0 * 1024 + k.val = k.val; omega

theorem index_8 (t : Fin cfg0.N) : (cfg0.win 8).index t = (![t.val / 16, 0, 0] : Fin 3 → ℕ) := row_index t

theorem emb_8 (t : Fin cfg0.N) (y : S1x1x1024.Idx) (a : Fin 3) : (((cfg0.win 8).blk t).view.emb y a : ℕ) = (![t.val / 16, 0, 0] : Fin 3 → ℕ) a * S1x1x1024.size a + (y a).val :=
  (Pipeline.Window.rect_emb_val (cfg0.win 8) t y a).trans (congrArg (fun n => n * S1x1x1024.size a + (y a).val) (congrFun (index_8 t) a))

theorem blk_8 (c : Dev nD) (t : Fin cfg0.N) (k : Fin 1024) (b : Fin 2) (hb : b.val = t.val / 16) :
    (iblk m c 8 t : Vec Ideal S1x1x1024 .f32) (ix3 (0 : Fin 1) (0 : Fin 1) k) = m ((c.tc : Thread nD τ).loc main_arg8) (ix3 b (0 : Fin 1) k) := by
  show V m c main_arg8 _ = _
  rw [V_main_arg8]
  refine congrArg _ (funext fun a => Fin.ext ?_)
  match a with
  | ⟨0, _⟩ =>
    refine (emb_8 t _ (0 : Fin 3)).trans ?_
    show t.val / 16 * 1 + 0 = b.val; omega
  | ⟨1, _⟩ =>
    refine (emb_8 t _ (1 : Fin 3)).trans ?_
    rfl
  | ⟨2, _⟩ =>
    refine (emb_8 t _ (2 : Fin 3)).trans ?_
    show 0 * 1024 + k.val = k.val; omega

theorem index_9 (t : Fin cfg0.N) : (cfg0.win 9).index t = (![0, 0] : Fin 2 → ℕ) := rfl

theorem emb_9 (t : Fin cfg0.N) (y : S1024x2816.Idx) (a : Fin 2) : (((cfg0.win 9).blk t).view.emb y a : ℕ) = (![0, 0] : Fin 2 → ℕ) a * S1024x2816.size a + (y a).val :=
  (Pipeline.Window.rect_emb_val (cfg0.win 9) t y a).trans (congrArg (fun n => n * S1024x2816.size a + (y a).val) (congrFun (index_9 t) a))

theorem blk_9 (c : Dev nD) (t : Fin cfg0.N) (i : Fin 1024) (k : Fin 2816) :
    (iblk m c 9 t : Vec Ideal S1024x2816 .bf16) (ix2 i k) = m ((c.tc : Thread nD τ).loc main_arg9) (ix2 i k) := by
  show V m c main_v2 _ = _
  rw [V_main_v2]
  refine congrArg _ (funext fun a => Fin.ext ?_)
  match a with
  | ⟨0, _⟩ =>
    refine (emb_9 t _ (0 : Fin 2)).trans ?_
    show 0 * 1024 + i.val = i.val; omega
  | ⟨1, _⟩ =>
    refine (emb_9 t _ (1 : Fin 2)).trans ?_
    show 0 * 2816 + k.val = k.val; omega

theorem index_10 (t : Fin cfg0.N) : (cfg0.win 10).index t = (![0, 0] : Fin 2 → ℕ) := rfl

theorem emb_10 (t : Fin cfg0.N) (y : S1024x2816.Idx) (a : Fin 2) : (((cfg0.win 10).blk t).view.emb y a : ℕ) = (![0, 0] : Fin 2 → ℕ) a * S1024x2816.size a + (y a).val :=
  (Pipeline.Window.rect_emb_val (cfg0.win 10) t y a).trans (congrArg (fun n => n * S1024x2816.size a + (y a).val) (congrFun (index_10 t) a))

theorem blk_10 (c : Dev nD) (t : Fin cfg0.N) (i : Fin 1024) (k : Fin 2816) :
    (iblk m c 10 t : Vec Ideal S1024x2816 .bf16) (ix2 i k) = m ((c.tc : Thread nD τ).loc main_arg10) (ix2 i k) := by
  show V m c main_v3 _ = _
  rw [V_main_v3]
  refine congrArg _ (funext fun a => Fin.ext ?_)
  match a with
  | ⟨0, _⟩ =>
    refine (emb_10 t _ (0 : Fin 2)).trans ?_
    show 0 * 1024 + i.val = i.val; omega
  | ⟨1, _⟩ =>
    refine (emb_10 t _ (1 : Fin 2)).trans ?_
    show 0 * 2816 + k.val = k.val; omega

theorem index_11 (t : Fin cfg0.N) : (cfg0.win 11).index t = (![0, 0] : Fin 2 → ℕ) := rfl

theorem emb_11 (t : Fin cfg0.N) (y : S2816x1024.Idx) (a : Fin 2) : (((cfg0.win 11).blk t).view.emb y a : ℕ) = (![0, 0] : Fin 2 → ℕ) a * S2816x1024.size a + (y a).val :=
  (Pipeline.Window.rect_emb_val (cfg0.win 11) t y a).trans (congrArg (fun n => n * S2816x1024.size a + (y a).val) (congrFun (index_11 t) a))

theorem blk_11 (c : Dev nD) (t : Fin cfg0.N) (i : Fin 2816) (k : Fin 1024) :
    (iblk m c 11 t : Vec Ideal S2816x1024 .bf16) (ix2 i k) = m ((c.tc : Thread nD τ).loc main_arg11) (ix2 i k) := by
  show V m c main_v4 _ = _
  rw [V_main_v4]
  refine congrArg _ (funext fun a => Fin.ext ?_)
  match a with
  | ⟨0, _⟩ =>
    refine (emb_11 t _ (0 : Fin 2)).trans ?_
    show 0 * 2816 + i.val = i.val; omega
  | ⟨1, _⟩ =>
    refine (emb_11 t _ (1 : Fin 2)).trans ?_
    show 0 * 1024 + k.val = k.val; omega

theorem index_12 (t : Fin cfg0.N) : (cfg0.win 12).index t = (![t.val / 16, 0, 0] : Fin 3 → ℕ) := row_index t

theorem emb_12 (t : Fin cfg0.N) (y : S1x1x1024.Idx) (a : Fin 3) : (((cfg0.win 12).blk t).view.emb y a : ℕ) = (![t.val / 16, 0, 0] : Fin 3 → ℕ) a * S1x1x1024.size a + (y a).val :=
  (Pipeline.Window.rect_emb_val (cfg0.win 12) t y a).trans (congrArg (fun n => n * S1x1x1024.size a + (y a).val) (congrFun (index_12 t) a))

theorem blk_12 (c : Dev nD) (t : Fin cfg0.N) (k : Fin 1024) (b : Fin 2) (hb : b.val = t.val / 16) :
    (iblk m c 12 t : Vec Ideal S1x1x1024 .f32) (ix3 (0 : Fin 1) (0 : Fin 1) k) = m ((c.tc : Thread nD τ).loc main_arg12) (ix3 b (0 : Fin 1) k) := by
  show V m c main_arg12 _ = _
  rw [V_main_arg12]
  refine congrArg _ (funext fun a => Fin.ext ?_)
  match a with
  | ⟨0, _⟩ =>
    refine (emb_12 t _ (0 : Fin 3)).trans ?_
    show t.val / 16 * 1 + 0 = b.val; omega
  | ⟨1, _⟩ =>
    refine (emb_12 t _ (1 : Fin 3)).trans ?_
    rfl
  | ⟨2, _⟩ =>
    refine (emb_12 t _ (2 : Fin 3)).trans ?_
    show 0 * 1024 + k.val = k.val; omega

end Cert.Proof.DenseI

end
-- ==== Proof.DenseArray.lean ====
/-
  The fourth program's result after the run, at the ideal values: the projection and the dense layer of every token.
-/
module

public import proofs.«01_k».proof.Proof.DenseBlocks

@[expose] public section

set_option maxRecDepth 16384

noncomputable section

namespace Cert.Proof.DenseI

open Cert.DenseIdeal Cert.DenseIdeal.Gen
open Idealize.ShloMosaic Idealize.ShloMosaic.ValueIdx Idealize.ShloMosaic.TcCoe Idealize.SL.Sem Cert.Proof.MoeMath Cert.Proof.DenseMath
open Idealize.ShloMosaic.Pipeline (Dat)
open scoped BigOperators

variable (m : (ℓ : Loc nD τ sig) → Buf (Elt Ideal) ℓ)

/-- A token's feature after the projection, of the arguments. -/
def residOf (b : Fin 2) (s : Fin 8192) (j : Fin 1024) : EReal :=
  resid (m (((0 : Dev nD).tc : Thread nD τ).loc main_arg0)) (m (((0 : Dev nD).tc : Thread nD τ).loc main_arg1)) (m (((0 : Dev nD).tc : Thread nD τ).loc main_arg2))
    (m (((0 : Dev nD).tc : Thread nD τ).loc main_arg3)) (m (((0 : Dev nD).tc : Thread nD τ).loc main_arg4)) (m (((0 : Dev nD).tc : Thread nD τ).loc main_arg5)) b s j

/-- A token's feature after the dense layer, of the arguments. -/
def denseOf (b : Fin 2) (s : Fin 8192) (j : Fin 1024) : EReal :=
  outOf (m (((0 : Dev nD).tc : Thread nD τ).loc main_arg0)) (m (((0 : Dev nD).tc : Thread nD τ).loc main_arg1)) (m (((0 : Dev nD).tc : Thread nD τ).loc main_arg2))
    (m (((0 : Dev nD).tc : Thread nD τ).loc main_arg3)) (m (((0 : Dev nD).tc : Thread nD τ).loc main_arg4)) (m (((0 : Dev nD).tc : Thread nD τ).loc main_arg5))
    (m (((0 : Dev nD).tc : Thread nD τ).loc main_arg6)) (m (((0 : Dev nD).tc : Thread nD τ).loc main_arg7)) (m (((0 : Dev nD).tc : Thread nD τ).loc main_arg8))
    (m (((0 : Dev nD).tc : Thread nD τ).loc main_arg9)) (m (((0 : Dev nD).tc : Thread nD τ).loc main_arg10)) (m (((0 : Dev nD).tc : Thread nD τ).loc main_arg11))
    (m (((0 : Dev nD).tc : Thread nD τ).loc main_arg12)) b s j

theorem resid_blk (t : Fin cfg0.N) (p : Fin 512) (b : Fin 2) (s : Fin 8192) (hb : b.val = t.val / 16) (hs : s.val = t.val % 16 * 512 + p.val) (j : Fin 1024) :
    residRow (iblk m 0 0 t) (iblk m 0 1 t) (iblk m 0 2 t) (iblk m 0 3 t) (iblk m 0 4 t) (iblk m 0 5 t) p j = residOf m b s j := by
  unfold residRow residOf resid
  have e0 := funext fun k => blk_0 m 0 t p k b s hb hs
  have e1 := funext fun k => blk_1 m 0 t p k b s hb hs
  have e2 := funext fun k => blk_2 m 0 t p k b s hb hs
  have e3 := funext fun k => blk_3 m 0 t k j
  refine congrArg₂ (· + ·) (blk_4 m 0 t p j b s hb hs) (congrArg₂ (· * ·) (blk_5 m 0 t j b hb) ?_)
  exact congr (congr (congr (congrArg mixed e0) e1) e2) e3

/-- What a point leaves in the output's block. -/
theorem out_blk (t : Fin cfg0.N) (p : Fin 512) (j : Fin 1024) (b : Fin 2) (s : Fin 8192) (hb : b.val = t.val / 16) (hs : s.val = t.val % 16 * 512 + p.val) :
    (dats m 0 0).after 13 t (ix3 (0 : Fin 1) p j : S1x512x1024.Idx) = denseOf m b s j := by
  refine (congrFun (after0_13 m 0 t) _).trans ?_
  refine (out_apply _ _ _ _ _ _ _ _ _ _ _ _ _ p j).trans ?_
  have er := funext fun j => resid_blk m t p b s hb hs j
  have e6 := funext fun k => blk_6 m 0 t k
  have e7 := funext fun k => blk_7 m 0 t k b hb
  have e8 := funext fun k => blk_8 m 0 t k b hb
  have en := congr (congr (congr (congrArg normed er) e6) e7) e8
  have e9 := funext fun k => funext fun h => blk_9 m 0 t k h
  have e10 := funext fun k => funext fun h => blk_10 m 0 t k h
  have e11 := funext fun h => funext fun j => blk_11 m 0 t h j
  exact congrArg₂ (· + ·) (congrFun er j) (congrArg₂ (· * ·) (blk_12 m 0 t j b hb) (congrFun (congr (congr (congr (congrArg dense en) e9) e10) e11) j))

/-- Where the output's block lies. -/
theorem index_13 (t : Fin cfg0.N) : (cfg0.win 13).index t = (![t.val / 16, t.val % 16, 0] : Fin 3 → ℕ) := tok_index t

theorem emb_13 (t : Fin cfg0.N) (y : S1x512x1024.Idx) (a : Fin 3) :
    (((cfg0.win 13).blk t).view.emb y a : ℕ) = (![t.val / 16, t.val % 16, 0] : Fin 3 → ℕ) a * S1x512x1024.size a + (y a).val :=
  (Pipeline.Window.rect_emb_val (cfg0.win 13) t y a).trans (congrArg (fun n => n * S1x512x1024.size a + (y a).val) (congrFun (index_13 t) a))

/-- An element of the result holds its token's feature. -/
def Holds (i : S2x8192x1024.Idx) (v : EReal) : Prop :=
  ∀ (b : Fin 2) (s : Fin 8192) (j : Fin 1024), (i 0).val = b.val → (i 1).val = s.val → (i 2).val = j.val → v = denseOf m b s j

theorem holds_after (t : Fin cfg0.N) (y : S1x512x1024.Idx) : Holds m (((cfg0.win 13).blk t).view.emb y) ((dats m 0 0).after 13 t y) := by
  intro b s j h0 h1 h2
  have e0 : t.val / 16 * 1 + (y 0).val = b.val := (emb_13 t y 0).symm.trans h0
  have e1 : t.val % 16 * 512 + (y 1).val = s.val := (emb_13 t y 1).symm.trans h1
  have e2 : 0 * 1024 + (y 2).val = j.val := (emb_13 t y 2).symm.trans h2
  have hy0 : (y 0).val < 1 := (y 0).isLt
  have hy1 : (y 1).val < 512 := (y 1).isLt
  have ey : y = ix3 (0 : Fin 1) (⟨(y 1).val, hy1⟩ : Fin 512) j := funext fun a => Fin.ext (by
    match a with
    | ⟨0, _⟩ => show (y 0).val = 0; omega
    | ⟨1, _⟩ => rfl
    | ⟨2, _⟩ => show (y 2).val = j.val; omega)
  exact (congrArg ((dats m 0 0).after 13 t) ey).trans (out_blk m t (⟨(y 1).val, hy1⟩ : Fin 512) j b s (by omega) e1.symm)

/-- Every element of the result is under a block written back. -/
theorem covered (i : S2x8192x1024.Idx) : ∃ t : Fin cfg0.N, (cfg0.win 13).flush t = true ∧ i ∈ ((cfg0.win 13).blk t).view.set := by
  have hi0 : (i 0).val < 2 := (i 0).isLt
  have hi1 : (i 1).val < 8192 := (i 1).isLt
  have hi2 : (i 2).val < 1024 := (i 2).isLt
  have hN : cfg0.N = 32 := by decide
  refine ⟨⟨(i 0).val * 16 + (i 1).val / 512, by rw [hN]; omega⟩, flush0_13 _, ?_⟩
  generalize ht : (⟨(i 0).val * 16 + (i 1).val / 512, _⟩ : Fin cfg0.N) = t
  have htv : t.val = (i 0).val * 16 + (i 1).val / 512 := by rw [← ht]
  have e : ((cfg0.win 13).blk t).view.emb (ix3 (0 : Fin 1) (⟨(i 1).val % 512, by omega⟩ : Fin 512) (⟨(i 2).val, hi2⟩ : Fin 1024) : S1x512x1024.Idx) = i := by
    refine funext fun a => Fin.ext ?_
    match a with
    | ⟨0, _⟩ =>
      refine (emb_13 t _ 0).trans ?_
      show t.val / 16 * 1 + 0 = (i 0).val
      omega
    | ⟨1, _⟩ =>
      refine (emb_13 t _ 1).trans ?_
      show t.val % 16 * 512 + (i 1).val % 512 = (i 1).val
      omega
    | ⟨2, _⟩ =>
      refine (emb_13 t _ 2).trans ?_
      show 0 * 1024 + (i 2).val = (i 2).val
      omega
  exact e ▸ View.emb_mem_set _ _

theorem final_holds (i : S2x8192x1024.Idx) : Holds m i ((dats m 0 0).arrAt 13 cfg0.N i) := by
  obtain ⟨t, hf, hm⟩ := covered i
  exact Dat.arrAt_forall_of_flushed (dats m 0 0) 13 (Holds m) (fun t _ y => holds_after m t y) cfg0.N t i t.isLt hf hm

end Cert.Proof.DenseI

end
-- ==== Proof.DenseReference.lean ====
/-
  The fourth program's reference at the ideal values, element by element: the projection and the dense layer of every token.
-/
module

public import proofs.«01_k».proof.Proof.Gen.DenseReferenceIdeal.Run
public import proofs.«01_k».proof.Proof.DenseSpec
public import Idealize.ShloMosaic.Lib.IdealHost

@[expose] public section

set_option maxRecDepth 16384

noncomputable section

namespace Cert.Proof.DenseR

open Cert.DenseReferenceIdeal Cert.DenseReferenceIdeal.Gen
open Idealize.ShloMosaic Idealize.ShloMosaic.ValueIdx Idealize.ShloMosaic.TcCoe Cert.Proof.MoeMath Cert.Proof.DenseMath
open scoped BigOperators

section parts

variable (att : FVec Ideal S2x8192x512 .bf16) (ret cnv : FVec Ideal S2x8192x256 .bf16) (wo : FVec Ideal S1024x1024 .f32) (x : FVec Ideal S2x8192x1024 .f32)
  (g1 : FVec Ideal S2x1x1024 .f32) (nw : FVec Ideal S1024 .f32) (sc sh : FVec Ideal S2x1x1024 .f32) (wg wu : FVec Ideal S1024x2816 .f32) (wd : FVec Ideal S2816x1024 .f32)
  (g2 : FVec Ideal S2x1x1024 .f32)

/-! ## The reference's parts -/

/-- A batch's row on all its tokens. -/
def onTokens (r : FVec Ideal S2x1x1024 .f32) : FVec Ideal S2x8192x1024 .f32 := broadcastInDim S2x8192x1024 ![0, 1, 2] bcast_S2x1x1024_S2x8192x1024_0_1_2 r

/-- The heads' outputs side by side. -/
def heads : FVec Ideal S2x8192x1024 .bf16 :=
  concatenate S2x8192x1024 2 [⟨S2x8192x512, att⟩, ⟨S2x8192x256, ret⟩, ⟨S2x8192x256, cnv⟩] concatenates_S2x8192x512_S2x8192x256_S2x8192x256_S2x8192x1024_d2

/-- The tokens after the projection. -/
def projected : FVec Ideal S2x8192x1024 .f32 :=
  addf x (mulf (onTokens g1) (Host.dotGeneral dot_S2x8192x1024_S1024x1024_S2x8192x1024_2_0_01_1_n_n none (extf .f32 (heads att ret cnv) bitsLt_bf16_f32) wo))

/-- The tokens' inverse root mean squares. -/
def scales (y : FVec Ideal S2x8192x1024 .f32) : FVec Ideal S2x8192x1 .f32 :=
  Host.rsqrt (addf (Host.divf (broadcastInDim S2x8192x1 ![0, 1] bcast_S2x8192_S2x8192x1_0_1 (Host.reduceAdd (mulf y y) (constant (F := Ideal) S_ .f32 0x00000000#32) reducesTo_S2x8192x1024_S2x8192_d2 h_S_))
    (broadcastInDim S2x8192x1 ![] bcast_S_S2x8192x1 (constant (F := Ideal) S_ .f32 0x44800000#32))) (broadcastInDim S2x8192x1 ![] bcast_S_S2x8192x1 (constant (F := Ideal) S_ .f32 0x358637BD#32)))

/-- The tokens normalised, scaled and shifted. -/
def modulated (y : FVec Ideal S2x8192x1024 .f32) : FVec Ideal S2x8192x1024 .f32 :=
  addf (mulf (mulf (mulf y (broadcastInDim S2x8192x1024 ![0, 1, 2] bcast_S2x8192x1_S2x8192x1024_0_1_2 (scales y)))
    (broadcastInDim S2x8192x1024 ![0, 1, 2] bcast_S1x1x1024_S2x8192x1024_0_1_2 (broadcastInDim S1x1x1024 ![2] bcast_S1024_S1x1x1024_2 nw)))
    (onTokens (addf (broadcastInDim S2x1x1024 ![] bcast_S_S2x1x1024 (constant (F := Ideal) S_ .f32 0x3F800000#32)) sc))) (onTokens sh)

/-- A product of the tokens by a hidden layer's matrix. -/
def hidden (h : FVec Ideal S2x8192x1024 .f32) (w : FVec Ideal S1024x2816 .f32) : FVec Ideal S2x8192x2816 .f32 :=
  Host.dotGeneral dot_S2x8192x1024_S1024x2816_S2x8192x2816_2_0_01_1_n_n none h w

/-- The ones. -/
def ones : FVec Ideal S2x8192x2816 .f32 := broadcastInDim S2x8192x2816 ![] bcast_S_S2x8192x2816 (constant (F := Ideal) S_ .f32 0x3F800000#32)

/-- The hidden features. -/
def activated (h : FVec Ideal S2x8192x1024 .f32) : FVec Ideal S2x8192x2816 .f32 :=
  mulf (mulf (hidden h wg) (Host.divf ones (addf ones (Host.exp (Host.negf (hidden h wg)))))) (hidden h wu)

/-- The result, of the tokens after the projection. -/
def result (y : FVec Ideal S2x8192x1024 .f32) : FVec Ideal S2x8192x1024 .f32 :=
  addf y (mulf (onTokens g2) (Host.dotGeneral dot_S2x8192x2816_S2816x1024_S2x8192x1024_2_0_01_1_n_n none (activated wg wu (modulated nw sc sh y)) wd))

/-! ## The parts, read at an index -/

theorem onTokens_apply (r : FVec Ideal S2x1x1024 .f32) (b : Fin 2) (s : Fin 8192) (j : Fin 1024) : onTokens r (ix3 b s j) = r (ix3 b (0 : Fin 1) j) := by
  unfold onTokens
  refine broadcastInDim_apply _ _ _ _ _ fun a => ?_
  match a with
  | ⟨0, _⟩ => rfl
  | ⟨1, _⟩ => rfl
  | ⟨2, _⟩ => rfl

theorem heads_apply (b : Fin 2) (s : Fin 8192) (k : Fin 1024) :
    heads att ret cnv (ix3 b s k) = beside (fun k => att (ix3 b s k)) (fun k => ret (ix3 b s k)) (fun k => cnv (ix3 b s k)) k := by
  unfold heads beside
  by_cases h : k.val < 512
  · rw [dif_pos h]
    refine concatenate_apply_piece (2 : Fin S2x8192x1024.rank) _ _ _ 0 (by show 0 < 3; decide) S2x8192x512 att rfl rfl 0 rfl (ix3 b s (⟨k.val, h⟩ : Fin 512)) (fun a ha => ?_) ?_
    · match a with
      | ⟨0, _⟩ => rfl
      | ⟨1, _⟩ => rfl
      | ⟨2, _⟩ => exact absurd rfl ha
    · show 0 + k.val = k.val; omega
  rw [dif_neg h]
  by_cases h' : k.val < 768
  · rw [dif_pos h']
    refine concatenate_apply_piece (2 : Fin S2x8192x1024.rank) _ _ _ 1 (by show 1 < 3; decide) S2x8192x256 ret rfl rfl 512 rfl (ix3 b s (⟨k.val - 512, by omega⟩ : Fin 256)) (fun a ha => ?_) ?_
    · match a with
      | ⟨0, _⟩ => rfl
      | ⟨1, _⟩ => rfl
      | ⟨2, _⟩ => exact absurd rfl ha
    · show 512 + (k.val - 512) = k.val; omega
  · rw [dif_neg h']
    refine concatenate_apply_piece (2 : Fin S2x8192x1024.rank) _ _ _ 2 (by show 2 < 3; decide) S2x8192x256 cnv rfl rfl 768 rfl (ix3 b s (⟨k.val - 768, by omega⟩ : Fin 256)) (fun a ha => ?_) ?_
    · match a with
      | ⟨0, _⟩ => rfl
      | ⟨1, _⟩ => rfl
      | ⟨2, _⟩ => exact absurd rfl ha
    · show 768 + (k.val - 768) = k.val; omega

theorem projected_apply (b : Fin 2) (s : Fin 8192) (j : Fin 1024) : projected att ret cnv wo x g1 (ix3 b s j) = resid att ret cnv wo x g1 b s j := by
  unfold projected resid
  rw [addf_apply, mulf_apply, onTokens_apply]
  refine congrArg (x (ix3 b s j) + ·) (congrArg (g1 (ix3 b 0 j) * ·) ?_)
  refine (dot3_apply (G := 2) (m := 8192) (k := 1024) (n := 1024) _ none _ wo b s j).trans ?_
  rw [← sum_beside]
  exact Finset.sum_congr rfl fun k _ => congrArg (· * wo (ix2 k j)) (heads_apply att ret cnv b s k)

theorem scales_apply (y : FVec Ideal S2x8192x1024 .f32) (b : Fin 2) (s : Fin 8192) :
    scales y (ix3 b s (0 : Fin 1)) = Ideal.rsqrt (Ideal.div (∑ i : Fin 1024, y (ix3 b s i) * y (ix3 b s i)) (Ideal.ofBits .f32 0x44800000#32) + Ideal.ofBits .f32 0x358637BD#32) := by
  unfold scales
  refine congrArg Ideal.rsqrt ?_
  rw [addf_apply, hostDivf_apply]
  refine congrArg₂ (· + ·) (congrArg₂ Ideal.div ?_ (broadcastInDim_scalar_apply _ _ _)) (broadcastInDim_scalar_apply _ _ _)
  refine (broadcastInDim_apply _ _ _ _ (ix2 b s) fun a => ?_).trans ?_
  · match a with
    | ⟨0, _⟩ => rfl
    | ⟨1, _⟩ => rfl
  rw [hostReduceAdd_apply]
  refine (squares3_apply y _ (by decide) _ b s).trans ?_
  rw [constant_apply, Ideal.ofBits_zero_f32, zero_add]

theorem modulated_apply (y : FVec Ideal S2x8192x1024 .f32) (b : Fin 2) (s : Fin 8192) (k : Fin 1024) :
    modulated nw sc sh y (ix3 b s k) = normed (fun i => y (ix3 b s i)) (fun k => nw (ix1 k)) (fun k => sc (ix3 b 0 k)) (fun k => sh (ix3 b 0 k)) k := by
  unfold modulated normed
  rw [addf_apply, mulf_apply, mulf_apply, mulf_apply, onTokens_apply, onTokens_apply, addf_apply]
  refine congrArg₂ (· + ·) (congrArg₂ (· * ·) (congrArg₂ (· * ·) (congrArg (y (ix3 b s k) * ·) ?_) ?_) (congrArg (· + sc (ix3 b 0 k)) ?_)) rfl
  · refine (broadcastInDim_apply _ _ _ _ (ix3 b s (0 : Fin 1)) fun a => ?_).trans (scales_apply y b s)
    match a with
    | ⟨0, _⟩ => rfl
    | ⟨1, _⟩ => rfl
    | ⟨2, _⟩ => rfl
  · refine (broadcastInDim_apply _ _ _ _ (ix3 (0 : Fin 1) (0 : Fin 1) k) fun a => ?_).trans (broadcastInDim_apply _ _ _ _ (ix1 k) fun a => ?_)
    · match a with
      | ⟨0, _⟩ => rfl
      | ⟨1, _⟩ => rfl
      | ⟨2, _⟩ => rfl
    · match a with
      | ⟨0, _⟩ => rfl
  · exact (broadcastInDim_scalar_apply _ _ _).trans Ideal.ofBits_one_f32

theorem hidden_apply (h : FVec Ideal S2x8192x1024 .f32) (w : FVec Ideal S1024x2816 .f32) (b : Fin 2) (s : Fin 8192) (j : Fin 2816) :
    hidden h w (ix3 b s j) = ∑ k : Fin 1024, h (ix3 b s k) * w (ix2 k j) :=
  dot3_apply (G := 2) (m := 8192) (k := 1024) (n := 2816) _ none h w b s j

theorem activated_apply (h : FVec Ideal S2x8192x1024 .f32) (b : Fin 2) (s : Fin 8192) (j : Fin 2816) :
    activated wg wu h (ix3 b s j) = gated (∑ k : Fin 1024, h (ix3 b s k) * wg (ix2 k j)) (∑ k : Fin 1024, h (ix3 b s k) * wu (ix2 k j)) := by
  unfold activated
  rw [← hidden_apply h wg b s j, ← hidden_apply h wu b s j]
  have one : ones (ix3 b s j) = (1 : EReal) := (broadcastInDim_scalar_apply _ _ _).trans Ideal.ofBits_one_f32
  unfold gated
  rw [mulf_apply, mulf_apply, hostDivf_apply, addf_apply, one]
  rfl

theorem result_apply (b : Fin 2) (s : Fin 8192) (j : Fin 1024) :
    result nw sc sh wg wu wd g2 (projected att ret cnv wo x g1) (ix3 b s j) = outOf att ret cnv wo x g1 nw sc sh wg wu wd g2 b s j := by
  unfold result outOf dense
  rw [addf_apply, mulf_apply, onTokens_apply]
  refine congrArg₂ (· + ·) (projected_apply att ret cnv wo x g1 b s j) (congrArg (g2 (ix3 b 0 j) * ·) ?_)
  refine (dot3_apply (G := 2) (m := 8192) (k := 2816) (n := 1024) _ none _ wd b s j).trans ?_
  refine Finset.sum_congr rfl fun h _ => congrArg (· * wd (ix2 h j)) ((activated_apply wg wu _ b s h).trans ?_)
  have e : (fun k => modulated nw sc sh (projected att ret cnv wo x g1) (ix3 b s k))
      = normed (resid att ret cnv wo x g1 b s) (fun k => nw (ix1 k)) (fun k => sc (ix3 b 0 k)) (fun k => sh (ix3 b 0 k)) := funext fun k => by
    rw [modulated_apply]
    exact congrArg (fun f => normed f (fun k => nw (ix1 k)) (fun k => sc (ix3 b 0 k)) (fun k => sh (ix3 b 0 k)) k) (funext fun i => projected_apply att ret cnv wo x g1 b s i)
  refine congrArg₂ gated ?_ ?_
  · exact Finset.sum_congr rfl fun k _ => congrArg (· * wg (ix2 k h)) (congrFun e k)
  · exact Finset.sum_congr rfl fun k _ => congrArg (· * wu (ix2 k h)) (congrFun e k)

end parts

/-! ## The program's result -/

variable (m : (ℓ : Loc nD τ sig) → Buf (Elt Ideal) ℓ)

theorem res_eq (c : Dev nD) : Cert.DenseReferenceIdeal.Value.res_main_v32 m c
    = result (m ((c.tc : Thread nD τ).loc main_arg6)) (m ((c.tc : Thread nD τ).loc main_arg7)) (m ((c.tc : Thread nD τ).loc main_arg8)) (m ((c.tc : Thread nD τ).loc main_arg9))
        (m ((c.tc : Thread nD τ).loc main_arg10)) (m ((c.tc : Thread nD τ).loc main_arg11)) (m ((c.tc : Thread nD τ).loc main_arg12))
        (projected (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5))) := by
  unfold Cert.DenseReferenceIdeal.Value.res_main_v32 result activated hidden ones modulated scales projected heads onTokens
  rfl

end Cert.Proof.DenseR

end
-- ==== Proof.DenseClaims.lean ====
/-
  The fourth program's value: its result and the reference's are the same, at the ideal values.
-/
module

public import proofs.«01_k».proof.Defs
public import proofs.«01_k».proof.Proof.DenseArray
public import proofs.«01_k».proof.Proof.DenseReference

@[expose] public section

set_option maxRecDepth 16384

noncomputable section

namespace Cert.Proof.Dense

open Idealize.ShloMosaic Idealize.ShloMosaic.ValueIdx Idealize.SL.Sem Cert.Proof.DenseMath

/-- The value at an element of the result. -/
def valueAt (m : (ℓ : Loc Cert.DenseIdeal.nD Cert.DenseIdeal.τ Cert.DenseIdeal.sig) → Buf (Elt Ideal) ℓ) (i : (⟨3, ![2, 8192, 1024]⟩ : Shape).Idx) : EReal :=
  DenseI.denseOf m (i 0) (i 1) (i 2)

theorem algebraic : Cert.algebraic_DenseIdeal_DenseReferenceIdeal (hDenseIdeal := Cert.DenseIdeal.Gen.facts) (hDenseReferenceIdeal := Cert.DenseReferenceIdeal.Gen.facts) := by
  intro m g m' g' _ hargs
  refine ⟨fun _ i => valueAt m i, ?_, ?_⟩
  · have hrun := Cert.DenseIdeal.Gen.run_main (F := Ideal) m g
    have hframe := Cert.DenseIdeal.Gen.frame (F := Ideal) m g
    refine (θ_run Cert.DenseIdeal.defs _ _).mono (fun r h c => ⟨funext fun i => ?_, h.2.1 c⟩) (θ_run_and hrun hframe)
    obtain rfl : c = 0 := Subsingleton.elim _ _
    have hmem : r.2.mem (((0 : Dev Cert.DenseIdeal.nD).tc : Thread Cert.DenseIdeal.nD Cert.DenseIdeal.τ).loc Cert.DenseIdeal.main_v5)
        = (Cert.DenseIdeal.Gen.dats m 0 0).arrAt 13 Cert.DenseIdeal.cfg0.N := (h.1 0).1 13
    exact (congrFun hmem i).trans (DenseI.final_holds m i _ _ _ rfl rfl rfl)
  · refine (θ_run Cert.DenseReferenceIdeal.defs _ _).mono (fun r h c => ⟨funext fun i => ?_, (h c).2⟩) (Cert.DenseReferenceIdeal.Value.run (F := Ideal) m' g')
    obtain rfl : c = 0 := Subsingleton.elim _ _
    obtain ⟨a0, a1, a2, a3, a4, a5, a6, a7, a8, a9, a10, a11, a12⟩ := hargs 0
    refine (congrFun (h 0).1 i).trans ((congrFun (DenseR.res_eq m' 0) i).trans ?_)
    have ei : i = ix3 (i 0) (i 1) (i 2) := eq_ix3 i
    refine (congrArg _ ei).trans ((DenseR.result_apply _ _ _ _ _ _ _ _ _ _ _ _ _ (i 0) (i 1) (i 2)).trans ?_)
    rw [a0, a1, a2, a3, a4, a5, a6, a7, a8, a9, a10, a11, a12]
    rfl

end Cert.Proof.Dense

end
-- ==== Proof.CombineFrames.lean ====
/-
  The frames of the fifth program at both of its printings and of its reference; its ideal printing used no rule.
-/
module

public import proofs.«01_k».proof.Defs
public import proofs.«01_k».proof.Proof.Gen.Combine.Frame
public import proofs.«01_k».proof.Proof.Gen.CombineIdeal.Frame
public import proofs.«01_k».proof.Proof.Gen.CombineReferenceIdeal.Run
public import Idealize.ShloMosaic.Lib.Quiescent

@[expose] public section

noncomputable section

namespace Cert.Proof.Combine

open Idealize.ShloMosaic Idealize.SL.Sem

theorem frame_bits : Cert.quiescent_Combine (hCombine := Cert.Combine.Gen.facts) := fun m ρ _ => Cert.Combine.Gen.frame (F := Bits) m ρ

theorem frame_ideal : Cert.quiescent_CombineIdeal (hCombineIdeal := Cert.CombineIdeal.Gen.facts) := fun m ρ _ => Cert.CombineIdeal.Gen.frame (F := Ideal) m ρ

theorem frame_reference : Cert.quiescent_CombineReferenceIdeal (hCombineReferenceIdeal := Cert.CombineReferenceIdeal.Gen.facts) := fun m ρ _ =>
  (θ_run Cert.CombineReferenceIdeal.defs _ _).mono (fun r h => ⟨fun c => (h c).2, sem_eq_zero_of_no_sems (by decide) r.2⟩)
    (Cert.CombineReferenceIdeal.Value.run (F := Ideal) m ρ)

theorem preserves : Cert.preserves_Combine_CombineIdeal := trivial

end Cert.Proof.Combine

end
-- ==== Proof.CombineSpec.lean ====
/-
  The experts' rows put together for every token, at the ideal values: what the fifth program's result holds. A word of
  the experts' rows is two features in the sixteen-bit format; put in the high half of a word with zeros below, a
  feature denotes the same number in the thirty-two-bit format.
-/
module

public import proofs.«01_k».proof.Proof.DenseSpec

@[expose] public section

noncomputable section

namespace Cert.Proof.CombineMath

open Idealize.ShloMosaic Idealize.ShloMosaic.ValueIdx Cert.Proof.DenseMath

/-! ## Sixteen bits and thirty-two -/

/-- The same sign and exponent and the same fraction, with sixteen more places: the same number. -/
theorem ieee_wide (w : BitVec 32) (b : BitVec 16) (hs : w.extractLsb' 31 1 = b.extractLsb' 15 1) (he : w.extractLsb' 23 8 = b.extractLsb' 7 8)
    (hf : (w.extractLsb' 0 23).toNat = (b.extractLsb' 0 7).toNat * 65536) : Ideal.ieee 8 23 w = Ideal.ieee 8 7 b := by
  have two (n : ℤ) : (65536 : ℝ) * (2 : ℝ) ^ (n - 23) = (2 : ℝ) ^ (n - 7) := by
    rw [show n - 7 = 16 + (n - 23) by ring, zpow_add₀ (by norm_num : (2 : ℝ) ≠ 0)]
    norm_num
  unfold Ideal.ieee
  dsimp only
  rw [show (8 + 23 : ℕ) = 31 from rfl, show (8 + 7 : ℕ) = 15 from rfl, hs, he, hf]
  generalize (if (b.extractLsb' 15 1 == 1#1) = true then (-1 : ℝ) else 1) = sg
  generalize (b.extractLsb' 15 1 == 1#1) = ng
  generalize (b.extractLsb' 7 8).toNat = ex
  generalize (b.extractLsb' 0 7).toNat = fr
  by_cases h1 : ex = 2 ^ 8 - 1
  · rw [if_pos h1, if_pos h1]
    by_cases h2 : fr = 0
    · rw [if_pos h2, if_pos (by omega : fr * 65536 = 0)]
    · rw [if_neg h2, if_neg (by omega : ¬ fr * 65536 = 0)]
  rw [if_neg h1, if_neg h1]
  by_cases h0 : ex = 0
  · rw [if_pos h0, if_pos h0]
    refine congrArg _ ?_
    push_cast
    rw [show (2 : ℝ) ^ (-133 : ℤ) = 65536 * 2 ^ (-149 : ℤ) from by rw [show (-133 : ℤ) = -126 - 7 by norm_num, show (-149 : ℤ) = -126 - 23 by norm_num]; exact (two (-126)).symm]; ring
  · rw [if_neg h0, if_neg h0]
    refine congrArg _ ?_
    push_cast
    rw [← two]; ring

/-- The low half of a word, moved up. -/
theorem low_wide (w : BitVec 32) : Ideal.ofBits .f32 (w <<< 16) = Ideal.ofBits .bf16 (w.extractLsb' 0 16) := by
  refine ieee_wide _ _ (BitVec.eq_of_toNat_eq ?_) (BitVec.eq_of_toNat_eq ?_) ?_ <;>
  · simp only [BitVec.extractLsb'_toNat, BitVec.toNat_shiftLeft, Nat.shiftLeft_eq, Nat.shiftRight_eq_div_pow]
    omega

/-- The high half of a word. -/
theorem high_wide (w : BitVec 32) : Ideal.ofBits .f32 (w &&& 4294901760#32) = Ideal.ofBits .bf16 (w.extractLsb' 16 16) := by
  have e : w &&& 4294901760#32 = (w >>> 16) <<< 16 := BitVec.eq_of_getLsbD_eq fun i hi => by
    rw [BitVec.getLsbD_and, BitVec.getLsbD_shiftLeft, BitVec.getLsbD_ushiftRight]
    interval_cases i <;> simp [BitVec.getLsbD_eq_getElem]
  rw [e, low_wide]
  refine congrArg _ (BitVec.eq_of_toNat_eq ?_)
  simp only [BitVec.extractLsb'_toNat, BitVec.toNat_ushiftRight, Nat.shiftRight_eq_div_pow]
  omega

/-! ## One token -/

abbrev Words := (⟨3, ![4, 8192, 512]⟩ : Shape).Idx → BitVec 32
abbrev Weights := (⟨3, ![2, 8192, 128]⟩ : Shape).Idx → EReal

/-- A feature of a row of words: the first 512 in the low halves, the others in the high halves. -/
def feature (row : Fin 512 → BitVec 32) (j : Fin 1024) : EReal :=
  if h : j.val < 512 then Ideal.ofBits .bf16 ((row ⟨j.val, h⟩).extractLsb' 0 16) else Ideal.ofBits .bf16 ((row ⟨j.val - 512, by omega⟩).extractLsb' 16 16)

/-- A token with its two experts' rows, weighted and gated, added to it. -/
def combined (yg : Words) (x : Tok) (g2 : Row) (rt : Weights) (b : Fin 2) (s : Fin 8192) (j : Fin 1024) : EReal :=
  x (ix3 b s j) + g2 (ix3 b 0 j) * (rt (ix3 b s (2 : Fin 128)) * feature (fun k => yg (ix3 (⟨b.val, by omega⟩ : Fin 4) s k)) j
    + rt (ix3 b s (3 : Fin 128)) * feature (fun k => yg (ix3 (⟨2 + b.val, by omega⟩ : Fin 4) s k)) j)

end Cert.Proof.CombineMath

end
-- ==== Proof.CombineTerms.lean ====
/-
  What the fifth program's body leaves in the output's block, at the ideal values, element by element.
-/
module

public import proofs.«01_k».proof.Proof.Gen.CombineIdeal.Frame
public import proofs.«01_k».proof.Proof.CombineSpec
public import Idealize.ShloMosaic.Lib.Pipeline.ValueKit.Basic

@[expose] public section

set_option maxRecDepth 16384

noncomputable section

namespace Cert.Proof.CombineI

open Cert.CombineIdeal Cert.CombineIdeal.Gen
open Idealize.ShloMosaic Idealize.ShloMosaic.ValueIdx Cert.Proof.CombineMath

/-! ## Parts of a block -/

/-- A load of a whole block is the block. -/
theorem ld_whole {S : Shape} {e : EltTy} (x : Vec Ideal S e) (off : Fin S.rank → ℕ) (inb : ∀ a, off a + S.size a ≤ S.size a) (ho : ∀ a, off a = 0) :
    View.ld x (Rect.unit (s := S) off S.size inb) = x := by
  refine funext fun y => congrArg x (funext fun a => Fin.ext ?_)
  show off a + 1 * (y a).val = (y a).val
  rw [ho a]; omega

/-- A load of a part of the columns. -/
theorem ld_cols {R : ℕ} (x : Vec Ideal ⟨3, ![1, R, 1024]⟩ .f32) (o : ℕ) (inb : ∀ a, (![0, 0, o] : Fin 3 → ℕ) a + (![1, R, 512] : Fin 3 → ℕ) a ≤ (⟨3, ![1, R, 1024]⟩ : Shape).size a) (r : Fin R) (k : Fin 512) (ho : o + k.val < 1024) :
    (View.ld x (Rect.unit (s := ⟨3, ![1, R, 1024]⟩) ![0, 0, o] ![1, R, 512] inb) : Vec Ideal ⟨3, ![1, R, 512]⟩ .f32) (ix3 (0 : Fin 1) r k) = x (ix3 (0 : Fin 1) r (⟨o + k.val, ho⟩ : Fin 1024)) := by
  refine congrArg x (funext fun a => Fin.ext ?_)
  match a with
  | ⟨0, _⟩ => rfl
  | ⟨1, _⟩ => show 0 + 1 * r.val = r.val; omega
  | ⟨2, _⟩ => show o + 1 * k.val = o + k.val; omega

/-! ## The payloads -/

theorem weight_apply (v : Vec Ideal S1x1024x128 .f32) (o : ℕ) (hs : S1024x128.Slices ![0, o] S1024x1) (ho : o < 128) (p : Fin 1024) (k : Fin 512) :
    broadcastTo S1024x512 (extractStridedSlice S1024x1 ![0, o] (k0_pay2 v) hs) broadcasts_S1024x1_S1024x512 (ix2 p k) = v (ix3 (0 : Fin 1) p (⟨o, ho⟩ : Fin 128)) := by
  refine (broadcastTo_apply _ _ (ix2 p k) (ix2 p (0 : Fin 1)) fun a => ?_).trans ?_
  · match a with
    | ⟨0, _⟩ => rfl
    | ⟨1, _⟩ => rfl
  refine (extractStridedSlice_apply _ _ _ _ (ix2 p (⟨o, ho⟩ : Fin 128)) (fun a => ?_)).trans (shapeCast_1ab_ab_apply v _ _ _)
  match a with
  | ⟨0, _⟩ => show p.val = 0 + p.val; omega
  | ⟨1, _⟩ => rfl

/-- The low halves of a block's words. -/
theorem low_apply (y : Vec Ideal S1x1024x512 .i32) (p : Fin 1024) (k : Fin 512) :
    (bitcastToFloat .f32 (shli (shapeCast S1024x512 y shapeCasts_S1x1024x512_S1024x512 : IVec S1024x512 32) (broadcast S1024x512 16#32)) : FVec Ideal S1024x512 .f32) (ix2 p k)
      = Ideal.ofBits .bf16 (BitVec.extractLsb' 0 16 (y (ix3 (0 : Fin 1) p k) : BitVec 32)) := by
  refine Eq.trans ?_ (low_wide _)
  show Ideal.ofBits .f32 ((shapeCast S1024x512 y shapeCasts_S1x1024x512_S1024x512 : IVec S1024x512 32) (ix2 p k) <<< 16) = _
  exact congrArg (fun w : BitVec 32 => Ideal.ofBits .f32 (w <<< 16)) (shapeCast_1ab_ab_apply y _ _ _)

/-- The high halves of a block's words. -/
theorem high_apply (y : Vec Ideal S1x1024x512 .i32) (p : Fin 1024) (k : Fin 512) :
    (bitcastToFloat .f32 (andi (shapeCast S1024x512 y shapeCasts_S1x1024x512_S1024x512 : IVec S1024x512 32) (broadcast S1024x512 4294901760#32)) : FVec Ideal S1024x512 .f32) (ix2 p k)
      = Ideal.ofBits .bf16 (BitVec.extractLsb' 16 16 (y (ix3 (0 : Fin 1) p k) : BitVec 32)) := by
  refine Eq.trans ?_ (high_wide _)
  exact congrArg (fun w : BitVec 32 => Ideal.ofBits .f32 (w &&& 4294901760#32)) (shapeCast_1ab_ab_apply y _ _ _)

/-- The token with its two rows, for half the columns. -/
theorem half_apply (v : Vec Ideal S1x1024x128 .f32) (a c : FVec Ideal S1024x512 .f32) (x : Vec Ideal S1x1024x512 .f32) (g : Vec Ideal S1x1x512 .f32) (p : Fin 1024) (k : Fin 512) :
    shapeCast S1x1024x512 (addf (shapeCast S1024x512 x shapeCasts_S1x1024x512_S1024x512) (mulf (broadcastTo S1024x512 (shapeCast S1x512 g shapeCasts_S1x1x512_S1x512) broadcasts_S1x512_S1024x512)
        (addf (mulf (broadcastTo S1024x512 (k0_pay3 v) broadcasts_S1024x1_S1024x512) a) (mulf (broadcastTo S1024x512 (k0_pay4 v) broadcasts_S1024x1_S1024x512) c))) : FVec Ideal S1024x512 .f32) shapeCasts_S1024x512_S1x1024x512 (ix3 (0 : Fin 1) p k)
      = x (ix3 (0 : Fin 1) p k) + g (ix3 (0 : Fin 1) (0 : Fin 1) k) * (v (ix3 (0 : Fin 1) p (2 : Fin 128)) * a (ix2 p k) + v (ix3 (0 : Fin 1) p (3 : Fin 128)) * c (ix2 p k)) := by
  refine (shapeCast_ab_1ab_apply _ _ _ _ _).trans ?_
  rw [addf_apply, mulf_apply, addf_apply, mulf_apply, mulf_apply]
  refine congrArg₂ (· + ·) (shapeCast_1ab_ab_apply x _ _ _) (congrArg₂ (· * ·) ((broadcastTo_1b_ab_apply _ _ p k).trans (shapeCast_1ab_ab_apply g _ _ _))
    (congrArg₂ (· + ·) (congrArg (· * a (ix2 p k)) (weight_apply v 2 slices_S1024x128_o0_2_S1024x1 (by decide) p k)) (congrArg (· * c (ix2 p k)) (weight_apply v 3 slices_S1024x128_o0_3_S1024x1 (by decide) p k))))

/-! ## The output's block -/

section
variable (x0 x1 : Vec Ideal S1x1024x512 .i32) (x2 : Vec Ideal S1x1024x1024 .f32) (x3 : Vec Ideal S1x1x1024 .f32) (x4 : Vec Ideal S1x1024x128 .f32)

/-- An element of the block's row `p`. -/
def rowOf (p : Fin 1024) (j : Fin 1024) : EReal :=
  x2 (ix3 (0 : Fin 1) p j) + x3 (ix3 (0 : Fin 1) (0 : Fin 1) j) * (x4 (ix3 (0 : Fin 1) p (2 : Fin 128)) * feature (fun k => x0 (ix3 (0 : Fin 1) p k)) j
    + x4 (ix3 (0 : Fin 1) p (3 : Fin 128)) * feature (fun k => x1 (ix3 (0 : Fin 1) p k)) j)

theorem feature_low (row : Fin 512 → BitVec 32) (k : Fin 512) : feature row ⟨0 + k.val, by omega⟩ = Ideal.ofBits .bf16 ((row k).extractLsb' 0 16) := by
  unfold feature
  have hk : 0 + k.val < 512 := by omega
  refine (dif_pos hk).trans (congrArg (fun q => Ideal.ofBits .bf16 ((row q).extractLsb' 0 16)) (Fin.ext ?_))
  show 0 + k.val = k.val; omega

theorem feature_high (row : Fin 512 → BitVec 32) (k : Fin 512) : feature row ⟨512 + k.val, by omega⟩ = Ideal.ofBits .bf16 ((row k).extractLsb' 16 16) := by
  unfold feature
  have hk : ¬ 512 + k.val < 512 := by omega
  refine (dif_neg hk).trans (congrArg (fun q => Ideal.ofBits .bf16 ((row q).extractLsb' 16 16)) (Fin.ext ?_))
  show 512 + k.val - 512 = k.val; omega

theorem first_apply (p : Fin 1024) (k : Fin 512) :
    k0_pay9 (View.ld x4 r0_0) (View.ld x0 r0_1) (View.ld x1 r0_1) (View.ld x2 r0_2) (View.ld x3 r0_3) (ix3 (0 : Fin 1) p k) = rowOf x0 x1 x2 x3 x4 p ⟨0 + k.val, by omega⟩ := by
  unfold rowOf
  refine (half_apply (View.ld x4 r0_0) _ _ (View.ld x2 r0_2) (View.ld x3 r0_3) p k).trans ?_
  rw [ld_whole x4 _ _ (by decide), ld_whole x0 _ _ (by decide), ld_whole x1 _ _ (by decide), feature_low, feature_low]
  exact congrArg₂ (· + ·) (ld_cols x2 0 _ p k (by omega)) (congrArg₂ (· * ·) (ld_cols x3 0 _ 0 k (by omega))
    (congrArg₂ (· + ·) (congrArg (x4 (ix3 (0 : Fin 1) p (2 : Fin 128)) * ·) (low_apply x0 p k)) (congrArg (x4 (ix3 (0 : Fin 1) p (3 : Fin 128)) * ·) (low_apply x1 p k))))

theorem second_apply (p : Fin 1024) (k : Fin 512) :
    k0_pay1 (k0_pay3 (View.ld x4 r0_0)) (k0_pay4 (View.ld x4 r0_0)) (k0_pay6 (View.ld x0 r0_1)) (k0_pay8 (View.ld x1 r0_1)) (View.ld x2 r0_4) (View.ld x3 r0_5) (ix3 (0 : Fin 1) p k)
      = rowOf x0 x1 x2 x3 x4 p ⟨512 + k.val, by omega⟩ := by
  unfold rowOf
  refine (half_apply (View.ld x4 r0_0) _ _ (View.ld x2 r0_4) (View.ld x3 r0_5) p k).trans ?_
  rw [ld_whole x4 _ _ (by decide), ld_whole x0 _ _ (by decide), ld_whole x1 _ _ (by decide), feature_high, feature_high]
  exact congrArg₂ (· + ·) (ld_cols x2 512 _ p k (by omega)) (congrArg₂ (· * ·) (ld_cols x3 512 _ 0 k (by omega))
    (congrArg₂ (· + ·) (congrArg (x4 (ix3 (0 : Fin 1) p (2 : Fin 128)) * ·) (high_apply x0 p k)) (congrArg (x4 (ix3 (0 : Fin 1) p (3 : Fin 128)) * ·) (high_apply x1 p k))))

/-- Where an element of a store's rectangle lies in the block. -/
theorem emb_cols (o : ℕ) (inb : ∀ a, (![0, 0, o] : Fin 3 → ℕ) a + S1x1024x512.size a ≤ S1x1024x1024.size a) (p : Fin 1024) (k : Fin 512) (ho : o + k.val < 1024) :
    (Rect.unit (s := S1x1024x1024) ![0, 0, o] S1x1024x512.size inb).emb (ix3 (0 : Fin 1) p k : S1x1024x512.Idx) = ix3 (0 : Fin 1) p (⟨o + k.val, ho⟩ : Fin 1024) := by
  refine funext fun a => Fin.ext ?_
  match a with
  | ⟨0, _⟩ => rfl
  | ⟨1, _⟩ => show 0 + 1 * p.val = p.val; omega
  | ⟨2, _⟩ => show o + 1 * k.val = o + k.val; omega

/-- An element of the output's block. -/
theorem out_apply (p j : Fin 1024) : out0_5 x0 x1 x2 x3 x4 (ix3 (0 : Fin 1) p j) = rowOf x0 x1 x2 x3 x4 p j := by
  unfold out0_5
  by_cases h : j.val < 512
  · have ej : j = ⟨0 + (⟨j.val, h⟩ : Fin 512).val, by show 0 + j.val < 1024; omega⟩ := Fin.ext (by show j.val = 0 + j.val; omega)
    rw [ej, View.canon_cons_of_not_mem _ _ (fun hm => ?_), ← emb_cols 0 inb_S1x1024x1024_S1x1024x512_0_0_0 p ⟨j.val, h⟩ (by show 0 + j.val < 1024; omega)]
    · exact (View.canon_cons_emb r0_2 _ [] _).trans (first_apply x0 x1 x2 x3 x4 p ⟨j.val, h⟩)
    · have h2 : 512 ≤ 0 + j.val := ((Rect.mem_set_unit (inb := inb_S1x1024x1024_S1x1024x512_0_0_512)).mp hm (2 : Fin 3)).1
      omega
  · have ej : j = ⟨512 + (⟨j.val - 512, by omega⟩ : Fin 512).val, by show 512 + (j.val - 512) < 1024; omega⟩ := Fin.ext (by show j.val = 512 + (j.val - 512); omega)
    rw [ej, ← emb_cols 512 inb_S1x1024x1024_S1x1024x512_0_0_512 p ⟨j.val - 512, by omega⟩ (by show 512 + (j.val - 512) < 1024; omega)]
    exact (View.canon_cons_emb r0_4 _ _ _).trans (second_apply x0 x1 x2 x3 x4 p ⟨j.val - 512, by omega⟩)

end

end Cert.Proof.CombineI

end
-- ==== Proof.CombineBlocks.lean ====
/-
  The fifth program's blocks at the ideal values, element by element: which elements of the arguments a point reads.
-/
module

public import proofs.«01_k».proof.Proof.CombineTerms

@[expose] public section

set_option maxRecDepth 16384

noncomputable section

namespace Cert.Proof.CombineI

open Cert.CombineIdeal Cert.CombineIdeal.Gen
open Idealize.ShloMosaic Idealize.ShloMosaic.ValueIdx Idealize.ShloMosaic.TcCoe Cert.Proof.CombineMath

variable (m : (ℓ : Loc nD τ sig) → Buf (Elt Ideal) ℓ)

/-! ## The grid's points -/

theorem batch_at (t : Fin grid0.N) : (grid0.coords t 0).val = t.val / 8 := by
  have ht : t.val < 16 := Nat.lt_of_lt_of_eq t.isLt (by decide)
  have e0 : (grid0.coords t 0).val = t.val / 8 % 2 := Pipeline.Grid.coords_val t 0 (by decide) rfl
  rw [e0]; omega

theorem span_at (t : Fin grid0.N) : (grid0.coords t 1).val = t.val % 8 := by
  have e1 : (grid0.coords t 1).val = t.val / 1 % 8 := Pipeline.Grid.coords_val t 1 (by decide) rfl
  rw [e1, Nat.div_one]

theorem batch_word (t : Fin grid0.N) : (BitVec.ofNat 32 (grid0.coords t 0).val).toNat = t.val / 8 := by
  have ht : t.val < 16 := Nat.lt_of_lt_of_eq t.isLt (by decide)
  rw [batch_at t, BitVec.toNat_ofNat]; omega

theorem second_word (t : Fin grid0.N) : ((2#32 : BitVec 32) + BitVec.ofNat 32 (grid0.coords t 0).val).toNat = 2 + t.val / 8 := by
  have ht : t.val < 16 := Nat.lt_of_lt_of_eq t.isLt (by decide)
  rw [BitVec.toNat_add, batch_word t]
  show (2 + t.val / 8) % 4294967296 = 2 + t.val / 8
  omega

theorem span_word (t : Fin grid0.N) : (BitVec.ofNat 32 (grid0.coords t 1).val).toNat = t.val % 8 := by
  have ht : t.val < 16 := Nat.lt_of_lt_of_eq t.isLt (by decide)
  rw [span_at t, BitVec.toNat_ofNat]; omega

/-- Where a block of a batch's tokens lies, where that of their second experts' rows does, and where a batch's row does. -/
theorem tok_index (t : Fin grid0.N) : (![(BitVec.ofNat 32 (grid0.coords t 0).val).toNat, (BitVec.ofNat 32 (grid0.coords t 1).val).toNat, (0#32 : BitVec 32).toNat] : Fin 3 → ℕ) = ![t.val / 8, t.val % 8, 0] := by
  rw [batch_word, span_word]; rfl

theorem second_index (t : Fin grid0.N) : (![((2#32 : BitVec 32) + BitVec.ofNat 32 (grid0.coords t 0).val).toNat, (BitVec.ofNat 32 (grid0.coords t 1).val).toNat, (0#32 : BitVec 32).toNat] : Fin 3 → ℕ) = ![2 + t.val / 8, t.val % 8, 0] := by
  rw [second_word, span_word]; rfl

theorem row_index (t : Fin grid0.N) : (![(BitVec.ofNat 32 (grid0.coords t 0).val).toNat, (0#32 : BitVec 32).toNat, (0#32 : BitVec 32).toNat] : Fin 3 → ℕ) = ![t.val / 8, 0, 0] := by
  rw [batch_word]; rfl

/-! ## The blocks -/

theorem index_0 (t : Fin cfg0.N) : (cfg0.win 0).index t = (![t.val / 8, t.val % 8, 0] : Fin 3 → ℕ) := tok_index t

theorem emb_0 (t : Fin cfg0.N) (y : S1x1024x512.Idx) (a : Fin 3) : (((cfg0.win 0).blk t).view.emb y a : ℕ) = (![t.val / 8, t.val % 8, 0] : Fin 3 → ℕ) a * S1x1024x512.size a + (y a).val :=
  (Pipeline.Window.rect_emb_val (cfg0.win 0) t y a).trans (congrArg (fun n => n * S1x1024x512.size a + (y a).val) (congrFun (index_0 t) a))

theorem blk_0 (c : Dev nD) (t : Fin cfg0.N) (p : Fin 1024) (k : Fin 512) (b : Fin 4) (s : Fin 8192) (hb : b.val = t.val / 8) (hs : s.val = t.val % 8 * 1024 + p.val) :
    (iblk m c 0 t : Vec Ideal S1x1024x512 .i32) (ix3 (0 : Fin 1) p k) = m ((c.tc : Thread nD τ).loc main_arg0) (ix3 b s k) := by
  show V m c main_arg0 _ = _
  rw [V_main_arg0]
  refine congrArg _ (funext fun a => Fin.ext ?_)
  match a with
  | ⟨0, _⟩ =>
    refine (emb_0 t _ (0 : Fin 3)).trans ?_
    show (t.val / 8) * 1 + 0 = b.val; omega
  | ⟨1, _⟩ =>
    refine (emb_0 t _ (1 : Fin 3)).trans ?_
    exact hs.symm
  | ⟨2, _⟩ =>
    refine (emb_0 t _ (2 : Fin 3)).trans ?_
    show 0 * 512 + k.val = k.val; omega

theorem index_1 (t : Fin cfg0.N) : (cfg0.win 1).index t = (![2 + t.val / 8, t.val % 8, 0] : Fin 3 → ℕ) := second_index t

theorem emb_1 (t : Fin cfg0.N) (y : S1x1024x512.Idx) (a : Fin 3) : (((cfg0.win 1).blk t).view.emb y a : ℕ) = (![2 + t.val / 8, t.val % 8, 0] : Fin 3 → ℕ) a * S1x1024x512.size a + (y a).val :=
  (Pipeline.Window.rect_emb_val (cfg0.win 1) t y a).trans (congrArg (fun n => n * S1x1024x512.size a + (y a).val) (congrFun (index_1 t) a))

theorem blk_1 (c : Dev nD) (t : Fin cfg0.N) (p : Fin 1024) (k : Fin 512) (b : Fin 4) (s : Fin 8192) (hb : b.val = 2 + t.val / 8) (hs : s.val = t.val % 8 * 1024 + p.val) :
    (iblk m c 1 t : Vec Ideal S1x1024x512 .i32) (ix3 (0 : Fin 1) p k) = m ((c.tc : Thread nD τ).loc main_arg0) (ix3 b s k) := by
  show V m c main_arg0 _ = _
  rw [V_main_arg0]
  refine congrArg _ (funext fun a => Fin.ext ?_)
  match a with
  | ⟨0, _⟩ =>
    refine (emb_1 t _ (0 : Fin 3)).trans ?_
    show (2 + t.val / 8) * 1 + 0 = b.val; omega
  | ⟨1, _⟩ =>
    refine (emb_1 t _ (1 : Fin 3)).trans ?_
    exact hs.symm
  | ⟨2, _⟩ =>
    refine (emb_1 t _ (2 : Fin 3)).trans ?_
    show 0 * 512 + k.val = k.val; omega

theorem index_2 (t : Fin cfg0.N) : (cfg0.win 2).index t = (![t.val / 8, t.val % 8, 0] : Fin 3 → ℕ) := tok_index t

theorem emb_2 (t : Fin cfg0.N) (y : S1x1024x1024.Idx) (a : Fin 3) : (((cfg0.win 2).blk t).view.emb y a : ℕ) = (![t.val / 8, t.val % 8, 0] : Fin 3 → ℕ) a * S1x1024x1024.size a + (y a).val :=
  (Pipeline.Window.rect_emb_val (cfg0.win 2) t y a).trans (congrArg (fun n => n * S1x1024x1024.size a + (y a).val) (congrFun (index_2 t) a))

theorem blk_2 (c : Dev nD) (t : Fin cfg0.N) (p : Fin 1024) (k : Fin 1024) (b : Fin 2) (s : Fin 8192) (hb : b.val = t.val / 8) (hs : s.val = t.val % 8 * 1024 + p.val) :
    (iblk m c 2 t : Vec Ideal S1x1024x1024 .f32) (ix3 (0 : Fin 1) p k) = m ((c.tc : Thread nD τ).loc main_arg1) (ix3 b s k) := by
  show V m c main_arg1 _ = _
  rw [V_main_arg1]
  refine congrArg _ (funext fun a => Fin.ext ?_)
  match a with
  | ⟨0, _⟩ =>
    refine (emb_2 t _ (0 : Fin 3)).trans ?_
    show (t.val / 8) * 1 + 0 = b.val; omega
  | ⟨1, _⟩ =>
    refine (emb_2 t _ (1 : Fin 3)).trans ?_
    exact hs.symm
  | ⟨2, _⟩ =>
    refine (emb_2 t _ (2 : Fin 3)).trans ?_
    show 0 * 1024 + k.val = k.val; omega

theorem index_3 (t : Fin cfg0.N) : (cfg0.win 3).index t = (![t.val / 8, 0, 0] : Fin 3 → ℕ) := row_index t

theorem emb_3 (t : Fin cfg0.N) (y : S1x1x1024.Idx) (a : Fin 3) : (((cfg0.win 3).blk t).view.emb y a : ℕ) = (![t.val / 8, 0, 0] : Fin 3 → ℕ) a * S1x1x1024.size a + (y a).val :=
  (Pipeline.Window.rect_emb_val (cfg0.win 3) t y a).trans (congrArg (fun n => n * S1x1x1024.size a + (y a).val) (congrFun (index_3 t) a))

theorem blk_3 (c : Dev nD) (t : Fin cfg0.N) (k : Fin 1024) (b : Fin 2) (hb : b.val = t.val / 8) :
    (iblk m c 3 t : Vec Ideal S1x1x1024 .f32) (ix3 (0 : Fin 1) (0 : Fin 1) k) = m ((c.tc : Thread nD τ).loc main_arg2) (ix3 b (0 : Fin 1) k) := by
  show V m c main_arg2 _ = _
  rw [V_main_arg2]
  refine congrArg _ (funext fun a => Fin.ext ?_)
  match a with
  | ⟨0, _⟩ =>
    refine (emb_3 t _ (0 : Fin 3)).trans ?_
    show (t.val / 8) * 1 + 0 = b.val; omega
  | ⟨1, _⟩ =>
    refine (emb_3 t _ (1 : Fin 3)).trans ?_
    show 0 * 1 + 0 = 0; rfl
  | ⟨2, _⟩ =>
    refine (emb_3 t _ (2 : Fin 3)).trans ?_
    show 0 * 1024 + k.val = k.val; omega

theorem index_4 (t : Fin cfg0.N) : (cfg0.win 4).index t = (![t.val / 8, t.val % 8, 0] : Fin 3 → ℕ) := tok_index t

theorem emb_4 (t : Fin cfg0.N) (y : S1x1024x128.Idx) (a : Fin 3) : (((cfg0.win 4).blk t).view.emb y a : ℕ) = (![t.val / 8, t.val % 8, 0] : Fin 3 → ℕ) a * S1x1024x128.size a + (y a).val :=
  (Pipeline.Window.rect_emb_val (cfg0.win 4) t y a).trans (congrArg (fun n => n * S1x1024x128.size a + (y a).val) (congrFun (index_4 t) a))

theorem blk_4 (c : Dev nD) (t : Fin cfg0.N) (p : Fin 1024) (k : Fin 128) (b : Fin 2) (s : Fin 8192) (hb : b.val = t.val / 8) (hs : s.val = t.val % 8 * 1024 + p.val) :
    (iblk m c 4 t : Vec Ideal S1x1024x128 .f32) (ix3 (0 : Fin 1) p k) = m ((c.tc : Thread nD τ).loc main_arg3) (ix3 b s k) := by
  show V m c main_arg3 _ = _
  rw [V_main_arg3]
  refine congrArg _ (funext fun a => Fin.ext ?_)
  match a with
  | ⟨0, _⟩ =>
    refine (emb_4 t _ (0 : Fin 3)).trans ?_
    show (t.val / 8) * 1 + 0 = b.val; omega
  | ⟨1, _⟩ =>
    refine (emb_4 t _ (1 : Fin 3)).trans ?_
    exact hs.symm
  | ⟨2, _⟩ =>
    refine (emb_4 t _ (2 : Fin 3)).trans ?_
    show 0 * 128 + k.val = k.val; omega

end Cert.Proof.CombineI

end
-- ==== Proof.CombineArray.lean ====
/-
  The fifth program's result after the run, at the ideal values: every token with its experts' rows.
-/
module

public import proofs.«01_k».proof.Proof.CombineBlocks

@[expose] public section

set_option maxRecDepth 16384

noncomputable section

namespace Cert.Proof.CombineI

open Cert.CombineIdeal Cert.CombineIdeal.Gen
open Idealize.ShloMosaic Idealize.ShloMosaic.ValueIdx Idealize.ShloMosaic.TcCoe Idealize.SL.Sem Cert.Proof.CombineMath
open Idealize.ShloMosaic.Pipeline (Dat)
open scoped BigOperators

variable (m : (ℓ : Loc nD τ sig) → Buf (Elt Ideal) ℓ)

/-- A token's feature with its experts' rows, of the arguments. -/
def combinedOf (b : Fin 2) (s : Fin 8192) (j : Fin 1024) : EReal :=
  combined (m (((0 : Dev nD).tc : Thread nD τ).loc main_arg0)) (m (((0 : Dev nD).tc : Thread nD τ).loc main_arg1)) (m (((0 : Dev nD).tc : Thread nD τ).loc main_arg2))
    (m (((0 : Dev nD).tc : Thread nD τ).loc main_arg3)) b s j

/-- What a point leaves in the output's block. -/
theorem out_blk (t : Fin cfg0.N) (p j : Fin 1024) (b : Fin 2) (s : Fin 8192) (hb : b.val = t.val / 8) (hs : s.val = t.val % 8 * 1024 + p.val) :
    (dats m 0 0).after 5 t (ix3 (0 : Fin 1) p j : S1x1024x1024.Idx) = combinedOf m b s j := by
  refine (congrFun (after0_5 m 0 t) _).trans ((out_apply _ _ _ _ _ p j).trans ?_)
  have e0 := funext fun k => blk_0 m 0 t p k (⟨b.val, by omega⟩ : Fin 4) s hb hs
  have e1 := funext fun k => blk_1 m 0 t p k (⟨2 + b.val, by omega⟩ : Fin 4) s (congrArg (2 + ·) hb) hs
  exact congrArg₂ (· + ·) (blk_2 m 0 t p j b s hb hs) (congrArg₂ (· * ·) (blk_3 m 0 t j b hb) (congrArg₂ (· + ·)
    (congrArg₂ (· * ·) (blk_4 m 0 t p (2 : Fin 128) b s hb hs) (congrArg (fun row => feature row j) e0))
    (congrArg₂ (· * ·) (blk_4 m 0 t p (3 : Fin 128) b s hb hs) (congrArg (fun row => feature row j) e1))))

/-- Where the output's block lies. -/
theorem index_5 (t : Fin cfg0.N) : (cfg0.win 5).index t = (![t.val / 8, t.val % 8, 0] : Fin 3 → ℕ) := tok_index t

theorem emb_5 (t : Fin cfg0.N) (y : S1x1024x1024.Idx) (a : Fin 3) :
    (((cfg0.win 5).blk t).view.emb y a : ℕ) = (![t.val / 8, t.val % 8, 0] : Fin 3 → ℕ) a * S1x1024x1024.size a + (y a).val :=
  (Pipeline.Window.rect_emb_val (cfg0.win 5) t y a).trans (congrArg (fun n => n * S1x1024x1024.size a + (y a).val) (congrFun (index_5 t) a))

/-- An element of the result holds its token's feature. -/
def Holds (i : S2x8192x1024.Idx) (v : EReal) : Prop :=
  ∀ (b : Fin 2) (s : Fin 8192) (j : Fin 1024), (i 0).val = b.val → (i 1).val = s.val → (i 2).val = j.val → v = combinedOf m b s j

theorem holds_after (t : Fin cfg0.N) (y : S1x1024x1024.Idx) : Holds m (((cfg0.win 5).blk t).view.emb y) ((dats m 0 0).after 5 t y) := by
  intro b s j h0 h1 h2
  have e0 : t.val / 8 * 1 + (y 0).val = b.val := (emb_5 t y 0).symm.trans h0
  have e1 : t.val % 8 * 1024 + (y 1).val = s.val := (emb_5 t y 1).symm.trans h1
  have e2 : 0 * 1024 + (y 2).val = j.val := (emb_5 t y 2).symm.trans h2
  have hy0 : (y 0).val < 1 := (y 0).isLt
  have hy1 : (y 1).val < 1024 := (y 1).isLt
  have ey : y = ix3 (0 : Fin 1) (⟨(y 1).val, hy1⟩ : Fin 1024) j := funext fun a => Fin.ext (by
    match a with
    | ⟨0, _⟩ => show (y 0).val = 0; omega
    | ⟨1, _⟩ => rfl
    | ⟨2, _⟩ => show (y 2).val = j.val; omega)
  exact (congrArg ((dats m 0 0).after 5 t) ey).trans (out_blk m t (⟨(y 1).val, hy1⟩ : Fin 1024) j b s (by omega) e1.symm)

/-- Every element of the result is under a block written back. -/
theorem covered (i : S2x8192x1024.Idx) : ∃ t : Fin cfg0.N, (cfg0.win 5).flush t = true ∧ i ∈ ((cfg0.win 5).blk t).view.set := by
  have hi0 : (i 0).val < 2 := (i 0).isLt
  have hi1 : (i 1).val < 8192 := (i 1).isLt
  have hi2 : (i 2).val < 1024 := (i 2).isLt
  have hN : cfg0.N = 16 := by decide
  refine ⟨⟨(i 0).val * 8 + (i 1).val / 1024, by rw [hN]; omega⟩, flush0_5 _, ?_⟩
  generalize ht : (⟨(i 0).val * 8 + (i 1).val / 1024, _⟩ : Fin cfg0.N) = t
  have htv : t.val = (i 0).val * 8 + (i 1).val / 1024 := by rw [← ht]
  have e : ((cfg0.win 5).blk t).view.emb (ix3 (0 : Fin 1) (⟨(i 1).val % 1024, by omega⟩ : Fin 1024) (⟨(i 2).val, hi2⟩ : Fin 1024) : S1x1024x1024.Idx) = i := by
    refine funext fun a => Fin.ext ?_
    match a with
    | ⟨0, _⟩ =>
      refine (emb_5 t _ 0).trans ?_
      show t.val / 8 * 1 + 0 = (i 0).val
      omega
    | ⟨1, _⟩ =>
      refine (emb_5 t _ 1).trans ?_
      show t.val % 8 * 1024 + (i 1).val % 1024 = (i 1).val
      omega
    | ⟨2, _⟩ =>
      refine (emb_5 t _ 2).trans ?_
      show 0 * 1024 + (i 2).val = (i 2).val
      omega
  exact e ▸ View.emb_mem_set _ _

theorem final_holds (i : S2x8192x1024.Idx) : Holds m i ((dats m 0 0).arrAt 5 cfg0.N i) := by
  obtain ⟨t, hf, hm⟩ := covered i
  exact Dat.arrAt_forall_of_flushed (dats m 0 0) 5 (Holds m) (fun t _ y => holds_after m t y) cfg0.N t i t.isLt hf hm

end Cert.Proof.CombineI

end
-- ==== Proof.CombineReference.lean ====
/-
  The fifth program's reference at the ideal values, element by element: every token with its experts' rows.
-/
module

public import proofs.«01_k».proof.Proof.Gen.CombineReferenceIdeal.Run
public import proofs.«01_k».proof.Proof.CombineSpec
public import Idealize.ShloMosaic.Lib.IdealHost

@[expose] public section

set_option maxRecDepth 16384

noncomputable section

namespace Cert.Proof.CombineR

open Cert.CombineReferenceIdeal Cert.CombineReferenceIdeal.Gen
open Idealize.ShloMosaic Idealize.ShloMosaic.ValueIdx Idealize.ShloMosaic.TcCoe Cert.Proof.MoeMath Cert.Proof.CombineMath

variable (yg : IVec S4x8192x512 32) (x : FVec Ideal S2x8192x1024 .f32) (g2 : FVec Ideal S2x1x1024 .f32) (rt : FVec Ideal S2x8192x128 .f32)

/-! ## The reference's parts -/

/-- The halves of the words, as numbers. -/
def halves : FVec Ideal S4x8192x512x2 .bf16 :=
  bitcastToFloat (F := Ideal) .bf16 (Host.bitcastConvertNarrow S4x8192x512x2 16 yg splits_S4x8192x512_w32_S4x8192x512x2_w16)

/-- The low halves. -/
def lows : FVec Ideal S4x8192x512 .bf16 :=
  shapeCast _ (extractStridedSlice S4x8192x512x1 ![0, 0, 0, 0] (halves yg) slices_S4x8192x512x2_S4x8192x512x1_0_0_0_0) shapeCasts_S4x8192x512x1_S4x8192x512

/-- The high halves. -/
def highs : FVec Ideal S4x8192x512 .bf16 :=
  shapeCast _ (extractStridedSlice S4x8192x512x1 ![0, 0, 0, 1] (halves yg) slices_S4x8192x512x2_S4x8192x512x1_0_0_0_1) shapeCasts_S4x8192x512x1_S4x8192x512

/-- The rows' features. -/
def rows : FVec Ideal S4x8192x1024 .bf16 :=
  concatenate S4x8192x1024 2 [⟨S4x8192x512, lows yg⟩, ⟨S4x8192x512, highs yg⟩] concatenates_S4x8192x512_S4x8192x512_S4x8192x1024_d2

/-- The first experts' weights on all features. -/
def firsts : FVec Ideal S2x8192x1024 .f32 :=
  broadcastInDim S2x8192x1024 ![0, 1, 2] bcast_S2x8192x1_S2x8192x1024_0_1_2 (extractStridedSlice S2x8192x1 ![0, 0, 2] rt slices_S2x8192x128_S2x8192x1_0_0_2)

/-- The second experts' weights on all features. -/
def seconds : FVec Ideal S2x8192x1024 .f32 :=
  broadcastInDim S2x8192x1024 ![0, 1, 2] bcast_S2x8192x1_S2x8192x1024_0_1_2 (extractStridedSlice S2x8192x1 ![0, 0, 3] rt slices_S2x8192x128_S2x8192x1_0_0_3)

/-- The result. -/
def result : FVec Ideal S2x8192x1024 .f32 :=
  addf x (mulf (broadcastInDim S2x8192x1024 ![0, 1, 2] bcast_S2x1x1024_S2x8192x1024_0_1_2 g2)
    (addf (mulf (firsts rt) (extractStridedSlice S2x8192x1024 ![0, 0, 0] (extf .f32 (rows yg) bitsLt_bf16_f32) slices_S4x8192x1024_S2x8192x1024_0_0_0))
      (mulf (seconds rt) (extractStridedSlice S2x8192x1024 ![2, 0, 0] (extf .f32 (rows yg) bitsLt_bf16_f32) slices_S4x8192x1024_S2x8192x1024_2_0_0))))

/-! ## The parts, read at an index -/

theorem halves_apply (a : Fin 4) (s : Fin 8192) (k : Fin 512) (o : Fin 2) :
    halves yg (ix4 a s k o) = Ideal.ofBits .bf16 ((yg (ix3 a s k)).extractLsb' (o.val * 16) 16) := by
  refine congrArg (fun w : BitVec 32 => Ideal.ofBits .bf16 (w.extractLsb' (o.val * 16) 16)) (congrArg yg (funext fun c => Fin.ext ?_))
  match c with
  | ⟨0, _⟩ => rfl
  | ⟨1, _⟩ => rfl
  | ⟨2, _⟩ => rfl

theorem drop_at (v : FVec Ideal S4x8192x512x1 .bf16) (a : Fin 4) (s : Fin 8192) (k : Fin 512) :
    (shapeCast S4x8192x512 v shapeCasts_S4x8192x512x1_S4x8192x512 : FVec Ideal S4x8192x512 .bf16) (ix3 a s k) = v (ix4 a s k (0 : Fin 1)) := by
  refine shapeCast_apply _ _ _ _ ?_
  rw [Shape.rowMajor_val_four, Shape.rowMajor_val_three]
  show ((a.val * 8192 + s.val) * 512 + k.val) * 1 + 0 = (a.val * 8192 + s.val) * 512 + k.val
  omega

theorem lows_apply (a : Fin 4) (s : Fin 8192) (k : Fin 512) : lows yg (ix3 a s k) = Ideal.ofBits .bf16 ((yg (ix3 a s k)).extractLsb' 0 16) := by
  unfold lows
  refine (drop_at _ a s k).trans ((extractStridedSlice_apply _ _ _ _ (ix4 a s k (0 : Fin 2)) (fun c => ?_)).trans (halves_apply yg a s k 0))
  match c with
  | ⟨0, _⟩ => show a.val = 0 + a.val; omega
  | ⟨1, _⟩ => show s.val = 0 + s.val; omega
  | ⟨2, _⟩ => show k.val = 0 + k.val; omega
  | ⟨3, _⟩ => rfl

theorem highs_apply (a : Fin 4) (s : Fin 8192) (k : Fin 512) : highs yg (ix3 a s k) = Ideal.ofBits .bf16 ((yg (ix3 a s k)).extractLsb' 16 16) := by
  unfold highs
  refine (drop_at _ a s k).trans ((extractStridedSlice_apply _ _ _ _ (ix4 a s k (1 : Fin 2)) (fun c => ?_)).trans (halves_apply yg a s k 1))
  match c with
  | ⟨0, _⟩ => show a.val = 0 + a.val; omega
  | ⟨1, _⟩ => show s.val = 0 + s.val; omega
  | ⟨2, _⟩ => show k.val = 0 + k.val; omega
  | ⟨3, _⟩ => rfl

theorem rows_apply (a : Fin 4) (s : Fin 8192) (j : Fin 1024) : rows yg (ix3 a s j) = feature (fun k => yg (ix3 a s k)) j := by
  unfold rows feature
  by_cases h : j.val < 512
  · rw [dif_pos h]
    refine (concatenate_apply_piece (2 : Fin S4x8192x1024.rank) _ _ _ 0 (by show 0 < 2; decide) S4x8192x512 (lows yg) rfl rfl 0 rfl (ix3 a s (⟨j.val, h⟩ : Fin 512)) (fun c hc => ?_) ?_).trans (lows_apply yg a s _)
    · match c with
      | ⟨0, _⟩ => rfl
      | ⟨1, _⟩ => rfl
      | ⟨2, _⟩ => exact absurd rfl hc
    · show 0 + j.val = j.val; omega
  · rw [dif_neg h]
    refine (concatenate_apply_piece (2 : Fin S4x8192x1024.rank) _ _ _ 1 (by show 1 < 2; decide) S4x8192x512 (highs yg) rfl rfl 512 rfl (ix3 a s (⟨j.val - 512, by omega⟩ : Fin 512)) (fun c hc => ?_) ?_).trans (highs_apply yg a s _)
    · match c with
      | ⟨0, _⟩ => rfl
      | ⟨1, _⟩ => rfl
      | ⟨2, _⟩ => exact absurd rfl hc
    · show 512 + (j.val - 512) = j.val; omega

theorem column_apply (v : FVec Ideal S2x8192x1 .f32) (b : Fin 2) (s : Fin 8192) (j : Fin 1024) :
    (broadcastInDim S2x8192x1024 ![0, 1, 2] bcast_S2x8192x1_S2x8192x1024_0_1_2 v) (ix3 b s j) = v (ix3 b s (0 : Fin 1)) := by
  refine broadcastInDim_apply _ _ _ _ _ fun a => ?_
  match a with
  | ⟨0, _⟩ => rfl
  | ⟨1, _⟩ => rfl
  | ⟨2, _⟩ => rfl

theorem row_apply (v : FVec Ideal S2x1x1024 .f32) (b : Fin 2) (s : Fin 8192) (j : Fin 1024) :
    (broadcastInDim S2x8192x1024 ![0, 1, 2] bcast_S2x1x1024_S2x8192x1024_0_1_2 v) (ix3 b s j) = v (ix3 b (0 : Fin 1) j) := by
  refine broadcastInDim_apply _ _ _ _ _ fun a => ?_
  match a with
  | ⟨0, _⟩ => rfl
  | ⟨1, _⟩ => rfl
  | ⟨2, _⟩ => rfl

theorem firsts_apply (b : Fin 2) (s : Fin 8192) (j : Fin 1024) : firsts rt (ix3 b s j) = rt (ix3 b s (2 : Fin 128)) := by
  unfold firsts
  refine (column_apply _ b s j).trans (extractStridedSlice_apply _ _ _ _ _ (fun c => ?_))
  match c with
  | ⟨0, _⟩ => show b.val = 0 + b.val; omega
  | ⟨1, _⟩ => show s.val = 0 + s.val; omega
  | ⟨2, _⟩ => rfl

theorem seconds_apply (b : Fin 2) (s : Fin 8192) (j : Fin 1024) : seconds rt (ix3 b s j) = rt (ix3 b s (3 : Fin 128)) := by
  unfold seconds
  refine (column_apply _ b s j).trans (extractStridedSlice_apply _ _ _ _ _ (fun c => ?_))
  match c with
  | ⟨0, _⟩ => show b.val = 0 + b.val; omega
  | ⟨1, _⟩ => show s.val = 0 + s.val; omega
  | ⟨2, _⟩ => rfl

theorem low_rows (v : FVec Ideal S4x8192x1024 .f32) (b : Fin 2) (s : Fin 8192) (j : Fin 1024) :
    (extractStridedSlice S2x8192x1024 ![0, 0, 0] v slices_S4x8192x1024_S2x8192x1024_0_0_0) (ix3 b s j) = v (ix3 (⟨b.val, by omega⟩ : Fin 4) s j) := by
  refine extractStridedSlice_apply _ _ _ _ _ (fun c => ?_)
  match c with
  | ⟨0, _⟩ => show b.val = 0 + b.val; omega
  | ⟨1, _⟩ => show s.val = 0 + s.val; omega
  | ⟨2, _⟩ => show j.val = 0 + j.val; omega

theorem high_rows (v : FVec Ideal S4x8192x1024 .f32) (b : Fin 2) (s : Fin 8192) (j : Fin 1024) :
    (extractStridedSlice S2x8192x1024 ![2, 0, 0] v slices_S4x8192x1024_S2x8192x1024_2_0_0) (ix3 b s j) = v (ix3 (⟨2 + b.val, by omega⟩ : Fin 4) s j) := by
  refine extractStridedSlice_apply _ _ _ _ _ (fun c => ?_)
  match c with
  | ⟨0, _⟩ => rfl
  | ⟨1, _⟩ => show s.val = 0 + s.val; omega
  | ⟨2, _⟩ => show j.val = 0 + j.val; omega

theorem result_apply (b : Fin 2) (s : Fin 8192) (j : Fin 1024) : result yg x g2 rt (ix3 b s j) = combined yg x g2 rt b s j := by
  unfold result combined
  rw [addf_apply, mulf_apply, row_apply, addf_apply, mulf_apply, mulf_apply, firsts_apply, seconds_apply, low_rows, high_rows]
  exact congrArg (x (ix3 b s j) + ·) (congrArg (g2 (ix3 b 0 j) * ·) (congrArg₂ (· + ·)
    (congrArg (rt (ix3 b s (2 : Fin 128)) * ·) (rows_apply yg _ s j)) (congrArg (rt (ix3 b s (3 : Fin 128)) * ·) (rows_apply yg _ s j))))

end Cert.Proof.CombineR

end
-- ==== Proof.CombineClaims.lean ====
/-
  The fifth program's value: its result and the reference's are the same, at the ideal values.
-/
module

public import proofs.«01_k».proof.Defs
public import proofs.«01_k».proof.Proof.CombineArray
public import proofs.«01_k».proof.Proof.CombineReference

@[expose] public section

set_option maxRecDepth 16384

noncomputable section

namespace Cert.Proof.Combine

open Idealize.ShloMosaic Idealize.ShloMosaic.ValueIdx Idealize.SL.Sem Cert.Proof.CombineMath

/-- The value at an element of the result. -/
def valueAt (m : (ℓ : Loc Cert.CombineIdeal.nD Cert.CombineIdeal.τ Cert.CombineIdeal.sig) → Buf (Elt Ideal) ℓ) (i : (⟨3, ![2, 8192, 1024]⟩ : Shape).Idx) : EReal :=
  CombineI.combinedOf m (i 0) (i 1) (i 2)

theorem algebraic : Cert.algebraic_CombineIdeal_CombineReferenceIdeal (hCombineIdeal := Cert.CombineIdeal.Gen.facts) (hCombineReferenceIdeal := Cert.CombineReferenceIdeal.Gen.facts) := by
  intro m g m' g' _ hargs
  refine ⟨fun _ i => valueAt m i, ?_, ?_⟩
  · have hrun := Cert.CombineIdeal.Gen.run_main (F := Ideal) m g
    have hframe := Cert.CombineIdeal.Gen.frame (F := Ideal) m g
    refine (θ_run Cert.CombineIdeal.defs _ _).mono (fun r h c => ⟨funext fun i => ?_, h.2.1 c⟩) (θ_run_and hrun hframe)
    obtain rfl : c = 0 := Subsingleton.elim _ _
    have hmem : r.2.mem (((0 : Dev Cert.CombineIdeal.nD).tc : Thread Cert.CombineIdeal.nD Cert.CombineIdeal.τ).loc Cert.CombineIdeal.main_v0)
        = (Cert.CombineIdeal.Gen.dats m 0 0).arrAt 5 Cert.CombineIdeal.cfg0.N := (h.1 0).1 5
    exact (congrFun hmem i).trans (CombineI.final_holds m i _ _ _ rfl rfl rfl)
  · refine (θ_run Cert.CombineReferenceIdeal.defs _ _).mono (fun r h c => ⟨funext fun i => ?_, (h c).2⟩) (Cert.CombineReferenceIdeal.Value.run (F := Ideal) m' g')
    obtain rfl : c = 0 := Subsingleton.elim _ _
    obtain ⟨a0, a1, a2, a3⟩ := hargs 0
    have hres : r.2.mem (((0 : Dev Cert.CombineReferenceIdeal.nD).tc : Thread Cert.CombineReferenceIdeal.nD Cert.CombineReferenceIdeal.τ).loc Cert.CombineReferenceIdeal.main_v18)
        = CombineR.result (m' (((0 : Dev Cert.CombineReferenceIdeal.nD).tc : Thread Cert.CombineReferenceIdeal.nD Cert.CombineReferenceIdeal.τ).loc Cert.CombineReferenceIdeal.main_arg0))
          (m' (((0 : Dev Cert.CombineReferenceIdeal.nD).tc : Thread Cert.CombineReferenceIdeal.nD Cert.CombineReferenceIdeal.τ).loc Cert.CombineReferenceIdeal.main_arg1))
          (m' (((0 : Dev Cert.CombineReferenceIdeal.nD).tc : Thread Cert.CombineReferenceIdeal.nD Cert.CombineReferenceIdeal.τ).loc Cert.CombineReferenceIdeal.main_arg2))
          (m' (((0 : Dev Cert.CombineReferenceIdeal.nD).tc : Thread Cert.CombineReferenceIdeal.nD Cert.CombineReferenceIdeal.τ).loc Cert.CombineReferenceIdeal.main_arg3)) := (h 0).1
    refine (congrFun hres i).trans ?_
    have ei : i = ix3 (i 0) (i 1) (i 2) := eq_ix3 i
    refine (congrArg _ ei).trans ((CombineR.result_apply _ _ _ _ (i 0) (i 1) (i 2)).trans ?_)
    rw [a0, a1, a2, a3]
    rfl

end Cert.Proof.Combine

end
-- ==== Proof.lean ====
module

public import proofs.«01_k».proof.Defs
public import proofs.«01_k».proof.Proof.Gen.Kernel
public import proofs.«01_k».proof.Proof.Gen.Kernel.Skeleton
public import proofs.«01_k».proof.Proof.Gen.Reference.Run
public import proofs.«01_k».proof.Proof.Gen.Reference
public import proofs.«01_k».proof.Proof.Gen.Pre_in_rows
public import proofs.«01_k».proof.Proof.GatherValue
public import Idealize.ShloMosaic.Adequacy
public import Idealize.ShloMosaic.Init
public import proofs.«01_k».proof.Proof.Gen.Moe.Launch
public import proofs.«01_k».proof.Proof.Gen.MoeIdeal.Launch
public import proofs.«01_k».proof.Proof.Gen.Moe.Skeleton
public import proofs.«01_k».proof.Proof.Gen.MoeIdeal.Skeleton
public import proofs.«01_k».proof.Proof.Gen.MoeReferenceIdeal.Run
public import proofs.«01_k».proof.Proof.Gen.Pre_experts_named
public import proofs.«01_k».proof.Proof.Gen.On_tiles_computed
public import proofs.«01_k».proof.Proof.Gen.Tail.Launch
public import proofs.«01_k».proof.Proof.Gen.TailIdeal.Launch
public import proofs.«01_k».proof.Proof.Gen.Tail.Skeleton
public import proofs.«01_k».proof.Proof.Gen.TailIdeal.Skeleton
public import proofs.«01_k».proof.Proof.Gen.TailReferenceIdeal.Run
public import proofs.«01_k».proof.Proof.Gen.Pre_experts_named3
public import proofs.«01_k».proof.Proof.Gen.Dense.Launch
public import proofs.«01_k».proof.Proof.Gen.DenseIdeal.Launch
public import proofs.«01_k».proof.Proof.Gen.Dense.Skeleton
public import proofs.«01_k».proof.Proof.Gen.DenseIdeal.Skeleton
public import proofs.«01_k».proof.Proof.Gen.Dense.Frame
public import proofs.«01_k».proof.Proof.Gen.DenseIdeal.Frame
public import proofs.«01_k».proof.Proof.Gen.DenseReferenceIdeal.Run
public import proofs.«01_k».proof.Proof.Gen.Combine.Launch
public import proofs.«01_k».proof.Proof.Gen.CombineIdeal.Launch
public import proofs.«01_k».proof.Proof.Gen.Combine.Skeleton
public import proofs.«01_k».proof.Proof.Gen.CombineIdeal.Skeleton
public import proofs.«01_k».proof.Proof.Gen.Combine.Frame
public import proofs.«01_k».proof.Proof.Gen.CombineIdeal.Frame
public import proofs.«01_k».proof.Proof.Gen.CombineReferenceIdeal.Run
public import proofs.«01_k».proof.Proof.MoeFrames
public import proofs.«01_k».proof.Proof.MoeClaims
public import proofs.«01_k».proof.Proof.TailFrames
public import proofs.«01_k».proof.Proof.TailClaims
public import proofs.«01_k».proof.Proof.DenseFrames
public import proofs.«01_k».proof.Proof.DenseClaims
public import proofs.«01_k».proof.Proof.CombineFrames
public import proofs.«01_k».proof.Proof.CombineClaims

@[expose] public section

noncomputable section

namespace Cert.Proof

open Idealize.ShloMosaic Idealize.SL.Sem

theorem claim : Cert.Claim := ⟨Cert.Kernel.Gen.facts, Cert.Reference.Gen.facts, Cert.Moe.Gen.facts,
  Cert.MoeIdeal.Gen.facts, Cert.MoeReferenceIdeal.Gen.facts, Cert.Tail.Gen.facts, Cert.TailIdeal.Gen.facts,
  Cert.TailReferenceIdeal.Gen.facts, Cert.Dense.Gen.facts, Cert.DenseIdeal.Gen.facts,
  Cert.DenseReferenceIdeal.Gen.facts, Cert.Combine.Gen.facts, Cert.CombineIdeal.Gen.facts, Cert.CombineReferenceIdeal.Gen.facts,
  Cert.Pre_in_rows.Gen.facts, Cert.Pre_experts_named.Gen.facts,
  Cert.Pre_experts_named3.Gen.facts, Cert.On_tiles_computed.Gen.facts,
  Gather.frame_kernel, Gather.frame_reference, Moe.frame_bits, Moe.frame_ideal, Moe.frame_reference,
  Tail.frame_bits, Tail.frame_ideal, Tail.frame_reference,
  Dense.frame_bits, Dense.frame_ideal, Dense.frame_reference,
  Combine.frame_bits, Combine.frame_ideal, Combine.frame_reference,
  Gather.bitexact, Moe.preserves, Moe.algebraic, Tail.preserves, Tail.algebraic,
  Dense.preserves, Dense.algebraic,
  Combine.preserves, Combine.algebraic⟩

end Cert.Proof

end
